-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_step [hPre_finite_step : Cert.Pre_finite_step.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_step [hPre_finite_step : Cert.Pre_finite_step.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_step [hKernel7Ideal : Cert.Kernel7Ideal.Facts] [hPre_finite_step : Cert.Pre_finite_step.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_step m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_step [hReference7Ideal : Cert.Reference7Ideal.Facts] [hPre_finite_step : Cert.Pre_finite_step.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_step m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((Real.log 256)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_step [hKernel7Ideal : Cert.Kernel7Ideal.Facts] [hReference7Ideal : Cert.Reference7Ideal.Facts] [hPre_finite_step : Cert.Pre_finite_step.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_step m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_inputs : Cert.Pre_finite_inputs.Facts) (hPre_finite_rows : Cert.Pre_finite_rows.Facts) (hPre_finite_step : Cert.Pre_finite_step.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_step (hKernel7Ideal := hKernel7Ideal) (hPre_finite_step := hPre_finite_step)
    ∧ quiescent_Reference7Ideal (hReference7Ideal := hReference7Ideal)
    ∧ quiescent_Reference7Ideal_pre_finite_step (hReference7Ideal := hReference7Ideal) (hPre_finite_step := hPre_finite_step)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_step (hKernel7Ideal := hKernel7Ideal) (hReference7Ideal := hReference7Ideal) (hPre_finite_step := hPre_finite_step)
-- ==== Pre_finite_inputs.lean ====
abbrev S8192x4096 : Shape := ⟨2, ![8192, 4096]⟩
abbrev S64x4096 : Shape := ⟨2, ![64, 4096]⟩
abbrev S4096x16384 : Shape := ⟨2, ![4096, 16384]⟩
abbrev S3x4096 : Shape := ⟨2, ![3, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S8192x4096 .bf16) (main_arg1 : FVec F S64x4096 .bf16) (main_arg2 : FVec F S4096x16384 .f32) (main_arg3 : FVec F S3x4096 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S64x4096 .f32 := (extf .f32 · bitsLt_bf16_f32) main_arg1
  let main_v6 : FVec F S64x4096 .f32 := Host.absf main_v5
  let main_cst_0 : FVec F S_ .f32 := constant S_ .f32 0x7F800000#32
  let main_v7 : FVec F S64x4096 .f32 := broadcastInDim S64x4096 ![] bcast_S_S64x4096 main_cst_0
  let main_v8 : IVec S64x4096 1 := cmpf .olt main_v6 main_v7
  let main_c_1 : IVec S_ 1 := constantI S_ 1 1#1
  let main_v9 : IVec S_ 1 := (fun x v => Host.reduce IntOp.andi x v reducesTo_S64x4096_S_d0_1 h_S_) main_v8 main_c_1
  let main_v10 : IVec S_ 1 := andi main_v4 main_v9
  let main_v11 : FVec F S4096x16384 .f32 := Host.absf main_arg2
  let main_cst_2 : FVec F S_ .f32 := constant S_ .f32 0x7F800000#32
  let main_v12 : FVec F S4096x16384 .f32 := broadcastInDim S4096x16384 ![] bcast_S_S4096x16384 main_cst_2
  let main_v13 : IVec S4096x16384 1 := cmpf .olt main_v11 main_v12
  let main_c_3 : IVec S_ 1 := constantI S_ 1 1#1
  let main_v14 : IVec S_ 1 := (fun x v => Host.reduce IntOp.andi x v reducesTo_S4096x16384_S_d0_1 h_S_) main_v13 main_c_3
  let main_v15 : IVec S_ 1 := andi main_v10 main_v14
  main_v15
-- ==== Pre_finite_rows.lean ====
abbrev S8192x4096 : Shape := ⟨2, ![8192, 4096]⟩
abbrev S64x4096 : Shape := ⟨2, ![64, 4096]⟩
abbrev S4096x9216 : Shape := ⟨2, ![4096, 9216]⟩
abbrev S4096 : Shape := ⟨1, ![4096]⟩
abbrev S1x8192x1 : Shape := ⟨3, ![1, 8192, 1]⟩
abbrev S1x64x1 : Shape := ⟨3, ![1, 64, 1]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x9216 : S_.BroadcastsInDim S4096x9216 (![] : Fin 0 → Fin S4096x9216.rank)
  reducesTo_S4096x9216_S_d0_1 : S4096x9216.ReducesTo [0, 1] S_
  bcast_S_S4096 : S_.BroadcastsInDim S4096 (![] : Fin 0 → Fin S4096.rank)
  reducesTo_S4096_S_d0 : S4096.ReducesTo [0] S_
  bcast_S_S1x8192x1 : S_.BroadcastsInDim S1x8192x1 (![] : Fin 0 → Fin S1x8192x1.rank)
  reducesTo_S1x8192x1_S_d0_1_2 : S1x8192x1.ReducesTo [0, 1, 2] S_
  bcast_S_S1x64x1 : S_.BroadcastsInDim S1x64x1 (![] : Fin 0 → Fin S1x64x1.rank)
  reducesTo_S1x64x1_S_d0_1_2 : S1x64x1.ReducesTo [0, 1, 2] S_

variable [Facts]

def fn_part1 {F : FTy → Type} [FloatOps F] (main_arg4 : FVec F S1x8192x1 .f32) (main_arg5 : FVec F S1x64x1 .f32) (main_v15 : IVec S_ 1) (main_v16 : FVec F S4096 .f32) (main_cst_4 : FVec F S_ .f32) : IVec S_ 1 :=
  let main_v17 : FVec F S4096 .f32 := broadcastInDim S4096 ![] bcast_S_S4096 main_cst_4
  let main_v18 : IVec S4096 1 := cmpf .olt main_v16 main_v17
  let main_c_5 : IVec S_ 1 := constantI S_ 1 1#1
  let main_v19 : IVec S_ 1 := (fun x v => Host.reduce IntOp.andi x v reducesTo_S4096_S_d0 h_S_) main_v18 main_c_5
  let main_v20 : IVec S_ 1 := andi main_v15 main_v19
  let main_cst_6 : FVec F S_ .f32 := constant S_ .f32 0x00000000#32
  let main_v21 : FVec F S1x8192x1 .f32 := broadcastInDim S1x8192x1 ![] bcast_S_S1x8192x1 main_cst_6
  let main_v22 : IVec S1x8192x1 1 := cmpf .oge main_arg4 main_v21
  let main_c_7 : IVec S_ 1 := constantI S_ 1 1#1
  let main_v23 : IVec S_ 1 := (fun x v => Host.reduce IntOp.andi x v reducesTo_S1x8192x1_S_d0_1_2 h_S_) main_v22 main_c_7
  let main_v24 : IVec S_ 1 := andi main_v20 main_v23
  let main_cst_8 : FVec F S_ .f32 := constant S_ .f32 0x00000000#32
  let main_v25 : FVec F S1x64x1 .f32 := broadcastInDim S1x64x1 ![] bcast_S_S1x64x1 main_cst_8
  let main_v26 : IVec S1x64x1 1 := cmpf .oge main_arg5 main_v25
  let main_c_9 : IVec S_ 1 := constantI S_ 1 1#1
  let main_v27 : IVec S_ 1 := (fun x v => Host.reduce IntOp.andi x v reducesTo_S1x64x1_S_d0_1_2 h_S_) main_v26 main_c_9
  let main_v28 : IVec S_ 1 := andi main_v24 main_v27
  main_v28

def fn {F : FTy → Type} [FloatOps F] (main_arg0 : FVec F S8192x4096 .bf16) (main_arg1 : FVec F S64x4096 .bf16) (main_arg2 : FVec F S4096x9216 .f32) (main_arg3 : FVec F S4096 .f32) (main_arg4 : FVec F S1x8192x1 .f32) (main_arg5 : FVec F S1x64x1 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S64x4096 .f32 := (extf .f32 · bitsLt_bf16_f32) main_arg1
  let main_v6 : FVec F S64x4096 .f32 := Host.absf main_v5
  let main_cst_0 : FVec F S_ .f32 := constant S_ .f32 0x7F800000#32
  let main_v7 : FVec F S64x4096 .f32 := broadcastInDim S64x4096 ![] bcast_S_S64x4096 main_cst_0
  let main_v8 : IVec S64x4096 1 := cmpf .olt main_v6 main_v7
  let main_c_1 : IVec S_ 1 := constantI S_ 1 1#1
  let main_v9 : IVec S_ 1 := (fun x v => Host.reduce IntOp.andi x v reducesTo_S64x4096_S_d0_1 h_S_) main_v8 main_c_1
  let main_v10 : IVec S_ 1 := andi main_v4 main_v9
  let main_v11 : FVec F S4096x9216 .f32 := Host.absf main_arg2
  let main_cst_2 : FVec F S_ .f32 := constant S_ .f32 0x7F800000#32
  let main_v12 : FVec F S4096x9216 .f32 := broadcastInDim S4096x9216 ![] bcast_S_S4096x9216 main_cst_2
  let main_v13 : IVec S4096x9216 1 := cmpf .olt main_v11 main_v12
  let main_c_3 : IVec S_ 1 := constantI S_ 1 1#1
  let main_v14 : IVec S_ 1 := (fun x v => Host.reduce IntOp.andi x v reducesTo_S4096x9216_S_d0_1 h_S_) main_v13 main_c_3
  let main_v15 : IVec S_ 1 := andi main_v10 main_v14
  let main_v16 : FVec F S4096 .f32 := Host.absf main_arg3
  let main_cst_4 : FVec F S_ .f32 := constant S_ .f32 0x7F800000#32
  fn_part1 (F := F) main_arg4 main_arg5 main_v15 main_v16 main_cst_4
-- ==== Pre_finite_scores.lean ====
abbrev S32x4096 : Shape := ⟨2, ![32, 4096]⟩
abbrev S32x512 : Shape := ⟨2, ![32, 512]⟩
abbrev S1x32x128x8x64 : Shape := ⟨5, ![1, 32, 128, 8, 64]⟩
abbrev S32x64 : Shape := ⟨2, ![32, 64]⟩
abbrev S1x64 : Shape := ⟨2, ![1, 64]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S1x32x128x8x64 : S_.BroadcastsInDim S1x32x128x8x64 (![] : Fin 0 → Fin S1x32x128x8x64.rank)
  reducesTo_S1x32x128x8x64_S_d0_1_2_3_4 : S1x32x128x8x64.ReducesTo [0, 1, 2, 3, 4] S_
  bcast_S_S32x64 : S_.BroadcastsInDim S32x64 (![] : Fin 0 → Fin S32x64.rank)
  reducesTo_S32x64_S_d0_1 : S32x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg7 : FVec F S1x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S1x64 .f32 := Host.absf main_arg7
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S32x4096 .f32) (main_arg1 : FVec F S32x4096 .f32) (main_arg2 : FVec F S32x512 .f32) (main_arg3 : FVec F S32x512 .f32) (main_arg4 : FVec F S1x32x128x8x64 .f32) (main_arg5 : FVec F S1x32x128x8x64 .f32) (main_arg6 : FVec F S32x64 .f32) (main_arg7 : FVec F S1x64 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x512 .f32 := Host.absf main_arg2
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S1x32x128x8x64 .f32 := Host.absf main_arg4
  let main_cst_2 : FVec F S_ .f32 := constant S_ .f32 0x7F800000#32
  let main_v10 : FVec F S1x32x128x8x64 .f32 := broadcastInDim S1x32x128x8x64 ![] bcast_S_S1x32x128x8x64 main_cst_2
  let main_v11 : IVec S1x32x128x8x64 1 := cmpf .olt main_v9 main_v10
  let main_c_3 : IVec S_ 1 := constantI S_ 1 1#1
  let main_v12 : IVec S_ 1 := (fun x v => Host.reduce IntOp.andi x v reducesTo_S1x32x128x8x64_S_d0_1_2_3_4 h_S_) main_v11 main_c_3
  let main_v13 : IVec S_ 1 := andi main_v8 main_v12
  let main_v14 : FVec F S32x64 .f32 := Host.absf main_arg6
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg7 main_v13 main_v16
-- ==== Pre_finite_step.lean ====
abbrev S32x32x128 : Shape := ⟨3, ![32, 32, 128]⟩
abbrev S4096 : Shape := ⟨1, ![4096]⟩
abbrev S1x32x32x128x128 : Shape := ⟨5, ![1, 32, 32, 128, 128]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel

variable [Facts]

def fn {F : FTy → Type} [FloatOps F] (main_arg0 : FVec F S32x32x128 .f32) (main_arg1 : FVec F S32x32x128 .f32) (main_arg2 : FVec F S32x32x128 .f32) (main_arg3 : FVec F S32x32x128 .f32) (main_arg4 : FVec F S4096 .f32) (main_arg5 : FVec F S1x32x32x128x128 .f32) : IVec S_ 1 :=
  let main_v0 : FVec F S32x32x128 .f32 := Host.absf main_arg1
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S32x32x128 .f32 := Host.absf main_arg2
  let main_cst_0 : FVec F S_ .f32 := constant S_ .f32 0x7F800000#32
  let main_v5 : FVec F S32x32x128 .f32 := broadcastInDim S32x32x128 ![] bcast_S_S32x32x128 main_cst_0
  let main_v6 : IVec S32x32x128 1 := cmpf .olt main_v4 main_v5
  let main_c_1 : IVec S_ 1 := constantI S_ 1 1#1
  let main_v7 : IVec S_ 1 := (fun x v => Host.reduce IntOp.andi x v reducesTo_S32x32x128_S_d0_1_2 h_S_) main_v6 main_c_1
  let main_v8 : IVec S_ 1 := andi main_v3 main_v7
  main_v8
-- ==== Kernel.lean ====
abbrev S32x4096 : Shape := ⟨2, ![32, 4096]⟩
abbrev S32x512 : Shape := ⟨2, ![32, 512]⟩
abbrev S1x32x128x8x64 : Shape := ⟨5, ![1, 32, 128, 8, 64]⟩
abbrev S32x64 : Shape := ⟨2, ![32, 64]⟩
abbrev S1x64 : Shape := ⟨2, ![1, 64]⟩
abbrev S128 : Shape := ⟨1, ![128]⟩
abbrev S_ : Shape := ⟨0, ![]⟩
abbrev S128x1 : Shape := ⟨2, ![128, 1]⟩
abbrev S128x64 : Shape := ⟨2, ![128, 64]⟩
abbrev S64x128 : Shape := ⟨2, ![64, 128]⟩
abbrev S1 : Shape := ⟨1, ![1]⟩
abbrev S1x1 : Shape := ⟨2, ![1, 1]⟩
abbrev S64x1 : Shape := ⟨2, ![64, 1]⟩
abbrev S32x64x64 : Shape := ⟨3, ![32, 64, 64]⟩
abbrev S32x1x512 : Shape := ⟨3, ![32, 1, 512]⟩
abbrev S32x128x8x64 : Shape := ⟨4, ![32, 128, 8, 64]⟩
abbrev S32x128x512 : Shape := ⟨3, ![32, 128, 512]⟩
abbrev S64 : Shape := ⟨1, ![64]⟩
abbrev S4x64x64 : Shape := ⟨3, ![4, 64, 64]⟩
abbrev S4x1x512 : Shape := ⟨3, ![4, 1, 512]⟩
abbrev S4x128x512 : Shape := ⟨3, ![4, 128, 512]⟩
abbrev S64x512 : Shape := ⟨2, ![64, 512]⟩
abbrev S128x512 : Shape := ⟨2, ![128, 512]⟩
abbrev S1x64x64 : Shape := ⟨3, ![1, 64, 64]⟩
abbrev S64x64 : Shape := ⟨2, ![64, 64]⟩
abbrev S1x128x512 : Shape := ⟨3, ![1, 128, 512]⟩
abbrev S1x1x512 : Shape := ⟨3, ![1, 1, 512]⟩
abbrev S1x512 : Shape := ⟨2, ![1, 512]⟩

abbrev nBuf : Space → Nat
  | .hbm => 97
  | .vmem => 21
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x512, .f32⟩
  | .hbm, ⟨3, _⟩ => ⟨S32x512, .f32⟩
  | .hbm, ⟨4, _⟩ => ⟨S1x32x128x8x64, .f32⟩
  | .hbm, ⟨5, _⟩ => ⟨S1x32x128x8x64, .f32⟩
  | .hbm, ⟨6, _⟩ => ⟨S32x64, .f32⟩
  | .hbm, ⟨7, _⟩ => ⟨S1x64, .f32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S128x64, .f32⟩
  | .hbm, ⟨46, _⟩ => ⟨S64x128, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S1, .f32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i1⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i1⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S1, .i32⟩
  | .hbm, ⟨81, _⟩ => ⟨S1x1, .i32⟩
  | .hbm, ⟨82, _⟩ => ⟨S1x64, .f32⟩
  | .hbm, ⟨83, _⟩ => ⟨S64x1, .f32⟩
  | .hbm, ⟨84, _⟩ => ⟨S32x64x64, .f32⟩
  | .hbm, ⟨85, _⟩ => ⟨S32x64x64, .f32⟩
  | .hbm, ⟨86, _⟩ => ⟨S32x1x512, .f32⟩
  | .hbm, ⟨87, _⟩ => ⟨S32x1x512, .f32⟩
  | .hbm, ⟨88, _⟩ => ⟨S32x128x8x64, .f32⟩
  | .hbm, ⟨89, _⟩ => ⟨S32x128x512, .f32⟩
  | .hbm, ⟨90, _⟩ => ⟨S32x128x8x64, .f32⟩
  | .hbm, ⟨91, _⟩ => ⟨S32x128x512, .f32⟩
  | .hbm, ⟨92, _⟩ => ⟨S64, .f32⟩
  | .hbm, ⟨93, _⟩ => ⟨S64x1, .f32⟩
  | .hbm, ⟨94, _⟩ => ⟨S32x64x64, .bf16⟩
  | .hbm, ⟨95, _⟩ => ⟨S32x128x512, .f32⟩
  | .hbm, ⟨96, _⟩ => ⟨S32x128x512, .f32⟩
  | .local _ .vmem, ⟨0, _⟩ => ⟨S4x64x64, .f32⟩
  | .local _ .vmem, ⟨1, _⟩ => ⟨S4x64x64, .f32⟩
  | .local _ .vmem, ⟨2, _⟩ => ⟨S4x64x64, .f32⟩
  | .local _ .vmem, ⟨3, _⟩ => ⟨S4x64x64, .f32⟩
  | .local _ .vmem, ⟨4, _⟩ => ⟨S4x1x512, .f32⟩
  | .local _ .vmem, ⟨5, _⟩ => ⟨S4x1x512, .f32⟩
  | .local _ .vmem, ⟨6, _⟩ => ⟨S4x1x512, .f32⟩
  | .local _ .vmem, ⟨7, _⟩ => ⟨S4x1x512, .f32⟩
  | .local _ .vmem, ⟨8, _⟩ => ⟨S4x128x512, .f32⟩
  | .local _ .vmem, ⟨9, _⟩ => ⟨S4x128x512, .f32⟩
  | .local _ .vmem, ⟨10, _⟩ => ⟨S4x128x512, .f32⟩
  | .local _ .vmem, ⟨11, _⟩ => ⟨S4x128x512, .f32⟩
  | .local _ .vmem, ⟨12, _⟩ => ⟨S64x128, .f32⟩
  | .local _ .vmem, ⟨13, _⟩ => ⟨S64x1, .f32⟩
  | .local _ .vmem, ⟨14, _⟩ => ⟨S64x1, .f32⟩
  | .local _ .vmem, ⟨15, _⟩ => ⟨S4x64x64, .bf16⟩
  | .local _ .vmem, ⟨16, _⟩ => ⟨S4x64x64, .bf16⟩
  | .local _ .vmem, ⟨17, _⟩ => ⟨S4x128x512, .f32⟩
  | .local _ .vmem, ⟨18, _⟩ => ⟨S4x128x512, .f32⟩
  | .local _ .vmem, ⟨19, _⟩ => ⟨S4x128x512, .f32⟩
  | .local _ .vmem, ⟨20, _⟩ => ⟨S4x128x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_13 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_v43 : Ref sig .tc := ⟨.hbm, 68, rfl⟩
abbrev main_v44 : Ref sig .tc := ⟨.hbm, 69, rfl⟩
abbrev main_c_15 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_16 : Ref sig .tc := ⟨.hbm, 74, rfl⟩
abbrev main_v48 : Ref sig .tc := ⟨.hbm, 75, rfl⟩
abbrev main_v49 : Ref sig .tc := ⟨.hbm, 76, rfl⟩
abbrev main_c_17 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66_0 : Ref sig .tc := ⟨.hbm, 94, rfl⟩
abbrev main_v66_1 : Ref sig .tc := ⟨.hbm, 95, rfl⟩
abbrev main_v66_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x64x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some (((Real.log 256)⁻¹ : ℝ) : EReal)
  | _ => none
-- ==== ReferenceIdeal.lean ====
abbrev S32x4096 : Shape := ⟨2, ![32, 4096]⟩
abbrev S32x512 : Shape := ⟨2, ![32, 512]⟩
abbrev S1x32x128x8x64 : Shape := ⟨5, ![1, 32, 128, 8, 64]⟩
abbrev S32x64 : Shape := ⟨2, ![32, 64]⟩
abbrev S1x64 : Shape := ⟨2, ![1, 64]⟩
abbrev S32x1x64x64 : Shape := ⟨4, ![32, 1, 64, 64]⟩
abbrev S32x1x8x64 : Shape := ⟨4, ![32, 1, 8, 64]⟩
abbrev S32x128x8x64 : Shape := ⟨4, ![32, 128, 8, 64]⟩
abbrev S64 : Shape := ⟨1, ![64]⟩
abbrev S32x129x8x64 : Shape := ⟨4, ![32, 129, 8, 64]⟩
abbrev S1 : Shape := ⟨1, ![1]⟩
abbrev S_ : Shape := ⟨0, ![]⟩
abbrev S128 : Shape := ⟨1, ![128]⟩
abbrev S129 : Shape := ⟨1, ![129]⟩
abbrev S1x1 : Shape := ⟨2, ![1, 1]⟩
abbrev S1x129 : Shape := ⟨2, ![1, 129]⟩
abbrev S1x129x1 : Shape := ⟨3, ![1, 129, 1]⟩
abbrev S1x129x64 : Shape := ⟨3, ![1, 129, 64]⟩
abbrev S64x1x129 : Shape := ⟨3, ![64, 1, 129]⟩
abbrev S8x8x1x129 : Shape := ⟨4, ![8, 8, 1, 129]⟩
abbrev S32x1x8x8x64 : Shape := ⟨5, ![32, 1, 8, 8, 64]⟩
abbrev S32x8x129x1x8 : Shape := ⟨5, ![32, 8, 129, 1, 8]⟩
abbrev S32x8x8x1x129 : Shape := ⟨5, ![32, 8, 8, 1, 129]⟩
abbrev S1x8x8x1x129 : Shape := ⟨5, ![1, 8, 8, 1, 129]⟩
abbrev S32x8x129x64 : Shape := ⟨4, ![32, 8, 129, 64]⟩
abbrev S8x8x1x1 : Shape := ⟨4, ![8, 8, 1, 1]⟩
abbrev S32x8x8x1 : Shape := ⟨4, ![32, 8, 8, 1]⟩
abbrev S32x8x8x1x1 : Shape := ⟨5, ![32, 8, 8, 1, 1]⟩
abbrev S1x8x8x1x1 : Shape := ⟨5, ![1, 8, 8, 1, 1]⟩
abbrev S32x8x8x1x64 : Shape := ⟨5, ![32, 8, 8, 1, 64]⟩
abbrev S32x64x64 : Shape := ⟨3, ![32, 64, 64]⟩
abbrev S32x128x512 : Shape := ⟨3, ![32, 128, 512]⟩

abbrev nBuf : Space → Nat
  | .hbm => 125
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x512, .f32⟩
  | .hbm, ⟨3, _⟩ => ⟨S32x512, .f32⟩
  | .hbm, ⟨4, _⟩ => ⟨S1x32x128x8x64, .f32⟩
  | .hbm, ⟨5, _⟩ => ⟨S1x32x128x8x64, .f32⟩
  | .hbm, ⟨6, _⟩ => ⟨S32x64, .f32⟩
  | .hbm, ⟨7, _⟩ => ⟨S1x64, .f32⟩
  | .hbm, ⟨8, _⟩ => ⟨S32x1x64x64, .f32⟩
  | .hbm, ⟨9, _⟩ => ⟨S32x1x8x64, .f32⟩
  | .hbm, ⟨10, _⟩ => ⟨S32x1x8x64, .f32⟩
  | .hbm, ⟨11, _⟩ => ⟨S32x128x8x64, .f32⟩
  | .hbm, ⟨12, _⟩ => ⟨S32x128x8x64, .f32⟩
  | .hbm, ⟨13, _⟩ => ⟨S64, .f32⟩
  | .hbm, ⟨14, _⟩ => ⟨S32x129x8x64, .f32⟩
  | .hbm, ⟨15, _⟩ => ⟨S32x129x8x64, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S129, .i32⟩
  | .hbm, ⟨29, _⟩ => ⟨S1x1, .i32⟩
  | .hbm, ⟨30, _⟩ => ⟨S1x129, .i32⟩
  | .hbm, ⟨31, _⟩ => ⟨S1x129, .i32⟩
  | .hbm, ⟨32, _⟩ => ⟨S1x129, .i32⟩
  | .hbm, ⟨33, _⟩ => ⟨S_, .i32⟩
  | .hbm, ⟨34, _⟩ => ⟨S1x129, .i32⟩
  | .hbm, ⟨35, _⟩ => ⟨S1x129, .i1⟩
  | .hbm, ⟨36, _⟩ => ⟨S_, .i32⟩
  | .hbm, ⟨37, _⟩ => ⟨S1x129, .i32⟩
  | .hbm, ⟨38, _⟩ => ⟨S1x129, .i1⟩
  | .hbm, ⟨39, _⟩ => ⟨S1x129, .i1⟩
  | .hbm, ⟨40, _⟩ => ⟨S_, .i32⟩
  | .hbm, ⟨41, _⟩ => ⟨S1x129, .i32⟩
  | .hbm, ⟨42, _⟩ => ⟨S1x129, .i32⟩
  | .hbm, ⟨43, _⟩ => ⟨S_, .i32⟩
  | .hbm, ⟨44, _⟩ => ⟨S1x129, .i32⟩
  | .hbm, ⟨45, _⟩ => ⟨S1x129, .i32⟩
  | .hbm, ⟨46, _⟩ => ⟨S1x129, .f32⟩
  | .hbm, ⟨47, _⟩ => ⟨S_, .f32⟩
  | .hbm, ⟨48, _⟩ => ⟨S1x129, .f32⟩
  | .hbm, ⟨49, _⟩ => ⟨S1x129, .f32⟩
  | .hbm, ⟨50, _⟩ => ⟨S1x129, .f32⟩
  | .hbm, ⟨51, _⟩ => ⟨S_, .f32⟩
  | .hbm, ⟨52, _⟩ => ⟨S1x129, .f32⟩
  | .hbm, ⟨53, _⟩ => ⟨S1x129, .f32⟩
  | .hbm, ⟨54, _⟩ => ⟨S_, .f32⟩
  | .hbm, ⟨55, _⟩ => ⟨S1x129, .f32⟩
  | .hbm, ⟨56, _⟩ => ⟨S1x129, .f32⟩
  | .hbm, ⟨57, _⟩ => ⟨S1x129, .i32⟩
  | .hbm, ⟨58, _⟩ => ⟨S_, .i32⟩
  | .hbm, ⟨59, _⟩ => ⟨S1x129, .i32⟩
  | .hbm, ⟨60, _⟩ => ⟨S1x129, .i32⟩
  | .hbm, ⟨61, _⟩ => ⟨S_, .i32⟩
  | .hbm, ⟨62, _⟩ => ⟨S1x129, .i32⟩
  | .hbm, ⟨63, _⟩ => ⟨S1x129, .i32⟩
  | .hbm, ⟨64, _⟩ => ⟨S_, .i32⟩
  | .hbm, ⟨65, _⟩ => ⟨S1x129, .i32⟩
  | .hbm, ⟨66, _⟩ => ⟨S1x129, .i1⟩
  | .hbm, ⟨67, _⟩ => ⟨S1x129, .i32⟩
  | .hbm, ⟨68, _⟩ => ⟨S_, .i32⟩
  | .hbm, ⟨69, _⟩ => ⟨S1x129, .i32⟩
  | .hbm, ⟨70, _⟩ => ⟨S1x129, .i1⟩
  | .hbm, ⟨71, _⟩ => ⟨S_, .i32⟩
  | .hbm, ⟨72, _⟩ => ⟨S1x129, .i32⟩
  | .hbm, ⟨73, _⟩ => ⟨S1x129, .i32⟩
  | .hbm, ⟨74, _⟩ => ⟨S1x129, .i32⟩
  | .hbm, ⟨75, _⟩ => ⟨S1x129x1, .i32⟩
  | .hbm, ⟨76, _⟩ => ⟨S1x129x64, .f32⟩
  | .hbm, ⟨77, _⟩ => ⟨S64x1x129, .f32⟩
  | .hbm, ⟨78, _⟩ => ⟨S8x8x1x129, .f32⟩
  | .hbm, ⟨79, _⟩ => ⟨S32x1x8x8x64, .f32⟩
  | .hbm, ⟨80, _⟩ => ⟨S32x8x129x1x8, .f32⟩
  | .hbm, ⟨81, _⟩ => ⟨S32x8x8x1x129, .f32⟩
  | .hbm, ⟨82, _⟩ => ⟨S_, .f32⟩
  | .hbm, ⟨83, _⟩ => ⟨S32x8x8x1x129, .f32⟩
  | .hbm, ⟨84, _⟩ => ⟨S32x8x8x1x129, .f32⟩
  | .hbm, ⟨85, _⟩ => ⟨S1x8x8x1x129, .f32⟩
  | .hbm, ⟨86, _⟩ => ⟨S32x8x8x1x129, .f32⟩
  | .hbm, ⟨87, _⟩ => ⟨S32x8x8x1x129, .f32⟩
  | .hbm, ⟨88, _⟩ => ⟨S_, .f32⟩
  | .hbm, ⟨89, _⟩ => ⟨S_, .f32⟩
  | .hbm, ⟨90, _⟩ => ⟨S32x8x8x1x129, .i1⟩
  | .hbm, ⟨91, _⟩ => ⟨S32x8x8x1x129, .f32⟩
  | .hbm, ⟨92, _⟩ => ⟨S32x8x8x1x129, .f32⟩
  | .hbm, ⟨93, _⟩ => ⟨S32x8x129x64, .f32⟩
  | .hbm, ⟨94, _⟩ => ⟨S8x8x1x1, .f32⟩
  | .hbm, ⟨95, _⟩ => ⟨S_, .f32⟩
  | .hbm, ⟨96, _⟩ => ⟨S32x8x8x1, .f32⟩
  | .hbm, ⟨97, _⟩ => ⟨S32x8x8x1x1, .f32⟩
  | .hbm, ⟨98, _⟩ => ⟨S1x8x8x1x1, .f32⟩
  | .hbm, ⟨99, _⟩ => ⟨S32x8x8x1x1, .f32⟩
  | .hbm, ⟨100, _⟩ => ⟨S32x8x8x1x1, .f32⟩
  | .hbm, ⟨101, _⟩ => ⟨S32x8x8x1x129, .f32⟩
  | .hbm, ⟨102, _⟩ => ⟨S32x8x8x1x129, .f32⟩
  | .hbm, ⟨103, _⟩ => ⟨S32x8x8x1x129, .f32⟩
  | .hbm, ⟨104, _⟩ => ⟨S_, .f32⟩
  | .hbm, ⟨105, _⟩ => ⟨S32x8x8x1, .f32⟩
  | .hbm, ⟨106, _⟩ => ⟨S32x8x8x1x1, .f32⟩
  | .hbm, ⟨107, _⟩ => ⟨S1x8x8x1x1, .f32⟩
  | .hbm, ⟨108, _⟩ => ⟨S32x8x8x1x1, .f32⟩
  | .hbm, ⟨109, _⟩ => ⟨S32x8x8x1x1, .f32⟩
  | .hbm, ⟨110, _⟩ => ⟨S32x8x8x1x1, .f32⟩
  | .hbm, ⟨111, _⟩ => ⟨S32x8x8x1x1, .f32⟩
  | .hbm, ⟨112, _⟩ => ⟨S32x8x8x1x129, .f32⟩
  | .hbm, ⟨113, _⟩ => ⟨S32x8x8x1x129, .f32⟩
  | .hbm, ⟨114, _⟩ => ⟨S32x8x8x1x64, .f32⟩
  | .hbm, ⟨115, _⟩ => ⟨S32x1x8x8x64, .f32⟩
  | .hbm, ⟨116, _⟩ => ⟨S32x1x64x64, .f32⟩
  | .hbm, ⟨117, _⟩ => ⟨S32x128x8x64, .f32⟩
  | .hbm, ⟨118, _⟩ => ⟨S32x128x8x64, .f32⟩
  | .hbm, ⟨119, _⟩ => ⟨S32x64x64, .f32⟩
  | .hbm, ⟨120, _⟩ => ⟨S32x64x64, .f32⟩
  | .hbm, ⟨121, _⟩ => ⟨S32x64x64, .f32⟩
  | .hbm, ⟨122, _⟩ => ⟨S32x64x64, .bf16⟩
  | .hbm, ⟨123, _⟩ => ⟨S32x128x512, .f32⟩
  | .hbm, ⟨124, _⟩ => ⟨S32x128x512, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Kernel2.lean ====
abbrev S8192x4096 : Shape := ⟨2, ![8192, 4096]⟩
abbrev S64x4096 : Shape := ⟨2, ![64, 4096]⟩
abbrev S4096x16384 : Shape := ⟨2, ![4096, 16384]⟩
abbrev S3x4096 : Shape := ⟨2, ![3, 4096]⟩
abbrev S8192x16384 : Shape := ⟨2, ![8192, 16384]⟩
abbrev S64x16384 : Shape := ⟨2, ![64, 16384]⟩
abbrev S1024x4096 : Shape := ⟨2, ![1024, 4096]⟩
abbrev S3x1024 : Shape := ⟨2, ![3, 1024]⟩
abbrev S1024x1024 : Shape := ⟨2, ![1024, 1024]⟩
abbrev S64x1024 : Shape := ⟨2, ![64, 1024]⟩
abbrev S2x4096x1024 : Shape := ⟨3, ![2, 4096, 1024]⟩
abbrev S4x256x1024 : Shape := ⟨3, ![4, 256, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩
abbrev S1024 : Shape := ⟨1, ![1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x16384, .f32⟩
  | .hbm, ⟨3, _⟩ => ⟨S3x4096, .f32⟩
  | .hbm, ⟨4, _⟩ => ⟨S8192x16384, .f32⟩
  | .hbm, ⟨5, _⟩ => ⟨S64x16384, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S3x1024, .f32⟩
  | .local _ .vmem, ⟨4, _⟩ => ⟨S3x1024, .f32⟩
  | .local _ .vmem, ⟨5, _⟩ => ⟨S1024x1024, .f32⟩
  | .local _ .vmem, ⟨6, _⟩ => ⟨S1024x1024, .f32⟩
  | .local _ .vmem, ⟨7, _⟩ => ⟨S64x1024, .f32⟩
  | .local _ .vmem, ⟨8, _⟩ => ⟨S64x1024, .f32⟩
  | .local _ .vmem, ⟨9, _⟩ => ⟨S2x4096x1024, .bf16⟩
  | .local _ .vmem, ⟨10, _⟩ => ⟨S4x256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_3 : BitVec 32 := 0#32
  let v10 : BitVec 1 := Scalar.cmpi .eq v1 c0_i32_3
  let v11 : BitVec 32 := Scalar.extui v10
  let c0_i32_4 : BitVec 32 := 0#32
  let v12 : BitVec 1 := Scalar.cmpi .ne v11 c0_i32_4
  v12

def k0_mult1 : BitVec 32 :=
  let c1_i32_286 : BitVec 32 := 1#32
  let c15_i32_287 : BitVec 32 := 15#32
  let v309 : BitVec 32 := Scalar.minsi c1_i32_286 c15_i32_287
  let c1024_i32_288 : BitVec 32 := 1024#32
  let v310 : BitVec 32 := Scalar.muli v309 c1024_i32_288
  v310
def k0_off1 : Fin 2 → Nat :=
  let c0_i32_293 : BitVec 32 := 0#32
  let c1_i32_286 : BitVec 32 := 1#32
  let c15_i32_287 : BitVec 32 := 15#32
  let v309 : BitVec 32 := Scalar.minsi c1_i32_286 c15_i32_287
  let c1024_i32_288 : BitVec 32 := 1024#32
  let v310 : BitVec 32 := Scalar.muli v309 c1024_i32_288
  let v311 : BitVec 32 := v310
  ![0, v311.toNat]
def k0_mult2 : BitVec 32 :=
  let c1_i32_294 : BitVec 32 := 1#32
  let c15_i32_295 : BitVec 32 := 15#32
  let v317 : BitVec 32 := Scalar.minsi c1_i32_294 c15_i32_295
  let c1024_i32_296 : BitVec 32 := 1024#32
  let v318 : BitVec 32 := Scalar.muli v317 c1024_i32_296
  v318
def k0_off2 : Fin 2 → Nat :=
  let c256_i32_301 : BitVec 32 := 256#32
  let c1_i32_294 : BitVec 32 := 1#32
  let c15_i32_295 : BitVec 32 := 15#32
  let v317 : BitVec 32 := Scalar.minsi c1_i32_294 c15_i32_295
  let c1024_i32_296 : BitVec 32 := 1024#32
  let v318 : BitVec 32 := Scalar.muli v317 c1024_i32_296
  let v319 : BitVec 32 := v318
  ![256, v319.toNat]
def k0_mult3 (i : grid0.Coords) : BitVec 32 :=
  let arg1 : BitVec 32 := BitVec.ofNat 32 (i 1).val
  let c2_i32_6 : BitVec 32 := 2#32
  let v15 : BitVec 32 := Scalar.muli arg1 c2_i32_6
  let c0_i32_7 : BitVec 32 := 0#32
  let v16 : BitVec 32 := Scalar.addi v15 c0_i32_7
  let c256_i32 : BitVec 32 := 256#32
  let v19 : BitVec 32 := Scalar.muli v16 c256_i32
  v19
def k0_mult4 (i : grid0.Coords) : BitVec 32 :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32 : BitVec 32 := 1024#32
  let v21 : BitVec 32 := Scalar.muli v14 c1024_i32
  v21
def k0_off3 (i : grid0.Coords) (c0_i32_9 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_8 : BitVec 32 := 2#32
  let v17 : BitVec 32 := Scalar.muli v3 c2_i32_8
  let v18 : BitVec 32 := Scalar.addi v17 c0_i32_9
  ![v18.toNat]
def k0_off4 (i : grid0.Coords) (c0_i32_9 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_8 : BitVec 32 := 2#32
  let v17 : BitVec 32 := Scalar.muli v3 c2_i32_8
  let v18 : BitVec 32 := Scalar.addi v17 c0_i32_9
  let c0_i32_10 : BitVec 32 := 0#32
  let c0_i32_11 : BitVec 32 := 0#32
  ![v18.toNat, 0, 0]
def k0_off5 (i : grid0.Coords) (c0_i32_7 : BitVec 32) : Fin 2 → Nat :=
  let arg1 : BitVec 32 := BitVec.ofNat 32 (i 1).val
  let c2_i32_6 : BitVec 32 := 2#32
  let v15 : BitVec 32 := Scalar.muli arg1 c2_i32_6
  let v16 : BitVec 32 := Scalar.addi v15 c0_i32_7
  let c256_i32 : BitVec 32 := 256#32
  let v19 : BitVec 32 := Scalar.muli v16 c256_i32
  let v20 : BitVec 32 := v19
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32 : BitVec 32 := 1024#32
  let v21 : BitVec 32 := Scalar.muli v14 c1024_i32
  let v22 : BitVec 32 := v21
  ![v20.toNat, v22.toNat]
def k0_mult5 (i : grid0.Coords) : BitVec 32 :=
  let arg1 : BitVec 32 := BitVec.ofNat 32 (i 1).val
  let c2_i32_14 : BitVec 32 := 2#32
  let v30 : BitVec 32 := Scalar.muli arg1 c2_i32_14
  let c1_i32_15 : BitVec 32 := 1#32
  let v31 : BitVec 32 := Scalar.addi v30 c1_i32_15
  let c256_i32_18 : BitVec 32 := 256#32
  let v34 : BitVec 32 := Scalar.muli v31 c256_i32_18
  v34
def k0_mult6 (i : grid0.Coords) : BitVec 32 :=
  let arg0 : BitVec 32 := BitVec.ofNat 32 (i 0).val
  let c1_i32_12 : BitVec 32 := 1#32
  let v28 : BitVec 32 := Scalar.addi arg0 c1_i32_12
  let c15_i32_13 : BitVec 32 := 15#32
  let v29 : BitVec 32 := Scalar.minsi v28 c15_i32_13
  let c1024_i32_19 : BitVec 32 := 1024#32
  let v36 : BitVec 32 := Scalar.muli v29 c1024_i32_19
  v36
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_22 : BitVec 32 := 1#32
  let v43 : BitVec 32 := Scalar.addi v1 c1_i32_22
  let c128_i32 : BitVec 32 := 128#32
  let v44 : BitVec 1 := Scalar.cmpi .slt v43 c128_i32
  let v45 : BitVec 32 := Scalar.extui v44
  let c0_i32_23 : BitVec 32 := 0#32
  let v46 : BitVec 1 := Scalar.cmpi .ne v45 c0_i32_23
  v46

def k0_mult7 (i : grid0.Coords) : BitVec 32 :=
  let arg1 : BitVec 32 := BitVec.ofNat 32 (i 1).val
  let c1_i32_28 : BitVec 32 := 1#32
  let v53 : BitVec 32 := Scalar.addi arg1 c1_i32_28
  let c8_i32_29 : BitVec 32 := 8#32
  let v54 : BitVec 1 := Scalar.cmpi .eq v53 c8_i32_29
  let c0_i32_32 : BitVec 32 := 0#32
  let c1_i32_31 : BitVec 32 := 1#32
  let v57 : BitVec 32 := Scalar.addi arg1 c1_i32_31
  let v58 : BitVec 32 := Scalar.select v54 c0_i32_32 v57
  let c2_i32_35 : BitVec 32 := 2#32
  let v61 : BitVec 32 := Scalar.muli v58 c2_i32_35
  let c0_i32_36 : BitVec 32 := 0#32
  let v62 : BitVec 32 := Scalar.addi v61 c0_i32_36
  let c256_i32_40 : BitVec 32 := 256#32
  let v66 : BitVec 32 := Scalar.muli v62 c256_i32_40
  v66
def k0_mult8 (i : grid0.Coords) : BitVec 32 :=
  let arg1 : BitVec 32 := BitVec.ofNat 32 (i 1).val
  let c1_i32_28 : BitVec 32 := 1#32
  let v53 : BitVec 32 := Scalar.addi arg1 c1_i32_28
  let c8_i32_29 : BitVec 32 := 8#32
  let v54 : BitVec 1 := Scalar.cmpi .eq v53 c8_i32_29
  let arg0 : BitVec 32 := BitVec.ofNat 32 (i 0).val
  let c1_i32_30 : BitVec 32 := 1#32
  let v55 : BitVec 32 := Scalar.addi arg0 c1_i32_30
  let v56 : BitVec 32 := Scalar.select v54 v55 arg0
  let c1_i32_33 : BitVec 32 := 1#32
  let v59 : BitVec 32 := Scalar.addi v56 c1_i32_33
  let c15_i32_34 : BitVec 32 := 15#32
  let v60 : BitVec 32 := Scalar.minsi v59 c15_i32_34
  let c1024_i32_41 : BitVec 32 := 1024#32
  let v68 : BitVec 32 := Scalar.muli v60 c1024_i32_41
  v68
def k0_off6 (i : grid0.Coords) (c0_i32_39 : BitVec 32) : Fin 1 → Nat :=
  let c1_i32_37 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v63 : BitVec 32 := Scalar.subi c1_i32_37 v3
  let c2_i32_38 : BitVec 32 := 2#32
  let v64 : BitVec 32 := Scalar.muli v63 c2_i32_38
  let v65 : BitVec 32 := Scalar.addi v64 c0_i32_39
  ![v65.toNat]
def k0_off7 (i : grid0.Coords) (c0_i32_39 : BitVec 32) : Fin 3 → Nat :=
  let c1_i32_37 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v63 : BitVec 32 := Scalar.subi c1_i32_37 v3
  let c2_i32_38 : BitVec 32 := 2#32
  let v64 : BitVec 32 := Scalar.muli v63 c2_i32_38
  let v65 : BitVec 32 := Scalar.addi v64 c0_i32_39
  let c0_i32_42 : BitVec 32 := 0#32
  let c0_i32_43 : BitVec 32 := 0#32
  ![v65.toNat, 0, 0]
def k0_off8 (i : grid0.Coords) (c0_i32_36 : BitVec 32) : Fin 2 → Nat :=
  let arg1 : BitVec 32 := BitVec.ofNat 32 (i 1).val
  let c1_i32_28 : BitVec 32 := 1#32
  let v53 : BitVec 32 := Scalar.addi arg1 c1_i32_28
  let c8_i32_29 : BitVec 32 := 8#32
  let v54 : BitVec 1 := Scalar.cmpi .eq v53 c8_i32_29
  let c0_i32_32 : BitVec 32 := 0#32
  let c1_i32_31 : BitVec 32 := 1#32
  let v57 : BitVec 32 := Scalar.addi arg1 c1_i32_31
  let v58 : BitVec 32 := Scalar.select v54 c0_i32_32 v57
  let c2_i32_35 : BitVec 32 := 2#32
  let v61 : BitVec 32 := Scalar.muli v58 c2_i32_35
  let v62 : BitVec 32 := Scalar.addi v61 c0_i32_36
  let c256_i32_40 : BitVec 32 := 256#32
  let v66 : BitVec 32 := Scalar.muli v62 c256_i32_40
  let v67 : BitVec 32 := v66
  let arg0 : BitVec 32 := BitVec.ofNat 32 (i 0).val
  let c1_i32_30 : BitVec 32 := 1#32
  let v55 : BitVec 32 := Scalar.addi arg0 c1_i32_30
  let v56 : BitVec 32 := Scalar.select v54 v55 arg0
  let c1_i32_33 : BitVec 32 := 1#32
  let v59 : BitVec 32 := Scalar.addi v56 c1_i32_33
  let c15_i32_34 : BitVec 32 := 15#32
  let v60 : BitVec 32 := Scalar.minsi v59 c15_i32_34
  let c1024_i32_41 : BitVec 32 := 1024#32
  let v68 : BitVec 32 := Scalar.muli v60 c1024_i32_41
  let v69 : BitVec 32 := v68
  ![v67.toNat, v69.toNat]
def k0_mult9 (i : grid0.Coords) : BitVec 32 :=
  let arg1 : BitVec 32 := BitVec.ofNat 32 (i 1).val
  let c1_i32_28 : BitVec 32 := 1#32
  let v53 : BitVec 32 := Scalar.addi arg1 c1_i32_28
  let c8_i32_29 : BitVec 32 := 8#32
  let v54 : BitVec 1 := Scalar.cmpi .eq v53 c8_i32_29
  let c0_i32_32 : BitVec 32 := 0#32
  let c1_i32_31 : BitVec 32 := 1#32
  let v57 : BitVec 32 := Scalar.addi arg1 c1_i32_31
  let v58 : BitVec 32 := Scalar.select v54 c0_i32_32 v57
  let c2_i32_46 : BitVec 32 := 2#32
  let v77 : BitVec 32 := Scalar.muli v58 c2_i32_46
  let c1_i32_47 : BitVec 32 := 1#32
  let v78 : BitVec 32 := Scalar.addi v77 c1_i32_47
  let c256_i32_51 : BitVec 32 := 256#32
  let v82 : BitVec 32 := Scalar.muli v78 c256_i32_51
  v82
def k0_mult10 (i : grid0.Coords) : BitVec 32 :=
  let arg1 : BitVec 32 := BitVec.ofNat 32 (i 1).val
  let c1_i32_28 : BitVec 32 := 1#32
  let v53 : BitVec 32 := Scalar.addi arg1 c1_i32_28
  let c8_i32_29 : BitVec 32 := 8#32
  let v54 : BitVec 1 := Scalar.cmpi .eq v53 c8_i32_29
  let arg0 : BitVec 32 := BitVec.ofNat 32 (i 0).val
  let c1_i32_30 : BitVec 32 := 1#32
  let v55 : BitVec 32 := Scalar.addi arg0 c1_i32_30
  let v56 : BitVec 32 := Scalar.select v54 v55 arg0
  let c1_i32_44 : BitVec 32 := 1#32
  let v75 : BitVec 32 := Scalar.addi v56 c1_i32_44
  let c15_i32_45 : BitVec 32 := 15#32
  let v76 : BitVec 32 := Scalar.minsi v75 c15_i32_45
  let c1024_i32_52 : BitVec 32 := 1024#32
  let v84 : BitVec 32 := Scalar.muli v76 c1024_i32_52
  v84
def k0_cond3 (i : grid0.Coords) : BitVec 1 :=
  let arg1 : BitVec 32 := BitVec.ofNat 32 (i 1).val
  let c0_i32_24 : BitVec 32 := 0#32
  let v47 : BitVec 1 := Scalar.cmpi .eq arg1 c0_i32_24
  let v48 : BitVec 32 := Scalar.extui v47
  let c0_i32_25 : BitVec 32 := 0#32
  let v49 : BitVec 1 := Scalar.cmpi .ne v48 c0_i32_25
  v49

def k0_cond4 (i : grid0.Coords) : BitVec 1 :=
  let arg0 : BitVec 32 := BitVec.ofNat 32 (i 0).val
  let c4_i32 : BitVec 32 := 4#32
  let v4 : BitVec 1 := Scalar.cmpi .slt arg0 c4_i32
  let c12_i32 : BitVec 32 := 12#32
  let v5 : BitVec 1 := Scalar.cmpi .sge arg0 c12_i32
  let v6 : BitVec 1 := Scalar.ori v4 v5
  let c0_i32 : BitVec 32 := 0#32
  let c8_i32_1 : BitVec 32 := 8#32
  let v7 : BitVec 1 := Scalar.cmpi .slt arg0 c8_i32_1
  let c1_i32 : BitVec 32 := 1#32
  let c2_i32_2 : BitVec 32 := 2#32
  let v8 : BitVec 32 := Scalar.select v7 c1_i32 c2_i32_2
  let v9 : BitVec 32 := Scalar.select v6 c0_i32 v8
  let c0_i32_28 : BitVec 32 := 0#32
  let v53 : BitVec 1 := Scalar.cmpi .eq v9 c0_i32_28
  let v54 : BitVec 32 := Scalar.extui v53
  let c0_i32_29 : BitVec 32 := 0#32
  let v55 : BitVec 1 := Scalar.cmpi .ne v54 c0_i32_29
  v55

def k0_off9 (i : grid0.Coords) : Fin 3 → Nat :=
  let arg0 : BitVec 32 := BitVec.ofNat 32 (i 0).val
  let c2_i32 : BitVec 32 := 2#32
  let v2 : BitVec 32 := Scalar.remsi arg0 c2_i32
  let v57 : Index := Scalar.indexCast v2
  let c0_31 : Index := 0#32
  let c0_32 : Index := 0#32
  ![v57.toNat, 0, 0]
def k0_cond5 (i : grid0.Coords) : BitVec 1 :=
  let arg0 : BitVec 32 := BitVec.ofNat 32 (i 0).val
  let c4_i32 : BitVec 32 := 4#32
  let v4 : BitVec 1 := Scalar.cmpi .slt arg0 c4_i32
  let c12_i32 : BitVec 32 := 12#32
  let v5 : BitVec 1 := Scalar.cmpi .sge arg0 c12_i32
  let v6 : BitVec 1 := Scalar.ori v4 v5
  let c0_i32 : BitVec 32 := 0#32
  let c8_i32_1 : BitVec 32 := 8#32
  let v7 : BitVec 1 := Scalar.cmpi .slt arg0 c8_i32_1
  let c1_i32 : BitVec 32 := 1#32
  let c2_i32_2 : BitVec 32 := 2#32
  let v8 : BitVec 32 := Scalar.select v7 c1_i32 c2_i32_2
  let v9 : BitVec 32 := Scalar.select v6 c0_i32 v8
  let c1_i32_30 : BitVec 32 := 1#32
  let v56 : BitVec 1 := Scalar.cmpi .eq v9 c1_i32_30
  let v57 : BitVec 32 := Scalar.extui v56
  let c0_i32_31 : BitVec 32 := 0#32
  let v58 : BitVec 1 := Scalar.cmpi .ne v57 c0_i32_31
  v58

def k0_off10 (i : grid0.Coords) : Fin 3 → Nat :=
  let arg0 : BitVec 32 := BitVec.ofNat 32 (i 0).val
  let c2_i32 : BitVec 32 := 2#32
  let v2 : BitVec 32 := Scalar.remsi arg0 c2_i32
  let v60 : Index := Scalar.indexCast v2
  let c0_33 : Index := 0#32
  let c0_34 : Index := 0#32
  ![v60.toNat, 0, 0]
def k0_off11 (i : grid0.Coords) : Fin 3 → Nat :=
  let arg0 : BitVec 32 := BitVec.ofNat 32 (i 0).val
  let c2_i32 : BitVec 32 := 2#32
  let v2 : BitVec 32 := Scalar.remsi arg0 c2_i32
  let v60 : Index := Scalar.indexCast v2
  let c0_33 : Index := 0#32
  let c0_34 : Index := 0#32
  ![v60.toNat, 0, 0]
def k0_cond6 (i : grid0.Coords) : BitVec 1 :=
  let arg0 : BitVec 32 := BitVec.ofNat 32 (i 0).val
  let c4_i32 : BitVec 32 := 4#32
  let v4 : BitVec 1 := Scalar.cmpi .slt arg0 c4_i32
  let c12_i32 : BitVec 32 := 12#32
  let v5 : BitVec 1 := Scalar.cmpi .sge arg0 c12_i32
  let v6 : BitVec 1 := Scalar.ori v4 v5
  let c0_i32 : BitVec 32 := 0#32
  let c8_i32_1 : BitVec 32 := 8#32
  let v7 : BitVec 1 := Scalar.cmpi .slt arg0 c8_i32_1
  let c1_i32 : BitVec 32 := 1#32
  let c2_i32_2 : BitVec 32 := 2#32
  let v8 : BitVec 32 := Scalar.select v7 c1_i32 c2_i32_2
  let v9 : BitVec 32 := Scalar.select v6 c0_i32 v8
  let c0_i32_26 : BitVec 32 := 0#32
  let v50 : BitVec 1 := Scalar.cmpi .eq v9 c0_i32_26
  let v51 : BitVec 32 := Scalar.extui v50
  let c0_i32_27 : BitVec 32 := 0#32
  let v52 : BitVec 1 := Scalar.cmpi .ne v51 c0_i32_27
  v52

def k0_mult11 (i : grid0.Coords) : BitVec 32 :=
  let arg1 : BitVec 32 := BitVec.ofNat 32 (i 1).val
  let c2_i32_30 : BitVec 32 := 2#32
  let v55 : BitVec 32 := Scalar.muli arg1 c2_i32_30
  let c0_i32_31 : BitVec 32 := 0#32
  let v56 : BitVec 32 := Scalar.addi v55 c0_i32_31
  let c256_i32_33 : BitVec 32 := 256#32
  let v58 : BitVec 32 := Scalar.muli v56 c256_i32_33
  v58
def k0_off12 (i : grid0.Coords) (c0_i32_29 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_28 : BitVec 32 := 2#32
  let v53 : BitVec 32 := Scalar.muli v3 c2_i32_28
  let v54 : BitVec 32 := Scalar.addi v53 c0_i32_29
  let v60 : Index := Scalar.indexCast v54
  let c0 : Index := 0#32
  let c0_34 : Index := 0#32
  ![v60.toNat, 0, 0]
def k0_off13 (i : grid0.Coords) (c0_i32_31 : BitVec 32) : Fin 3 → Nat :=
  let c1_i32_32 : BitVec 32 := 1#32
  let arg0 : BitVec 32 := BitVec.ofNat 32 (i 0).val
  let c2_i32 : BitVec 32 := 2#32
  let v2 : BitVec 32 := Scalar.remsi arg0 c2_i32
  let v57 : BitVec 32 := Scalar.subi c1_i32_32 v2
  let v64 : Index := Scalar.indexCast v57
  let arg1 : BitVec 32 := BitVec.ofNat 32 (i 1).val
  let c2_i32_30 : BitVec 32 := 2#32
  let v55 : BitVec 32 := Scalar.muli arg1 c2_i32_30
  let v56 : BitVec 32 := Scalar.addi v55 c0_i32_31
  let c256_i32_33 : BitVec 32 := 256#32
  let v58 : BitVec 32 := Scalar.muli v56 c256_i32_33
  let v59 : BitVec 32 := v58
  let v65 : Index := Scalar.indexCast v59
  let c0_35 : Index := 0#32
  ![v64.toNat, v65.toNat, 0]
def k0_mult12 (i : grid0.Coords) : BitVec 32 :=
  let arg1 : BitVec 32 := BitVec.ofNat 32 (i 1).val
  let c2_i32_38 : BitVec 32 := 2#32
  let v71 : BitVec 32 := Scalar.muli arg1 c2_i32_38
  let c1_i32_39 : BitVec 32 := 1#32
  let v72 : BitVec 32 := Scalar.addi v71 c1_i32_39
  let c256_i32_41 : BitVec 32 := 256#32
  let v74 : BitVec 32 := Scalar.muli v72 c256_i32_41
  v74
def k0_off14 (i : grid0.Coords) : Fin 3 → Nat :=
  let arg0 : BitVec 32 := BitVec.ofNat 32 (i 0).val
  let c2_i32 : BitVec 32 := 2#32
  let v2 : BitVec 32 := Scalar.remsi arg0 c2_i32
  let v86 : Index := Scalar.indexCast v2
  let c0_47 : Index := 0#32
  let c0_48 : Index := 0#32
  ![v86.toNat, 0, 0]
def k0_cond7 (i : grid0.Coords) : BitVec 1 :=
  let arg0 : BitVec 32 := BitVec.ofNat 32 (i 0).val
  let c4_i32 : BitVec 32 := 4#32
  let v4 : BitVec 1 := Scalar.cmpi .slt arg0 c4_i32
  let c12_i32 : BitVec 32 := 12#32
  let v5 : BitVec 1 := Scalar.cmpi .sge arg0 c12_i32
  let v6 : BitVec 1 := Scalar.ori v4 v5
  let c0_i32 : BitVec 32 := 0#32
  let c8_i32_1 : BitVec 32 := 8#32
  let v7 : BitVec 1 := Scalar.cmpi .slt arg0 c8_i32_1
  let c1_i32 : BitVec 32 := 1#32
  let c2_i32_2 : BitVec 32 := 2#32
  let v8 : BitVec 32 := Scalar.select v7 c1_i32 c2_i32_2
  let v9 : BitVec 32 := Scalar.select v6 c0_i32 v8
  let c1_i32_28 : BitVec 32 := 1#32
  let v53 : BitVec 1 := Scalar.cmpi .eq v9 c1_i32_28
  let v54 : BitVec 32 := Scalar.extui v53
  let c0_i32_29 : BitVec 32 := 0#32
  let v55 : BitVec 1 := Scalar.cmpi .ne v54 c0_i32_29
  v55

def k0_mult13 (i : grid0.Coords) : BitVec 32 :=
  let arg1 : BitVec 32 := BitVec.ofNat 32 (i 1).val
  let c2_i32_32 : BitVec 32 := 2#32
  let v58 : BitVec 32 := Scalar.muli arg1 c2_i32_32
  let c0_i32_33 : BitVec 32 := 0#32
  let v59 : BitVec 32 := Scalar.addi v58 c0_i32_33
  let c256_i32_35 : BitVec 32 := 256#32
  let v61 : BitVec 32 := Scalar.muli v59 c256_i32_35
  v61
def k0_off15 (i : grid0.Coords) (c0_i32_31 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_30 : BitVec 32 := 2#32
  let v56 : BitVec 32 := Scalar.muli v3 c2_i32_30
  let v57 : BitVec 32 := Scalar.addi v56 c0_i32_31
  let v63 : Index := Scalar.indexCast v57
  let c0 : Index := 0#32
  let c0_36 : Index := 0#32
  ![v63.toNat, 0, 0]
def k0_off16 (i : grid0.Coords) (c0_i32_33 : BitVec 32) : Fin 3 → Nat :=
  let c1_i32_34 : BitVec 32 := 1#32
  let arg0 : BitVec 32 := BitVec.ofNat 32 (i 0).val
  let c2_i32 : BitVec 32 := 2#32
  let v2 : BitVec 32 := Scalar.remsi arg0 c2_i32
  let v60 : BitVec 32 := Scalar.subi c1_i32_34 v2
  let v67 : Index := Scalar.indexCast v60
  let arg1 : BitVec 32 := BitVec.ofNat 32 (i 1).val
  let c2_i32_32 : BitVec 32 := 2#32
  let v58 : BitVec 32 := Scalar.muli arg1 c2_i32_32
  let v59 : BitVec 32 := Scalar.addi v58 c0_i32_33
  let c256_i32_35 : BitVec 32 := 256#32
  let v61 : BitVec 32 := Scalar.muli v59 c256_i32_35
  let v62 : BitVec 32 := v61
  let v68 : Index := Scalar.indexCast v62
  let c0_37 : Index := 0#32
  ![v67.toNat, v68.toNat, 0]
def k0_mult14 (i : grid0.Coords) : BitVec 32 :=
  let arg1 : BitVec 32 := BitVec.ofNat 32 (i 1).val
  let c2_i32_40 : BitVec 32 := 2#32
  let v74 : BitVec 32 := Scalar.muli arg1 c2_i32_40
  let c1_i32_41 : BitVec 32 := 1#32
  let v75 : BitVec 32 := Scalar.addi v74 c1_i32_41
  let c256_i32_43 : BitVec 32 := 256#32
  let v77 : BitVec 32 := Scalar.muli v75 c256_i32_43
  v77
def k0_off17 (i : grid0.Coords) : Fin 3 → Nat :=
  let arg0 : BitVec 32 := BitVec.ofNat 32 (i 0).val
  let c2_i32 : BitVec 32 := 2#32
  let v2 : BitVec 32 := Scalar.remsi arg0 c2_i32
  let v89 : Index := Scalar.indexCast v2
  let c0_49 : Index := 0#32
  let c0_50 : Index := 0#32
  ![v89.toNat, 0, 0]
def k0_mult15 (i : grid0.Coords) : BitVec 32 :=
  let arg1 : BitVec 32 := BitVec.ofNat 32 (i 1).val
  let c2_i32_32 : BitVec 32 := 2#32
  let v58 : BitVec 32 := Scalar.muli arg1 c2_i32_32
  let c0_i32_33 : BitVec 32 := 0#32
  let v59 : BitVec 32 := Scalar.addi v58 c0_i32_33
  let c256_i32_35 : BitVec 32 := 256#32
  let v61 : BitVec 32 := Scalar.muli v59 c256_i32_35
  v61
def k0_off18 (i : grid0.Coords) (c0_i32_31 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_30 : BitVec 32 := 2#32
  let v56 : BitVec 32 := Scalar.muli v3 c2_i32_30
  let v57 : BitVec 32 := Scalar.addi v56 c0_i32_31
  let v63 : Index := Scalar.indexCast v57
  let c0 : Index := 0#32
  let c0_36 : Index := 0#32
  ![v63.toNat, 0, 0]
def k0_off19 (i : grid0.Coords) (c0_i32_33 : BitVec 32) : Fin 3 → Nat :=
  let c1_i32_34 : BitVec 32 := 1#32
  let arg0 : BitVec 32 := BitVec.ofNat 32 (i 0).val
  let c2_i32 : BitVec 32 := 2#32
  let v2 : BitVec 32 := Scalar.remsi arg0 c2_i32
  let v60 : BitVec 32 := Scalar.subi c1_i32_34 v2
  let v67 : Index := Scalar.indexCast v60
  let arg1 : BitVec 32 := BitVec.ofNat 32 (i 1).val
  let c2_i32_32 : BitVec 32 := 2#32
  let v58 : BitVec 32 := Scalar.muli arg1 c2_i32_32
  let v59 : BitVec 32 := Scalar.addi v58 c0_i32_33
  let c256_i32_35 : BitVec 32 := 256#32
  let v61 : BitVec 32 := Scalar.muli v59 c256_i32_35
  let v62 : BitVec 32 := v61
  let v68 : Index := Scalar.indexCast v62
  let c0_37 : Index := 0#32
  ![v67.toNat, v68.toNat, 0]
def k0_mult16 (i : grid0.Coords) : BitVec 32 :=
  let arg1 : BitVec 32 := BitVec.ofNat 32 (i 1).val
  let c2_i32_40 : BitVec 32 := 2#32
  let v74 : BitVec 32 := Scalar.muli arg1 c2_i32_40
  let c1_i32_41 : BitVec 32 := 1#32
  let v75 : BitVec 32 := Scalar.addi v74 c1_i32_41
  let c256_i32_43 : BitVec 32 := 256#32
  let v77 : BitVec 32 := Scalar.muli v75 c256_i32_43
  v77
def k0_off20 (i : grid0.Coords) : Fin 3 → Nat :=
  let arg0 : BitVec 32 := BitVec.ofNat 32 (i 0).val
  let c2_i32 : BitVec 32 := 2#32
  let v2 : BitVec 32 := Scalar.remsi arg0 c2_i32
  let v89 : Index := Scalar.indexCast v2
  let c0_49 : Index := 0#32
  let c0_50 : Index := 0#32
  ![v89.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x4096 : Shape := ⟨2, ![8192, 4096]⟩
abbrev S64x4096 : Shape := ⟨2, ![64, 4096]⟩
abbrev S4096x16384 : Shape := ⟨2, ![4096, 16384]⟩
abbrev S3x4096 : Shape := ⟨2, ![3, 4096]⟩
abbrev S_ : Shape := ⟨0, ![]⟩
abbrev S4096 : Shape := ⟨1, ![4096]⟩
abbrev S1x4096 : Shape := ⟨2, ![1, 4096]⟩
abbrev S8192x16384 : Shape := ⟨2, ![8192, 16384]⟩
abbrev S64x16384 : Shape := ⟨2, ![64, 16384]⟩

abbrev nBuf : Space → Nat
  | .hbm => 104
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x16384, .f32⟩
  | .hbm, ⟨3, _⟩ => ⟨S3x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S3x4096, .f32⟩
  | .hbm, ⟨11, _⟩ => ⟨S3x4096, .f32⟩
  | .hbm, ⟨12, _⟩ => ⟨S3x4096, .f32⟩
  | .hbm, ⟨13, _⟩ => ⟨S_, .f32⟩
  | .hbm, ⟨14, _⟩ => ⟨S4096, .f32⟩
  | .hbm, ⟨15, _⟩ => ⟨S1x4096, .f32⟩
  | .hbm, ⟨16, _⟩ => ⟨S3x4096, .f32⟩
  | .hbm, ⟨17, _⟩ => ⟨S3x4096, .f32⟩
  | .hbm, ⟨18, _⟩ => ⟨S1x4096, .f32⟩
  | .hbm, ⟨19, _⟩ => ⟨S4096, .f32⟩
  | .hbm, ⟨20, _⟩ => ⟨S8192x4096, .f32⟩
  | .hbm, ⟨21, _⟩ => ⟨S8192x16384, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S8192x16384, .f32⟩
  | .hbm, ⟨62, _⟩ => ⟨S64x4096, .f32⟩
  | .hbm, ⟨63, _⟩ => ⟨S64x16384, .f32⟩
  | .hbm, ⟨64, _⟩ => ⟨S64x4096, .f32⟩
  | .hbm, ⟨65, _⟩ => ⟨S64x4096, .f32⟩
  | .hbm, ⟨66, _⟩ => ⟨S64x4096, .f32⟩
  | .hbm, ⟨67, _⟩ => ⟨S64x4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S64x4096, .f32⟩
  | .hbm, ⟨72, _⟩ => ⟨S64x4096, .f32⟩
  | .hbm, ⟨73, _⟩ => ⟨S_, .f32⟩
  | .hbm, ⟨74, _⟩ => ⟨S64x4096, .f32⟩
  | .hbm, ⟨75, _⟩ => ⟨S64x4096, .f32⟩
  | .hbm, ⟨76, _⟩ => ⟨S_, .f32⟩
  | .hbm, ⟨77, _⟩ => ⟨S64x4096, .f32⟩
  | .hbm, ⟨78, _⟩ => ⟨S64x4096, .f32⟩
  | .hbm, ⟨79, _⟩ => ⟨S1x4096, .f32⟩
  | .hbm, ⟨80, _⟩ => ⟨S64x4096, .f32⟩
  | .hbm, ⟨81, _⟩ => ⟨S64x4096, .f32⟩
  | .hbm, ⟨82, _⟩ => ⟨S1x4096, .f32⟩
  | .hbm, ⟨83, _⟩ => ⟨S64x4096, .f32⟩
  | .hbm, ⟨84, _⟩ => ⟨S64x4096, .f32⟩
  | .hbm, ⟨85, _⟩ => ⟨S64x4096, .f32⟩
  | .hbm, ⟨86, _⟩ => ⟨S64x4096, .f32⟩
  | .hbm, ⟨87, _⟩ => ⟨S_, .f32⟩
  | .hbm, ⟨88, _⟩ => ⟨S64x4096, .f32⟩
  | .hbm, ⟨89, _⟩ => ⟨S64x4096, .f32⟩
  | .hbm, ⟨90, _⟩ => ⟨S_, .f32⟩
  | .hbm, ⟨91, _⟩ => ⟨S64x4096, .f32⟩
  | .hbm, ⟨92, _⟩ => ⟨S64x4096, .f32⟩
  | .hbm, ⟨93, _⟩ => ⟨S64x4096, .f32⟩
  | .hbm, ⟨94, _⟩ => ⟨S64x4096, .f32⟩
  | .hbm, ⟨95, _⟩ => ⟨S64x4096, .f32⟩
  | .hbm, ⟨96, _⟩ => ⟨S_, .f32⟩
  | .hbm, ⟨97, _⟩ => ⟨S64x4096, .f32⟩
  | .hbm, ⟨98, _⟩ => ⟨S64x4096, .f32⟩
  | .hbm, ⟨99, _⟩ => ⟨S_, .f32⟩
  | .hbm, ⟨100, _⟩ => ⟨S64x4096, .f32⟩
  | .hbm, ⟨101, _⟩ => ⟨S64x4096, .f32⟩
  | .hbm, ⟨102, _⟩ => ⟨S64x4096, .f32⟩
  | .hbm, ⟨103, _⟩ => ⟨S64x16384, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v56 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v57 : Ref sig .tc := ⟨.hbm, 102, rfl⟩
abbrev main_v58 : Ref sig .tc := ⟨.hbm, 103, rfl⟩

abbrev nD : Nat := 1
abbrev τ : Topo := Topo.v7x

variable {F : FTy → Type} [FloatOps F]
-- ==== Kernel3.lean ====
abbrev S8192x4096 : Shape := ⟨2, ![8192, 4096]⟩
abbrev S64x4096 : Shape := ⟨2, ![64, 4096]⟩
abbrev S4096x9216 : Shape := ⟨2, ![4096, 9216]⟩
abbrev S4096 : Shape := ⟨1, ![4096]⟩
abbrev S1x8192x1 : Shape := ⟨3, ![1, 8192, 1]⟩
abbrev S1x64x1 : Shape := ⟨3, ![1, 64, 1]⟩
abbrev S4096x1 : Shape := ⟨2, ![4096, 1]⟩
abbrev S4096x128 : Shape := ⟨2, ![4096, 128]⟩
abbrev S8192x9216 : Shape := ⟨2, ![8192, 9216]⟩
abbrev S64x9216 : Shape := ⟨2, ![64, 9216]⟩
abbrev S1024x4096 : Shape := ⟨2, ![1024, 4096]⟩
abbrev S1x1024x1 : Shape := ⟨3, ![1, 1024, 1]⟩
abbrev S1024x1024 : Shape := ⟨2, ![1024, 1024]⟩
abbrev S64x1024 : Shape := ⟨2, ![64, 1024]⟩
abbrev S2x4096x1024 : Shape := ⟨3, ![2, 4096, 1024]⟩
abbrev S4x256x1024 : Shape := ⟨3, ![4, 256, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256x128 : Shape := ⟨2, ![256, 128]⟩
abbrev S1x4096x1024 : Shape := ⟨3, ![1, 4096, 1024]⟩
abbrev S4096x1024 : Shape := ⟨2, ![4096, 1024]⟩
abbrev S64x1 : Shape := ⟨2, ![64, 1]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x9216, .f32⟩
  | .hbm, ⟨3, _⟩ => ⟨S4096, .f32⟩
  | .hbm, ⟨4, _⟩ => ⟨S1x8192x1, .f32⟩
  | .hbm, ⟨5, _⟩ => ⟨S1x64x1, .f32⟩
  | .hbm, ⟨6, _⟩ => ⟨S4096x1, .f32⟩
  | .hbm, ⟨7, _⟩ => ⟨S4096x128, .f32⟩
  | .hbm, ⟨8, _⟩ => ⟨S8192x9216, .f32⟩
  | .hbm, ⟨9, _⟩ => ⟨S64x9216, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S4096x128, .f32⟩
  | .local _ .vmem, ⟨4, _⟩ => ⟨S1x1024x1, .f32⟩
  | .local _ .vmem, ⟨5, _⟩ => ⟨S1x1024x1, .f32⟩
  | .local _ .vmem, ⟨6, _⟩ => ⟨S1x64x1, .f32⟩
  | .local _ .vmem, ⟨7, _⟩ => ⟨S1024x1024, .f32⟩
  | .local _ .vmem, ⟨8, _⟩ => ⟨S1024x1024, .f32⟩
  | .local _ .vmem, ⟨9, _⟩ => ⟨S64x1024, .f32⟩
  | .local _ .vmem, ⟨10, _⟩ => ⟨S64x1024, .f32⟩
  | .local _ .vmem, ⟨11, _⟩ => ⟨S2x4096x1024, .bf16⟩
  | .local _ .vmem, ⟨12, _⟩ => ⟨S4x256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_3 : BitVec 32 := 0#32
  let v8 : BitVec 1 := Scalar.cmpi .eq v1 c0_i32_3
  let v9 : BitVec 32 := Scalar.extui v8
  let c0_i32_4 : BitVec 32 := 0#32
  let v10 : BitVec 1 := Scalar.cmpi .ne v9 c0_i32_4
  v10

def k0_mult1 : BitVec 32 :=
  let c1_i32_319 : BitVec 32 := 1#32
  let c8_i32_320 : BitVec 32 := 8#32
  let v371 : BitVec 32 := Scalar.minsi c1_i32_319 c8_i32_320
  let c1024_i32_321 : BitVec 32 := 1024#32
  let v372 : BitVec 32 := Scalar.muli v371 c1024_i32_321
  v372
def k0_off1 : Fin 2 → Nat :=
  let c0_i32_326 : BitVec 32 := 0#32
  let c1_i32_319 : BitVec 32 := 1#32
  let c8_i32_320 : BitVec 32 := 8#32
  let v371 : BitVec 32 := Scalar.minsi c1_i32_319 c8_i32_320
  let c1024_i32_321 : BitVec 32 := 1024#32
  let v372 : BitVec 32 := Scalar.muli v371 c1024_i32_321
  let v373 : BitVec 32 := v372
  ![0, v373.toNat]
def k0_mult2 : BitVec 32 :=
  let c1_i32_327 : BitVec 32 := 1#32
  let c8_i32_328 : BitVec 32 := 8#32
  let v379 : BitVec 32 := Scalar.minsi c1_i32_327 c8_i32_328
  let c1024_i32_329 : BitVec 32 := 1024#32
  let v380 : BitVec 32 := Scalar.muli v379 c1024_i32_329
  v380
def k0_off2 : Fin 2 → Nat :=
  let c256_i32_334 : BitVec 32 := 256#32
  let c1_i32_327 : BitVec 32 := 1#32
  let c8_i32_328 : BitVec 32 := 8#32
  let v379 : BitVec 32 := Scalar.minsi c1_i32_327 c8_i32_328
  let c1024_i32_329 : BitVec 32 := 1024#32
  let v380 : BitVec 32 := Scalar.muli v379 c1024_i32_329
  let v381 : BitVec 32 := v380
  ![256, v381.toNat]
def k0_mult3 (i : grid0.Coords) : BitVec 32 :=
  let arg1 : BitVec 32 := BitVec.ofNat 32 (i 1).val
  let c2_i32_7 : BitVec 32 := 2#32
  let v13 : BitVec 32 := Scalar.muli arg1 c2_i32_7
  let c0_i32_8 : BitVec 32 := 0#32
  let v14 : BitVec 32 := Scalar.addi v13 c0_i32_8
  let c256_i32 : BitVec 32 := 256#32
  let v17 : BitVec 32 := Scalar.muli v14 c256_i32
  v17
def k0_mult4 (i : grid0.Coords) : BitVec 32 :=
  let arg0 : BitVec 32 := BitVec.ofNat 32 (i 0).val
  let c1_i32_5 : BitVec 32 := 1#32
  let v11 : BitVec 32 := Scalar.addi arg0 c1_i32_5
  let c8_i32_6 : BitVec 32 := 8#32
  let v12 : BitVec 32 := Scalar.minsi v11 c8_i32_6
  let c1024_i32 : BitVec 32 := 1024#32
  let v19 : BitVec 32 := Scalar.muli v12 c1024_i32
  v19
def k0_off3 (i : grid0.Coords) (c0_i32_10 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_9 : BitVec 32 := 2#32
  let v15 : BitVec 32 := Scalar.muli v3 c2_i32_9
  let v16 : BitVec 32 := Scalar.addi v15 c0_i32_10
  ![v16.toNat]
def k0_off4 (i : grid0.Coords) (c0_i32_10 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_9 : BitVec 32 := 2#32
  let v15 : BitVec 32 := Scalar.muli v3 c2_i32_9
  let v16 : BitVec 32 := Scalar.addi v15 c0_i32_10
  let c0_i32_11 : BitVec 32 := 0#32
  let c0_i32_12 : BitVec 32 := 0#32
  ![v16.toNat, 0, 0]
def k0_off5 (i : grid0.Coords) (c0_i32_8 : BitVec 32) : Fin 2 → Nat :=
  let arg1 : BitVec 32 := BitVec.ofNat 32 (i 1).val
  let c2_i32_7 : BitVec 32 := 2#32
  let v13 : BitVec 32 := Scalar.muli arg1 c2_i32_7
  let v14 : BitVec 32 := Scalar.addi v13 c0_i32_8
  let c256_i32 : BitVec 32 := 256#32
  let v17 : BitVec 32 := Scalar.muli v14 c256_i32
  let v18 : BitVec 32 := v17
  let arg0 : BitVec 32 := BitVec.ofNat 32 (i 0).val
  let c1_i32_5 : BitVec 32 := 1#32
  let v11 : BitVec 32 := Scalar.addi arg0 c1_i32_5
  let c8_i32_6 : BitVec 32 := 8#32
  let v12 : BitVec 32 := Scalar.minsi v11 c8_i32_6
  let c1024_i32 : BitVec 32 := 1024#32
  let v19 : BitVec 32 := Scalar.muli v12 c1024_i32
  let v20 : BitVec 32 := v19
  ![v18.toNat, v20.toNat]
def k0_mult5 (i : grid0.Coords) : BitVec 32 :=
  let arg1 : BitVec 32 := BitVec.ofNat 32 (i 1).val
  let c2_i32_15 : BitVec 32 := 2#32
  let v28 : BitVec 32 := Scalar.muli arg1 c2_i32_15
  let c1_i32_16 : BitVec 32 := 1#32
  let v29 : BitVec 32 := Scalar.addi v28 c1_i32_16
  let c256_i32_19 : BitVec 32 := 256#32
  let v32 : BitVec 32 := Scalar.muli v29 c256_i32_19
  v32
def k0_mult6 (i : grid0.Coords) : BitVec 32 :=
  let arg0 : BitVec 32 := BitVec.ofNat 32 (i 0).val
  let c1_i32_13 : BitVec 32 := 1#32
  let v26 : BitVec 32 := Scalar.addi arg0 c1_i32_13
  let c8_i32_14 : BitVec 32 := 8#32
  let v27 : BitVec 32 := Scalar.minsi v26 c8_i32_14
  let c1024_i32_20 : BitVec 32 := 1024#32
  let v34 : BitVec 32 := Scalar.muli v27 c1024_i32_20
  v34
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_23 : BitVec 32 := 1#32
  let v41 : BitVec 32 := Scalar.addi v1 c1_i32_23
  let c72_i32 : BitVec 32 := 72#32
  let v42 : BitVec 1 := Scalar.cmpi .slt v41 c72_i32
  let v43 : BitVec 32 := Scalar.extui v42
  let c0_i32_24 : BitVec 32 := 0#32
  let v44 : BitVec 1 := Scalar.cmpi .ne v43 c0_i32_24
  v44

def k0_mult7 (i : grid0.Coords) : BitVec 32 :=
  let arg1 : BitVec 32 := BitVec.ofNat 32 (i 1).val
  let c1_i32_29 : BitVec 32 := 1#32
  let v51 : BitVec 32 := Scalar.addi arg1 c1_i32_29
  let c8_i32_30 : BitVec 32 := 8#32
  let v52 : BitVec 1 := Scalar.cmpi .eq v51 c8_i32_30
  let c0_i32_33 : BitVec 32 := 0#32
  let c1_i32_32 : BitVec 32 := 1#32
  let v55 : BitVec 32 := Scalar.addi arg1 c1_i32_32
  let v56 : BitVec 32 := Scalar.select v52 c0_i32_33 v55
  let c2_i32_36 : BitVec 32 := 2#32
  let v59 : BitVec 32 := Scalar.muli v56 c2_i32_36
  let c0_i32_37 : BitVec 32 := 0#32
  let v60 : BitVec 32 := Scalar.addi v59 c0_i32_37
  let c256_i32_41 : BitVec 32 := 256#32
  let v64 : BitVec 32 := Scalar.muli v60 c256_i32_41
  v64
def k0_mult8 (i : grid0.Coords) : BitVec 32 :=
  let arg1 : BitVec 32 := BitVec.ofNat 32 (i 1).val
  let c1_i32_29 : BitVec 32 := 1#32
  let v51 : BitVec 32 := Scalar.addi arg1 c1_i32_29
  let c8_i32_30 : BitVec 32 := 8#32
  let v52 : BitVec 1 := Scalar.cmpi .eq v51 c8_i32_30
  let arg0 : BitVec 32 := BitVec.ofNat 32 (i 0).val
  let c1_i32_31 : BitVec 32 := 1#32
  let v53 : BitVec 32 := Scalar.addi arg0 c1_i32_31
  let v54 : BitVec 32 := Scalar.select v52 v53 arg0
  let c1_i32_34 : BitVec 32 := 1#32
  let v57 : BitVec 32 := Scalar.addi v54 c1_i32_34
  let c8_i32_35 : BitVec 32 := 8#32
  let v58 : BitVec 32 := Scalar.minsi v57 c8_i32_35
  let c1024_i32_42 : BitVec 32 := 1024#32
  let v66 : BitVec 32 := Scalar.muli v58 c1024_i32_42
  v66
def k0_off6 (i : grid0.Coords) (c0_i32_40 : BitVec 32) : Fin 1 → Nat :=
  let c1_i32_38 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v61 : BitVec 32 := Scalar.subi c1_i32_38 v3
  let c2_i32_39 : BitVec 32 := 2#32
  let v62 : BitVec 32 := Scalar.muli v61 c2_i32_39
  let v63 : BitVec 32 := Scalar.addi v62 c0_i32_40
  ![v63.toNat]
def k0_off7 (i : grid0.Coords) (c0_i32_40 : BitVec 32) : Fin 3 → Nat :=
  let c1_i32_38 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v61 : BitVec 32 := Scalar.subi c1_i32_38 v3
  let c2_i32_39 : BitVec 32 := 2#32
  let v62 : BitVec 32 := Scalar.muli v61 c2_i32_39
  let v63 : BitVec 32 := Scalar.addi v62 c0_i32_40
  let c0_i32_43 : BitVec 32 := 0#32
  let c0_i32_44 : BitVec 32 := 0#32
  ![v63.toNat, 0, 0]
def k0_off8 (i : grid0.Coords) (c0_i32_37 : BitVec 32) : Fin 2 → Nat :=
  let arg1 : BitVec 32 := BitVec.ofNat 32 (i 1).val
  let c1_i32_29 : BitVec 32 := 1#32
  let v51 : BitVec 32 := Scalar.addi arg1 c1_i32_29
  let c8_i32_30 : BitVec 32 := 8#32
  let v52 : BitVec 1 := Scalar.cmpi .eq v51 c8_i32_30
  let c0_i32_33 : BitVec 32 := 0#32
  let c1_i32_32 : BitVec 32 := 1#32
  let v55 : BitVec 32 := Scalar.addi arg1 c1_i32_32
  let v56 : BitVec 32 := Scalar.select v52 c0_i32_33 v55
  let c2_i32_36 : BitVec 32 := 2#32
  let v59 : BitVec 32 := Scalar.muli v56 c2_i32_36
  let v60 : BitVec 32 := Scalar.addi v59 c0_i32_37
  let c256_i32_41 : BitVec 32 := 256#32
  let v64 : BitVec 32 := Scalar.muli v60 c256_i32_41
  let v65 : BitVec 32 := v64
  let arg0 : BitVec 32 := BitVec.ofNat 32 (i 0).val
  let c1_i32_31 : BitVec 32 := 1#32
  let v53 : BitVec 32 := Scalar.addi arg0 c1_i32_31
  let v54 : BitVec 32 := Scalar.select v52 v53 arg0
  let c1_i32_34 : BitVec 32 := 1#32
  let v57 : BitVec 32 := Scalar.addi v54 c1_i32_34
  let c8_i32_35 : BitVec 32 := 8#32
  let v58 : BitVec 32 := Scalar.minsi v57 c8_i32_35
  let c1024_i32_42 : BitVec 32 := 1024#32
  let v66 : BitVec 32 := Scalar.muli v58 c1024_i32_42
  let v67 : BitVec 32 := v66
  ![v65.toNat, v67.toNat]
def k0_mult9 (i : grid0.Coords) : BitVec 32 :=
  let arg1 : BitVec 32 := BitVec.ofNat 32 (i 1).val
  let c1_i32_29 : BitVec 32 := 1#32
  let v51 : BitVec 32 := Scalar.addi arg1 c1_i32_29
  let c8_i32_30 : BitVec 32 := 8#32
  let v52 : BitVec 1 := Scalar.cmpi .eq v51 c8_i32_30
  let c0_i32_33 : BitVec 32 := 0#32
  let c1_i32_32 : BitVec 32 := 1#32
  let v55 : BitVec 32 := Scalar.addi arg1 c1_i32_32
  let v56 : BitVec 32 := Scalar.select v52 c0_i32_33 v55
  let c2_i32_47 : BitVec 32 := 2#32
  let v75 : BitVec 32 := Scalar.muli v56 c2_i32_47
  let c1_i32_48 : BitVec 32 := 1#32
  let v76 : BitVec 32 := Scalar.addi v75 c1_i32_48
  let c256_i32_52 : BitVec 32 := 256#32
  let v80 : BitVec 32 := Scalar.muli v76 c256_i32_52
  v80
def k0_mult10 (i : grid0.Coords) : BitVec 32 :=
  let arg1 : BitVec 32 := BitVec.ofNat 32 (i 1).val
  let c1_i32_29 : BitVec 32 := 1#32
  let v51 : BitVec 32 := Scalar.addi arg1 c1_i32_29
  let c8_i32_30 : BitVec 32 := 8#32
  let v52 : BitVec 1 := Scalar.cmpi .eq v51 c8_i32_30
  let arg0 : BitVec 32 := BitVec.ofNat 32 (i 0).val
  let c1_i32_31 : BitVec 32 := 1#32
  let v53 : BitVec 32 := Scalar.addi arg0 c1_i32_31
  let v54 : BitVec 32 := Scalar.select v52 v53 arg0
  let c1_i32_45 : BitVec 32 := 1#32
  let v73 : BitVec 32 := Scalar.addi v54 c1_i32_45
  let c8_i32_46 : BitVec 32 := 8#32
  let v74 : BitVec 32 := Scalar.minsi v73 c8_i32_46
  let c1024_i32_53 : BitVec 32 := 1024#32
  let v82 : BitVec 32 := Scalar.muli v74 c1024_i32_53
  v82
def k0_cond3 (i : grid0.Coords) : BitVec 1 :=
  let arg1 : BitVec 32 := BitVec.ofNat 32 (i 1).val
  let c0_i32_25 : BitVec 32 := 0#32
  let v45 : BitVec 1 := Scalar.cmpi .eq arg1 c0_i32_25
  let v46 : BitVec 32 := Scalar.extui v45
  let c0_i32_26 : BitVec 32 := 0#32
  let v47 : BitVec 1 := Scalar.cmpi .ne v46 c0_i32_26
  v47

def k0_cond4 (i : grid0.Coords) : BitVec 1 :=
  let arg0 : BitVec 32 := BitVec.ofNat 32 (i 0).val
  let c4_i32 : BitVec 32 := 4#32
  let v4 : BitVec 1 := Scalar.cmpi .slt arg0 c4_i32
  let c0_i32 : BitVec 32 := 0#32
  let c4_i32_1 : BitVec 32 := 4#32
  let v5 : BitVec 1 := Scalar.cmpi .eq arg0 c4_i32_1
  let c1_i32 : BitVec 32 := 1#32
  let c2_i32_2 : BitVec 32 := 2#32
  let v6 : BitVec 32 := Scalar.select v5 c1_i32 c2_i32_2
  let v7 : BitVec 32 := Scalar.select v4 c0_i32 v6
  let c0_i32_29 : BitVec 32 := 0#32
  let v51 : BitVec 1 := Scalar.cmpi .eq v7 c0_i32_29
  let v52 : BitVec 32 := Scalar.extui v51
  let c0_i32_30 : BitVec 32 := 0#32
  let v53 : BitVec 1 := Scalar.cmpi .ne v52 c0_i32_30
  v53

def k0_off9 (i : grid0.Coords) : Fin 3 → Nat :=
  let arg0 : BitVec 32 := BitVec.ofNat 32 (i 0).val
  let c2_i32 : BitVec 32 := 2#32
  let v2 : BitVec 32 := Scalar.remsi arg0 c2_i32
  let v55 : Index := Scalar.indexCast v2
  let c0_32 : Index := 0#32
  let c0_33 : Index := 0#32
  ![v55.toNat, 0, 0]
def k0_cond5 (i : grid0.Coords) : BitVec 1 :=
  let arg0 : BitVec 32 := BitVec.ofNat 32 (i 0).val
  let c4_i32 : BitVec 32 := 4#32
  let v4 : BitVec 1 := Scalar.cmpi .slt arg0 c4_i32
  let c0_i32 : BitVec 32 := 0#32
  let c4_i32_1 : BitVec 32 := 4#32
  let v5 : BitVec 1 := Scalar.cmpi .eq arg0 c4_i32_1
  let c1_i32 : BitVec 32 := 1#32
  let c2_i32_2 : BitVec 32 := 2#32
  let v6 : BitVec 32 := Scalar.select v5 c1_i32 c2_i32_2
  let v7 : BitVec 32 := Scalar.select v4 c0_i32 v6
  let c1_i32_31 : BitVec 32 := 1#32
  let v54 : BitVec 1 := Scalar.cmpi .eq v7 c1_i32_31
  let v55 : BitVec 32 := Scalar.extui v54
  let c0_i32_32 : BitVec 32 := 0#32
  let v56 : BitVec 1 := Scalar.cmpi .ne v55 c0_i32_32
  v56

def k0_off10 (i : grid0.Coords) : Fin 3 → Nat :=
  let arg0 : BitVec 32 := BitVec.ofNat 32 (i 0).val
  let c2_i32 : BitVec 32 := 2#32
  let v2 : BitVec 32 := Scalar.remsi arg0 c2_i32
  let v58 : Index := Scalar.indexCast v2
  let c0_34 : Index := 0#32
  let c0_35 : Index := 0#32
  ![v58.toNat, 0, 0]
def k0_off11 (i : grid0.Coords) : Fin 3 → Nat :=
  let arg0 : BitVec 32 := BitVec.ofNat 32 (i 0).val
  let c2_i32 : BitVec 32 := 2#32
  let v2 : BitVec 32 := Scalar.remsi arg0 c2_i32
  let v58 : Index := Scalar.indexCast v2
  let c0_34 : Index := 0#32
  let c0_35 : Index := 0#32
  ![v58.toNat, 0, 0]
def k0_cond6 (i : grid0.Coords) : BitVec 1 :=
  let arg0 : BitVec 32 := BitVec.ofNat 32 (i 0).val
  let c4_i32 : BitVec 32 := 4#32
  let v4 : BitVec 1 := Scalar.cmpi .slt arg0 c4_i32
  let c0_i32 : BitVec 32 := 0#32
  let c4_i32_1 : BitVec 32 := 4#32
  let v5 : BitVec 1 := Scalar.cmpi .eq arg0 c4_i32_1
  let c1_i32 : BitVec 32 := 1#32
  let c2_i32_2 : BitVec 32 := 2#32
  let v6 : BitVec 32 := Scalar.select v5 c1_i32 c2_i32_2
  let v7 : BitVec 32 := Scalar.select v4 c0_i32 v6
  let c0_i32_27 : BitVec 32 := 0#32
  let v48 : BitVec 1 := Scalar.cmpi .eq v7 c0_i32_27
  let v49 : BitVec 32 := Scalar.extui v48
  let c0_i32_28 : BitVec 32 := 0#32
  let v50 : BitVec 1 := Scalar.cmpi .ne v49 c0_i32_28
  v50

def k0_mult11 (i : grid0.Coords) : BitVec 32 :=
  let arg1 : BitVec 32 := BitVec.ofNat 32 (i 1).val
  let c2_i32_31 : BitVec 32 := 2#32
  let v53 : BitVec 32 := Scalar.muli arg1 c2_i32_31
  let c0_i32_32 : BitVec 32 := 0#32
  let v54 : BitVec 32 := Scalar.addi v53 c0_i32_32
  let c256_i32_34 : BitVec 32 := 256#32
  let v56 : BitVec 32 := Scalar.muli v54 c256_i32_34
  v56
def k0_off12 (i : grid0.Coords) (c0_i32_30 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_29 : BitVec 32 := 2#32
  let v51 : BitVec 32 := Scalar.muli v3 c2_i32_29
  let v52 : BitVec 32 := Scalar.addi v51 c0_i32_30
  let v58 : Index := Scalar.indexCast v52
  let c0 : Index := 0#32
  let c0_35 : Index := 0#32
  ![v58.toNat, 0, 0]
def k0_off13 (i : grid0.Coords) (c0_i32_32 : BitVec 32) : Fin 2 → Nat :=
  let arg1 : BitVec 32 := BitVec.ofNat 32 (i 1).val
  let c2_i32_31 : BitVec 32 := 2#32
  let v53 : BitVec 32 := Scalar.muli arg1 c2_i32_31
  let v54 : BitVec 32 := Scalar.addi v53 c0_i32_32
  let c256_i32_34 : BitVec 32 := 256#32
  let v56 : BitVec 32 := Scalar.muli v54 c256_i32_34
  let v57 : BitVec 32 := v56
  let v61 : Index := Scalar.indexCast v57
  let c0_36 : Index := 0#32
  ![v61.toNat, 0]
def k0_off14 (i : grid0.Coords) (c0_i32_32 : BitVec 32) : Fin 3 → Nat :=
  let c1_i32_33 : BitVec 32 := 1#32
  let arg0 : BitVec 32 := BitVec.ofNat 32 (i 0).val
  let c2_i32 : BitVec 32 := 2#32
  let v2 : BitVec 32 := Scalar.remsi arg0 c2_i32
  let v55 : BitVec 32 := Scalar.subi c1_i32_33 v2
  let v67 : Index := Scalar.indexCast v55
  let arg1 : BitVec 32 := BitVec.ofNat 32 (i 1).val
  let c2_i32_31 : BitVec 32 := 2#32
  let v53 : BitVec 32 := Scalar.muli arg1 c2_i32_31
  let v54 : BitVec 32 := Scalar.addi v53 c0_i32_32
  let c256_i32_34 : BitVec 32 := 256#32
  let v56 : BitVec 32 := Scalar.muli v54 c256_i32_34
  let v57 : BitVec 32 := v56
  let v68 : Index := Scalar.indexCast v57
  let c0_37 : Index := 0#32
  ![v67.toNat, v68.toNat, 0]
def k0_mult12 (i : grid0.Coords) : BitVec 32 :=
  let arg1 : BitVec 32 := BitVec.ofNat 32 (i 1).val
  let c2_i32_40 : BitVec 32 := 2#32
  let v74 : BitVec 32 := Scalar.muli arg1 c2_i32_40
  let c1_i32_41 : BitVec 32 := 1#32
  let v75 : BitVec 32 := Scalar.addi v74 c1_i32_41
  let c256_i32_43 : BitVec 32 := 256#32
  let v77 : BitVec 32 := Scalar.muli v75 c256_i32_43
  v77
def k0_off15 (i : grid0.Coords) : Fin 3 → Nat :=
  let arg0 : BitVec 32 := BitVec.ofNat 32 (i 0).val
  let c2_i32 : BitVec 32 := 2#32
  let v2 : BitVec 32 := Scalar.remsi arg0 c2_i32
  let v94 : Index := Scalar.indexCast v2
  let c0_50 : Index := 0#32
  let c0_51 : Index := 0#32
  ![v94.toNat, 0, 0]
def k0_cond7 (i : grid0.Coords) : BitVec 1 :=
  let arg0 : BitVec 32 := BitVec.ofNat 32 (i 0).val
  let c4_i32 : BitVec 32 := 4#32
  let v4 : BitVec 1 := Scalar.cmpi .slt arg0 c4_i32
  let c0_i32 : BitVec 32 := 0#32
  let c4_i32_1 : BitVec 32 := 4#32
  let v5 : BitVec 1 := Scalar.cmpi .eq arg0 c4_i32_1
  let c1_i32 : BitVec 32 := 1#32
  let c2_i32_2 : BitVec 32 := 2#32
  let v6 : BitVec 32 := Scalar.select v5 c1_i32 c2_i32_2
  let v7 : BitVec 32 := Scalar.select v4 c0_i32 v6
  let c1_i32_29 : BitVec 32 := 1#32
  let v51 : BitVec 1 := Scalar.cmpi .eq v7 c1_i32_29
  let v52 : BitVec 32 := Scalar.extui v51
  let c0_i32_30 : BitVec 32 := 0#32
  let v53 : BitVec 1 := Scalar.cmpi .ne v52 c0_i32_30
  v53

def k0_mult13 (i : grid0.Coords) : BitVec 32 :=
  let arg1 : BitVec 32 := BitVec.ofNat 32 (i 1).val
  let c2_i32_33 : BitVec 32 := 2#32
  let v56 : BitVec 32 := Scalar.muli arg1 c2_i32_33
  let c0_i32_34 : BitVec 32 := 0#32
  let v57 : BitVec 32 := Scalar.addi v56 c0_i32_34
  let c256_i32_36 : BitVec 32 := 256#32
  let v59 : BitVec 32 := Scalar.muli v57 c256_i32_36
  v59
def k0_off16 (i : grid0.Coords) (c0_i32_32 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_31 : BitVec 32 := 2#32
  let v54 : BitVec 32 := Scalar.muli v3 c2_i32_31
  let v55 : BitVec 32 := Scalar.addi v54 c0_i32_32
  let v61 : Index := Scalar.indexCast v55
  let c0 : Index := 0#32
  let c0_37 : Index := 0#32
  ![v61.toNat, 0, 0]
def k0_off17 (i : grid0.Coords) (c0_i32_34 : BitVec 32) : Fin 2 → Nat :=
  let arg1 : BitVec 32 := BitVec.ofNat 32 (i 1).val
  let c2_i32_33 : BitVec 32 := 2#32
  let v56 : BitVec 32 := Scalar.muli arg1 c2_i32_33
  let v57 : BitVec 32 := Scalar.addi v56 c0_i32_34
  let c256_i32_36 : BitVec 32 := 256#32
  let v59 : BitVec 32 := Scalar.muli v57 c256_i32_36
  let v60 : BitVec 32 := v59
  let v64 : Index := Scalar.indexCast v60
  let c0_38 : Index := 0#32
  ![v64.toNat, 0]
def k0_off18 (i : grid0.Coords) (c0_i32_34 : BitVec 32) : Fin 3 → Nat :=
  let c1_i32_35 : BitVec 32 := 1#32
  let arg0 : BitVec 32 := BitVec.ofNat 32 (i 0).val
  let c2_i32 : BitVec 32 := 2#32
  let v2 : BitVec 32 := Scalar.remsi arg0 c2_i32
  let v58 : BitVec 32 := Scalar.subi c1_i32_35 v2
  let v70 : Index := Scalar.indexCast v58
  let arg1 : BitVec 32 := BitVec.ofNat 32 (i 1).val
  let c2_i32_33 : BitVec 32 := 2#32
  let v56 : BitVec 32 := Scalar.muli arg1 c2_i32_33
  let v57 : BitVec 32 := Scalar.addi v56 c0_i32_34
  let c256_i32_36 : BitVec 32 := 256#32
  let v59 : BitVec 32 := Scalar.muli v57 c256_i32_36
  let v60 : BitVec 32 := v59
  let v71 : Index := Scalar.indexCast v60
  let c0_39 : Index := 0#32
  ![v70.toNat, v71.toNat, 0]
def k0_mult14 (i : grid0.Coords) : BitVec 32 :=
  let arg1 : BitVec 32 := BitVec.ofNat 32 (i 1).val
  let c2_i32_42 : BitVec 32 := 2#32
  let v77 : BitVec 32 := Scalar.muli arg1 c2_i32_42
  let c1_i32_43 : BitVec 32 := 1#32
  let v78 : BitVec 32 := Scalar.addi v77 c1_i32_43
  let c256_i32_45 : BitVec 32 := 256#32
  let v80 : BitVec 32 := Scalar.muli v78 c256_i32_45
  v80
def k0_off19 (i : grid0.Coords) : Fin 3 → Nat :=
  let arg0 : BitVec 32 := BitVec.ofNat 32 (i 0).val
  let c2_i32 : BitVec 32 := 2#32
  let v2 : BitVec 32 := Scalar.remsi arg0 c2_i32
  let v97 : Index := Scalar.indexCast v2
  let c0_52 : Index := 0#32
  let c0_53 : Index := 0#32
  ![v97.toNat, 0, 0]
def k0_mult15 (i : grid0.Coords) : BitVec 32 :=
  let arg1 : BitVec 32 := BitVec.ofNat 32 (i 1).val
  let c2_i32_33 : BitVec 32 := 2#32
  let v56 : BitVec 32 := Scalar.muli arg1 c2_i32_33
  let c0_i32_34 : BitVec 32 := 0#32
  let v57 : BitVec 32 := Scalar.addi v56 c0_i32_34
  let c256_i32_36 : BitVec 32 := 256#32
  let v59 : BitVec 32 := Scalar.muli v57 c256_i32_36
  v59
def k0_off20 (i : grid0.Coords) (c0_i32_32 : BitVec 32) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c2_i32_31 : BitVec 32 := 2#32
  let v54 : BitVec 32 := Scalar.muli v3 c2_i32_31
  let v55 : BitVec 32 := Scalar.addi v54 c0_i32_32
  let v61 : Index := Scalar.indexCast v55
  let c0 : Index := 0#32
  let c0_37 : Index := 0#32
  ![v61.toNat, 0, 0]
def k0_off21 (i : grid0.Coords) (c0_i32_34 : BitVec 32) : Fin 2 → Nat :=
  let arg1 : BitVec 32 := BitVec.ofNat 32 (i 1).val
  let c2_i32_33 : BitVec 32 := 2#32
  let v56 : BitVec 32 := Scalar.muli arg1 c2_i32_33
  let v57 : BitVec 32 := Scalar.addi v56 c0_i32_34
  let c256_i32_36 : BitVec 32 := 256#32
  let v59 : BitVec 32 := Scalar.muli v57 c256_i32_36
  let v60 : BitVec 32 := v59
  let v64 : Index := Scalar.indexCast v60
  let c0_38 : Index := 0#32
  ![v64.toNat, 0]
def k0_off22 (i : grid0.Coords) (c0_i32_34 : BitVec 32) : Fin 3 → Nat :=
  let c1_i32_35 : BitVec 32 := 1#32
  let arg0 : BitVec 32 := BitVec.ofNat 32 (i 0).val
  let c2_i32 : BitVec 32 := 2#32
  let v2 : BitVec 32 := Scalar.remsi arg0 c2_i32
  let v58 : BitVec 32 := Scalar.subi c1_i32_35 v2
  let v70 : Index := Scalar.indexCast v58
  let arg1 : BitVec 32 := BitVec.ofNat 32 (i 1).val
  let c2_i32_33 : BitVec 32 := 2#32
  let v56 : BitVec 32 := Scalar.muli arg1 c2_i32_33
  let v57 : BitVec 32 := Scalar.addi v56 c0_i32_34
  let c256_i32_36 : BitVec 32 := 256#32
  let v59 : BitVec 32 := Scalar.muli v57 c256_i32_36
  let v60 : BitVec 32 := v59
  let v71 : Index := Scalar.indexCast v60
  let c0_39 : Index := 0#32
  ![v70.toNat, v71.toNat, 0]
def k0_mult16 (i : grid0.Coords) : BitVec 32 :=
  let arg1 : BitVec 32 := BitVec.ofNat 32 (i 1).val
  let c2_i32_42 : BitVec 32 := 2#32
  let v77 : BitVec 32 := Scalar.muli arg1 c2_i32_42
  let c1_i32_43 : BitVec 32 := 1#32
  let v78 : BitVec 32 := Scalar.addi v77 c1_i32_43
  let c256_i32_45 : BitVec 32 := 256#32
  let v80 : BitVec 32 := Scalar.muli v78 c256_i32_45
  v80
def k0_off23 (i : grid0.Coords) : Fin 3 → Nat :=
  let arg0 : BitVec 32 := BitVec.ofNat 32 (i 0).val
  let c2_i32 : BitVec 32 := 2#32
  let v2 : BitVec 32 := Scalar.remsi arg0 c2_i32
  let v97 : Index := Scalar.indexCast v2
  let c0_52 : Index := 0#32
  let c0_53 : Index := 0#32
  ![v97.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S8192x4096 : Shape := ⟨2, ![8192, 4096]⟩
abbrev S64x4096 : Shape := ⟨2, ![64, 4096]⟩
abbrev S4096x9216 : Shape := ⟨2, ![4096, 9216]⟩
abbrev S4096 : Shape := ⟨1, ![4096]⟩
abbrev S1x8192x1 : Shape := ⟨3, ![1, 8192, 1]⟩
abbrev S1x64x1 : Shape := ⟨3, ![1, 64, 1]⟩
abbrev S8192x1 : Shape := ⟨2, ![8192, 1]⟩
abbrev S_ : Shape := ⟨0, ![]⟩
abbrev S1x4096 : Shape := ⟨2, ![1, 4096]⟩
abbrev S8192x9216 : Shape := ⟨2, ![8192, 9216]⟩
abbrev S8192x512 : Shape := ⟨2, ![8192, 512]⟩
abbrev S64x1 : Shape := ⟨2, ![64, 1]⟩
abbrev S64x9216 : Shape := ⟨2, ![64, 9216]⟩
abbrev S64x512 : Shape := ⟨2, ![64, 512]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x9216, .f32⟩
  | .hbm, ⟨3, _⟩ => ⟨S4096, .f32⟩
  | .hbm, ⟨4, _⟩ => ⟨S1x8192x1, .f32⟩
  | .hbm, ⟨5, _⟩ => ⟨S1x64x1, .f32⟩
  | .hbm, ⟨6, _⟩ => ⟨S8192x4096, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x9216, .f32⟩
  | .hbm, ⟨21, _⟩ => ⟨S8192x4096, .f32⟩
  | .hbm, ⟨22, _⟩ => ⟨S8192x512, .f32⟩
  | .hbm, ⟨23, _⟩ => ⟨S8192x512, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x9216, .f32⟩
  | .hbm, ⟨43, _⟩ => ⟨S64x4096, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x1, .f32⟩
  | .hbm, ⟨52, _⟩ => ⟨S64x4096, .f32⟩
  | .hbm, ⟨53, _⟩ => ⟨S64x4096, .f32⟩
  | .hbm, ⟨54, _⟩ => ⟨S1x4096, .f32⟩
  | .hbm, ⟨55, _⟩ => ⟨S64x4096, .f32⟩
  | .hbm, ⟨56, _⟩ => ⟨S64x4096, .f32⟩
  | .hbm, ⟨57, _⟩ => ⟨S64x9216, .f32⟩
  | .hbm, ⟨58, _⟩ => ⟨S64x4096, .f32⟩
  | .hbm, ⟨59, _⟩ => ⟨S64x512, .f32⟩
  | .hbm, ⟨60, _⟩ => ⟨S64x512, .f32⟩
  | .hbm, ⟨61, _⟩ => ⟨S64x4096, .f32⟩
  | .hbm, ⟨62, _⟩ => ⟨S_, .f32⟩
  | .hbm, ⟨63, _⟩ => ⟨S64x4096, .f32⟩
  | .hbm, ⟨64, _⟩ => ⟨S64x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S64x4096, .f32⟩
  | .hbm, ⟨69, _⟩ => ⟨S64x4096, .f32⟩
  | .hbm, ⟨70, _⟩ => ⟨S64x4096, .f32⟩
  | .hbm, ⟨71, _⟩ => ⟨S64x4096, .f32⟩
  | .hbm, ⟨72, _⟩ => ⟨S_, .f32⟩
  | .hbm, ⟨73, _⟩ => ⟨S64x4096, .f32⟩
  | .hbm, ⟨74, _⟩ => ⟨S64x4096, .f32⟩
  | .hbm, ⟨75, _⟩ => ⟨S_, .f32⟩
  | .hbm, ⟨76, _⟩ => ⟨S64x4096, .f32⟩
  | .hbm, ⟨77, _⟩ => ⟨S64x4096, .f32⟩
  | .hbm, ⟨78, _⟩ => ⟨S64x4096, .f32⟩
  | .hbm, ⟨79, _⟩ => ⟨S64x9216, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== Kernel4.lean ====
abbrev S8192x4096 : Shape := ⟨2, ![8192, 4096]⟩
abbrev S64x4096 : Shape := ⟨2, ![64, 4096]⟩
abbrev S4096x4096 : Shape := ⟨2, ![4096, 4096]⟩
abbrev S512x4096 : Shape := ⟨2, ![512, 4096]⟩
abbrev S512x1024 : Shape := ⟨2, ![512, 1024]⟩
abbrev S64x1024 : Shape := ⟨2, ![64, 1024]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x4096, .f32⟩
  | .hbm, ⟨3, _⟩ => ⟨S8192x4096, .f32⟩
  | .hbm, ⟨4, _⟩ => ⟨S64x4096, .f32⟩
  | .hbm, ⟨5, _⟩ => ⟨S8192x4096, .f32⟩
  | .hbm, ⟨6, _⟩ => ⟨S64x4096, .f32⟩
  | .local _ .vmem, ⟨0, _⟩ => ⟨S512x4096, .bf16⟩
  | .local _ .vmem, ⟨1, _⟩ => ⟨S512x4096, .bf16⟩
  | .local _ .vmem, ⟨2, _⟩ => ⟨S64x4096, .bf16⟩
  | .local _ .vmem, ⟨3, _⟩ => ⟨S512x1024, .f32⟩
  | .local _ .vmem, ⟨4, _⟩ => ⟨S512x1024, .f32⟩
  | .local _ .vmem, ⟨5, _⟩ => ⟨S64x1024, .f32⟩
  | .local _ .vmem, ⟨6, _⟩ => ⟨S64x1024, .f32⟩
  | .local _ .vmem, ⟨7, _⟩ => ⟨S512x1024, .f32⟩
  | .local _ .vmem, ⟨8, _⟩ => ⟨S512x1024, .f32⟩
  | .local _ .vmem, ⟨9, _⟩ => ⟨S64x1024, .f32⟩
  | .local _ .vmem, ⟨10, _⟩ => ⟨S64x1024, .f32⟩
  | .local _ .vmem, ⟨11, _⟩ => ⟨S2x4096x1024, .bf16⟩
  | .local _ .vmem, ⟨12, _⟩ => ⟨S2x256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v4 : BitVec 1 := Scalar.cmpi .eq v1 c0_i32
  let v5 : BitVec 32 := Scalar.extui v4
  let c0_i32_1 : BitVec 32 := 0#32
  let v6 : BitVec 1 := Scalar.cmpi .ne v5 c0_i32_1
  v6

def k0_mult1 : BitVec 32 :=
  let c1_i32_287 : BitVec 32 := 1#32
  let c3_i32_288 : BitVec 32 := 3#32
  let v309 : BitVec 32 := Scalar.minsi c1_i32_287 c3_i32_288
  let c1024_i32_289 : BitVec 32 := 1024#32
  let v310 : BitVec 32 := Scalar.muli v309 c1024_i32_289
  v310
def k0_off1 : Fin 2 → Nat :=
  let c0_i32_294 : BitVec 32 := 0#32
  let c1_i32_287 : BitVec 32 := 1#32
  let c3_i32_288 : BitVec 32 := 3#32
  let v309 : BitVec 32 := Scalar.minsi c1_i32_287 c3_i32_288
  let c1024_i32_289 : BitVec 32 := 1024#32
  let v310 : BitVec 32 := Scalar.muli v309 c1024_i32_289
  let v311 : BitVec 32 := v310
  ![0, v311.toNat]
def k0_mult2 (i : grid0.Coords) : BitVec 32 :=
  let arg1 : BitVec 32 := BitVec.ofNat 32 (i 1).val
  let c1_i32_2 : BitVec 32 := 1#32
  let v9 : BitVec 32 := Scalar.muli arg1 c1_i32_2
  let c0_i32_3 : BitVec 32 := 0#32
  let v10 : BitVec 32 := Scalar.addi v9 c0_i32_3
  let c256_i32 : BitVec 32 := 256#32
  let v13 : BitVec 32 := Scalar.muli v10 c256_i32
  v13
def k0_mult3 (i : grid0.Coords) : BitVec 32 :=
  let arg0 : BitVec 32 := BitVec.ofNat 32 (i 0).val
  let c1_i32 : BitVec 32 := 1#32
  let v7 : BitVec 32 := Scalar.addi arg0 c1_i32
  let c3_i32 : BitVec 32 := 3#32
  let v8 : BitVec 32 := Scalar.minsi v7 c3_i32
  let c1024_i32 : BitVec 32 := 1024#32
  let v15 : BitVec 32 := Scalar.muli v8 c1024_i32
  v15
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c1_i32_4 : BitVec 32 := 1#32
  let v11 : BitVec 32 := Scalar.muli v3 c1_i32_4
  let c0_i32_5 : BitVec 32 := 0#32
  let v12 : BitVec 32 := Scalar.addi v11 c0_i32_5
  ![v12.toNat]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c1_i32_4 : BitVec 32 := 1#32
  let v11 : BitVec 32 := Scalar.muli v3 c1_i32_4
  let c0_i32_5 : BitVec 32 := 0#32
  let v12 : BitVec 32 := Scalar.addi v11 c0_i32_5
  let c0_i32_6 : BitVec 32 := 0#32
  let c0_i32_7 : BitVec 32 := 0#32
  ![v12.toNat, 0, 0]
def k0_off4 (i : grid0.Coords) : Fin 2 → Nat :=
  let arg1 : BitVec 32 := BitVec.ofNat 32 (i 1).val
  let c1_i32_2 : BitVec 32 := 1#32
  let v9 : BitVec 32 := Scalar.muli arg1 c1_i32_2
  let c0_i32_3 : BitVec 32 := 0#32
  let v10 : BitVec 32 := Scalar.addi v9 c0_i32_3
  let c256_i32 : BitVec 32 := 256#32
  let v13 : BitVec 32 := Scalar.muli v10 c256_i32
  let v14 : BitVec 32 := v13
  let arg0 : BitVec 32 := BitVec.ofNat 32 (i 0).val
  let c1_i32 : BitVec 32 := 1#32
  let v7 : BitVec 32 := Scalar.addi arg0 c1_i32
  let c3_i32 : BitVec 32 := 3#32
  let v8 : BitVec 32 := Scalar.minsi v7 c3_i32
  let c1024_i32 : BitVec 32 := 1024#32
  let v15 : BitVec 32 := Scalar.muli v8 c1024_i32
  let v16 : BitVec 32 := v15
  ![v14.toNat, v16.toNat]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_8 : BitVec 32 := 1#32
  let v22 : BitVec 32 := Scalar.addi v1 c1_i32_8
  let c64_i32 : BitVec 32 := 64#32
  let v23 : BitVec 1 := Scalar.cmpi .slt v22 c64_i32
  let v24 : BitVec 32 := Scalar.extui v23
  let c0_i32_9 : BitVec 32 := 0#32
  let v25 : BitVec 1 := Scalar.cmpi .ne v24 c0_i32_9
  v25

def k0_mult4 (i : grid0.Coords) : BitVec 32 :=
  let arg1 : BitVec 32 := BitVec.ofNat 32 (i 1).val
  let c1_i32_28 : BitVec 32 := 1#32
  let v53 : BitVec 32 := Scalar.addi arg1 c1_i32_28
  let c16_i32_29 : BitVec 32 := 16#32
  let v54 : BitVec 1 := Scalar.cmpi .eq v53 c16_i32_29
  let c0_i32_32 : BitVec 32 := 0#32
  let c1_i32_31 : BitVec 32 := 1#32
  let v57 : BitVec 32 := Scalar.addi arg1 c1_i32_31
  let v58 : BitVec 32 := Scalar.select v54 c0_i32_32 v57
  let c1_i32_35 : BitVec 32 := 1#32
  let v61 : BitVec 32 := Scalar.muli v58 c1_i32_35
  let c0_i32_36 : BitVec 32 := 0#32
  let v62 : BitVec 32 := Scalar.addi v61 c0_i32_36
  let c256_i32_40 : BitVec 32 := 256#32
  let v66 : BitVec 32 := Scalar.muli v62 c256_i32_40
  v66
def k0_mult5 (i : grid0.Coords) : BitVec 32 :=
  let arg1 : BitVec 32 := BitVec.ofNat 32 (i 1).val
  let c1_i32_28 : BitVec 32 := 1#32
  let v53 : BitVec 32 := Scalar.addi arg1 c1_i32_28
  let c16_i32_29 : BitVec 32 := 16#32
  let v54 : BitVec 1 := Scalar.cmpi .eq v53 c16_i32_29
  let arg0 : BitVec 32 := BitVec.ofNat 32 (i 0).val
  let c1_i32_30 : BitVec 32 := 1#32
  let v55 : BitVec 32 := Scalar.addi arg0 c1_i32_30
  let v56 : BitVec 32 := Scalar.select v54 v55 arg0
  let c1_i32_33 : BitVec 32 := 1#32
  let v59 : BitVec 32 := Scalar.addi v56 c1_i32_33
  let c3_i32_34 : BitVec 32 := 3#32
  let v60 : BitVec 32 := Scalar.minsi v59 c3_i32_34
  let c1024_i32_41 : BitVec 32 := 1024#32
  let v68 : BitVec 32 := Scalar.muli v60 c1024_i32_41
  v68
def k0_off5 (i : grid0.Coords) : Fin 1 → Nat :=
  let c1_i32_37 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v63 : BitVec 32 := Scalar.subi c1_i32_37 v3
  let c1_i32_38 : BitVec 32 := 1#32
  let v64 : BitVec 32 := Scalar.muli v63 c1_i32_38
  let c0_i32_39 : BitVec 32 := 0#32
  let v65 : BitVec 32 := Scalar.addi v64 c0_i32_39
  ![v65.toNat]
def k0_off6 (i : grid0.Coords) : Fin 3 → Nat :=
  let c1_i32_37 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let v63 : BitVec 32 := Scalar.subi c1_i32_37 v3
  let c1_i32_38 : BitVec 32 := 1#32
  let v64 : BitVec 32 := Scalar.muli v63 c1_i32_38
  let c0_i32_39 : BitVec 32 := 0#32
  let v65 : BitVec 32 := Scalar.addi v64 c0_i32_39
  let c0_i32_42 : BitVec 32 := 0#32
  let c0_i32_43 : BitVec 32 := 0#32
  ![v65.toNat, 0, 0]
def k0_off7 (i : grid0.Coords) : Fin 2 → Nat :=
  let arg1 : BitVec 32 := BitVec.ofNat 32 (i 1).val
  let c1_i32_28 : BitVec 32 := 1#32
  let v53 : BitVec 32 := Scalar.addi arg1 c1_i32_28
  let c16_i32_29 : BitVec 32 := 16#32
  let v54 : BitVec 1 := Scalar.cmpi .eq v53 c16_i32_29
  let c0_i32_32 : BitVec 32 := 0#32
  let c1_i32_31 : BitVec 32 := 1#32
  let v57 : BitVec 32 := Scalar.addi arg1 c1_i32_31
  let v58 : BitVec 32 := Scalar.select v54 c0_i32_32 v57
  let c1_i32_35 : BitVec 32 := 1#32
  let v61 : BitVec 32 := Scalar.muli v58 c1_i32_35
  let c0_i32_36 : BitVec 32 := 0#32
  let v62 : BitVec 32 := Scalar.addi v61 c0_i32_36
  let c256_i32_40 : BitVec 32 := 256#32
  let v66 : BitVec 32 := Scalar.muli v62 c256_i32_40
  let v67 : BitVec 32 := v66
  let arg0 : BitVec 32 := BitVec.ofNat 32 (i 0).val
  let c1_i32_30 : BitVec 32 := 1#32
  let v55 : BitVec 32 := Scalar.addi arg0 c1_i32_30
  let v56 : BitVec 32 := Scalar.select v54 v55 arg0
  let c1_i32_33 : BitVec 32 := 1#32
  let v59 : BitVec 32 := Scalar.addi v56 c1_i32_33
  let c3_i32_34 : BitVec 32 := 3#32
  let v60 : BitVec 32 := Scalar.minsi v59 c3_i32_34
  let c1024_i32_41 : BitVec 32 := 1024#32
  let v68 : BitVec 32 := Scalar.muli v60 c1024_i32_41
  let v69 : BitVec 32 := v68
  ![v67.toNat, v69.toNat]
def k0_cond3 (i : grid0.Coords) : BitVec 1 :=
  let arg1 : BitVec 32 := BitVec.ofNat 32 (i 1).val
  let c0_i32_10 : BitVec 32 := 0#32
  let v26 : BitVec 1 := Scalar.cmpi .eq arg1 c0_i32_10
  let v27 : BitVec 32 := Scalar.extui v26
  let c0_i32_11 : BitVec 32 := 0#32
  let v28 : BitVec 1 := Scalar.cmpi .ne v27 c0_i32_11
  v28

def k0_off8 (i : grid0.Coords) : Fin 3 → Nat :=
  let arg0 : BitVec 32 := BitVec.ofNat 32 (i 0).val
  let c2_i32 : BitVec 32 := 2#32
  let v2 : BitVec 32 := Scalar.remsi arg0 c2_i32
  let v54 : Index := Scalar.indexCast v2
  let c0_30 : Index := 0#32
  let c0_31 : Index := 0#32
  ![v54.toNat, 0, 0]
def k0_mult6 (i : grid0.Coords) : BitVec 32 :=
  let arg1 : BitVec 32 := BitVec.ofNat 32 (i 1).val
  let c1_i32_14 : BitVec 32 := 1#32
  let v31 : BitVec 32 := Scalar.muli arg1 c1_i32_14
  let c0_i32_15 : BitVec 32 := 0#32
  let v32 : BitVec 32 := Scalar.addi v31 c0_i32_15
  let c256_i32_17 : BitVec 32 := 256#32
  let v34 : BitVec 32 := Scalar.muli v32 c256_i32_17
  v34
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 32 := Scalar.remsi v1 c2_i32_0
  let c1_i32_12 : BitVec 32 := 1#32
  let v29 : BitVec 32 := Scalar.muli v3 c1_i32_12
  let c0_i32_13 : BitVec 32 := 0#32
  let v30 : BitVec 32 := Scalar.addi v29 c0_i32_13
  let v36 : Index := Scalar.indexCast v30
  let c0 : Index := 0#32
  let c0_18 : Index := 0#32
  ![v36.toNat, 0, 0]
def k0_off10 (i : grid0.Coords) : Fin 3 → Nat :=
  let c1_i32_16 : BitVec 32 := 1#32
  let arg0 : BitVec 32 := BitVec.ofNat 32 (i 0).val
  let c2_i32 : BitVec 32 := 2#32
  let v2 : BitVec 32 := Scalar.remsi arg0 c2_i32
  let v33 : BitVec 32 := Scalar.subi c1_i32_16 v2
  let v40 : Index := Scalar.indexCast v33
  let arg1 : BitVec 32 := BitVec.ofNat 32 (i 1).val
  let c1_i32_14 : BitVec 32 := 1#32
  let v31 : BitVec 32 := Scalar.muli arg1 c1_i32_14
  let c0_i32_15 : BitVec 32 := 0#32
  let v32 : BitVec 32 := Scalar.addi v31 c0_i32_15
  let c256_i32_17 : BitVec 32 := 256#32
  let v34 : BitVec 32 := Scalar.muli v32 c256_i32_17
  let v35 : BitVec 32 := v34
  let v41 : Index := Scalar.indexCast v35
  let c0_19 : Index := 0#32
  ![v40.toNat, v41.toNat, 0]
def k0_off11 (i : grid0.Coords) : Fin 3 → Nat :=
  let arg0 : BitVec 32 := BitVec.ofNat 32 (i 0).val
  let c2_i32 : BitVec 32 := 2#32
  let v2 : BitVec 32 := Scalar.remsi arg0 c2_i32
  let v46 : Index := Scalar.indexCast v2
  let c0_22 : Index := 0#32
  let c0_23 : Index := 0#32
  ![v46.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x4096 : Shape := ⟨2, ![8192, 4096]⟩
abbrev S64x4096 : Shape := ⟨2, ![64, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x4096, .f32⟩
  | .hbm, ⟨3, _⟩ => ⟨S8192x4096, .f32⟩
  | .hbm, ⟨4, _⟩ => ⟨S64x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S64x4096, .f32⟩
  | .hbm, ⟨9, _⟩ => ⟨S64x4096, .f32⟩
  | .hbm, ⟨10, _⟩ => ⟨S64x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S3x512x4096 : Shape := ⟨3, ![3, 512, 4096]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512 : Shape := ⟨1, ![512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S3x512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_12 : BitVec 32 := 0#32
  c0_i32_12
def k0_mult2 : BitVec 32 :=
  let c512_i32_18 : BitVec 32 := 512#32
  c512_i32_18
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_12 : BitVec 32 := 2#32
  let v33 : BitVec 32 := Scalar.addi arg0 c2_i32_12
  let c512_i32_15 : BitVec 32 := 512#32
  let v36 : BitVec 32 := Scalar.muli v33 c512_i32_15
  v36
def k0_off1 (i : grid0.Coords) : Fin 1 → Nat :=
  let arg0 : BitVec 32 := BitVec.ofNat 32 (i 0).val
  let c2_i32_13 : BitVec 32 := 2#32
  let v34 : BitVec 32 := Scalar.addi arg0 c2_i32_13
  let c3_i32_14 : BitVec 32 := 3#32
  let v35 : BitVec 32 := Scalar.remsi v34 c3_i32_14
  ![v35.toNat]
def k0_off2 (i : grid0.Coords) : Fin 3 → Nat :=
  let arg0 : BitVec 32 := BitVec.ofNat 32 (i 0).val
  let c2_i32_13 : BitVec 32 := 2#32
  let v34 : BitVec 32 := Scalar.addi arg0 c2_i32_13
  let c3_i32_14 : BitVec 32 := 3#32
  let v35 : BitVec 32 := Scalar.remsi v34 c3_i32_14
  let c0_i32_16 : BitVec 32 := 0#32
  let c0_i32_17 : BitVec 32 := 0#32
  ![v35.toNat, 0, 0]
def k0_off3 (i : grid0.Coords) : Fin 2 → Nat :=
  let arg0 : BitVec 32 := BitVec.ofNat 32 (i 0).val
  let c2_i32_12 : BitVec 32 := 2#32
  let v33 : BitVec 32 := Scalar.addi arg0 c2_i32_12
  let c512_i32_15 : BitVec 32 := 512#32
  let v36 : BitVec 32 := Scalar.muli v33 c512_i32_15
  let v37 : BitVec 32 := v36
  let c0_i32_18 : BitVec 32 := 0#32
  ![v37.toNat, 0]
def k0_mult4 (i : grid0.Coords) : BitVec 32 :=
  let arg0 : BitVec 32 := BitVec.ofNat 32 (i 0).val
  let c512_i32 : BitVec 32 := 512#32
  let v8 : BitVec 32 := Scalar.muli arg0 c512_i32
  v8
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let c0_i32_4 : BitVec 32 := 0#32
  ![v9.toNat, 0]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v15 : Index := Scalar.indexCast v7
  let c0 : Index := 0#32
  let c0_5 : Index := 0#32
  ![v15.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S1x4096, .f32⟩
  | .hbm, ⟨3, _⟩ => ⟨S64x4096, .f32⟩
  | .local _ .vmem, ⟨0, _⟩ => ⟨S64x4096, .f32⟩
  | .local _ .vmem, ⟨1, _⟩ => ⟨S1x4096, .f32⟩
  | .local _ .vmem, ⟨2, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S64x4096, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S32x32x128 : Shape := ⟨3, ![32, 32, 128]⟩
abbrev S4096 : Shape := ⟨1, ![4096]⟩
abbrev S1x32x32x128x128 : Shape := ⟨5, ![1, 32, 32, 128, 128]⟩
abbrev S32x128 : Shape := ⟨2, ![32, 128]⟩
abbrev S4x32x128 : Shape := ⟨3, ![4, 32, 128]⟩
abbrev S1x4x32x128x128 : Shape := ⟨5, ![1, 4, 32, 128, 128]⟩
abbrev S8x128 : Shape := ⟨2, ![8, 128]⟩
abbrev S8x256 : Shape := ⟨2, ![8, 256]⟩
abbrev S1x32x128 : Shape := ⟨3, ![1, 32, 128]⟩
abbrev S1x128 : Shape := ⟨2, ![1, 128]⟩
abbrev S8x384 : Shape := ⟨2, ![8, 384]⟩
abbrev S128x384 : Shape := ⟨2, ![128, 384]⟩
abbrev S128x128 : Shape := ⟨2, ![128, 128]⟩
abbrev S1x1x1x128x128 : Shape := ⟨5, ![1, 1, 1, 128, 128]⟩
abbrev S128 : Shape := ⟨1, ![128]⟩
abbrev S32 : Shape := ⟨1, ![32]⟩
abbrev S32x1 : Shape := ⟨2, ![32, 1]⟩

abbrev nBuf : Space → Nat
  | .hbm => 9
  | .vmem => 15
  | .smem => 0
  | _ => 0

abbrev bufTy : (tb : Table) → Fin (tcTables nBuf tb) → BufTy
  | .hbm, ⟨0, _⟩ => ⟨S32x32x128, .f32⟩
  | .hbm, ⟨1, _⟩ => ⟨S32x32x128, .f32⟩
  | .hbm, ⟨2, _⟩ => ⟨S32x32x128, .f32⟩
  | .hbm, ⟨3, _⟩ => ⟨S32x32x128, .f32⟩
  | .hbm, ⟨4, _⟩ => ⟨S4096, .f32⟩
  | .hbm, ⟨5, _⟩ => ⟨S1x32x32x128x128, .f32⟩
  | .hbm, ⟨6, _⟩ => ⟨S32x128, .f32⟩
  | .hbm, ⟨7, _⟩ => ⟨S32x32x128, .bf16⟩
  | .hbm, ⟨8, _⟩ => ⟨S1x32x32x128x128, .f32⟩
  | .local _ .vmem, ⟨0, _⟩ => ⟨S4x32x128, .f32⟩
  | .local _ .vmem, ⟨1, _⟩ => ⟨S4x32x128, .f32⟩
  | .local _ .vmem, ⟨2, _⟩ => ⟨S4x32x128, .f32⟩
  | .local _ .vmem, ⟨3, _⟩ => ⟨S4x32x128, .f32⟩
  | .local _ .vmem, ⟨4, _⟩ => ⟨S4x32x128, .f32⟩
  | .local _ .vmem, ⟨5, _⟩ => ⟨S4x32x128, .f32⟩
  | .local _ .vmem, ⟨6, _⟩ => ⟨S4x32x128, .f32⟩
  | .local _ .vmem, ⟨7, _⟩ => ⟨S4x32x128, .f32⟩
  | .local _ .vmem, ⟨8, _⟩ => ⟨S32x128, .f32⟩
  | .local _ .vmem, ⟨9, _⟩ => ⟨S1x4x32x128x128, .f32⟩
  | .local _ .vmem, ⟨10, _⟩ => ⟨S1x4x32x128x128, .f32⟩
  | .local _ .vmem, ⟨11, _⟩ => ⟨S4x32x128, .bf16⟩
  | .local _ .vmem, ⟨12, _⟩ => ⟨S4x32x128, .bf16⟩
  | .local _ .vmem, ⟨13, _⟩ => ⟨S1x4x32x128x128, .f32⟩
  | .local _ .vmem, ⟨14, _⟩ => ⟨S1x4x32x128x128, .f32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S4x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32x32x128 : Shape := ⟨3, ![32, 32, 128]⟩
abbrev S4096 : Shape := ⟨1, ![4096]⟩
abbrev S1x32x32x128x128 : Shape := ⟨5, ![1, 32, 32, 128, 128]⟩
abbrev S_ : Shape := ⟨0, ![]⟩
abbrev S32x32x128x128 : Shape := ⟨4, ![32, 32, 128, 128]⟩
abbrev S32x32x128x1 : Shape := ⟨4, ![32, 32, 128, 1]⟩
abbrev S32x32x1x128 : Shape := ⟨4, ![32, 32, 1, 128]⟩
abbrev S32x32 : Shape := ⟨2, ![32, 32]⟩
abbrev S32x32x1 : Shape := ⟨3, ![32, 32, 1]⟩
abbrev S32x128 : Shape := ⟨2, ![32, 128]⟩
abbrev S1x32x128 : Shape := ⟨3, ![1, 32, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S32x32x128, .f32⟩
  | .hbm, ⟨2, _⟩ => ⟨S32x32x128, .f32⟩
  | .hbm, ⟨3, _⟩ => ⟨S32x32x128, .f32⟩
  | .hbm, ⟨4, _⟩ => ⟨S4096, .f32⟩
  | .hbm, ⟨5, _⟩ => ⟨S1x32x32x128x128, .f32⟩
  | .hbm, ⟨6, _⟩ => ⟨S32x32x128, .f32⟩
  | .hbm, ⟨7, _⟩ => ⟨S_, .f32⟩
  | .hbm, ⟨8, _⟩ => ⟨S32x32x128, .f32⟩
  | .hbm, ⟨9, _⟩ => ⟨S32x32x128, .f32⟩
  | .hbm, ⟨10, _⟩ => ⟨S32x32x128x128, .f32⟩
  | .hbm, ⟨11, _⟩ => ⟨S32x32x128, .f32⟩
  | .hbm, ⟨12, _⟩ => ⟨S32x32x128x1, .f32⟩
  | .hbm, ⟨13, _⟩ => ⟨S32x32x128x128, .f32⟩
  | .hbm, ⟨14, _⟩ => ⟨S32x32x128x128, .f32⟩
  | .hbm, ⟨15, _⟩ => ⟨S32x32x128x1, .f32⟩
  | .hbm, ⟨16, _⟩ => ⟨S32x32x1x128, .f32⟩
  | .hbm, ⟨17, _⟩ => ⟨S32x32x128x128, .f32⟩
  | .hbm, ⟨18, _⟩ => ⟨S32x32x128x128, .f32⟩
  | .hbm, ⟨19, _⟩ => ⟨S32x32x128x128, .f32⟩
  | .hbm, ⟨20, _⟩ => ⟨S32x32x128x128, .f32⟩
  | .hbm, ⟨21, _⟩ => ⟨S32x32x128, .f32⟩
  | .hbm, ⟨22, _⟩ => ⟨S32x32x128, .f32⟩
  | .hbm, ⟨23, _⟩ => ⟨S_, .f32⟩
  | .hbm, ⟨24, _⟩ => ⟨S32x32, .f32⟩
  | .hbm, ⟨25, _⟩ => ⟨S32x32x1, .f32⟩
  | .hbm, ⟨26, _⟩ => ⟨S_, .f32⟩
  | .hbm, ⟨27, _⟩ => ⟨S32x32x1, .f32⟩
  | .hbm, ⟨28, _⟩ => ⟨S32x32x1, .f32⟩
  | .hbm, ⟨29, _⟩ => ⟨S_, .f32⟩
  | .hbm, ⟨30, _⟩ => ⟨S32x32x1, .f32⟩
  | .hbm, ⟨31, _⟩ => ⟨S32x32x1, .f32⟩
  | .hbm, ⟨32, _⟩ => ⟨S32x32x1, .f32⟩
  | .hbm, ⟨33, _⟩ => ⟨S32x32x128, .f32⟩
  | .hbm, ⟨34, _⟩ => ⟨S32x32x128, .f32⟩
  | .hbm, ⟨35, _⟩ => ⟨S32x128, .f32⟩
  | .hbm, ⟨36, _⟩ => ⟨S1x32x128, .f32⟩
  | .hbm, ⟨37, _⟩ => ⟨S32x32x128, .f32⟩
  | .hbm, ⟨38, _⟩ => ⟨S32x32x128, .f32⟩
  | .hbm, ⟨39, _⟩ => ⟨S32x32x128, .f32⟩
  | .hbm, ⟨40, _⟩ => ⟨S32x32x128, .bf16⟩
  | .hbm, ⟨41, _⟩ => ⟨S1x32x32x128x128, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Sample.lean ====
module

public import proofs.«01_k».proof.Proof.Gen.KernelIdeal.Value
public import Idealize.ShloMosaic.Lib.Pointwise
public import Idealize.ShloMosaic.Lib.Pipeline.ValueKit.Tiles

@[expose] public section

noncomputable section

namespace Cert.KernelIdeal.Sample

open Cert.KernelIdeal Cert.KernelIdeal.Gen Idealize.ShloMosaic Idealize.ShloMosaic.TcCoe

/-! ## The two masks -/

/-- The mask whose entry says that lane `c` belongs to the key head of query head `h`. -/
abbrev own : IVec S64x512 1 := k0_pay8 k0_pay4 k0_pay5 k0_pay6 k0_pay7

/-- The row side of the mask: query head `h` reads key head `h / 8`. -/
theorem row_apply (h : Fin 64) (c : Fin 512) : k0_pay4 (ix2 h c) = BitVec.ofNat 32 (h.val / 8) := by
  have e : ∀ h : Fin 64, k0_pay4 (ix2 h (0 : Fin 512)) = BitVec.ofNat 32 (h.val / 8) := by decide +kernel
  exact (show k0_pay4 (ix2 h c) = k0_pay4 (ix2 h (0 : Fin 512)) from rfl).trans (e h)

/-- The mask is set exactly where the lane's key head is the query head's. -/
theorem own_apply (h : Fin 64) (c : Fin 512) : own (ix2 h c) = if h.val / 8 = c.val / 64 then 1#1 else 0#1 := by
  have e : ∀ c : Fin 512, (select (andi k0_pay6 k0_pay7) (subi k0_pay5 (broadcast S64x512 1#32)) k0_pay5) (ix2 (0 : Fin 64) c)
      = BitVec.ofNat 32 (c.val / 64) := by decide +kernel
  have e' : ∀ a : Fin 8, ∀ b : Fin 8, IntOp.cmpi .eq (BitVec.ofNat 32 a.val) (BitVec.ofNat 32 b.val)
      = if a.val = b.val then 1#1 else 0#1 := by decide +kernel
  have ha : h.val / 8 < 8 := by omega
  have hb : c.val / 64 < 8 := by omega
  show IntOp.cmpi .eq (k0_pay4 (ix2 h c)) ((select (andi k0_pay6 k0_pay7) (subi k0_pay5 (broadcast S64x512 1#32)) k0_pay5) (ix2 (0 : Fin 64) c)) = _
  rw [row_apply, e]
  exact e' ⟨h.val / 8, ha⟩ ⟨c.val / 64, hb⟩

/-- The mask of the newest row of the window. -/
theorem last_apply (k : Fin 128) (c : Fin 512) : k0_pay9 (ix2 k c) = if k.val = 127 then 1#1 else 0#1 := by
  have e : ∀ k : Fin 128, k0_pay9 (ix2 k (0 : Fin 512)) = if k.val = 127 then 1#1 else 0#1 := by decide +kernel
  exact (show k0_pay9 (ix2 k c) = k0_pay9 (ix2 k (0 : Fin 512)) from rfl).trans (e k)

/-! ## The two named constants -/

/-- The base-two logarithm of `e`. -/
def lg : EReal := (((Real.log 2)⁻¹ : ℝ) : EReal)
/-- An eighth of it, the scale of the queries. -/
def qs : EReal := (((Real.log 256)⁻¹ : ℝ) : EReal)

theorem named_lg : (Named.named κ "log2e" 0x3FB8AA3B#32 : Ideal .f32) = lg :=
  IdealRules.named_const.ideal_named_scalar _ _ _ _ rfl
theorem named_qs : (Named.named κ "qscale" 0x3E38AA3B#32 : Ideal .f32) = qs :=
  IdealRules.named_const.ideal_named_scalar _ _ _ _ rfl

/-! ## One sample, index by index

The operands of one sample as functions of plain indices: `q`, `g` (head, lane), `kn`, `vn` (lane of the flattened heads),
`ck`, `cv` (position, lane), and the biases `bc` (head, position), `bn`, `sk` (head). -/

/-- The queries, scaled, on the lanes of their own key head and zero on the others. -/
def qx (q : Fin 64 → Fin 64 → EReal) (h : Fin 64) (c : Fin 512) : EReal :=
  if h.val / 8 = c.val / 64 then q h ⟨c.val % 64, Nat.mod_lt _ (by decide)⟩ * qs else 0

/-- The score of head `h` at position `k` of the window. -/
def sc (q : Fin 64 → Fin 64 → EReal) (ck : Fin 128 → Fin 512 → EReal) (bc : Fin 64 → Fin 128 → EReal) (h : Fin 64) (k : Fin 128) : EReal :=
  (∑ c : Fin 512, qx q h c * ck k c) + bc h k * lg

/-- The score of head `h` at the new token. -/
def sn (q : Fin 64 → Fin 64 → EReal) (kn : Fin 512 → EReal) (bn : Fin 64 → EReal) (h : Fin 64) : EReal :=
  (∑ c : Fin 512, qx q h c * kn c) + bn h * lg

/-- The largest score, the sink's among them. -/
def mx (s : Fin 128 → EReal) (n z : EReal) : EReal :=
  max (max (Finset.fold max (Ideal.ofBits .f32 0xFF800000#32) s Finset.univ) n) z

/-- The weighted values over the weights' sum: scores `s` at the window, `n` at the new token, `z` of the sink. -/
def wsum (s : Fin 128 → EReal) (n z : EReal) (cv : Fin 128 → EReal) (vn : EReal) : EReal :=
  Ideal.div ((∑ k, Ideal.exp2 (s k - mx s n z) * cv k) + Ideal.exp2 (n - mx s n z) * vn)
    ((∑ k, Ideal.exp2 (s k - mx s n z)) + Ideal.exp2 (n - mx s n z) + Ideal.exp2 (z - mx s n z))

/-- The lane of the flattened key heads that head `h` reads for its lane `d`. -/
def lane (h d : Fin 64) : Fin 512 := ⟨64 * (h.val / 8) + d.val, by omega⟩

/-- One sample's attention, gated. -/
def attn (q g : Fin 64 → Fin 64 → EReal) (kn vn : Fin 512 → EReal) (ck cv : Fin 128 → Fin 512 → EReal)
    (bc : Fin 64 → Fin 128 → EReal) (bn sk : Fin 64 → EReal) (h d : Fin 64) : EReal :=
  wsum (sc q ck bc h) (sn q kn bn h) (sk h * lg) (fun k => cv k (lane h d)) (vn (lane h d)) * g h d

/-- One sample's window after the step: every row one position older, the new one last. -/
def shift (n : Fin 512 → EReal) (x : Fin 128 → Fin 512 → EReal) (k : Fin 128) (c : Fin 512) : EReal :=
  if h : k.val + 1 < 128 then x ⟨k.val + 1, h⟩ c else n c

/-! ## The body's values, read -/

theorem select_own {α : Type} (h : Fin 64) (c : Fin 512) (x y : α) :
    Scalar.select (own (ix2 h c)) x y = if h.val / 8 = c.val / 64 then x else y := by
  rw [own_apply]
  split <;> simp [Scalar.select]

theorem qx_apply (q : Vec Ideal S1x64x64 .f32) (h : Fin 64) (c : Fin 512) :
    k0_pay37 (F := Ideal) own q (ix2 h c) = qx (fun h d => q (ix3 0 h d)) h c := by
  pointwise [k0_pay37]
  rw [named_qs, select_own]
  unfold qx
  congr 1
  have e : ∀ (a b : Nat) (ha : a < 64) (hb : b < 64), a = b → q (ix3 0 h ⟨a, ha⟩) * qs = q (ix3 0 h ⟨b, hb⟩) * qs :=
    fun a b _ _ h => by subst h; rfl
  split_ifs <;> exact e _ _ _ _ (by omega)

theorem sc_apply (q : Vec Ideal S1x64x64 .f32) (ck : Vec Ideal S1x128x512 .f32) (bc : Vec Ideal S64x128 .f32)
     (h : Fin 64) (k : Fin 128) :
    k0_pay42 (F := Ideal) own q ck bc (ix2 h k)
      = sc (fun h d => q (ix3 0 h d)) (fun k c => ck (ix3 0 k c)) (fun h k => bc (ix2 h k)) h k := by
  pointwise [k0_pay42, k0_pay38]
  simp only [named_lg, qx_apply]
  rfl

theorem sn_apply (q : Vec Ideal S1x64x64 .f32) (kn : Vec Ideal S1x1x512 .f32) (bn : Vec Ideal S64x1 .f32)
     (h : Fin 64)  :
    k0_pay43 (F := Ideal) own q kn bn (ix2 h 0)
      = sn (fun h d => q (ix3 0 h d)) (fun c => kn (ix3 0 0 c)) (fun h => bn (ix2 h 0)) h := by
  pointwise [k0_pay43, k0_pay40]
  simp only [named_lg, qx_apply]
  rfl

theorem sk_apply (sk : Vec Ideal S64x1 .f32) (h : Fin 64) : k0_pay10 (F := Ideal) sk (ix2 h 0) = sk (ix2 h 0) * lg := by
  pointwise [k0_pay10]
  rw [named_lg]

theorem mx_apply (sk : FVec Ideal S64x1 .f32) (q : Vec Ideal S1x64x64 .f32) (ck : Vec Ideal S1x128x512 .f32)
     (kn : Vec Ideal S1x1x512 .f32)  (bc : Vec Ideal S64x128 .f32) (bn : Vec Ideal S64x1 .f32)
     (h : Fin 64)  :
    k0_pay44 (F := Ideal) own sk q ck kn bc bn (ix2 h 0)
      = mx (fun k => k0_pay42 (F := Ideal) own q ck bc (ix2 h k)) (k0_pay43 (F := Ideal) own q kn bn (ix2 h 0)) (sk (ix2 h 0)) := by
  pointwise [k0_pay44]
  rfl

theorem mb_apply (sk : FVec Ideal S64x1 .f32) (q : Vec Ideal S1x64x64 .f32) (ck : Vec Ideal S1x128x512 .f32)
     (kn : Vec Ideal S1x1x512 .f32)  (bc : Vec Ideal S64x128 .f32) (bn : Vec Ideal S64x1 .f32)
     (h : Fin 64) (k : Fin 128) :
    k0_pay45 (F := Ideal) own sk q ck kn bc bn (ix2 h k) = k0_pay44 (F := Ideal) own sk q ck kn bc bn (ix2 h 0) := by
  pointwise [k0_pay45]

/-- Of eight terms of which only the one of the head's own key head is kept, the sum is that one. -/
theorem sum_own (a : Fin 8) (f : Fin 8 → EReal) :
    (if a.val = 0 then f 0 else 0) + (if a.val = 1 then f 1 else 0) + (if a.val = 2 then f 2 else 0)
      + (if a.val = 3 then f 3 else 0) + (if a.val = 4 then f 4 else 0) + (if a.val = 5 then f 5 else 0)
      + (if a.val = 6 then f 6 else 0) + (if a.val = 7 then f 7 else 0) = f a := by
  fin_cases a <;> simp

theorem out_apply (sk : FVec Ideal S64x1 .f32) (cv : FVec Ideal S128x512 .f32) (vn : FVec Ideal S1x512 .f32)
     (s : FVec Ideal S64x128 .f32) (n : FVec Ideal S64x1 .f32)  (m : FVec Ideal S64x1 .f32) (mb : FVec Ideal S64x128 .f32)
     (g : Vec Ideal S1x64x64 .f32) (h : Fin 64) (d : Fin 64)
     (hm : m (ix2 h 0) = mx (fun k => s (ix2 h k)) (n (ix2 h 0)) (sk (ix2 h 0))) (hb : ∀ k, mb (ix2 h k) = m (ix2 h 0)) :
    k0_pay46 (F := Ideal) own sk cv vn s n m mb g (ix3 0 h d)
      = wsum (fun k => s (ix2 h k)) (n (ix2 h 0)) (sk (ix2 h 0)) (fun k => cv (ix2 k (lane h d))) (vn (ix2 0 (lane h d)))
          * g (ix3 0 h d) := by
  pointwise [k0_pay46]
  simp only [select_own]
  rw [wsum, ← hm]
  congr 2
  · simp only [hb]
    refine Eq.trans ?_ (sum_own ⟨h.val / 8, by omega⟩ fun a =>
      (∑ k, Ideal.exp2 (s (ix2 h k) - m (ix2 h 0)) * cv (ix2 k ⟨64 * a.val + d.val, by omega⟩))
        + Ideal.exp2 (n (ix2 h 0) - m (ix2 h 0)) * vn (ix2 0 ⟨64 * a.val + d.val, by omega⟩))
    have hd := d.isLt
    have e : ∀ c c' : Fin 512, c = c' →
        (∑ k, Ideal.exp2 (s (ix2 h k) - m (ix2 h 0)) * cv (ix2 k c)) + Ideal.exp2 (n (ix2 h 0) - m (ix2 h 0)) * vn (ix2 0 c)
          = (∑ k, Ideal.exp2 (s (ix2 h k) - m (ix2 h 0)) * cv (ix2 k c')) + Ideal.exp2 (n (ix2 h 0) - m (ix2 h 0)) * vn (ix2 0 c') :=
      fun _ _ h => by rw [h]
    repeat' refine congrArg₂ HAdd.hAdd ?_ ?_
    all_goals
      refine if_congr ?_ ?_ rfl
      · dsimp only
        omega
      · exact e _ _ (Fin.ext (by simp))
  · simp only [hb]
    rfl

/-! ## The payloads of the four samples of a block

The stores of one block differ only in the rectangles their operands are read through: one composed term each. -/

variable {F : FTy → Type} [FloatOps F] [Named F]

/-- The attention of one sample, of its operands as loaded. -/
def att (q : Vec F S1x64x64 .f32) (g : Vec F S1x64x64 .f32) (kn vn : Vec F S1x1x512 .f32) (ck cv : Vec F S1x128x512 .f32)
    (bc : Vec F S64x128 .f32) (bn sk : Vec F S64x1 .f32) : FVec F S1x64x64 .bf16 :=
  k0_pay46 own (k0_pay10 sk) (k0_pay39 cv) (k0_pay41 vn) (k0_pay42 own q ck bc) (k0_pay43 own q kn bn)
    (k0_pay44 own (k0_pay10 sk) q ck kn bc bn) (k0_pay45 own (k0_pay10 sk) q ck kn bc bn) g

/-- One sample's shifted window, of its operands as loaded. -/
def shf (n : Vec F S1x1x512 .f32) (x : Vec F S1x128x512 .f32) : FVec F S1x128x512 .f32 :=
  k0_pay49 k0_pay9 (k0_pay39 x) (k0_pay41 n)

theorem att_apply (q : Vec Ideal S1x64x64 .f32) (g : Vec Ideal S1x64x64 .f32) (kn vn : Vec Ideal S1x1x512 .f32)
    (ck cv : Vec Ideal S1x128x512 .f32) (bc : Vec Ideal S64x128 .f32) (bn sk : Vec Ideal S64x1 .f32) (h d : Fin 64) :
    att q g kn vn ck cv bc bn sk (ix3 0 h d)
      = attn (fun h d => q (ix3 0 h d)) (fun h d => g (ix3 0 h d)) (fun c => kn (ix3 0 0 c)) (fun c => vn (ix3 0 0 c))
          (fun k c => ck (ix3 0 k c)) (fun k c => cv (ix3 0 k c)) (fun h k => bc (ix2 h k)) (fun h => bn (ix2 h 0))
          (fun h => sk (ix2 h 0)) h d := by
  unfold att
  rw [out_apply _ _ _ _ _ _ _ _ h d (mx_apply ..) (fun k => mb_apply _ _ _ _ _ _ h k)]
  simp only [sc_apply, sn_apply, sk_apply]
  have e1 : ∀ k c, k0_pay39 (F := Ideal) cv (ix2 k c) = cv (ix3 0 k c) := fun k c => by pointwise [k0_pay39]
  have e2 : ∀ c, k0_pay41 (F := Ideal) vn (ix2 0 c) = vn (ix3 0 0 c) := fun c => by pointwise [k0_pay41]
  simp only [e1, e2]
  rfl

theorem shf_apply (n : Vec Ideal S1x1x512 .f32) (x : Vec Ideal S1x128x512 .f32) (k : Fin 128) (c : Fin 512) :
    shf n x (ix3 0 k c) = shift (fun c => n (ix3 0 0 c)) (fun k c => x (ix3 0 k c)) k c := by
  unfold shf
  pointwise [k0_pay49, k0_pay39, k0_pay41]
  rw [last_apply]
  unfold shift
  by_cases hk : k.val + 1 < 128
  · rw [dif_pos hk, if_neg (by omega)]
    exact congrArg (fun i => x (ix3 0 i c)) (Fin.ext (by dsimp only; omega))
  · rw [dif_neg hk, if_pos (by omega)]
    rfl

section Blocks

variable (x0 x1 : Vec F S4x64x64 .f32) (x2 x3 : Vec F S4x1x512 .f32) (x4 x5 : Vec F S4x128x512 .f32) (x6 : Vec F S64x128 .f32)
  (x7 x8 : Vec F S64x1 .f32)

theorem out0_9_eq : out0_9 x0 x1 x2 x3 x4 x5 x6 x7 x8 = View.canon [
    ⟨r0_11, att (View.ld x0 r0_11) (View.ld x1 r0_11) (View.ld x2 r0_13) (View.ld x3 r0_13) (View.ld x4 r0_12) (View.ld x5 r0_12) x6 x7 x8⟩,
    ⟨r0_8, att (View.ld x0 r0_8) (View.ld x1 r0_8) (View.ld x2 r0_10) (View.ld x3 r0_10) (View.ld x4 r0_9) (View.ld x5 r0_9) x6 x7 x8⟩,
    ⟨r0_5, att (View.ld x0 r0_5) (View.ld x1 r0_5) (View.ld x2 r0_7) (View.ld x3 r0_7) (View.ld x4 r0_6) (View.ld x5 r0_6) x6 x7 x8⟩,
    ⟨r0_1, att (View.ld x0 r0_1) (View.ld x1 r0_1) (View.ld x2 r0_3) (View.ld x3 r0_3) (View.ld x4 r0_2) (View.ld x5 r0_2) x6 x7 x8⟩] := by
  have e6 : View.ld x6 r0_4 = x6 := View.ld_unit_zero (by decide) _ x6
  have e7 : View.ld x7 r0_0 = x7 := View.ld_unit_zero (by decide) _ x7
  have e8 : View.ld x8 r0_0 = x8 := View.ld_unit_zero (by decide) _ x8
  unfold_out out0_9
  rw [e6, e7, e8]
  rfl

theorem out0_10_eq : out0_10 x0 x1 x2 x3 x4 x5 x6 x7 x8 = View.canon [
    ⟨r0_12, shf (View.ld x2 r0_13) (View.ld x4 r0_12)⟩, ⟨r0_9, shf (View.ld x2 r0_10) (View.ld x4 r0_9)⟩,
    ⟨r0_6, shf (View.ld x2 r0_7) (View.ld x4 r0_6)⟩, ⟨r0_2, shf (View.ld x2 r0_3) (View.ld x4 r0_2)⟩] := by
  unfold_out out0_10
  rfl

theorem out0_11_eq : out0_11 x0 x1 x2 x3 x4 x5 x6 x7 x8 = View.canon [
    ⟨r0_12, shf (View.ld x3 r0_13) (View.ld x5 r0_12)⟩, ⟨r0_9, shf (View.ld x3 r0_10) (View.ld x5 r0_9)⟩,
    ⟨r0_6, shf (View.ld x3 r0_7) (View.ld x5 r0_6)⟩, ⟨r0_2, shf (View.ld x3 r0_3) (View.ld x5 r0_2)⟩] := by
  unfold_out out0_11
  rfl

end Blocks

/-! ## The three blocks of a grid point as functions of the block index -/

/-- The attention block: sample `y 0` of the block, head `y 1`, lane `y 2`. -/
def B9 (x0 x1 : Vec Ideal S4x64x64 .f32) (x2 x3 : Vec Ideal S4x1x512 .f32) (x4 x5 : Vec Ideal S4x128x512 .f32)
    (x6 : Vec Ideal S64x128 .f32) (x7 x8 : Vec Ideal S64x1 .f32) (y : S4x64x64.Idx) : EReal :=
  attn (fun h d => x0 (ix3 (y 0) h d)) (fun h d => x1 (ix3 (y 0) h d)) (fun c => x2 (ix3 (y 0) 0 c)) (fun c => x3 (ix3 (y 0) 0 c))
    (fun k c => x4 (ix3 (y 0) k c)) (fun k c => x5 (ix3 (y 0) k c)) (fun h k => x6 (ix2 h k)) (fun h => x7 (ix2 h 0))
    (fun h => x8 (ix2 h 0)) (y 1) (y 2)

/-- A window block after the step. -/
def B10 (n : Vec Ideal S4x1x512 .f32) (x : Vec Ideal S4x128x512 .f32) (y : S4x128x512.Idx) : EReal :=
  shift (fun c => n (ix3 (y 0) 0 c)) (fun k c => x (ix3 (y 0) k c)) (y 1) (y 2)

/-- A sample's rectangle places axis 0 at the sample's number and moves nothing else. -/
theorem emb_sample {a b c : Nat} (o : Nat) (inb) (ho : o < a) (j : Fin b) (l : Fin c) :
    (Rect.unit (s := ⟨3, ![a, b, c]⟩) ![o, 0, 0] (no_index (⟨3, ![1, b, c]⟩ : Shape).size) inb).emb (ix3 (0 : Fin 1) j l) = ix3 ⟨o, ho⟩ j l := by
  refine funext fun i => Fin.ext ((Rect.idx_unit_val _ _ inb _ i).trans ?_)
  match i with
  | ⟨0, _⟩ => rfl
  | ⟨1, _⟩ => exact Nat.zero_add _
  | ⟨2, _⟩ => exact Nat.zero_add _

/-- A load of one sample of a block, read. -/
theorem ld_sample {a b c : Nat} {e : EltTy} (X : Vec Ideal ⟨3, ![a, b, c]⟩ e) (o : Nat) (inb) (ho : o < a)
    (j : Fin b) (l : Fin c) :
    View.ld X (Rect.unit (s := ⟨3, ![a, b, c]⟩) ![o, 0, 0] (no_index (⟨3, ![1, b, c]⟩ : Shape).size) inb) (ix3 (0 : Fin 1) j l) = X (ix3 ⟨o, ho⟩ j l) :=
  congrArg X (emb_sample o inb ho j l)

/-- An index of a one-sample vector is its last two coordinates. -/
theorem idx_sample {b c : Nat} (x : (⟨3, ![1, b, c]⟩ : Shape).Idx) : ∃ (j : Fin b) (l : Fin c), x = ix3 0 j l := by
  refine ⟨x 1, x 2, funext fun a => ?_⟩
  match a with
  | ⟨0, _⟩ => exact Subsingleton.elim (α := Fin 1) _ _
  | ⟨1, _⟩ => rfl
  | ⟨2, _⟩ => rfl

/-- The attention block a grid point leaves, as one function of its input blocks. -/
theorem out0_9_apply (x0 x1 : Vec Ideal S4x64x64 .f32) (x2 x3 : Vec Ideal S4x1x512 .f32) (x4 x5 : Vec Ideal S4x128x512 .f32)
    (x6 : Vec Ideal S64x128 .f32) (x7 x8 : Vec Ideal S64x1 .f32) : out0_9 x0 x1 x2 x3 x4 x5 x6 x7 x8 = B9 x0 x1 x2 x3 x4 x5 x6 x7 x8 := by
  funext y
  rw [out0_9_eq]
  refine View.canon_apply_of_pieces (Val := Elt Ideal) (e := .bf16) (B9 x0 x1 x2 x3 x4 x5 x6 x7 x8) _ ?_ y (cover0_9 _ _ _ _ y)
  have key : ∀ (o : Nat) (ho : o < 4) (i1 i2 i3) (x : S1x64x64.Idx), att
      (View.ld x0 (Rect.unit (s := S4x64x64) ![o, 0, 0] S1x64x64.size i1)) (View.ld x1 (Rect.unit (s := S4x64x64) ![o, 0, 0] S1x64x64.size i1))
      (View.ld x2 (Rect.unit (s := S4x1x512) ![o, 0, 0] S1x1x512.size i2)) (View.ld x3 (Rect.unit (s := S4x1x512) ![o, 0, 0] S1x1x512.size i2))
      (View.ld x4 (Rect.unit (s := S4x128x512) ![o, 0, 0] S1x128x512.size i3)) (View.ld x5 (Rect.unit (s := S4x128x512) ![o, 0, 0] S1x128x512.size i3))
      x6 x7 x8 x = B9 x0 x1 x2 x3 x4 x5 x6 x7 x8 ((Rect.unit (s := S4x64x64) ![o, 0, 0] S1x64x64.size i1).emb x) := by
    intro o ho i1 i2 i3 x
    obtain ⟨h, d, rfl⟩ := idx_sample x
    refine (att_apply _ _ _ _ _ _ _ _ _ h d).trans (Eq.trans ?_ (congrArg (B9 x0 x1 x2 x3 x4 x5 x6 x7 x8) (emb_sample o i1 ho h d).symm))
    have l0 := fun (j : Fin 64) (l : Fin 64) => ld_sample x0 o i1 ho j l
    have l1 := fun (j : Fin 64) (l : Fin 64) => ld_sample x1 o i1 ho j l
    have l2 := fun (j : Fin 1) (l : Fin 512) => ld_sample x2 o i2 ho j l
    have l3 := fun (j : Fin 1) (l : Fin 512) => ld_sample x3 o i2 ho j l
    have l4 := fun (j : Fin 128) (l : Fin 512) => ld_sample x4 o i3 ho j l
    have l5 := fun (j : Fin 128) (l : Fin 512) => ld_sample x5 o i3 ho j l
    simp only [l0, l1, l2, l3, l4, l5]
    rfl
  intro p hp x
  simp only [List.mem_cons, List.not_mem_nil, or_false] at hp
  rcases hp with rfl | rfl | rfl | rfl
  · exact key 3 (by decide) _ _ _ x
  · exact key 2 (by decide) _ _ _ x
  · exact key 1 (by decide) _ _ _ x
  · exact key 0 (by decide) _ _ _ x

/-- Four shifted windows, stored one below the other, are the window block after the step. -/
theorem shf_block (n : Vec Ideal S4x1x512 .f32) (x : Vec Ideal S4x128x512 .f32) :
    View.canon (Val := Elt Ideal) (e := .f32) [
      ⟨r0_12, shf (View.ld n r0_13) (View.ld x r0_12)⟩, ⟨r0_9, shf (View.ld n r0_10) (View.ld x r0_9)⟩,
      ⟨r0_6, shf (View.ld n r0_7) (View.ld x r0_6)⟩, ⟨r0_2, shf (View.ld n r0_3) (View.ld x r0_2)⟩] = B10 n x := by
  funext y
  refine View.canon_apply_of_pieces (Val := Elt Ideal) (e := .f32) (B10 n x) _ ?_ y (cover0_10 _ _ _ _ y)
  have key : ∀ (o : Nat) (ho : o < 4) (i2 i3) (z : S1x128x512.Idx), shf
      (View.ld n (Rect.unit (s := S4x1x512) ![o, 0, 0] S1x1x512.size i2)) (View.ld x (Rect.unit (s := S4x128x512) ![o, 0, 0] S1x128x512.size i3)) z
        = B10 n x ((Rect.unit (s := S4x128x512) ![o, 0, 0] S1x128x512.size i3).emb z) := by
    intro o ho i2 i3 z
    obtain ⟨k, c, rfl⟩ := idx_sample z
    refine (shf_apply _ _ k c).trans (Eq.trans ?_ (congrArg (B10 n x) (emb_sample o i3 ho k c).symm))
    have l2 := fun (j : Fin 1) (l : Fin 512) => ld_sample n o i2 ho j l
    have l4 := fun (j : Fin 128) (l : Fin 512) => ld_sample x o i3 ho j l
    simp only [l2, l4]
    rfl
  intro p hp z
  simp only [List.mem_cons, List.not_mem_nil, or_false] at hp
  rcases hp with rfl | rfl | rfl | rfl
  · exact key 3 (by decide) _ _ z
  · exact key 2 (by decide) _ _ z
  · exact key 1 (by decide) _ _ z
  · exact key 0 (by decide) _ _ z

theorem out0_10_apply (x0 x1 : Vec Ideal S4x64x64 .f32) (x2 x3 : Vec Ideal S4x1x512 .f32) (x4 x5 : Vec Ideal S4x128x512 .f32)
    (x6 : Vec Ideal S64x128 .f32) (x7 x8 : Vec Ideal S64x1 .f32) : out0_10 x0 x1 x2 x3 x4 x5 x6 x7 x8 = B10 x2 x4 :=
  (out0_10_eq ..).trans (shf_block x2 x4)

theorem out0_11_apply (x0 x1 : Vec Ideal S4x64x64 .f32) (x2 x3 : Vec Ideal S4x1x512 .f32) (x4 x5 : Vec Ideal S4x128x512 .f32)
    (x6 : Vec Ideal S64x128 .f32) (x7 x8 : Vec Ideal S64x1 .f32) : out0_11 x0 x1 x2 x3 x4 x5 x6 x7 x8 = B10 x3 x5 :=
  (out0_11_eq ..).trans (shf_block x3 x5)

end Cert.KernelIdeal.Sample
-- ==== Proof.Arrays.lean ====
module

public import proofs.«01_k».proof.Proof.Sample
public import Idealize.ShloMosaic.Lib.Pipeline.ValueKit

@[expose] public section

noncomputable section

namespace Cert.KernelIdeal.Sample

open Cert.KernelIdeal Cert.KernelIdeal.Gen Idealize.ShloMosaic Idealize.ShloMosaic.TcCoe

variable (m : (ℓ : Loc nD τ sig) → Buf (Elt Ideal) ℓ) (c : Dev nD)

/-- Sample `b` of block `t`. -/
def smp (t : Fin cfg0.N) (b : Fin 4) : Fin 32 := ⟨t.val * 4 + b.val, by have h := t.isLt; have e : cfg0.N = 8 := N_0; omega⟩

/-- Every blocked window moves by four samples a point, and the bias windows stay. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![0, 0]
    ∧ win0_7.index t = ![0, 0] ∧ win0_8.index t = ![0, 0] ∧ win0_9.index t = ![t.val, 0, 0] ∧ win0_10.index t = ![t.val, 0, 0]
    ∧ win0_11.index t = ![t.val, 0, 0] := by decide +kernel

theorem blk_q (t : Fin cfg0.N) (b : Fin 4) (h d : Fin 64) : (iblk m c 0 t (ix3 b h d) : EReal) = V m c main_v56 (ix3 (smp t b) h d) := by
  blk_ext [iblk, idx t, smp]
theorem blk_g (t : Fin cfg0.N) (b : Fin 4) (h d : Fin 64) : (iblk m c 1 t (ix3 b h d) : EReal) = V m c main_v57 (ix3 (smp t b) h d) := by
  blk_ext [iblk, idx t, smp]
theorem blk_kn (t : Fin cfg0.N) (b : Fin 4) (l : Fin 512) : (iblk m c 2 t (ix3 b 0 l) : EReal) = V m c main_v58 (ix3 (smp t b) 0 l) := by
  blk_ext [iblk, idx t, smp]
theorem blk_vn (t : Fin cfg0.N) (b : Fin 4) (l : Fin 512) : (iblk m c 3 t (ix3 b 0 l) : EReal) = V m c main_v59 (ix3 (smp t b) 0 l) := by
  blk_ext [iblk, idx t, smp]
theorem blk_ck (t : Fin cfg0.N) (b : Fin 4) (k : Fin 128) (l : Fin 512) : (iblk m c 4 t (ix3 b k l) : EReal) = V m c main_v61 (ix3 (smp t b) k l) := by
  blk_ext [iblk, idx t, smp]
theorem blk_cv (t : Fin cfg0.N) (b : Fin 4) (k : Fin 128) (l : Fin 512) : (iblk m c 5 t (ix3 b k l) : EReal) = V m c main_v63 (ix3 (smp t b) k l) := by
  blk_ext [iblk, idx t, smp]
theorem blk_bc (t : Fin cfg0.N) (h : Fin 64) (k : Fin 128) : (iblk m c 6 t (ix2 h k) : EReal) = V m c main_v28 (ix2 h k) := by
  blk_ext [iblk, idx t, smp]
theorem blk_bn (t : Fin cfg0.N) (h : Fin 64) : (iblk m c 7 t (ix2 h 0) : EReal) = V m c main_v55 (ix2 h 0) := by
  blk_ext [iblk, idx t, smp]
theorem blk_sk (t : Fin cfg0.N) (h : Fin 64) : (iblk m c 8 t (ix2 h 0) : EReal) = V m c main_v65 (ix2 h 0) := by
  blk_ext [iblk, idx t, smp]

/-- The attention array: one sample per index of axis 0. -/
def G9 (i : S32x64x64.Idx) : EReal :=
  attn (fun h d => V m c main_v56 (ix3 (i 0) h d)) (fun h d => V m c main_v57 (ix3 (i 0) h d)) (fun l => V m c main_v58 (ix3 (i 0) 0 l))
    (fun l => V m c main_v59 (ix3 (i 0) 0 l)) (fun k l => V m c main_v61 (ix3 (i 0) k l)) (fun k l => V m c main_v63 (ix3 (i 0) k l))
    (fun h k => V m c main_v28 (ix2 h k)) (fun h => V m c main_v55 (ix2 h 0)) (fun h => V m c main_v65 (ix2 h 0)) (i 1) (i 2)

/-- The window of keys after the step, and -/
def G10 (i : S32x128x512.Idx) : EReal :=
  shift (fun l => V m c main_v58 (ix3 (i 0) 0 l)) (fun k l => V m c main_v61 (ix3 (i 0) k l)) (i 1) (i 2)

/-- that of values. -/
def G11 (i : S32x128x512.Idx) : EReal :=
  shift (fun l => V m c main_v59 (ix3 (i 0) 0 l)) (fun k l => V m c main_v63 (ix3 (i 0) k l)) (i 1) (i 2)

/-- Equal operands give equal attention. -/
theorem attn_congr {q q' g g' : Fin 64 → Fin 64 → EReal} {kn kn' vn vn' : Fin 512 → EReal} {ck ck' cv cv' : Fin 128 → Fin 512 → EReal}
    {bc bc' : Fin 64 → Fin 128 → EReal} {bn bn' sk sk' : Fin 64 → EReal} (hq : ∀ h d, q h d = q' h d) (hg : ∀ h d, g h d = g' h d)
    (hkn : ∀ l, kn l = kn' l) (hvn : ∀ l, vn l = vn' l) (hck : ∀ k l, ck k l = ck' k l) (hcv : ∀ k l, cv k l = cv' k l)
    (hbc : ∀ h k, bc h k = bc' h k) (hbn : ∀ h, bn h = bn' h) (hsk : ∀ h, sk h = sk' h) (h d : Fin 64) :
    attn q g kn vn ck cv bc bn sk h d = attn q' g' kn' vn' ck' cv' bc' bn' sk' h d := by
  obtain rfl : q = q' := funext₂ hq
  obtain rfl : g = g' := funext₂ hg
  obtain rfl : kn = kn' := funext hkn
  obtain rfl : vn = vn' := funext hvn
  obtain rfl : ck = ck' := funext₂ hck
  obtain rfl : cv = cv' := funext₂ hcv
  obtain rfl : bc = bc' := funext₂ hbc
  obtain rfl : bn = bn' := funext hbn
  obtain rfl : sk = sk' := funext hsk
  rfl

/-- Equal operands give equal windows. -/
theorem shift_congr {n n' : Fin 512 → EReal} {x x' : Fin 128 → Fin 512 → EReal} (hn : ∀ l, n l = n' l) (hx : ∀ k l, x k l = x' k l)
    (k : Fin 128) (l : Fin 512) : shift n x k l = shift n' x' k l := by
  obtain rfl : n = n' := funext hn
  obtain rfl : x = x' := funext₂ hx
  rfl

theorem final9 : (dats m 0 c).arrAt 9 cfg0.N = G9 m c := by
  refine (dats m 0 c).arrAt_eq_of_covers 9 _ (by decide +kernel) fun t hf y => ?_
  blk_simp
  rw [after0_9, out0_9_apply]
  have e : (win0_9.blk t).view.emb y = ix3 (smp t (y 0)) (y 1) (y 2) := by blk_ext [idx t, smp]
  refine Eq.trans ?_ (congrArg (G9 m c) e).symm
  exact attn_congr (fun h d => blk_q m c t (y 0) h d) (fun h d => blk_g m c t (y 0) h d) (fun l => blk_kn m c t (y 0) l)
    (fun l => blk_vn m c t (y 0) l) (fun k l => blk_ck m c t (y 0) k l) (fun k l => blk_cv m c t (y 0) k l) (blk_bc m c t) (blk_bn m c t)
    (blk_sk m c t) (y 1) (y 2)

theorem final10 : (dats m 0 c).arrAt 10 cfg0.N = G10 m c := by
  refine (dats m 0 c).arrAt_eq_of_covers 10 _ (by decide +kernel) fun t hf y => ?_
  blk_simp
  rw [after0_10, out0_10_apply]
  have e : (win0_10.blk t).view.emb y = ix3 (smp t (y 0)) (y 1) (y 2) := by blk_ext [idx t, smp]
  refine Eq.trans ?_ (congrArg (G10 m c) e).symm
  exact shift_congr (fun l => blk_kn m c t (y 0) l) (fun k l => blk_ck m c t (y 0) k l) (y 1) (y 2)

theorem final11 : (dats m 0 c).arrAt 11 cfg0.N = G11 m c := by
  refine (dats m 0 c).arrAt_eq_of_covers 11 _ (by decide +kernel) fun t hf y => ?_
  blk_simp
  rw [after0_11, out0_11_apply]
  have e : (win0_11.blk t).view.emb y = ix3 (smp t (y 0)) (y 1) (y 2) := by blk_ext [idx t, smp]
  refine Eq.trans ?_ (congrArg (G11 m c) e).symm
  exact shift_congr (fun l => blk_vn m c t (y 0) l) (fun k l => blk_cv m c t (y 0) k l) (y 1) (y 2)

end Cert.KernelIdeal.Sample
-- ==== Proof.Host.lean ====
module

public import proofs.«01_k».proof.Proof.Sample
public import proofs.«01_k».proof.Proof.Gen.ReferenceIdeal.Read
public import Idealize.ShloMosaic.Lib.StableHlo.ReadAt

@[expose] public section

noncomputable section

namespace Cert.KernelIdeal.Sample

open Cert.KernelIdeal Cert.KernelIdeal.Gen Idealize.ShloMosaic Idealize.ShloMosaic.TcCoe

/-- The row of the table that an index word names: the word read signed, clamped into the table. -/
def row (w : BitVec 32) : Fin 32 := ⟨min w.toInt.toNat 31, by omega⟩

/-- A gather of whole rows of the bias table: the index word of the row, the result's last coordinate within the row. -/
theorem gather_rows {si t : Shape} (d : GatherDims S32x64 si t) (hcoll : d.collapsedSliceDims = [0]) (hob : d.operandBatchingDims = [])
    (hsim : d.startIndexMap = [0]) (x : S32x64.Idx → EReal) (idx : IVec si 32) (y : t.Idx) (z : si.Idx) (h : Fin 64)
    (hz : ∀ i, d.siIdx y i = z) (hh : ∀ k ∈ d.offsetDims, (y k).val = h.val) :
    Host.gather d x idx y = x (ix2 (row (idx z)) h) := by
  have hbN : ∀ a, a ∉ d.operandBatchingDims := fun a => by rw [hob]; exact List.not_mem_nil
  have n1 : (1 : Fin S32x64.rank) ∉ ([0] : List (Fin S32x64.rank)) := by decide
  unfold Host.gather
  refine congrArg x (funext fun a => Fin.ext ?_)
  match a with
  | ⟨0, _⟩ =>
    have hm : (0 : Fin S32x64.rank) ∈ d.startIndexMap := by rw [hsim]; exact List.mem_singleton.2 rfl
    have hc : (0 : Fin S32x64.rank) ∈ d.collapsedSliceDims := by rw [hcoll]; exact List.mem_singleton.2 rfl
    show d.start y idx 0 + d.batchCoord y 0 + d.offCoord y 0 = _
    rw [d.batchCoord_eq_zero _ _ (hbN 0), d.offCoord_eq_zero _ _ (fun h => ((d.mem_sKept 0).1 h).1 hc), Nat.add_zero]
    unfold GatherDims.start
    rw [dif_pos hm, hz, d.slice_collapsed 0 hc]
    rfl
  | ⟨1, _⟩ =>
    have hk : (1 : Fin S32x64.rank) ∈ d.sKept := (d.mem_sKept 1).2 ⟨by rw [hcoll]; exact n1, hbN 1⟩
    show d.start y idx 1 + d.batchCoord y 1 + d.offCoord y 1 = h.val
    rw [d.batchCoord_eq_zero _ _ (hbN 1), Nat.add_zero]
    unfold GatherDims.start GatherDims.offCoord
    rw [dif_neg (by rw [hsim]; exact n1), dif_pos hk, Nat.zero_add]
    exact hh _ (List.getElem_mem _)

/-- The bucket of a distance as both programs compute it: itself below 16, else on a logarithmic scale up to 31; a negative
    bucket would count from the table's end. -/
def bkt (x : BitVec 32) : BitVec 32 :=
  Scalar.select (IntOp.cmpi .slt x 16#32) x (IntOp.minsi (IntOp.addi 16#32 (FloatOps.fptosi (F := Ideal) (φ := .f32) 32
    (FloatOps.mulf (FloatOps.hostDivf (FloatOps.hostUnary .log (FloatOps.hostDivf (FloatOps.sitofp .f32 (IntOp.maxsi x 1#32))
      (FloatOps.ofBits .f32 0x41800000#32))) (FloatOps.ofBits .f32 0x40051592#32)) (FloatOps.ofBits .f32 0x41800000#32)))) 31#32)

/-- The bias of head `h` at a distance. -/
def bias (x : S32x64.Idx → EReal) (h : Fin 64) (w : BitVec 32) : EReal :=
  x (ix2 (row (Scalar.select (IntOp.cmpi .slt (bkt w) 0#32) (IntOp.addi (bkt w) 32#32) (bkt w))) h)

theorem gather_c (x : S32x64.Idx → EReal) (idx : IVec S128x1 32) (k : Fin 128) (h : Fin 64) :
    Host.gather gather_S32x64_S128x1_S128x64_1_0_n_n_0_1_164 x idx (ix2 k h) = x (ix2 (row (idx (ix2 k 0))) h) := by
  refine gather_rows _ rfl rfl rfl x idx _ _ h (fun i => ?_) (fun k hk => ?_)
  · funext b
    match b with
    | ⟨0, _⟩ => rfl
    | ⟨1, _⟩ => exact Subsingleton.elim (α := Fin 1) _ _
  · rw [List.mem_singleton.1 hk]
    rfl

theorem gather_n (x : S32x64.Idx → EReal) (idx : IVec S1x1 32) (h : Fin 64) :
    Host.gather gather_S32x64_S1x1_S1x64_1_0_n_n_0_1_164 x idx (ix2 0 h) = x (ix2 (row (idx (ix2 0 0))) h) := by
  refine gather_rows _ rfl rfl rfl x idx _ _ h (fun i => ?_) (fun k hk => ?_)
  · funext b
    match b with
    | ⟨0, _⟩ => rfl
    | ⟨1, _⟩ => exact Subsingleton.elim (α := Fin 1) _ _
  · rw [List.mem_singleton.1 hk]
    rfl

theorem gather_r (x : S32x64.Idx → EReal) (idx : IVec Cert.ReferenceIdeal.S1x129x1 32) (k : Fin 129) (h : Fin 64) :
    Host.gather Cert.ReferenceIdeal.gather_S32x64_S1x129x1_S1x129x64_2_0_n_n_0_2_164 x idx (ix3 0 k h) = x (ix2 (row (idx (ix3 0 k 0))) h) := by
  refine gather_rows _ rfl rfl rfl x idx _ _ h (fun i => ?_) (fun k hk => ?_)
  · funext b
    match b with
    | ⟨0, _⟩ => rfl
    | ⟨1, _⟩ => rfl
    | ⟨2, _⟩ => exact Subsingleton.elim (α := Fin 1) _ _
  · rw [List.mem_singleton.1 hk]
    rfl

variable (m : (ℓ : Loc nD τ sig) → Buf (Elt Ideal) ℓ) (c : Dev nD)

theorem V_q (b : Fin 32) (h d : Fin 64) : (V m c main_v56 (ix3 b h d) : EReal) = m ((c : Thread nD τ).loc main_arg0) (ix2 b ⟨h.val * 64 + d.val, by omega⟩) := by
  unfold V
  after_reads_at

theorem V_g (b : Fin 32) (h d : Fin 64) : (V m c main_v57 (ix3 b h d) : EReal) = m ((c : Thread nD τ).loc main_arg1) (ix2 b ⟨h.val * 64 + d.val, by omega⟩) := by
  unfold V
  after_reads_at

theorem V_kn (b : Fin 32) (l : Fin 512) : (V m c main_v58 (ix3 b 0 l) : EReal) = m ((c : Thread nD τ).loc main_arg2) (ix2 b l) := by
  unfold V
  after_reads_at

theorem V_vn (b : Fin 32) (l : Fin 512) : (V m c main_v59 (ix3 b 0 l) : EReal) = m ((c : Thread nD τ).loc main_arg3) (ix2 b l) := by
  unfold V
  after_reads_at

theorem V_ck (b : Fin 32) (k : Fin 128) (l : Fin 512) : (V m c main_v61 (ix3 b k l) : EReal) = m ((c : Thread nD τ).loc main_arg4) (ix5 0 b k ⟨l.val / 64, by omega⟩ ⟨l.val % 64, by omega⟩) := by
  unfold V
  after_reads_at

theorem V_cv (b : Fin 32) (k : Fin 128) (l : Fin 512) : (V m c main_v63 (ix3 b k l) : EReal) = m ((c : Thread nD τ).loc main_arg5) (ix5 0 b k ⟨l.val / 64, by omega⟩ ⟨l.val % 64, by omega⟩) := by
  unfold V
  after_reads_at

theorem V_sk (h : Fin 64)  : (V m c main_v65 (ix2 h 0) : EReal) = m ((c : Thread nD τ).loc main_arg7) (ix2 0 h) := by
  unfold V
  after_reads_at

theorem V_bc (h : Fin 64) (k : Fin 128) : (V m c main_v28 (ix2 h k) : EReal)
    = bias (m ((c : Thread nD τ).loc main_arg6)) h (IntOp.subi 128#32 (BitVec.ofNat 32 k.val)) := by
  unfold V
  after_reads_at
  exact gather_c _ _ k h

theorem V_bn (h : Fin 64) : (V m c main_v55 (ix2 h 0) : EReal) = bias (m ((c : Thread nD τ).loc main_arg6)) h 0#32 := by
  unfold V
  after_reads_at
  exact gather_n _ _ h

end Cert.KernelIdeal.Sample
-- ==== Proof.Softmax.lean ====
module

public import proofs.«01_k».proof.Proof.Sample

@[expose] public section

noncomputable section

namespace Cert.KernelIdeal.Sample

open Idealize.ShloMosaic

/-! # The softmax in base two is the softmax

The kernel scales its scores by `1 / log 2` and raises two to them, and divides once, after the weighted sum; the reference
raises `e` to the plain scores and divides every weight. Over finite scores both are the same extended real, whatever the values. -/

/-- The scale of the scores. -/
abbrev L : ℝ := (Real.log 2)⁻¹

theorem L_pos : 0 < L := inv_pos.mpr (Real.log_pos (by norm_num))

/-- Two to a scaled exponent is `e` to the exponent. -/
theorem exp2_scaled (x : ℝ) : Ideal.exp2 ((L * x : ℝ) : EReal) = ((Real.exp x : ℝ) : EReal) := by
  have h : Real.log 2 ≠ 0 := (Real.log_pos (by norm_num)).ne'
  rw [Ideal.exp2_coe]
  refine congrArg _ ((Real.rpow_def_of_pos (by norm_num) _).trans (congrArg Real.exp ?_))
  field_simp [L]

/-- A finite factor that is not negative goes into a sum. -/
theorem sum_mul_real {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (EReal.coe_nonneg.mpr ha) (EReal.coe_ne_top a) _ _

/-- A sum of finite reals is finite. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

theorem ofBits_ninf : Ideal.ofBits .f32 0xFF800000#32 = ⊥ := by
  simp [Ideal.ofBits, Ideal.ieee]

theorem ofBits_eighth : Ideal.ofBits .f32 0x3E000000#32 = (((1 / 8 : ℝ) : ℝ) : EReal) := by
  simp [Ideal.ofBits, Ideal.ieee]
  rw [← EReal.coe_mul]
  norm_num

/-- The largest score is finite when all are. -/
theorem mx_real (s : Fin 128 → ℝ) (n z : ℝ) : ∃ M : ℝ, mx (fun k => (s k : EReal)) n z = M := by
  have h : mx (fun k => (s k : EReal)) n z < ⊤ := by
    unfold mx
    rw [max_lt_iff, max_lt_iff, Finset.fold_max_lt, ofBits_ninf]
    exact ⟨⟨⟨bot_lt_top, fun k _ => EReal.coe_lt_top _⟩, EReal.coe_lt_top _⟩, EReal.coe_lt_top _⟩
  have h' : ⊥ < mx (fun k => (s k : EReal)) n z := lt_of_lt_of_le (EReal.bot_lt_coe z) (le_max_right _ _)
  exact ⟨_, (EReal.coe_toReal h.ne h'.ne').symm⟩

/-- Scaling by a positive real commutes with the larger of two. -/
theorem mul_max (x y : EReal) : (L : EReal) * max x y = max ((L : EReal) * x) ((L : EReal) * y) :=
  (show Monotone fun x : EReal => (L : EReal) * x from fun _ _ h => mul_le_mul_of_nonneg_left h (EReal.coe_nonneg.mpr L_pos.le)).map_max

/-- The largest scaled score is the largest score, scaled. -/
theorem mx_scaled (s : Fin 128 → ℝ) (n z : ℝ) :
    mx (fun k => ((L * s k : ℝ) : EReal)) ((L * n : ℝ) : EReal) ((L * z : ℝ) : EReal) = (L : EReal) * mx (fun k => (s k : EReal)) n z := by
  unfold mx
  rw [mul_max, mul_max, ofBits_ninf, ← Finset.fold_hom mul_max, EReal.coe_mul_bot_of_pos L_pos]
  simp only [EReal.coe_mul]

/-- The largest of 129 scores, the last one taken apart. -/
theorem fold_last (s : Fin 129 → EReal) (b : EReal) :
    Finset.fold max b s Finset.univ = max (Finset.fold max b (fun k : Fin 128 => s k.castSucc) Finset.univ) (s (Fin.last 128)) := by
  rw [Fin.univ_castSuccEmb, Finset.fold_cons, Finset.fold_map, max_comm]
  rfl

/-- The plain form: every weight divided, then the weighted sum. -/
def psum (s : Fin 129 → EReal) (z : EReal) (v : Fin 129 → EReal) : EReal :=
  ∑ k, Ideal.div (Ideal.exp (s k - max (Finset.fold max (Ideal.ofBits .f32 0xFF800000#32) s Finset.univ) z))
    ((∑ k, Ideal.exp (s k - max (Finset.fold max (Ideal.ofBits .f32 0xFF800000#32) s Finset.univ) z))
      + Ideal.exp (z - max (Finset.fold max (Ideal.ofBits .f32 0xFF800000#32) s Finset.univ) z)) * v k

/-- Over finite scores the base-two form over scaled scores is the plain form. -/
theorem wsum_eq (s : Fin 128 → ℝ) (n z : ℝ) (cv : Fin 128 → EReal) (vn : EReal) (S V : Fin 129 → EReal)
    (hS : ∀ k : Fin 128, S k.castSucc = (s k : EReal)) (hn : S (Fin.last 128) = (n : EReal))
    (hV : ∀ k : Fin 128, V k.castSucc = cv k) (hvn : V (Fin.last 128) = vn) :
    wsum (fun k => ((L * s k : ℝ) : EReal)) ((L * n : ℝ) : EReal) ((L * z : ℝ) : EReal) cv vn = psum S (z : EReal) V := by
  obtain ⟨M, hM⟩ := mx_real s n z
  have hm : max (Finset.fold max (Ideal.ofBits .f32 0xFF800000#32) S Finset.univ) (z : EReal) = (M : EReal) := by
    rw [fold_last, hn, ← hM]
    simp only [hS]
    rfl
  have hl : mx (fun k => ((L * s k : ℝ) : EReal)) ((L * n : ℝ) : EReal) ((L * z : ℝ) : EReal) = ((L * M : ℝ) : EReal) := by
    rw [mx_scaled, hM, EReal.coe_mul]
  have he : ∀ x : ℝ, Ideal.exp2 (((L * x : ℝ) : EReal) - ((L * M : ℝ) : EReal)) = ((Real.exp (x - M) : ℝ) : EReal) := fun x => by
    rw [← EReal.coe_sub, ← mul_sub, exp2_scaled]
  have hp : ∀ x : ℝ, Ideal.exp ((x : EReal) - (M : EReal)) = ((Real.exp (x - M) : ℝ) : EReal) := fun x => by
    rw [← EReal.coe_sub, Ideal.exp_coe]
  unfold wsum psum
  rw [hm, hl]
  have hs : ∀ f : Fin 129 → EReal, ∑ k, f k = (∑ k : Fin 128, f k.castSucc) + f (Fin.last 128) := fun f => Fin.sum_univ_castSucc f
  simp only [hs, hS, hn, hV, hvn, he, hp]
  have hden : (∑ k : Fin 128, ((Real.exp (s k - M) : ℝ) : EReal)) + ((Real.exp (n - M) : ℝ) : EReal) + ((Real.exp (z - M) : ℝ) : EReal)
      = (((∑ k : Fin 128, Real.exp (s k - M)) + Real.exp (n - M) + Real.exp (z - M) : ℝ) : EReal) := by
    rw [sum_coe, EReal.coe_add, EReal.coe_add]
  rw [hden]
  have hD : 0 < (∑ k : Fin 128, Real.exp (s k - M)) + Real.exp (n - M) + Real.exp (z - M) := by
    have h1 : 0 ≤ ∑ k : Fin 128, Real.exp (s k - M) := Finset.sum_nonneg fun k _ => (Real.exp_pos _).le
    have h2 := Real.exp_pos (n - M)
    have h3 := Real.exp_pos (z - M)
    linarith
  generalize (∑ k : Fin 128, Real.exp (s k - M)) + Real.exp (n - M) + Real.exp (z - M) = D at hD
  have hD' : (0 : ℝ) ≤ 1 / D := (one_div_pos.mpr hD).le
  simp only [Ideal.div_coe hD.ne']
  rw [EReal.right_distrib_of_nonneg_of_ne_top (EReal.coe_nonneg.mpr hD') (EReal.coe_ne_top _), sum_mul_real _ _ _ hD']
  simp only [mul_right_comm]

/-! # The scores -/

/-- The lanes outside a head's own key head add nothing. -/
theorem sum_lanes (h : Fin 64) (f : Fin 512 → EReal) :
    (∑ c : Fin 512, if h.val / 8 = c.val / 64 then f c else 0) = ∑ d : Fin 64, f (lane h d) := by
  rw [← Finset.sum_filter]
  symm
  refine Finset.sum_nbij' (lane h) (fun c => ⟨c.val % 64, Nat.mod_lt _ (by decide)⟩) ?_ ?_ ?_ ?_ ?_
  · intro d _
    simp only [Finset.mem_filter, Finset.mem_univ, true_and, lane]
    omega
  · intro c _
    exact Finset.mem_univ _
  · intro d _
    refine Fin.ext ?_
    simp only [lane]
    omega
  · intro c hc
    simp only [Finset.mem_filter, Finset.mem_univ, true_and] at hc
    refine Fin.ext ?_
    simp only [lane]
    omega
  · intro d _
    rfl

/-- A masked, scaled score over finite operands: `1 / log 2` times the scaled product of query and key plus the bias. -/
theorem score_eq (q : Fin 64 → Fin 64 → EReal) (x : Fin 512 → EReal) (b : EReal) (h : Fin 64) (Q K : Fin 64 → ℝ) (B : ℝ)
    (hq : ∀ d, q h d = (Q d : EReal)) (hk : ∀ d, x (lane h d) = (K d : EReal)) (hb : b = (B : EReal)) :
    (∑ c : Fin 512, qx q h c * x c) + b * lg = ((L * ((∑ d, K d * Q d) * (1 / 8) + B) : ℝ) : EReal) := by
  have e : ∀ c : Fin 512, qx q h c * x c = if h.val / 8 = c.val / 64 then q h ⟨c.val % 64, Nat.mod_lt _ (by decide)⟩ * qs * x c else 0 := fun c => by
    unfold qx
    split_ifs with hc
    · rfl
    · exact zero_mul _
  have hd : ∀ d : Fin 64, (⟨(lane h d).val % 64, Nat.mod_lt _ (by decide)⟩ : Fin 64) = d := fun d => Fin.ext (by simp only [lane]; omega)
  simp only [e]
  rw [sum_lanes h (fun c => q h ⟨c.val % 64, Nat.mod_lt _ (by decide)⟩ * qs * x c)]
  simp only [hd, hq, hk, hb, qs, lg, ← EReal.coe_mul]
  rw [sum_coe, ← EReal.coe_add]
  congr 1
  have h2 : Real.log 256 = 8 * Real.log 2 := by
    rw [show (256 : ℝ) = 2 ^ 8 by norm_num, Real.log_pow]
    norm_num
  have h3 : Real.log 2 ≠ 0 := (Real.log_pos (by norm_num)).ne'
  have h4 : ∀ d, Q d * (Real.log 256)⁻¹ * K d = (K d * Q d) * ((1 / 8) * L) := fun d => by
    rw [h2]
    field_simp
  simp only [h4]
  rw [← Finset.sum_mul]
  ring

/-- The reference's score over finite operands. -/
theorem pscore_eq (Q K : Fin 64 → EReal) (b : EReal) (Q' K' : Fin 64 → ℝ) (B : ℝ)
    (hq : ∀ d, Q d = (Q' d : EReal)) (hk : ∀ d, K d = (K' d : EReal)) (hb : b = (B : EReal)) :
    (∑ d, K d * Q d) * Ideal.ofBits .f32 0x3E000000#32 + b = (((∑ d, K' d * Q' d) * (1 / 8) + B : ℝ) : EReal) := by
  simp only [hq, hk, hb, ofBits_eighth, ← EReal.coe_mul]
  rw [sum_coe, ← EReal.coe_mul, ← EReal.coe_add]

end Cert.KernelIdeal.Sample
-- ==== Proof.Plain.lean ====
module

public import proofs.«01_k».proof.Proof.Host
public import proofs.«01_k».proof.Proof.Softmax

@[expose] public section

noncomputable section

namespace Cert.ReferenceIdeal.Read

open Cert.ReferenceIdeal Idealize.ShloMosaic Idealize.ShloMosaic.TcCoe
open Cert.KernelIdeal.Sample (bkt bias row psum gather_r)

/-! # The reference's values, read index by index -/

/-- The distance of the new token from position `k`. -/
def dist (k : Fin 129) : BitVec 32 := val_main_v28 (F := Ideal) (ix2 0 k)

theorem dist_apply (k : Fin 129) : dist k = IntOp.maxsi
      (IntOp.subi (IntOp.addi 16384#32 0#32)
        (if h : k.val < 128 then IntOp.addi 16256#32 (BitVec.ofNat 32 k.val)
        else IntOp.addi 16384#32 (BitVec.ofNat 32 (k.val - 128)))) 0#32 := by
  unfold dist
  pointwise [val_main_v28, val_main_v21, val_main_v20, val_main_v19, val_main_v18, val_main_v17, val_main_v16, val_main_v15,
    val_main_v14, val_main_v13, val_main_v12, val_main_v11, val_main_v10, val_main_v9, val_main_v8, val_main_v27]
  rfl

/-- It is `128 - k` for the window's positions, -/
theorem dist_win : ∀ k : Fin 128, dist k.castSucc = IntOp.subi 128#32 (BitVec.ofNat 32 k.val) := by
  simp only [dist_apply]
  decide +kernel

/-- and zero for its own. -/
theorem dist_new : dist (Fin.last 128) = 0#32 := by
  simp only [dist_apply]
  decide +kernel

/-- Every position is inside the window. -/
theorem in_window : ∀ k : Fin 129, val_main_v26 (F := Ideal) (ix2 0 k) = 1#1 := by
  have e : ∀ k : Fin 129, val_main_v26 (F := Ideal) (ix2 0 k) = IntOp.andi
      (IntOp.cmpi .sge (IntOp.subi (IntOp.addi 16384#32 0#32) (if h : k.val < 128 then IntOp.addi 16256#32 (BitVec.ofNat 32 k.val)
        else IntOp.addi 16384#32 (BitVec.ofNat 32 (k.val - 128)))) 0#32)
      (IntOp.cmpi .sle (IntOp.subi (IntOp.addi 16384#32 0#32) (if h : k.val < 128 then IntOp.addi 16256#32 (BitVec.ofNat 32 k.val)
        else IntOp.addi 16384#32 (BitVec.ofNat 32 (k.val - 128)))) 128#32) := fun k => by
    pointwise [val_main_v26, val_main_v25, val_main_v23, val_main_v22, val_main_v24, val_main_v21, val_main_v20, val_main_v19,
      val_main_v18, val_main_v17, val_main_v16, val_main_v15, val_main_v14, val_main_v13, val_main_v12, val_main_v11, val_main_v10,
      val_main_v9, val_main_v8]
    rfl
  simp only [e]
  decide +kernel

variable (x0 x1 : (⟨S32x4096, .f32⟩ : BufTy).Contents (Elt Ideal)) (x2 x3 : (⟨S32x512, .f32⟩ : BufTy).Contents (Elt Ideal))
  (x4 x5 : (⟨S1x32x128x8x64, .f32⟩ : BufTy).Contents (Elt Ideal)) (x6 : (⟨S32x64, .f32⟩ : BufTy).Contents (Elt Ideal))
  (x7 : (⟨S1x64, .f32⟩ : BufTy).Contents (Elt Ideal))

theorem bias_apply (k : Fin 129) (h : Fin 64) : val_main_v53 (F := Ideal) x6 (ix3 0 k h) = bias x6 h (dist k) := by
  unfold val_main_v53
  rw [gather_r]
  unfold bias
  have e : val_main_v52 (F := Ideal) (ix3 0 k 0) = Scalar.select (IntOp.cmpi .slt (bkt (dist k)) 0#32) (IntOp.addi (bkt (dist k)) 32#32) (bkt (dist k)) := by
    pointwise [val_main_v52, val_main_v51, val_main_v50, val_main_v49, val_main_v48, val_main_v47]
    rfl
  rw [e]

/-- The keys (or values) of the window and the new one after them. -/
def cat (n : S32x512.Idx → EReal) (x : S1x32x128x8x64.Idx → EReal) (b : Fin 32) (k : Fin 129) (g : Fin 8) (d : Fin 64) : EReal :=
  if h : k.val < 128 then x (ix5 0 b ⟨k.val, h⟩ g d) else n (ix2 b ⟨g.val * 64 + d.val, by omega⟩)

theorem keys_apply (b : Fin 32) (k : Fin 129) (g : Fin 8) (d : Fin 64) : val_main_v6 (F := Ideal) x2 x4 (ix4 b k g d) = cat x2 x4 b k g d := by
  pointwise [val_main_v6, val_main_v1, val_main_v2, val_main_v3, val_main_v4]
  rfl

theorem values_apply (b : Fin 32) (k : Fin 129) (g : Fin 8) (d : Fin 64) : val_main_v7 (F := Ideal) x3 x5 (ix4 b k g d) = cat x3 x5 b k g d := by
  pointwise [val_main_v7, val_main_v1, val_main_v2, val_main_v3, val_main_v4]
  rfl

/-- The score of head `8 g + r` at position `k`. -/
def score (b : Fin 32) (g r : Fin 8) (k : Fin 129) : EReal :=
  (∑ d : Fin 64, cat x2 x4 b k g d * x0 (ix2 b ⟨g.val * 512 + r.val * 64 + d.val, by omega⟩)) * Ideal.ofBits .f32 0x3E000000#32
    + bias x6 ⟨g.val * 8 + r.val, by omega⟩ (dist k)

theorem score_apply (b : Fin 32) (g r : Fin 8) (k : Fin 129) :
    val_main_v64 (F := Ideal) x0 x2 x4 x6 (ix5 b g r 0 k) = score x0 x2 x4 x6 b g r k := by
  pointwise [val_main_v64, val_main_call1_v1, val_main_call1_v2, val_main_v63, val_main_v62, val_main_v61, val_main_v55, val_main_v54]
  rw [in_window, bias_apply]
  pointwise [val_main_v60, val_main_v58, val_main_v57, val_main_v56, val_main_v59, val_main_cst_13, val_main_v0]
  simp only [keys_apply]
  rfl

theorem zero_init : val_main_cst_16 (F := Ideal) (Shape.Idx.first Gen.h_S_) = (0 : EReal) := Ideal.ofBits_zero_f32

/-- The reference's attention. -/
theorem att_apply (b : Fin 32) (h d : Fin 64) : val_main_v92 (F := Ideal) x0 x1 x2 x3 x4 x5 x6 x7 (ix3 b h d)
    = psum (score x0 x2 x4 x6 b ⟨h.val / 8, by omega⟩ ⟨h.val % 8, by omega⟩) (x7 (ix2 0 h))
        (fun k => cat x3 x5 b k ⟨h.val / 8, by omega⟩ d) * x1 (ix2 b ⟨h.val * 64 + d.val, by omega⟩) := by
  have em : ∀ g r : Fin 8, val_main_v71 (F := Ideal) x0 x2 x4 x6 x7 (ix5 b g r 0 0)
      = max (Finset.fold max (Ideal.ofBits .f32 0xFF800000#32) (score x0 x2 x4 x6 b g r) Finset.univ) (x7 (ix2 0 ⟨g.val * 8 + r.val, by omega⟩)) := fun g r => by
    pointwise [val_main_v71, val_main_v70, val_main_v69, val_main_v68, val_main_v67, val_main_v66, val_main_v5]
    simp only [score_apply]
    rfl
  have ee : ∀ g r : Fin 8, ∀ k : Fin 129, val_main_v74 (F := Ideal) x0 x2 x4 x6 x7 (ix5 b g r 0 k) = Ideal.exp (score x0 x2 x4 x6 b g r k
      - max (Finset.fold max (Ideal.ofBits .f32 0xFF800000#32) (score x0 x2 x4 x6 b g r) Finset.univ) (x7 (ix2 0 ⟨g.val * 8 + r.val, by omega⟩))) := fun g r k => by
    pointwise [val_main_v74, val_main_v73, val_main_v72]
    rw [em, score_apply]
  have es : ∀ g r : Fin 8, val_main_v80 (F := Ideal) x0 x2 x4 x6 x7 (ix5 b g r 0 0) = Ideal.exp (x7 (ix2 0 ⟨g.val * 8 + r.val, by omega⟩)
      - max (Finset.fold max (Ideal.ofBits .f32 0xFF800000#32) (score x0 x2 x4 x6 b g r) Finset.univ) (x7 (ix2 0 ⟨g.val * 8 + r.val, by omega⟩))) := fun g r => by
    pointwise [val_main_v80, val_main_v79, val_main_v78, val_main_v77, val_main_v66, val_main_v5]
    rw [em]
  have eh : (⟨h.val / 8 * 8 + h.val % 8, by omega⟩ : Fin 64) = h := Fin.ext (by show h.val / 8 * 8 + h.val % 8 = h.val; omega)
  pointwise [val_main_v92, val_main_v91, val_main_v90, val_main_v89, val_main_v86, val_main_v85, val_main_v84, val_main_v83,
    val_main_v82, val_main_v81, val_main_v65, val_main_v76, val_main_v75]
  simp only [ee, es, zero_init, zero_add, values_apply, eh]
  rfl

/-- The window of keys after the step, at the lane `l` of the flattened heads. -/
theorem newKeys_apply (b : Fin 32) (k : Fin 128) (l : Fin 512) : val_main_v93 (F := Ideal) x2 x4 (ix3 b k l)
    = cat x2 x4 b ⟨k.val + 1, by omega⟩ ⟨l.val / 64, by omega⟩ ⟨l.val % 64, by omega⟩ := by
  pointwise [val_main_v93, val_main_v87]
  rw [keys_apply]
  exact congrArg (fun j => cat x2 x4 b j _ _) (Fin.ext (Nat.add_comm 1 _))

theorem newValues_apply (b : Fin 32) (k : Fin 128) (l : Fin 512) : val_main_v94 (F := Ideal) x3 x5 (ix3 b k l)
    = cat x3 x5 b ⟨k.val + 1, by omega⟩ ⟨l.val / 64, by omega⟩ ⟨l.val % 64, by omega⟩ := by
  pointwise [val_main_v94, val_main_v88]
  rw [values_apply]
  exact congrArg (fun j => cat x3 x5 b j _ _) (Fin.ext (Nat.add_comm 1 _))

end Cert.ReferenceIdeal.Read
-- ==== Proof.Agree.lean ====
module

public import proofs.«01_k».proof.Defs
public import proofs.«01_k».proof.Proof.Arrays
public import proofs.«01_k».proof.Proof.Plain
public import proofs.«01_k».proof.Proof.Gen.Pre_finite_scores
public import Idealize.ShloMosaic.Lib.ReduceAll

@[expose] public section

noncomputable section

namespace Cert.KernelIdeal.Sample

open Cert.KernelIdeal Cert.KernelIdeal.Gen Idealize.ShloMosaic Idealize.ShloMosaic.TcCoe
open Cert.ReferenceIdeal.Read (cat score dist dist_win dist_new val_main_v92 val_main_v93 val_main_v94 newKeys_apply newValues_apply)

/-! # The precondition, read -/

/-- A value whose magnitude is below infinity is a real. -/
theorem real_of_olt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine ⟨(x : EReal).toReal, (EReal.coe_toReal hlt.1.ne fun hb => ?_).symm⟩
  have h2 := hlt.2
  rw [hb] at h2
  exact absurd h2 (by simp)

/-- Under the precondition the queries, the keys, the biases and the sinks are real. -/
theorem reals (m : (ℓ : Loc nD τ sig) → Buf (Elt Ideal) ℓ) (h : Cert.Pre_KernelIdeal_finite_scores m) (c : Dev nD) :
    (∀ i, ∃ r : ℝ, (m ((c : Thread nD τ).loc main_arg0) i : EReal) = (r : EReal)) ∧ (∀ i, ∃ r : ℝ, (m ((c : Thread nD τ).loc main_arg2) i : EReal) = (r : EReal))
    ∧ (∀ i, ∃ r : ℝ, (m ((c : Thread nD τ).loc main_arg4) i : EReal) = (r : EReal)) ∧ (∀ i, ∃ r : ℝ, (m ((c : Thread nD τ).loc main_arg6) i : EReal) = (r : EReal))
    ∧ (∀ i, ∃ r : ℝ, (m ((c : Thread nD τ).loc main_arg7) i : EReal) = (r : EReal)) := by
  have e := congrFun (h c) ix0
  unfold Cert.Pre_finite_scores.fn Cert.Pre_finite_scores.fn_part1 at e
  obtain ⟨e, e7⟩ := IntOp.andi_eq_one.1 e
  obtain ⟨e, e6⟩ := IntOp.andi_eq_one.1 e
  obtain ⟨e, e4⟩ := IntOp.andi_eq_one.1 e
  obtain ⟨e0, e2⟩ := IntOp.andi_eq_one.1 e
  haveI : Subsingleton (⟨0, ![]⟩ : Shape).Idx := ⟨fun a b => funext fun i => i.elim0⟩
  exact ⟨fun i => real_of_olt _ (Host.reduce_andi_all _ _ _ _ _ e0 i), fun i => real_of_olt _ (Host.reduce_andi_all _ _ _ _ _ e2 i),
    fun i => real_of_olt _ (Host.reduce_andi_all _ _ _ _ _ e4 i), fun i => real_of_olt _ (Host.reduce_andi_all _ _ _ _ _ e6 i),
    fun i => real_of_olt _ (Host.reduce_andi_all _ _ _ _ _ e7 i)⟩

/-! # The two programs agree -/

/-- The kernel's attention of one sample over its arguments is the reference's. -/
theorem attn_eq (x0 x1 : S32x4096.Idx → EReal) (x2 x3 : S32x512.Idx → EReal) (x4 x5 : S1x32x128x8x64.Idx → EReal) (x6 : S32x64.Idx → EReal)
    (x7 : S1x64.Idx → EReal) (f0 : ∀ i, ∃ r : ℝ, x0 i = r) (f2 : ∀ i, ∃ r : ℝ, x2 i = r) (f4 : ∀ i, ∃ r : ℝ, x4 i = r)
    (f6 : ∀ i, ∃ r : ℝ, x6 i = r) (f7 : ∀ i, ∃ r : ℝ, x7 i = r) (b : Fin 32) (h d : Fin 64) :
    attn (fun h d => x0 (ix2 b ⟨h.val * 64 + d.val, by omega⟩)) (fun h d => x1 (ix2 b ⟨h.val * 64 + d.val, by omega⟩))
      (fun l => x2 (ix2 b l)) (fun l => x3 (ix2 b l)) (fun k l => x4 (ix5 0 b k ⟨l.val / 64, by omega⟩ ⟨l.val % 64, by omega⟩))
      (fun k l => x5 (ix5 0 b k ⟨l.val / 64, by omega⟩ ⟨l.val % 64, by omega⟩))
      (fun h k => bias x6 h (IntOp.subi 128#32 (BitVec.ofNat 32 k.val))) (fun h => bias x6 h 0#32) (fun h => x7 (ix2 0 h)) h d
    = psum (score x0 x2 x4 x6 b ⟨h.val / 8, by omega⟩ ⟨h.val % 8, by omega⟩) (x7 (ix2 0 h))
        (fun k => cat x3 x5 b k ⟨h.val / 8, by omega⟩ d) * x1 (ix2 b ⟨h.val * 64 + d.val, by omega⟩) := by
  choose r0 h0 using f0
  choose r2 h2 using f2
  choose r4 h4 using f4
  choose r6 h6 using f6
  choose r7 h7 using f7
  have lane_div : ∀ d : Fin 64, (lane h d).val / 64 = h.val / 8 := fun d => by simp only [lane]; omega
  have lane_mod : ∀ d : Fin 64, (lane h d).val % 64 = d.val := fun d => by simp only [lane]; omega
  have five : ∀ (x : S1x32x128x8x64.Idx → EReal) (k : Fin 128) (d : Fin 64),
      x (ix5 0 b k ⟨(lane h d).val / 64, by omega⟩ ⟨(lane h d).val % 64, by omega⟩) = x (ix5 0 b k ⟨h.val / 8, by omega⟩ d) := fun x k d => by
    congr 2 <;> exact Fin.ext (by first | exact lane_div d | exact lane_mod d)
  have two : ∀ (x : S32x512.Idx → EReal) (d : Fin 64), x (ix2 b (lane h d)) = x (ix2 b ⟨h.val / 8 * 64 + d.val, by omega⟩) := fun x d =>
    congrArg (fun l => x (ix2 b l)) (Fin.ext (by simp only [lane]; omega))
  have hb : ∀ w, bias x6 h w = ((r6 (ix2 (row (Scalar.select (IntOp.cmpi .slt (bkt w) 0#32) (IntOp.addi (bkt w) 32#32) (bkt w))) h) : ℝ) : EReal) :=
    fun w => h6 _
  have hq : ∀ d : Fin 64, x0 (ix2 b ⟨h.val / 8 * 512 + h.val % 8 * 64 + d.val, by omega⟩) = x0 (ix2 b ⟨h.val * 64 + d.val, by omega⟩) := fun d =>
    congrArg (fun l => x0 (ix2 b l)) (Fin.ext (by show h.val / 8 * 512 + h.val % 8 * 64 + d.val = h.val * 64 + d.val; omega))
  have hh : (⟨h.val / 8 * 8 + h.val % 8, by omega⟩ : Fin 64) = h := Fin.ext (by show h.val / 8 * 8 + h.val % 8 = h.val; omega)
  have win : ∀ (n : S32x512.Idx → EReal) (x : S1x32x128x8x64.Idx → EReal) (k : Fin 128) (d : Fin 64),
      cat n x b k.castSucc ⟨h.val / 8, by omega⟩ d = x (ix5 0 b k ⟨h.val / 8, by omega⟩ d) := fun n x k d => dif_pos k.isLt
  have new : ∀ (n : S32x512.Idx → EReal) (x : S1x32x128x8x64.Idx → EReal) (d : Fin 64),
      cat n x b (Fin.last 128) ⟨h.val / 8, by omega⟩ d = n (ix2 b ⟨h.val / 8 * 64 + d.val, by omega⟩) := fun n x d =>
    dif_neg (lt_irrefl 128)
  unfold attn
  congr 1
  have es := fun k : Fin 128 => score_eq (fun h d => x0 (ix2 b ⟨h.val * 64 + d.val, by omega⟩))
    (fun l => x4 (ix5 0 b k ⟨l.val / 64, by omega⟩ ⟨l.val % 64, by omega⟩)) (bias x6 h (IntOp.subi 128#32 (BitVec.ofNat 32 k.val))) h
    (fun d => r0 (ix2 b ⟨h.val * 64 + d.val, by omega⟩)) (fun d => r4 (ix5 0 b k ⟨h.val / 8, by omega⟩ d)) _ (fun d => h0 _)
    (fun d => (five x4 k d).trans (h4 _)) (hb _)
  have en := score_eq (fun h d => x0 (ix2 b ⟨h.val * 64 + d.val, by omega⟩)) (fun l => x2 (ix2 b l)) (bias x6 h 0#32) h
    (fun d => r0 (ix2 b ⟨h.val * 64 + d.val, by omega⟩)) (fun d => r2 (ix2 b ⟨h.val / 8 * 64 + d.val, by omega⟩)) _ (fun d => h0 _)
    (fun d => (two x2 d).trans (h2 _)) (hb _)
  have ez : x7 (ix2 0 h) * lg = ((L * r7 (ix2 0 h) : ℝ) : EReal) := by
    rw [h7, lg, ← EReal.coe_mul, mul_comm]
  have e1 : sc (fun h d => x0 (ix2 b ⟨h.val * 64 + d.val, by omega⟩)) (fun k l => x4 (ix5 0 b k ⟨l.val / 64, by omega⟩ ⟨l.val % 64, by omega⟩))
      (fun h k => bias x6 h (IntOp.subi 128#32 (BitVec.ofNat 32 k.val))) h = _ := funext es
  have e2 : sn (fun h d => x0 (ix2 b ⟨h.val * 64 + d.val, by omega⟩)) (fun l => x2 (ix2 b l)) (fun h => bias x6 h 0#32) h = _ := en
  rw [e1, e2, ez, h7]
  refine wsum_eq _ _ _ _ _ _ _ (fun k => ?_) ?_ (fun k => (win x3 x5 k d).trans (five x5 k d).symm) ((new x3 x5 d).trans (two x3 d).symm)
  · unfold score
    rw [dist_win, hh]
    exact pscore_eq _ _ _ _ _ _ (fun d => (hq d).trans (h0 _)) (fun d => (win x2 x4 k d).trans (h4 _)) (hb _)
  · unfold score
    rw [dist_new, hh]
    exact pscore_eq _ _ _ _ _ _ (fun d => (hq d).trans (h0 _)) (fun d => (new x2 x4 d).trans (h2 _)) (hb _)

/-- The window after the step over the arguments is the reference's. -/
theorem shift_eq (n : S32x512.Idx → EReal) (x : S1x32x128x8x64.Idx → EReal) (b : Fin 32) (k : Fin 128) (l : Fin 512) :
    shift (fun l => n (ix2 b l)) (fun k l => x (ix5 0 b k ⟨l.val / 64, by omega⟩ ⟨l.val % 64, by omega⟩)) k l
    = cat n x b ⟨k.val + 1, by omega⟩ ⟨l.val / 64, by omega⟩ ⟨l.val % 64, by omega⟩ := by
  unfold shift cat
  split_ifs with hk
  · rfl
  · exact congrArg (fun l => n (ix2 b l)) (Fin.ext (by show l.val = l.val / 64 * 64 + l.val % 64; omega))

variable (m : (ℓ : Loc nD τ sig) → Buf (Elt Ideal) ℓ) (c : Dev nD)

/-- The attention the kernel leaves is the reference's, -/
theorem agree9 (hp : Cert.Pre_KernelIdeal_finite_scores m) : (dats m 0 c).arrAt 9 cfg0.N
    = val_main_v92 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  obtain ⟨f0, f2, f4, f6, f7⟩ := reals m hp c
  rw [final9]
  funext i
  obtain ⟨b, h, d, rfl⟩ : ∃ (b : Fin 32) (h d : Fin 64), i = ix3 b h d := ⟨i 0, i 1, i 2, eq_ix3 i⟩
  refine Eq.trans ?_ (Cert.ReferenceIdeal.Read.att_apply _ _ _ _ _ _ _ _ b h d).symm
  refine Eq.trans ?_ (attn_eq _ _ _ _ _ _ _ _ f0 f2 f4 f6 f7 b h d)
  exact attn_congr (fun h d => V_q m c b h d) (fun h d => V_g m c b h d) (fun l => V_kn m c b l) (fun l => V_vn m c b l)
    (fun k l => V_ck m c b k l) (fun k l => V_cv m c b k l) (V_bc m c) (V_bn m c) (V_sk m c) h d

/-- the window of keys is, -/
theorem agree10 : (dats m 0 c).arrAt 10 cfg0.N
    = val_main_v93 (F := Ideal) (m ((c : Thread nD τ).loc main_arg2)) (m ((c : Thread nD τ).loc main_arg4)) := by
  rw [final10]
  funext i
  obtain ⟨b, k, l, rfl⟩ : ∃ (b : Fin 32) (k : Fin 128) (l : Fin 512), i = ix3 b k l := ⟨i 0, i 1, i 2, eq_ix3 i⟩
  refine Eq.trans ?_ (newKeys_apply _ _ b k l).symm
  exact (shift_congr (fun l => V_kn m c b l) (fun k l => V_ck m c b k l) k l).trans (shift_eq _ _ b k l)

/-- and that of values. -/
theorem agree11 : (dats m 0 c).arrAt 11 cfg0.N
    = val_main_v94 (F := Ideal) (m ((c : Thread nD τ).loc main_arg3)) (m ((c : Thread nD τ).loc main_arg5)) := by
  rw [final11]
  funext i
  obtain ⟨b, k, l, rfl⟩ : ∃ (b : Fin 32) (k : Fin 128) (l : Fin 512), i = ix3 b k l := ⟨i 0, i 1, i 2, eq_ix3 i⟩
  refine Eq.trans ?_ (newValues_apply _ _ b k l).symm
  exact (shift_congr (fun l => V_vn m c b l) (fun k l => V_cv m c b k l) k l).trans (shift_eq _ _ b k l)

/-- The two windows again, over arguments that are equal to the kernel's. -/
theorem agree10_of (x2 : (⟨S32x512, .f32⟩ : BufTy).Contents (Elt Ideal)) (x4 : (⟨S1x32x128x8x64, .f32⟩ : BufTy).Contents (Elt Ideal))
    (h2 : x2 = m ((c : Thread nD τ).loc main_arg2)) (h4 : x4 = m ((c : Thread nD τ).loc main_arg4)) :
    val_main_v93 (F := Ideal) x2 x4 = (dats m 0 c).arrAt 10 cfg0.N := by
  subst h2 h4
  exact (agree10 m c).symm

theorem agree11_of (x3 : (⟨S32x512, .f32⟩ : BufTy).Contents (Elt Ideal)) (x5 : (⟨S1x32x128x8x64, .f32⟩ : BufTy).Contents (Elt Ideal))
    (h3 : x3 = m ((c : Thread nD τ).loc main_arg3)) (h5 : x5 = m ((c : Thread nD τ).loc main_arg5)) :
    val_main_v94 (F := Ideal) x3 x5 = (dats m 0 c).arrAt 11 cfg0.N := by
  subst h3 h5
  exact (agree11 m c).symm

end Cert.KernelIdeal.Sample
-- ==== Proof.Ring.lean ====
/- The projection's weight stream: the four slots of the staging scratch, the cells their transfers complete on, the blocks of
   the weight matrix they bring in, and what is held of them before each grid point. -/
module

public import proofs.«01_k».proof.Proof.Gen.Kernel2Ideal.Frame
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Names -/

/-- The scratch holding two tiles of the weights, rounded. -/
abbrev tilesM : Memref sig .tc .vmem S2x4096x1024 .bf16 := Memref.whole cc0_scratch0
/-- The scratch the transfers land in. -/
abbrev stageM : Memref sig .tc .vmem S4x256x1024 .f32 := Memref.whole cc0_scratch1
/-- The weights, left in HBM. -/
abbrev weightM : Memref sig .tc .hbm S4096x16384 .f32 := Memref.whole main_arg2

/-- The slot part `u` of step `k` lands in. -/
def sl (k : ℕ) (u : Fin 2) : Fin 4 := ⟨2 * (k % 2) + u.val, by omega⟩
/-- The row and the column block `(k, u)` starts at: 256 rows of the tile after the one step `k` multiplies by. -/
def brow (k : ℕ) (u : Fin 2) : ℕ := 512 * (k % 8) + 256 * u.val
def bcol (k : ℕ) : ℕ := 1024 * min (k / 8 + 1) 15

theorem inb_slot (s : Fin 4) : ∀ a, (![s.val, 0, 0] : Fin 3 → ℕ) a + S1x256x1024.size a ≤ S4x256x1024.size a := by
  have := s.isLt; intro a; fin_cases a <;> simp <;> omega
theorem inb_src (k : ℕ) (u : Fin 2) : ∀ a, (![brow k u, bcol k] : Fin 2 → ℕ) a + S256x1024.size a ≤ S4096x16384.size a := by
  have := u.isLt; intro a; fin_cases a <;> simp [brow, bcol] <;> omega
theorem inb_cell (s : Fin 4) : ∀ a, (![s.val] : Fin 1 → ℕ) a + S1.size a ≤ S4.size a := by
  have := s.isLt; intro a; fin_cases a <;> simp <;> omega

def slotM (s : Fin 4) : Memref sig .tc .vmem S256x1024 .f32 :=
  (stageM.slice (Rect.unit (s := S4x256x1024) ![s.val, 0, 0] S1x256x1024.size (inb_slot s)) (fun _ => rfl)).squeeze S256x1024 squeezes_S1x256x1024_S256x1024
def srcM (k : ℕ) (u : Fin 2) : Memref sig .tc .hbm S256x1024 .f32 :=
  weightM.slice (Rect.unit (s := S4096x16384) ![brow k u, bcol k] S256x1024.size (inb_src k u)) (fun _ => rfl)
def cellM (s : Fin 4) : DmaSems sig S_ := (cc0_scratch2.slice (Rect.unit (s := S4) ![s.val] S1.size (inb_cell s))).squeeze S_ squeezes_S1_S_
abbrev cellL (s : Fin 4) : SemLoc sig := SemLoc.dma (cellM s).sem

/-- A whole buffer's contents on a core, as the memref's view types them. -/
abbrev At (c : Dev nD) {sp : Space} {S : Shape} {e : EltTy} (M : Memref sig .tc sp S e) : Type := Buf (Elt F) (M.view.loc (c : Thread nD τ))

/-! ## What is held -/

section Held
variable (c : Dev nD) (W : At (F := F) c weightM)

/-- Each slot borrows from its own quarter of the weights. -/
abbrev sh (s : Fin 4) : PosShare TreeShare :=
  if s.val = 0 then fullShare.left.left else if s.val = 1 then fullShare.left.right
  else if s.val = 2 then fullShare.right.left else fullShare.right.right

abbrev slotP (s : Fin 4) (f : At (F := F) c (slotM s)) : sProp 𝕄 := (slotM s).view.loc (c : Thread nD τ) ↦[(slotM s).view.set]{fullShare} f
abbrev cellP (s : Fin 4) : sProp 𝕄 := semVal ((c : Thread nD τ), cellL s) 0
abbrev srcP (s : Fin 4) (k : ℕ) (u : Fin 2) : sProp 𝕄 := (srcM k u).view.loc (c : Thread nD τ) ↦[(srcM k u).view.set]{sh s} W
def restP (s : Fin 4) (k : ℕ) (u : Fin 2) : sProp 𝕄 := ((c : Thread nD τ).loc main_arg2) ↦[Finset.univ \ (srcM k u).view.set]{sh s} W
abbrev wholeP (s : Fin 4) : sProp 𝕄 := ((c : Thread nD τ).loc main_arg2) ↦[Finset.univ]{sh s} W
/-- The slot's contents once block `(k, u)` has landed in it. -/
abbrev landed (s : Fin 4) (k : ℕ) (u : Fin 2) (f : At (F := F) c (slotM s)) : At (F := F) c (slotM s) :=
  (slotM s).view.writes (Elt F) f [⟨Rect.whole S256x1024, ReadAs.same.apply ((srcM k u).view.read (Elt F) W)⟩]
abbrev flightP (s : Fin 4) (k : ℕ) (u : Fin 2) (f : At (F := F) c (slotM s)) : sProp 𝕄 :=
  Transfers.Flight countersEmb (c : Thread nD τ) (cellL s) default ((slotM s).view.amount (cellL s))
    iprop(slotP c s (landed c W s k u f) ∗ srcP c W s k u)

/-- Slot `s` free: its cell at zero, its elements at something, its quarter of the weights whole. -/
def free (s : Fin 4) : sProp 𝕄 := iprop(cellP (F := F) c s ∗ (∃ f, slotP c s f) ∗ wholeP c W s)
/-- Block `(k, u)` in flight into slot `s`. -/
def busy (s : Fin 4) (k : ℕ) (u : Fin 2) : sProp 𝕄 := iprop((∃ f, flightP c W s k u f) ∗ restP c W s k u)

/-- Before point `k`: all slots free at the start and at the end; in between the point's two blocks in flight, the other two slots free. -/
def ringAt (k : ℕ) : sProp 𝕄 :=
  if k = 0 ∨ k = 128 then iprop(free c W 0 ∗ free c W 1 ∗ free c W 2 ∗ free c W 3)
  else iprop(busy c W (sl k 0) k 0 ∗ busy c W (sl k 1) k 1 ∗ free c W (sl (k + 1) 0) ∗ free c W (sl (k + 1) 1))

theorem src_split (s : Fin 4) (k : ℕ) (u : Fin 2) : wholeP c W s ⊣⊢ iprop(srcP c W s k u ∗ restP c W s k u) := by
  unfold restP; exact pointsTo_split_subset (Finset.subset_univ _)

abbrev halfL : sProp 𝕄 := ((c : Thread nD τ).loc main_arg2) ↦[Finset.univ]{fullShare.left} W
abbrev halfR : sProp 𝕄 := ((c : Thread nD τ).loc main_arg2) ↦[Finset.univ]{fullShare.right} W
theorem halves : (((c : Thread nD τ).loc main_arg2) ↦{fullShare} W : sProp 𝕄) ⊣⊢ iprop(halfL c W ∗ halfR c W) :=
  pointsTo_share (PosShare.mem_left_op_right fullShare)
theorem quartersL : (halfL c W : sProp 𝕄) ⊣⊢ iprop(wholeP c W 0 ∗ wholeP c W 1) :=
  pointsTo_share (PosShare.mem_left_op_right fullShare.left)
theorem quartersR : (halfR c W : sProp 𝕄) ⊣⊢ iprop(wholeP c W 2 ∗ wholeP c W 3) :=
  pointsTo_share (PosShare.mem_left_op_right fullShare.right)

/-- The four free slots, those of the even steps first or those of the odd steps. -/
theorem ring_start (k : ℕ) (hk : k = 0 ∨ k = 128) : ringAt c W k = iprop(free c W (sl k 0) ∗ free c W (sl k 1) ∗ free c W (sl (k + 1) 0) ∗ free c W (sl (k + 1) 1)) := by
  unfold ringAt; rw [if_pos hk]; rcases hk with rfl | rfl <;> rfl
theorem ring_mid (k : ℕ) (h0 : k ≠ 0) (h1 : k ≠ 128) :
    ringAt c W k = iprop(busy c W (sl k 0) k 0 ∗ busy c W (sl k 1) k 1 ∗ free c W (sl (k + 1) 0) ∗ free c W (sl (k + 1) 1)) := by
  unfold ringAt; rw [if_neg (by omega)]
end Held

/-! ## The launch's pieces and the four free slots -/

abbrev slotSet (s : Fin 4) : Finset S4x256x1024.Idx := (Rect.unit (s := S4x256x1024) ![s.val, 0, 0] S1x256x1024.size (inb_slot s)).set
theorem slotSet_eq (s : Fin 4) : (slotM s).view.set = slotSet s := by
  simp only [slotM, Memref.view_squeeze, View.set_reshape]; exact View.set_slice_whole _ _
theorem slots_disjoint (s s' : Fin 4) (h : s ≠ s') : Disjoint (slotSet s) (slotSet s') :=
  Ring.lead_disjoint (s := S4x256x1024) (0 : Fin 3) 1 (fun s : Fin 4 => (![s.val, 0, 0] : Fin 3 → ℕ)) S1x256x1024.size inb_slot (fun s => by simp) rfl s s' h
theorem slots_cover : Finset.univ.biUnion slotSet = Finset.univ :=
  Ring.lead_cover (s := S4x256x1024) (0 : Fin 3) 1 (fun s : Fin 4 => (![s.val, 0, 0] : Fin 3 → ℕ)) S1x256x1024.size inb_slot (fun s => by simp)
    (fun s a ha => by fin_cases a <;> first | exact absurd rfl ha | rfl) rfl (fun a ha => by fin_cases a <;> first | exact absurd rfl ha | rfl) rfl

end Cert.Kernel2Ideal.Proj

end
-- ==== Proof.Offs.lean ====
/- The projection's conditions and offsets in closed form over its 128 grid points, and the names of the slices it takes. -/
module

public import proofs.«01_k».proof.Proof.Ring

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open Idealize.SL.Sem

/-! ## Conditions -/

/-- Which gate the tile of point `t` takes. -/
def gate (t : Fin grid0.N) : ℕ := if t.val / 8 < 4 then 0 else if t.val / 8 < 8 then 1 else if t.val / 8 < 12 then 2 else 0

theorem c1_iff : ∀ t : Fin grid0.N, k0_cond1 (grid0.coords t) = 1#1 ↔ t.val = 0 := by decide +kernel
theorem c2_iff : ∀ t : Fin grid0.N, k0_cond2 (grid0.coords t) = 1#1 ↔ t.val < 127 := by decide +kernel
theorem c3_iff : ∀ t : Fin grid0.N, k0_cond3 (grid0.coords t) = 1#1 ↔ t.val % 8 = 0 := by decide +kernel
theorem c4_iff : ∀ t : Fin grid0.N, k0_cond4 (grid0.coords t) = 1#1 ↔ gate t = 0 := by decide +kernel
theorem c5_iff : ∀ t : Fin grid0.N, k0_cond5 (grid0.coords t) = 1#1 ↔ gate t = 1 := by decide +kernel
theorem c6_iff : ∀ t : Fin grid0.N, k0_cond6 (grid0.coords t) = 1#1 ↔ gate t = 0 := by decide +kernel
theorem c7_iff : ∀ t : Fin grid0.N, k0_cond7 (grid0.coords t) = 1#1 ↔ gate t = 1 := by decide +kernel
theorem live3 : ∀ t : Fin grid0.N, idle0 3 (grid0.coords t) = false := by decide +kernel
theorem idle4 : ∀ t : Fin grid0.N, idle0 4 (grid0.coords t) = !decide (t.val % 8 = 0) := by decide +kernel

/-! ## Offsets -/

set_option synthInstance.maxSize 4096 in
theorem off3_0 : ∀ t : Fin grid0.N, k0_off3 (grid0.coords t) 0#32 = ![(sl t.val 0).val] := by decide +kernel
set_option synthInstance.maxSize 4096 in
theorem off4_0 : ∀ t : Fin grid0.N, k0_off4 (grid0.coords t) 0#32 = ![(sl t.val 0).val, 0, 0] := by decide +kernel
set_option synthInstance.maxSize 4096 in
theorem off5_0 : ∀ t : Fin grid0.N, k0_off5 (grid0.coords t) 0#32 = ![brow t.val 0, bcol t.val] := by decide +kernel
set_option synthInstance.maxSize 4096 in
theorem off6_0 : ∀ t : Fin grid0.N, k0_off6 (grid0.coords t) 0#32 = ![(sl (t.val + 1) 0).val] := by decide +kernel
set_option synthInstance.maxSize 4096 in
theorem off7_0 : ∀ t : Fin grid0.N, k0_off7 (grid0.coords t) 0#32 = ![(sl (t.val + 1) 0).val, 0, 0] := by decide +kernel
set_option synthInstance.maxSize 4096 in
theorem off8_0 : ∀ t : Fin grid0.N, t.val < 127 → k0_off8 (grid0.coords t) 0#32 = ![brow (t.val + 1) 0, bcol (t.val + 1)] := by decide +kernel
set_option synthInstance.maxSize 4096 in
theorem off12_0 : ∀ t : Fin grid0.N, k0_off12 (grid0.coords t) 0#32 = ![(sl t.val 0).val, 0, 0] := by decide +kernel
set_option synthInstance.maxSize 4096 in
theorem off15_0 : ∀ t : Fin grid0.N, k0_off15 (grid0.coords t) 0#32 = ![(sl t.val 0).val, 0, 0] := by decide +kernel
set_option synthInstance.maxSize 4096 in
theorem off18_0 : ∀ t : Fin grid0.N, k0_off18 (grid0.coords t) 0#32 = ![(sl t.val 0).val, 0, 0] := by decide +kernel
set_option synthInstance.maxSize 4096 in
theorem off13_0 : ∀ t : Fin grid0.N, k0_off13 (grid0.coords t) 0#32 = ![1 - t.val / 8 % 2, brow t.val 0, 0] := by decide +kernel
set_option synthInstance.maxSize 4096 in
theorem off16_0 : ∀ t : Fin grid0.N, k0_off16 (grid0.coords t) 0#32 = ![1 - t.val / 8 % 2, brow t.val 0, 0] := by decide +kernel
set_option synthInstance.maxSize 4096 in
theorem off19_0 : ∀ t : Fin grid0.N, k0_off19 (grid0.coords t) 0#32 = ![1 - t.val / 8 % 2, brow t.val 0, 0] := by decide +kernel
set_option synthInstance.maxSize 4096 in
theorem off3_1 : ∀ t : Fin grid0.N, k0_off3 (grid0.coords t) 1#32 = ![(sl t.val 1).val] := by decide +kernel
set_option synthInstance.maxSize 4096 in
theorem off4_1 : ∀ t : Fin grid0.N, k0_off4 (grid0.coords t) 1#32 = ![(sl t.val 1).val, 0, 0] := by decide +kernel
set_option synthInstance.maxSize 4096 in
theorem off5_1 : ∀ t : Fin grid0.N, k0_off5 (grid0.coords t) 1#32 = ![brow t.val 1, bcol t.val] := by decide +kernel
set_option synthInstance.maxSize 4096 in
theorem off6_1 : ∀ t : Fin grid0.N, k0_off6 (grid0.coords t) 1#32 = ![(sl (t.val + 1) 1).val] := by decide +kernel
set_option synthInstance.maxSize 4096 in
theorem off7_1 : ∀ t : Fin grid0.N, k0_off7 (grid0.coords t) 1#32 = ![(sl (t.val + 1) 1).val, 0, 0] := by decide +kernel
set_option synthInstance.maxSize 4096 in
theorem off8_1 : ∀ t : Fin grid0.N, t.val < 127 → k0_off8 (grid0.coords t) 1#32 = ![brow (t.val + 1) 1, bcol (t.val + 1)] := by decide +kernel
set_option synthInstance.maxSize 4096 in
theorem off12_1 : ∀ t : Fin grid0.N, k0_off12 (grid0.coords t) 1#32 = ![(sl t.val 1).val, 0, 0] := by decide +kernel
set_option synthInstance.maxSize 4096 in
theorem off15_1 : ∀ t : Fin grid0.N, k0_off15 (grid0.coords t) 1#32 = ![(sl t.val 1).val, 0, 0] := by decide +kernel
set_option synthInstance.maxSize 4096 in
theorem off18_1 : ∀ t : Fin grid0.N, k0_off18 (grid0.coords t) 1#32 = ![(sl t.val 1).val, 0, 0] := by decide +kernel
set_option synthInstance.maxSize 4096 in
theorem off13_1 : ∀ t : Fin grid0.N, k0_off13 (grid0.coords t) 1#32 = ![1 - t.val / 8 % 2, brow t.val 1, 0] := by decide +kernel
set_option synthInstance.maxSize 4096 in
theorem off16_1 : ∀ t : Fin grid0.N, k0_off16 (grid0.coords t) 1#32 = ![1 - t.val / 8 % 2, brow t.val 1, 0] := by decide +kernel
set_option synthInstance.maxSize 4096 in
theorem off19_1 : ∀ t : Fin grid0.N, k0_off19 (grid0.coords t) 1#32 = ![1 - t.val / 8 % 2, brow t.val 1, 0] := by decide +kernel
set_option synthInstance.maxSize 4096 in
theorem off9_eq : ∀ t : Fin grid0.N, k0_off9 (grid0.coords t) = ![t.val / 8 % 2, 0, 0] := by decide +kernel
set_option synthInstance.maxSize 4096 in
theorem off10_eq : ∀ t : Fin grid0.N, k0_off10 (grid0.coords t) = ![t.val / 8 % 2, 0, 0] := by decide +kernel
set_option synthInstance.maxSize 4096 in
theorem off11_eq : ∀ t : Fin grid0.N, k0_off11 (grid0.coords t) = ![t.val / 8 % 2, 0, 0] := by decide +kernel
set_option synthInstance.maxSize 4096 in
theorem off14_eq : ∀ t : Fin grid0.N, k0_off14 (grid0.coords t) = ![t.val / 8 % 2, 0, 0] := by decide +kernel
set_option synthInstance.maxSize 4096 in
theorem off17_eq : ∀ t : Fin grid0.N, k0_off17 (grid0.coords t) = ![t.val / 8 % 2, 0, 0] := by decide +kernel
set_option synthInstance.maxSize 4096 in
theorem off20_eq : ∀ t : Fin grid0.N, k0_off20 (grid0.coords t) = ![t.val / 8 % 2, 0, 0] := by decide +kernel
theorem off1_eq : k0_off1 = ![brow 0 0, bcol 0] := by decide +kernel
theorem off2_eq : k0_off2 = ![brow 0 1, bcol 0] := by decide +kernel

/-! ## The slices' names -/

@[sl_canon] theorem canon3_0 (t : Fin grid0.N) (h : ¬ k0_cond1 (grid0.coords t) = 1#1) :
    (cc0_scratch2.slice (Rect.unit (s := S4) (k0_off3 (grid0.coords t) 0#32) S1.size (k0_off3_inb (grid0.coords t) 0))).squeeze S_ squeezes_S1_S_ = cellM (sl t.val 0) :=
  congrArg (fun A : DmaSems sig S1 => A.squeeze S_ squeezes_S1_S_) (SemArray.slice_unit_congr _ (off3_0 t) _ _)
@[sl_canon] theorem canon4_0 (t : Fin grid0.N) (h : ¬ k0_cond1 (grid0.coords t) = 1#1) :
    (stageM.slice (Rect.unit (s := S4x256x1024) (k0_off4 (grid0.coords t) 0#32) S1x256x1024.size (k0_off4_inb (grid0.coords t) 0)) (fun _ => rfl)).squeeze S256x1024 squeezes_S1x256x1024_S256x1024 = slotM (sl t.val 0) :=
  congrArg (fun M : Memref sig .tc .vmem S1x256x1024 .f32 => M.squeeze S256x1024 squeezes_S1x256x1024_S256x1024) (Memref.slice_unit_congr _ (off4_0 t) _ _ (fun _ => rfl) (fun _ => rfl))
@[sl_canon] theorem canon5_0 (t : Fin grid0.N) :
    weightM.slice (Rect.unit (s := S4096x16384) (k0_off5 (grid0.coords t) 0#32) S256x1024.size (k0_off5_inb (grid0.coords t) 0)) (fun _ => rfl) = srcM t.val 0 :=
  Memref.slice_unit_congr _ (off5_0 t) _ _ (fun _ => rfl) (fun _ => rfl)
@[sl_canon] theorem canon6_0 (t : Fin grid0.N) (h : k0_cond2 (grid0.coords t) = 1#1) :
    (cc0_scratch2.slice (Rect.unit (s := S4) (k0_off6 (grid0.coords t) 0#32) S1.size (k0_off6_inb (grid0.coords t) h 0))).squeeze S_ squeezes_S1_S_ = cellM (sl (t.val + 1) 0) :=
  congrArg (fun A : DmaSems sig S1 => A.squeeze S_ squeezes_S1_S_) (SemArray.slice_unit_congr _ (off6_0 t) _ _)
@[sl_canon] theorem canon7_0 (t : Fin grid0.N) (h : k0_cond2 (grid0.coords t) = 1#1) :
    (stageM.slice (Rect.unit (s := S4x256x1024) (k0_off7 (grid0.coords t) 0#32) S1x256x1024.size (k0_off7_inb (grid0.coords t) h 0)) (fun _ => rfl)).squeeze S256x1024 squeezes_S1x256x1024_S256x1024 = slotM (sl (t.val + 1) 0) :=
  congrArg (fun M : Memref sig .tc .vmem S1x256x1024 .f32 => M.squeeze S256x1024 squeezes_S1x256x1024_S256x1024) (Memref.slice_unit_congr _ (off7_0 t) _ _ (fun _ => rfl) (fun _ => rfl))
@[sl_canon] theorem canon8_0 (t : Fin grid0.N) (h : k0_cond2 (grid0.coords t) = 1#1) :
    weightM.slice (Rect.unit (s := S4096x16384) (k0_off8 (grid0.coords t) 0#32) S256x1024.size (k0_off8_inb (grid0.coords t) h 0)) (fun _ => rfl) = srcM (t.val + 1) 0 :=
  Memref.slice_unit_congr _ (off8_0 t ((c2_iff t).1 h)) _ _ (fun _ => rfl) (fun _ => rfl)
@[sl_canon] theorem canonL_0 (t : Fin grid0.N) (h : k0_cond1 (grid0.coords t) = 1#1) :
    (cc0_scratch2.slice (Rect.unit (s := S4) (![0]) S1.size inb_S4_S1_0)).squeeze S_ squeezes_S1_S_ = cellM (0) :=
  congrArg (fun A : DmaSems sig S1 => A.squeeze S_ squeezes_S1_S_) (SemArray.slice_unit_congr _ rfl _ _)
@[sl_canon] theorem canonA3_0 (t : Fin grid0.N) (h : k0_cond1 (grid0.coords t) = 1#1) :
    (cc0_scratch2.slice (Rect.unit (s := S4) (k0_off3 (grid0.coords t) 0#32) S1.size (k0_off3_inb (grid0.coords t) 0))).squeeze S_ squeezes_S1_S_ = cellM 0 :=
  congrArg (fun A : DmaSems sig S1 => A.squeeze S_ squeezes_S1_S_) (SemArray.slice_unit_congr _ ((off3_0 t).trans (by rw [(c1_iff t).1 h]; rfl)) _ _)
@[sl_canon] theorem canonL3_0 (t : Fin grid0.N) (h : k0_cond1 (grid0.coords t) = 1#1) :
    (stageM.slice (Rect.unit (s := S4x256x1024) (![0, 0, 0]) S1x256x1024.size inb_S4x256x1024_S1x256x1024_0_0_0) (fun _ => rfl)).squeeze S256x1024 squeezes_S1x256x1024_S256x1024 = slotM (0) :=
  congrArg (fun M : Memref sig .tc .vmem S1x256x1024 .f32 => M.squeeze S256x1024 squeezes_S1x256x1024_S256x1024) (Memref.slice_unit_congr _ rfl _ _ (fun _ => rfl) (fun _ => rfl))
@[sl_canon] theorem canonA4_0 (t : Fin grid0.N) (h : k0_cond1 (grid0.coords t) = 1#1) :
    (stageM.slice (Rect.unit (s := S4x256x1024) (k0_off4 (grid0.coords t) 0#32) S1x256x1024.size (k0_off4_inb (grid0.coords t) 0)) (fun _ => rfl)).squeeze S256x1024 squeezes_S1x256x1024_S256x1024 = slotM 0 :=
  congrArg (fun M : Memref sig .tc .vmem S1x256x1024 .f32 => M.squeeze S256x1024 squeezes_S1x256x1024_S256x1024) (Memref.slice_unit_congr _ ((off4_0 t).trans (by rw [(c1_iff t).1 h]; rfl)) _ _ (fun _ => rfl) (fun _ => rfl))
theorem canonS_0 (t : Fin grid0.N) (h : k0_cond1 (grid0.coords t) = 1#1) :
    weightM.slice (Rect.unit (s := S4096x16384) (k0_off1) S256x1024.size (k0_off1_inb (grid0.coords t) h)) (fun _ => rfl) = srcM t.val 0 :=
  Memref.slice_unit_congr _ (off1_eq.trans (by rw [(c1_iff t).1 h])) _ _ (fun _ => rfl) (fun _ => rfl)
@[sl_canon] theorem canon3_1 (t : Fin grid0.N) (h : ¬ k0_cond1 (grid0.coords t) = 1#1) :
    (cc0_scratch2.slice (Rect.unit (s := S4) (k0_off3 (grid0.coords t) 1#32) S1.size (k0_off3_inb (grid0.coords t) 1))).squeeze S_ squeezes_S1_S_ = cellM (sl t.val 1) :=
  congrArg (fun A : DmaSems sig S1 => A.squeeze S_ squeezes_S1_S_) (SemArray.slice_unit_congr _ (off3_1 t) _ _)
@[sl_canon] theorem canon4_1 (t : Fin grid0.N) (h : ¬ k0_cond1 (grid0.coords t) = 1#1) :
    (stageM.slice (Rect.unit (s := S4x256x1024) (k0_off4 (grid0.coords t) 1#32) S1x256x1024.size (k0_off4_inb (grid0.coords t) 1)) (fun _ => rfl)).squeeze S256x1024 squeezes_S1x256x1024_S256x1024 = slotM (sl t.val 1) :=
  congrArg (fun M : Memref sig .tc .vmem S1x256x1024 .f32 => M.squeeze S256x1024 squeezes_S1x256x1024_S256x1024) (Memref.slice_unit_congr _ (off4_1 t) _ _ (fun _ => rfl) (fun _ => rfl))
@[sl_canon] theorem canon5_1 (t : Fin grid0.N) :
    weightM.slice (Rect.unit (s := S4096x16384) (k0_off5 (grid0.coords t) 1#32) S256x1024.size (k0_off5_inb (grid0.coords t) 1)) (fun _ => rfl) = srcM t.val 1 :=
  Memref.slice_unit_congr _ (off5_1 t) _ _ (fun _ => rfl) (fun _ => rfl)
@[sl_canon] theorem canon6_1 (t : Fin grid0.N) (h : k0_cond2 (grid0.coords t) = 1#1) :
    (cc0_scratch2.slice (Rect.unit (s := S4) (k0_off6 (grid0.coords t) 1#32) S1.size (k0_off6_inb (grid0.coords t) h 1))).squeeze S_ squeezes_S1_S_ = cellM (sl (t.val + 1) 1) :=
  congrArg (fun A : DmaSems sig S1 => A.squeeze S_ squeezes_S1_S_) (SemArray.slice_unit_congr _ (off6_1 t) _ _)
@[sl_canon] theorem canon7_1 (t : Fin grid0.N) (h : k0_cond2 (grid0.coords t) = 1#1) :
    (stageM.slice (Rect.unit (s := S4x256x1024) (k0_off7 (grid0.coords t) 1#32) S1x256x1024.size (k0_off7_inb (grid0.coords t) h 1)) (fun _ => rfl)).squeeze S256x1024 squeezes_S1x256x1024_S256x1024 = slotM (sl (t.val + 1) 1) :=
  congrArg (fun M : Memref sig .tc .vmem S1x256x1024 .f32 => M.squeeze S256x1024 squeezes_S1x256x1024_S256x1024) (Memref.slice_unit_congr _ (off7_1 t) _ _ (fun _ => rfl) (fun _ => rfl))
@[sl_canon] theorem canon8_1 (t : Fin grid0.N) (h : k0_cond2 (grid0.coords t) = 1#1) :
    weightM.slice (Rect.unit (s := S4096x16384) (k0_off8 (grid0.coords t) 1#32) S256x1024.size (k0_off8_inb (grid0.coords t) h 1)) (fun _ => rfl) = srcM (t.val + 1) 1 :=
  Memref.slice_unit_congr _ (off8_1 t ((c2_iff t).1 h)) _ _ (fun _ => rfl) (fun _ => rfl)
@[sl_canon] theorem canonL_1 (t : Fin grid0.N) (h : k0_cond1 (grid0.coords t) = 1#1) :
    (cc0_scratch2.slice (Rect.unit (s := S4) (![1]) S1.size inb_S4_S1_1)).squeeze S_ squeezes_S1_S_ = cellM (1) :=
  congrArg (fun A : DmaSems sig S1 => A.squeeze S_ squeezes_S1_S_) (SemArray.slice_unit_congr _ rfl _ _)
@[sl_canon] theorem canonA3_1 (t : Fin grid0.N) (h : k0_cond1 (grid0.coords t) = 1#1) :
    (cc0_scratch2.slice (Rect.unit (s := S4) (k0_off3 (grid0.coords t) 1#32) S1.size (k0_off3_inb (grid0.coords t) 1))).squeeze S_ squeezes_S1_S_ = cellM 1 :=
  congrArg (fun A : DmaSems sig S1 => A.squeeze S_ squeezes_S1_S_) (SemArray.slice_unit_congr _ ((off3_1 t).trans (by rw [(c1_iff t).1 h]; rfl)) _ _)
@[sl_canon] theorem canonL3_1 (t : Fin grid0.N) (h : k0_cond1 (grid0.coords t) = 1#1) :
    (stageM.slice (Rect.unit (s := S4x256x1024) (![1, 0, 0]) S1x256x1024.size inb_S4x256x1024_S1x256x1024_1_0_0) (fun _ => rfl)).squeeze S256x1024 squeezes_S1x256x1024_S256x1024 = slotM (1) :=
  congrArg (fun M : Memref sig .tc .vmem S1x256x1024 .f32 => M.squeeze S256x1024 squeezes_S1x256x1024_S256x1024) (Memref.slice_unit_congr _ rfl _ _ (fun _ => rfl) (fun _ => rfl))
@[sl_canon] theorem canonA4_1 (t : Fin grid0.N) (h : k0_cond1 (grid0.coords t) = 1#1) :
    (stageM.slice (Rect.unit (s := S4x256x1024) (k0_off4 (grid0.coords t) 1#32) S1x256x1024.size (k0_off4_inb (grid0.coords t) 1)) (fun _ => rfl)).squeeze S256x1024 squeezes_S1x256x1024_S256x1024 = slotM 1 :=
  congrArg (fun M : Memref sig .tc .vmem S1x256x1024 .f32 => M.squeeze S256x1024 squeezes_S1x256x1024_S256x1024) (Memref.slice_unit_congr _ ((off4_1 t).trans (by rw [(c1_iff t).1 h]; rfl)) _ _ (fun _ => rfl) (fun _ => rfl))
theorem canonS_1 (t : Fin grid0.N) (h : k0_cond1 (grid0.coords t) = 1#1) :
    weightM.slice (Rect.unit (s := S4096x16384) (k0_off2) S256x1024.size (k0_off2_inb (grid0.coords t) h)) (fun _ => rfl) = srcM t.val 1 :=
  Memref.slice_unit_congr _ (off2_eq.trans (by rw [(c1_iff t).1 h])) _ _ (fun _ => rfl) (fun _ => rfl)

/-! ## Boxes of loads and stores -/

instance (priority := high) closed12_0 (t : Fin grid0.N) : ClosedOff (k0_off12 (grid0.coords t) 0#32) := ⟨![(sl t.val 0).val, 0, 0], off12_0 t⟩
instance (priority := high+1) closedA12_0 (t : Fin grid0.N) [h : Fact (k0_cond1 (grid0.coords t) = 1#1)] : ClosedOff (k0_off12 (grid0.coords t) 0#32) := ⟨![0, 0, 0], (off12_0 t).trans (by rw [(c1_iff t).1 h.out]; rfl)⟩
instance (priority := high) closed15_0 (t : Fin grid0.N) : ClosedOff (k0_off15 (grid0.coords t) 0#32) := ⟨![(sl t.val 0).val, 0, 0], off15_0 t⟩
instance (priority := high) closed18_0 (t : Fin grid0.N) : ClosedOff (k0_off18 (grid0.coords t) 0#32) := ⟨![(sl t.val 0).val, 0, 0], off18_0 t⟩
instance (priority := high) closed13_0 (t : Fin grid0.N) : ClosedOff (k0_off13 (grid0.coords t) 0#32) := ⟨![1 - t.val / 8 % 2, brow t.val 0, 0], off13_0 t⟩
instance (priority := high) closed16_0 (t : Fin grid0.N) : ClosedOff (k0_off16 (grid0.coords t) 0#32) := ⟨![1 - t.val / 8 % 2, brow t.val 0, 0], off16_0 t⟩
instance (priority := high) closed19_0 (t : Fin grid0.N) : ClosedOff (k0_off19 (grid0.coords t) 0#32) := ⟨![1 - t.val / 8 % 2, brow t.val 0, 0], off19_0 t⟩
instance (priority := high) closed12_1 (t : Fin grid0.N) : ClosedOff (k0_off12 (grid0.coords t) 1#32) := ⟨![(sl t.val 1).val, 0, 0], off12_1 t⟩
instance (priority := high+1) closedA12_1 (t : Fin grid0.N) [h : Fact (k0_cond1 (grid0.coords t) = 1#1)] : ClosedOff (k0_off12 (grid0.coords t) 1#32) := ⟨![1, 0, 0], (off12_1 t).trans (by rw [(c1_iff t).1 h.out]; rfl)⟩
instance (priority := high) closed15_1 (t : Fin grid0.N) : ClosedOff (k0_off15 (grid0.coords t) 1#32) := ⟨![(sl t.val 1).val, 0, 0], off15_1 t⟩
instance (priority := high) closed18_1 (t : Fin grid0.N) : ClosedOff (k0_off18 (grid0.coords t) 1#32) := ⟨![(sl t.val 1).val, 0, 0], off18_1 t⟩
instance (priority := high) closed13_1 (t : Fin grid0.N) : ClosedOff (k0_off13 (grid0.coords t) 1#32) := ⟨![1 - t.val / 8 % 2, brow t.val 1, 0], off13_1 t⟩
instance (priority := high) closed16_1 (t : Fin grid0.N) : ClosedOff (k0_off16 (grid0.coords t) 1#32) := ⟨![1 - t.val / 8 % 2, brow t.val 1, 0], off16_1 t⟩
instance (priority := high) closed19_1 (t : Fin grid0.N) : ClosedOff (k0_off19 (grid0.coords t) 1#32) := ⟨![1 - t.val / 8 % 2, brow t.val 1, 0], off19_1 t⟩
instance (priority := high) closed9 (t : Fin grid0.N) : ClosedOff (k0_off9 (grid0.coords t)) := ⟨![t.val / 8 % 2, 0, 0], off9_eq t⟩
instance (priority := high) closed10 (t : Fin grid0.N) : ClosedOff (k0_off10 (grid0.coords t)) := ⟨![t.val / 8 % 2, 0, 0], off10_eq t⟩
instance (priority := high) closed11 (t : Fin grid0.N) : ClosedOff (k0_off11 (grid0.coords t)) := ⟨![t.val / 8 % 2, 0, 0], off11_eq t⟩
instance (priority := high) closed14 (t : Fin grid0.N) : ClosedOff (k0_off14 (grid0.coords t)) := ⟨![t.val / 8 % 2, 0, 0], off14_eq t⟩
instance (priority := high) closed17 (t : Fin grid0.N) : ClosedOff (k0_off17 (grid0.coords t)) := ⟨![t.val / 8 % 2, 0, 0], off17_eq t⟩
instance (priority := high) closed20 (t : Fin grid0.N) : ClosedOff (k0_off20 (grid0.coords t)) := ⟨![t.val / 8 % 2, 0, 0], off20_eq t⟩

end Cert.Kernel2Ideal.Proj

end
-- ==== Proof.Tiles.lean ====
/- What the projection's two tiles hold: the weights, rounded, as far as they have been brought in. -/
module

public import proofs.«01_k».proof.Proof.Offs
public import proofs.«01_k».proof.Proof.Gen.Kernel2Ideal.Skeleton
public import Idealize.ShloMosaic.Lib.ValueLayout
public import Idealize.ShloMosaic.Lib.WritesUnit

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.ShloMosaic.ValueIdx
open Idealize.SL.Sem

variable {F : FTy → Type} [FloatOps F]

/-! ## The weights by coordinates, and a tile of them -/

section
variable (c : Dev nD) (W : At (F := F) c weightM)

/-- The weight at row `r`, column `q`, rounded. -/
def wAt (r q : ℕ) : F .bf16 :=
  FloatOps.truncf .bf16 bitsLt_bf16_f32 ((W : S4096x16384.Idx → F .f32) (ix2 (⟨r % 4096, Nat.mod_lt _ (by decide)⟩ : Fin 4096) (⟨q % 16384, Nat.mod_lt _ (by decide)⟩ : Fin 16384)))

/-- Tile `j`, as the kernel loads it. -/
def tile (j : ℕ) : Vec F S1x4096x1024 .bf16 := fun x => wAt c W (x 1).val (1024 * j + (x 2).val)

/-! ## A block landed in a slot, loaded and rounded -/

theorem slot_read (s : Fin 4) {off : Fin 3 → ℕ} (h : off = ![s.val, 0, 0]) (inb : ∀ a, off a + S1x256x1024.size a ≤ S4x256x1024.size a)
    (g : At (F := F) c (slotM s)) (w : S256x1024.Idx → F .f32) (L) :
    shapeCast S256x1024 (View.readAt (Elt F) stageM.view (Rect.unit (s := S4x256x1024) off S1x256x1024.size inb).toLoadRect
      ((slotM s).view.writes (Elt F) g (⟨Rect.whole S256x1024, w⟩ :: L))) shapeCasts_S1x256x1024_S256x1024 = w := by
  subst h
  refine (Memref.read_squeeze_slice stageM (Rect.unit (s := S4x256x1024) ![s.val, 0, 0] S1x256x1024.size inb) (fun _ => rfl) squeezes_S1x256x1024_S256x1024 shapeCasts_S1x256x1024_S256x1024
    ((slotM s).view.writes (Elt F) g (⟨Rect.whole S256x1024, w⟩ :: L))).symm.trans ?_
  funext y
  exact View.read_writes_cons_hit (slotM s).view g (Rect.whole S256x1024) w L y y (funext fun a => Fin.ext (by show 0 + 1 * _ = _; omega))

theorem src_read {off : Fin 2 → ℕ} {a b : ℕ} (h : off = ![a, b]) (inb : ∀ i, off i + S256x1024.size i ≤ S4096x16384.size i)
    (hs) (r : Fin 256) (q : Fin 1024) :
    FloatOps.truncf .bf16 bitsLt_bf16_f32 (((ReadAs.same (e := .f32) (s := S256x1024)).apply ((weightM.slice (Rect.unit (s := S4096x16384) off S256x1024.size inb) hs).view.read (Elt F) W) : S256x1024.Idx → F .f32) (ix2 r q))
      = wAt c W (a + r.val) (b + q.val) := by
  subst h
  unfold wAt
  have h0 := inb 0; have h1 := inb 1
  simp at h0 h1
  refine congrArg (FloatOps.truncf .bf16 bitsLt_bf16_f32) ?_
  show W _ = W _
  refine congrArg W (funext fun i => Fin.ext ?_)
  fin_cases i
  · show a + 1 * r.val = (a + r.val) % 4096; rw [Nat.mod_eq_of_lt] <;> omega
  · show b + 1 * q.val = (b + q.val) % 16384; rw [Nat.mod_eq_of_lt] <;> omega

theorem cast_apply (v : Vec F S1x256x1024 .f32) (u : Fin 1) (r : Fin 256) (q : Fin 1024) :
    k0_pay7 v (ix3 u r q) = FloatOps.truncf .bf16 bitsLt_bf16_f32 (shapeCast S256x1024 v shapeCasts_S1x256x1024_S256x1024 (ix2 r q)) :=
  shapeCast_ab_1ab_apply (truncf .bf16 (shapeCast S256x1024 v shapeCasts_S1x256x1024_S256x1024) bitsLt_bf16_f32) shapeCasts_S256x1024_S1x256x1024 u r q

/-- The rounded block starting at row `a`, column `b`. -/
theorem chunk (s : Fin 4) {off : Fin 3 → ℕ} (h : off = ![s.val, 0, 0]) (inb : ∀ a, off a + S1x256x1024.size a ≤ S4x256x1024.size a)
    {off' : Fin 2 → ℕ} {a b : ℕ} (h' : off' = ![a, b]) (inb' : ∀ i, off' i + S256x1024.size i ≤ S4096x16384.size i) (hs)
    (g : At (F := F) c (slotM s)) (L) (x : S1x256x1024.Idx) :
    k0_pay7 (View.readAt (Elt F) stageM.view (Rect.unit (s := S4x256x1024) off S1x256x1024.size inb).toLoadRect
      ((slotM s).view.writes (Elt F) g (⟨Rect.whole S256x1024, ReadAs.same.apply ((weightM.slice (Rect.unit (s := S4096x16384) off' S256x1024.size inb') hs).view.read (Elt F) W)⟩ :: L))) x
      = wAt c W (a + (x 1).val) (b + (x 2).val) := by
  obtain ⟨u, r, q, rfl⟩ : ∃ (u : Fin 1) (r : Fin 256) (q : Fin 1024), x = ix3 u r q := ⟨_, _, _, eq_ix3 x⟩
  refine (cast_apply _ u r q).trans ?_
  rw [slot_read c s h inb g _ L]
  exact src_read c W h' inb' hs r q

/-- The rounded block `(k, u)`, landed in slot `s`. -/
theorem chunkL (s : Fin 4) (k : ℕ) (u : Fin 2) {off : Fin 3 → ℕ} (h : off = ![s.val, 0, 0]) (inb : ∀ a, off a + S1x256x1024.size a ≤ S4x256x1024.size a)
    (g : At (F := F) c (slotM s)) (x : S1x256x1024.Idx) :
    k0_pay7 (View.readAt (Elt F) stageM.view (Rect.unit (s := S4x256x1024) off S1x256x1024.size inb).toLoadRect (landed c W s k u g)) x
      = wAt c W (brow k u + (x 1).val) (bcol k + (x 2).val) :=
  chunk c W s h inb rfl (inb_src k u) (fun _ => rfl) g [] x

/-! ## What the tiles hold before each point -/

/-- The column the half `a` starts at before point `k`. -/
def tcol (k a : ℕ) : ℕ := 1024 * min (if a = k / 8 % 2 then k / 8 else k / 8 + 1) 15

/-- Before point `k` the half the point multiplies by holds its tile, the other half the next tile's first `512 (k mod 8)` rows. -/
def WB (k : ℕ) (f : At (F := F) c tilesM) : Prop :=
  k ≠ 0 → ∀ x : S2x4096x1024.Idx, ((x 0).val = k / 8 % 2 ∨ (x 1).val < 512 * (k % 8)) → f x = wAt c W (x 1).val (tcol k (x 0).val + (x 2).val)

variable {c W}

/-- The half a point multiplies by, loaded. -/
theorem tile_read {f : At (F := F) c tilesM} {j h : ℕ} {off : Fin 3 → ℕ} (ho : off = ![h, 0, 0])
    (inb : ∀ a, off a + S1x4096x1024.size a ≤ S2x4096x1024.size a)
    (hf : ∀ x : S2x4096x1024.Idx, (x 0).val = h → f x = wAt c W (x 1).val (1024 * j + (x 2).val)) :
    View.readAt (Elt F) tilesM.view (Rect.unit (s := S2x4096x1024) off S1x4096x1024.size inb).toLoadRect f = tile c W j := by
  subst ho
  funext x
  have h0 : (x 0).val = 0 := by have := (x 0).isLt; simp at this; omega
  refine (hf _ ?_).trans ?_
  · show h + 1 * (x 0).val = h; omega
  · show wAt c W (0 + 1 * (x 1).val) (1024 * j + (0 + 1 * (x 2).val)) = wAt c W (x 1).val (1024 * j + (x 2).val)
    simp

/-- Reading what a list of writes left: under the writes their common target, elsewhere the old contents. -/
theorem tiles_hit (f : At (F := F) c tilesM) (G : S2x4096x1024.Idx → F .bf16) (L : List (View.Piece (Elt F) S2x4096x1024 .bf16))
    (hL : ∀ p ∈ L, ∀ x : p.1.shape.Idx, p.2 x = G (p.1.emb x)) (y : S2x4096x1024.Idx) (hy : ∃ p ∈ L, y ∈ p.1.set) :
    tilesM.view.writes (Elt F) f L y = G y :=
  View.read_writes_apply_of_pieces tilesM.view f G L hL y hy
theorem tiles_miss (f : At (F := F) c tilesM) (L : List (View.Piece (Elt F) S2x4096x1024 .bf16)) (y : S2x4096x1024.Idx) (hy : ∀ p ∈ L, y ∉ p.1.set) :
    tilesM.view.writes (Elt F) f L y = f y :=
  View.read_writes_apply_of_forall_not_mem tilesM.view f y L hy

/-- A block of 256 rows of half `h` from row `a`. -/
theorem mem_rows {off : Fin 3 → ℕ} {h a : ℕ} (ho : off = ![h, a, 0]) (inb : ∀ i, off i + S1x256x1024.size i ≤ S2x4096x1024.size i) (y : S2x4096x1024.Idx) :
    y ∈ (Rect.unit (s := S2x4096x1024) off S1x256x1024.size inb).set ↔ (y 0).val = h ∧ a ≤ (y 1).val ∧ (y 1).val < a + 256 := by
  subst ho
  rw [Rect.mem_set_unit]
  have hy2 : (y 2).val < 1024 := (y 2).isLt
  constructor
  · intro H
    have h0 := H 0; have h1 := H 1
    simp at h0 h1
    omega
  · rintro ⟨h0, h1, h2⟩ i
    fin_cases i
    · show h ≤ (y 0).val ∧ (y 0).val < h + 1; omega
    · show a ≤ (y 1).val ∧ (y 1).val < a + 256; omega
    · show 0 ≤ (y 2).val ∧ (y 2).val < 0 + 1024; omega

/-- A rounded block stored at its rows agrees with the target `G` that the weights give. -/
theorem piece_ok {off : Fin 3 → ℕ} {h a b : ℕ} (ho : off = ![h, a, 0]) (inb : ∀ i, off i + S1x256x1024.size i ≤ S2x4096x1024.size i)
    (w : S1x256x1024.Idx → F .bf16) (hw : ∀ x : S1x256x1024.Idx, w x = wAt c W (a + (x 1).val) (b + (x 2).val))
    (col : ℕ → ℕ) (hcol : col h = b) (x : (Rect.unit (s := S2x4096x1024) off S1x256x1024.size inb).shape.Idx) :
    w x = (fun y : S2x4096x1024.Idx => wAt c W (y 1).val (col (y 0).val + (y 2).val)) ((Rect.unit (s := S2x4096x1024) off S1x256x1024.size inb).emb x) := by
  subst ho
  have h0 : (x 0).val = 0 := by have := (x 0).isLt; simp at this; omega
  rw [hw x]
  show _ = wAt c W (a + 1 * (x 1).val) (col (h + 1 * (x 0).val) + (0 + 1 * (x 2).val))
  rw [h0, Nat.mul_zero, Nat.add_zero, hcol]
  simp

/-- One point's two blocks stored: what holds before the next point. -/
theorem WB_step (k : ℕ) (hk : k ≠ 0) (hk' : k < 128) {f : At (F := F) c tilesM} (hf : WB c W k f)
    {o0 o1 : Fin 3 → ℕ} (h0 : o0 = ![1 - k / 8 % 2, brow k 0, 0]) (h1 : o1 = ![1 - k / 8 % 2, brow k 1, 0]) (i0 i1)
    {w0 w1 : S1x256x1024.Idx → F .bf16}
    (e0 : ∀ x : S1x256x1024.Idx, w0 x = wAt c W (brow k 0 + (x 1).val) (bcol k + (x 2).val))
    (e1 : ∀ x : S1x256x1024.Idx, w1 x = wAt c W (brow k 1 + (x 1).val) (bcol k + (x 2).val)) :
    (∀ x : S2x4096x1024.Idx, (x 0).val = k / 8 % 2 →
      tilesM.view.writes (Elt F) f [⟨Rect.unit (s := S2x4096x1024) o1 S1x256x1024.size i1, w1⟩, ⟨Rect.unit (s := S2x4096x1024) o0 S1x256x1024.size i0, w0⟩] x = wAt c W (x 1).val (1024 * (k / 8) + (x 2).val))
    ∧ WB c W (k + 1) (tilesM.view.writes (Elt F) f [⟨Rect.unit (s := S2x4096x1024) o1 S1x256x1024.size i1, w1⟩, ⟨Rect.unit (s := S2x4096x1024) o0 S1x256x1024.size i0, w0⟩]) := by
  have hc : tcol k (1 - k / 8 % 2) = bcol k := by
    unfold tcol bcol; rw [if_neg (by omega)]
  have hit := tiles_hit f (fun y : S2x4096x1024.Idx => wAt c W (y 1).val (tcol k (y 0).val + (y 2).val))
    [⟨Rect.unit (s := S2x4096x1024) o1 S1x256x1024.size i1, w1⟩, ⟨Rect.unit (s := S2x4096x1024) o0 S1x256x1024.size i0, w0⟩]
    (List.forall_mem_cons.2 ⟨piece_ok h1 i1 w1 e1 (tcol k) hc, List.forall_mem_cons.2 ⟨piece_ok h0 i0 w0 e0 (tcol k) hc, fun p hp => absurd hp List.not_mem_nil⟩⟩)
  have miss := tiles_miss f [⟨Rect.unit (s := S2x4096x1024) o1 S1x256x1024.size i1, w1⟩, ⟨Rect.unit (s := S2x4096x1024) o0 S1x256x1024.size i0, w0⟩]
  have all : ∀ x : S2x4096x1024.Idx, ((x 0).val = k / 8 % 2 ∨ (x 1).val < 512 * (k % 8) + 512) →
      tilesM.view.writes (Elt F) f [⟨Rect.unit (s := S2x4096x1024) o1 S1x256x1024.size i1, w1⟩, ⟨Rect.unit (s := S2x4096x1024) o0 S1x256x1024.size i0, w0⟩] x
        = wAt c W (x 1).val (tcol k (x 0).val + (x 2).val) := by
    intro x hx
    have hx0 : (x 0).val < 2 := (x 0).isLt
    by_cases hr : (x 0).val = 1 - k / 8 % 2 ∧ 512 * (k % 8) ≤ (x 1).val ∧ (x 1).val < 512 * (k % 8) + 512
    · refine hit x ?_
      by_cases hh : (x 1).val < 512 * (k % 8) + 256
      · exact ⟨_, List.mem_cons_of_mem _ List.mem_cons_self, (mem_rows h0 i0 x).2 (by unfold brow; simp; omega)⟩
      · exact ⟨_, List.mem_cons_self, (mem_rows h1 i1 x).2 (by unfold brow; simp; omega)⟩
    · refine (miss x (List.forall_mem_cons.2 ⟨?_, List.forall_mem_cons.2 ⟨?_, fun p hp => absurd hp List.not_mem_nil⟩⟩)).trans (hf hk x ?_)
      · rw [mem_rows h1 i1 x]; unfold brow; simp; omega
      · rw [mem_rows h0 i0 x]; unfold brow; simp; omega
      · omega
  constructor
  · intro x hx
    refine (all x (.inl hx)).trans ?_
    unfold tcol; rw [if_pos hx, min_eq_left (by omega)]
  · intro _ x hx
    have hx0 : (x 0).val < 2 := (x 0).isLt
    have hx1 : (x 1).val < 4096 := (x 1).isLt
    by_cases h7 : k % 8 = 7
    · have hx' : (x 0).val = 1 - k / 8 % 2 := by omega
      refine (all x (by omega)).trans ?_
      have : tcol k (x 0).val = tcol (k + 1) (x 0).val := by
        unfold tcol; rw [if_neg (by omega), if_pos (by omega)]; congr 2; omega
      rw [this]
    · refine (all x (by omega)).trans ?_
      have : tcol k (x 0).val = tcol (k + 1) (x 0).val := by
        unfold tcol; rw [show (k + 1) / 8 = k / 8 by omega]
      rw [this]

/-! ## The first point's sixteen blocks -/

/-- A list of stores puts the first `n` rows of tile 0 into half 0. -/
def Pro (c : Dev nD) (W : At (F := F) c weightM) (L : List (View.Piece (Elt F) S2x4096x1024 .bf16)) (n : ℕ) : Prop :=
  (∀ p ∈ L, ∀ x : p.1.shape.Idx, p.2 x = (fun y : S2x4096x1024.Idx => wAt c W (y 1).val (tcol 0 (y 0).val + (y 2).val)) (p.1.emb x))
    ∧ ∀ y : S2x4096x1024.Idx, (y 0).val = 0 → (y 1).val < n → ∃ p ∈ L, y ∈ p.1.set

theorem pro_nil : Pro c W [] 0 := ⟨fun p hp => absurd hp List.not_mem_nil, fun y _ h => absurd h (Nat.not_lt_zero _)⟩

theorem pro_cons {L : List (View.Piece (Elt F) S2x4096x1024 .bf16)} {n : ℕ} {off : Fin 3 → ℕ} {inb} {w : S1x256x1024.Idx → F .bf16} (hL : Pro c W L n) (ho : off = ![0, n, 0])
    (hw : ∀ x : S1x256x1024.Idx, w x = wAt c W (n + (x 1).val) (0 + (x 2).val)) :
    Pro c W (⟨Rect.unit (s := S2x4096x1024) off S1x256x1024.size inb, w⟩ :: L) (n + 256) := by
  refine ⟨List.forall_mem_cons.2 ⟨piece_ok ho inb w hw (tcol 0) rfl, hL.1⟩, fun y h0 h1 => ?_⟩
  by_cases h : (y 1).val < n
  · obtain ⟨p, hp, hy⟩ := hL.2 y h0 h
    exact ⟨p, List.mem_cons_of_mem _ hp, hy⟩
  · exact ⟨_, List.mem_cons_self, (mem_rows ho inb y).2 ⟨h0, by omega, h1⟩⟩

theorem pro_tile {L : List (View.Piece (Elt F) S2x4096x1024 .bf16)} (hL : Pro c W L 4096) (f : At (F := F) c tilesM) (x : S2x4096x1024.Idx) (hx : (x 0).val = 0) :
    tilesM.view.writes (Elt F) f L x = wAt c W (x 1).val (1024 * 0 + (x 2).val) := by
  refine (tiles_hit f (fun y : S2x4096x1024.Idx => wAt c W (y 1).val (tcol 0 (y 0).val + (y 2).val)) L hL.1 x (hL.2 x hx (x 1).isLt)).trans ?_
  show wAt c W (x 1).val (tcol 0 (x 0).val + (x 2).val) = _
  rw [hx]; rfl

/-- The first point's stores: tile 0, then two blocks of tile 1. -/
theorem WB_first {L : List (View.Piece (Elt F) S2x4096x1024 .bf16)} (hL : Pro c W L 4096) (f : At (F := F) c tilesM)
    {o0 o1 : Fin 3 → ℕ} (h0 : o0 = ![1, brow 0 0, 0]) (h1 : o1 = ![1, brow 0 1, 0]) (i0 i1)
    {w0 w1 : S1x256x1024.Idx → F .bf16}
    (e0 : ∀ x : S1x256x1024.Idx, w0 x = wAt c W (brow 0 0 + (x 1).val) (bcol 0 + (x 2).val))
    (e1 : ∀ x : S1x256x1024.Idx, w1 x = wAt c W (brow 0 1 + (x 1).val) (bcol 0 + (x 2).val)) :
    (∀ x : S2x4096x1024.Idx, (x 0).val = 0 →
      tilesM.view.writes (Elt F) f (⟨Rect.unit (s := S2x4096x1024) o1 S1x256x1024.size i1, w1⟩ :: ⟨Rect.unit (s := S2x4096x1024) o0 S1x256x1024.size i0, w0⟩ :: L) x = wAt c W (x 1).val (1024 * 0 + (x 2).val))
    ∧ WB c W 1 (tilesM.view.writes (Elt F) f (⟨Rect.unit (s := S2x4096x1024) o1 S1x256x1024.size i1, w1⟩ :: ⟨Rect.unit (s := S2x4096x1024) o0 S1x256x1024.size i0, w0⟩ :: L)) := by
  have hit := tiles_hit f (fun y : S2x4096x1024.Idx => wAt c W (y 1).val (tcol 0 (y 0).val + (y 2).val))
    (⟨Rect.unit (s := S2x4096x1024) o1 S1x256x1024.size i1, w1⟩ :: ⟨Rect.unit (s := S2x4096x1024) o0 S1x256x1024.size i0, w0⟩ :: L)
    (List.forall_mem_cons.2 ⟨piece_ok h1 i1 w1 e1 (tcol 0) rfl, List.forall_mem_cons.2 ⟨piece_ok h0 i0 w0 e0 (tcol 0) rfl, hL.1⟩⟩)
  have all : ∀ x : S2x4096x1024.Idx, ((x 0).val = 0 ∨ (x 1).val < 512) → _ := fun x hx => hit x (by
    have hx0 : (x 0).val < 2 := (x 0).isLt
    by_cases h : (x 0).val = 0
    · obtain ⟨p, hp, hy⟩ := hL.2 x h (x 1).isLt
      exact ⟨p, List.mem_cons_of_mem _ (List.mem_cons_of_mem _ hp), hy⟩
    · by_cases hh : (x 1).val < 256
      · exact ⟨_, List.mem_cons_of_mem _ List.mem_cons_self, (mem_rows h0 i0 x).2 (by unfold brow; simp; omega)⟩
      · exact ⟨_, List.mem_cons_self, (mem_rows h1 i1 x).2 (by unfold brow; simp; omega)⟩)
  constructor
  · intro x hx
    refine (all x (.inl hx)).trans ?_
    show wAt c W (x 1).val (tcol 0 (x 0).val + (x 2).val) = _
    rw [hx]; rfl
  · intro _ x hx
    exact all x hx

end

end Cert.Kernel2Ideal.Proj

end
-- ==== Proof.Step.lean ====
/- One grid point of the projection as a triple: what it is given, what it leaves. -/
module

public import proofs.«01_k».proof.Proof.Tiles
public import Idealize.ShloMosaic.Lib.VecWindow

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What a point writes -/

/-- The point's block of the large output, from its rows `x`, its tile `T` and its block of the lower bounds. -/
def big (t : Fin grid0.N) (x : Vec F S1024x4096 .bf16) (T : Vec F S1x4096x1024 .bf16) (l : Vec F S3x1024 .f32) : FVec F S1024x1024 .f32 :=
  if gate t = 0 then k0_pay4 x (k0_pay27 T) else if gate t = 1 then k0_pay5 x (k0_pay30 T) l else k0_pay6 x (k0_pay33 T)
/-- The block of the small output a tile's first point writes. -/
def small (t : Fin grid0.N) (x : Vec F S64x4096 .bf16) (T : Vec F S1x4096x1024 .bf16) (l : Vec F S3x1024 .f32) : FVec F S64x1024 .f32 :=
  if gate t = 0 then k0_pay1 x T else if gate t = 1 then k0_pay2 x T l else k0_pay3 x T

section
variable (t : Fin grid0.N) {x x' : Vec F S1024x4096 .bf16} {y y' : Vec F S64x4096 .bf16} {T T' : Vec F S1x4096x1024 .bf16} {l l' : Vec F S3x1024 .f32}
theorem big0 (hg : gate t = 0) (hx : x' = x) (hT : T' = T) : k0_pay4 x' (k0_pay27 T') = big t x T l := by
  subst hx hT; unfold big; rw [if_pos hg]
theorem big1 (hg : gate t = 1) (hx : x' = x) (hT : T' = T) (hl : l' = l) : k0_pay5 x' (k0_pay30 T') l' = big t x T l := by
  subst hx hT hl; unfold big; rw [if_neg (by omega), if_pos hg]
theorem big2 (hg : gate t ≠ 0) (hg' : gate t ≠ 1) (hx : x' = x) (hT : T' = T) : k0_pay6 x' (k0_pay33 T') = big t x T l := by
  subst hx hT; unfold big; rw [if_neg hg, if_neg hg']
theorem small0 (hg : gate t = 0) (hx : y' = y) (hT : T' = T) : k0_pay1 y' T' = small t y T l := by
  subst hx hT; unfold small; rw [if_pos hg]
theorem small1 (hg : gate t = 1) (hx : y' = y) (hT : T' = T) (hl : l' = l) : k0_pay2 y' T' l' = small t y T l := by
  subst hx hT hl; unfold small; rw [if_neg (by omega), if_pos hg]
theorem small2 (hg : gate t ≠ 0) (hg' : gate t ≠ 1) (hx : y' = y) (hT : T' = T) : k0_pay3 y' T' = small t y T l := by
  subst hx hT; unfold small; rw [if_neg hg, if_neg hg']
end

/-- A load of a whole staging memref. -/
theorem whole_read {s : Shape} {e : EltTy} {κ : Kind} {sp : Space} {M : Memref sig κ sp s e} (h : M.IsWhole) (x : s.Idx → Elt F e) {off : Fin s.rank → ℕ} (inb : ∀ a, off a + s.size a ≤ s.size a) :
    View.readAt (Elt F) M.view (Rect.unit off s.size inb).toLoadRect (h.unread x) = x :=
  (View.readAt_full M.view _ inb).trans (h.read_unread x)

section
variable (c : Dev nD) (W : At (F := F) c weightM)

abbrev tilesP (f : At (F := F) c tilesM) : sProp 𝕄 := tilesM.view.loc (c : Thread nD τ) ↦[tilesM.view.set]{fullShare} f

/-- What point `t` leaves in the small output's window. -/
def left4 (t : Fin grid0.N) (y : Vec F S64x4096 .bf16) (l : Vec F S3x1024 .f32) (d : Vec F S64x1024 .f32) : Vec F S64x1024 .f32 :=
  if t.val % 8 = 0 then small t y (tile c W (t.val / 8)) l else d

/-- The triple of point `t`. -/
def Run (t : Fin grid0.N) : Prop :=
  ∀ (arg2 : Memref sig .tc .vmem S1024x4096 .bf16) (harg2 : arg2.IsWhole) (arg3 : Memref sig .tc .vmem S64x4096 .bf16) (harg3 : arg3.IsWhole)
    (arg5 : Memref sig .tc .vmem S3x1024 .f32) (harg5 : arg5.IsWhole) (arg6 : Memref sig .tc .vmem S1024x1024 .f32) (harg6 : arg6.IsWhole)
    (arg7 : Memref sig .tc .vmem S64x1024 .f32) (harg7 : arg7.IsWhole)
    (x0 : Vec F S1024x4096 .bf16) (x1 : Vec F S64x4096 .bf16) (x2 : Vec F S3x1024 .f32) (x4 : Vec F S64x1024 .f32)
    (Ws : Waits sig Unit) (K : PUnit → sProp 𝕄),
    iprop(owns (c : Thread nD τ) arg2 fullShare x0 ∗ owns (c : Thread nD τ) arg3 fullShare x1 ∗ owns (c : Thread nD τ) arg5 fullShare x2 ∗ (∃ d, owns (c : Thread nD τ) arg6 fullShare d) ∗ owns (c : Thread nD τ) arg7 fullShare x4
        ∗ (∃ f, ⌜WB c W t.val f⌝ ∗ tilesP c f) ∗ ringAt c W t.val ∗ owes (c : Thread nD τ) 0 Ws
        ∗ (iprop(owns (c : Thread nD τ) arg2 fullShare x0 ∗ owns (c : Thread nD τ) arg3 fullShare x1 ∗ owns (c : Thread nD τ) arg5 fullShare x2
            ∗ owns (c : Thread nD τ) arg6 fullShare (big t x0 (tile c W (t.val / 8)) x2) ∗ owns (c : Thread nD τ) arg7 fullShare (left4 c W t x1 x2 x4)
            ∗ (∃ f, ⌜WB c W (t.val + 1) f⌝ ∗ tilesP c f) ∗ ringAt c W (t.val + 1) ∗ ∃ Ws, owes (c : Thread nD τ) 0 Ws) -∗ K ⟨⟩))
      ⊢ wp frame (wpE (defs₀ (F := F)) Variants.none c none) Set.univ (cc0_proj (grid0.coords t) arg2 harg2 arg3 harg3 weightM (Memref.isWhole_whole _) arg5 harg5 arg6 harg6 arg7 harg7 tilesM (Memref.isWhole_whole _) stageM (Memref.isWhole_whole _) cc0_scratch2) K

/-- The conditions of the three gates. -/
theorem gates (t : Fin grid0.N) :
    (k0_cond4 (grid0.coords t) = 1#1 ∧ ¬ k0_cond5 (grid0.coords t) = 1#1 ∧ k0_cond6 (grid0.coords t) = 1#1 ∧ ¬ k0_cond7 (grid0.coords t) = 1#1)
    ∨ (¬ k0_cond4 (grid0.coords t) = 1#1 ∧ k0_cond5 (grid0.coords t) = 1#1 ∧ ¬ k0_cond6 (grid0.coords t) = 1#1 ∧ k0_cond7 (grid0.coords t) = 1#1)
    ∨ (¬ k0_cond4 (grid0.coords t) = 1#1 ∧ ¬ k0_cond5 (grid0.coords t) = 1#1 ∧ ¬ k0_cond6 (grid0.coords t) = 1#1 ∧ ¬ k0_cond7 (grid0.coords t) = 1#1) := by
  rw [c4_iff, c5_iff, c6_iff, c7_iff]; omega

theorem sl_next (k : ℕ) (u : Fin 2) : sl (k + 1 + 1) u = sl k u := by
  unfold sl; exact Fin.ext (by show 2 * ((k + 1 + 1) % 2) + u.val = 2 * (k % 2) + u.val; omega)

/-- The tile a point multiplies by, loaded before its stores. -/
theorem now_read {k : ℕ} (hk : k ≠ 0) (hk' : k < 128) {f : At (F := F) c tilesM} (hf : WB c W k f) {off : Fin 3 → ℕ} (ho : off = ![k / 8 % 2, 0, 0])
    (inb : ∀ a, off a + S1x4096x1024.size a ≤ S2x4096x1024.size a) :
    View.readAt (Elt F) tilesM.view (Rect.unit (s := S2x4096x1024) off S1x4096x1024.size inb).toLoadRect f = tile c W (k / 8) :=
  tile_read ho inb fun x hx => (hf hk x (.inl hx)).trans (by unfold tcol; rw [if_pos hx, min_eq_left (by omega)])

end

end Cert.Kernel2Ideal.Proj

end
-- ==== Proof.RunMid.lean ====
/- The projection's points between the first and the last. -/
module

public import proofs.«01_k».proof.Proof.Step

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
theorem run_mid (c : Dev nD) (t : Fin grid0.N) (Wt : At (F := F) c weightM) (ht : t.val ≠ 0) (ht' : t.val < 127) : Run c Wt t := by
  intro arg2 harg2 arg3 harg3 arg5 harg5 arg6 harg6 arg7 harg7 x0 x1 x2 x4 Ws K
  have h1 : ¬ k0_cond1 (grid0.coords t) = 1#1 := fun h => ht ((c1_iff t).1 h)
  have h2 : k0_cond2 (grid0.coords t) = 1#1 := (c2_iff t).2 ht'
  haveI := Fact.mk h1
  haveI := Fact.mk h2
  rw [cc0_proj_eq_skeleton]; unfold cc0_proj_skel
  simp (config := {beta := false, eta := false, zeta := false, proj := false, iota := false, ground := false, dsimp := false}) only [k0_part11_eq_skeleton, k0_part12_eq_skeleton, k0_part13_eq_skeleton, k0_part14_eq_skeleton, k0_part15_eq_skeleton]
  rw [ring_mid c Wt t.val ht (by omega), ring_mid c Wt (t.val + 1) (by omega) (by omega)]
  unfold owns busy free
  rcases Decidable.em (k0_cond3 (grid0.coords t) = 1#1) with h3 | h3 <;>
    rcases gates t with ⟨h4, h5, h6, h7⟩ | ⟨h4, h5, h6, h7⟩ | ⟨h4, h5, h6, h7⟩ <;>
    haveI := Fact.mk h3 <;> haveI := Fact.mk h4 <;> haveI := Fact.mk h5 <;> haveI := Fact.mk h6 <;> haveI := Fact.mk h7
  all_goals
    iintro ⟨⟨%f0, %hf0, H0⟩, ⟨%f1, %hf1, H1⟩, ⟨%f2, %hf2, H2⟩, ⟨%d3, %f3, -, H3⟩, ⟨%f4, %hf4, H4⟩, ⟨%f, %hf, HS0⟩, ⟨⟨⟨%g0, Hf0⟩, Hr0⟩, ⟨⟨%g1, Hf1⟩, Hr1⟩, ⟨Hc2, ⟨%g2, Hs2⟩, Hw2⟩, ⟨Hc3, ⟨%g3, Hs3⟩, Hw3⟩⟩, HW, Hk⟩
    ihave Hsp2 := (src_split c Wt (sl (t.val + 1) 0) (t.val + 1) 0).1 $$ Hw2
    icases Hsp2 with ⟨Hh2, Hr2⟩
    ihave Hsp3 := (src_split c Wt (sl (t.val + 1) 1) (t.val + 1) 1).1 $$ Hw3
    icases Hsp3 with ⟨Hh3, Hr3⟩
    obtain rfl := harg2.eq_unread hf0; obtain rfl := harg3.eq_unread hf1; obtain rfl := harg5.eq_unread hf2
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; swap; · iexact H3
      ipureintro
      refine (View.read_writes_full arg6.view f3 _ _ _).trans ?_
      first
      | exact big0 t ((c4_iff t).1 h4) (whole_read harg2 x0 _) (tile_read (off14_eq t) _ (WB_step t.val ht (by omega) hf (off13_0 t) (off13_1 t) _ _ (chunkL c Wt (sl t.val 0) t.val 0 (off12_0 t) _ _) (chunkL c Wt (sl t.val 1) t.val 1 (off12_1 t) _ _)).1)
      | exact big1 t ((c5_iff t).1 h5) (whole_read harg2 x0 _) (tile_read (off17_eq t) _ (WB_step t.val ht (by omega) hf (off16_0 t) (off16_1 t) _ _ (chunkL c Wt (sl t.val 0) t.val 0 (off15_0 t) _ _) (chunkL c Wt (sl t.val 1) t.val 1 (off15_1 t) _ _)).1) (whole_read harg5 x2 _)
      | exact big2 t (mt (c4_iff t).2 h4) (mt (c5_iff t).2 h5) (whole_read harg2 x0 _) (tile_read (off20_eq t) _ (WB_step t.val ht (by omega) hf (off19_0 t) (off19_1 t) _ _ (chunkL c Wt (sl t.val 0) t.val 0 (off18_0 t) _ _) (chunkL c Wt (sl t.val 1) t.val 1 (off18_1 t) _ _)).1)
    isplitl [H4]
    · iexists _; isplitr; swap; · iexact H4
      ipureintro
      unfold left4
      first
      | (rw [if_neg (mt (c3_iff t).2 h3)]; exact hf4)
      | rw [if_pos ((c3_iff t).1 h3)]
        refine (View.read_writes_full arg7.view f4 _ _ _).trans ?_
        first
        | exact small0 t ((c4_iff t).1 h4) (whole_read harg3 x1 _) (now_read c Wt ht (by omega) hf (off9_eq t) _)
        | exact small1 t ((c5_iff t).1 h5) (whole_read harg3 x1 _) (now_read c Wt ht (by omega) hf (off10_eq t) _) (whole_read harg5 x2 _)
        | exact small2 t (mt (c4_iff t).2 h4) (mt (c5_iff t).2 h5) (whole_read harg3 x1 _) (now_read c Wt ht (by omega) hf (off11_eq t) _)
    isplitl [HS0]
    · iexists _; isplitr; swap; · iexact HS0
      ipureintro
      first
      | exact (WB_step t.val ht (by omega) hf (off13_0 t) (off13_1 t) _ _ (chunkL c Wt (sl t.val 0) t.val 0 (off12_0 t) _ _) (chunkL c Wt (sl t.val 1) t.val 1 (off12_1 t) _ _)).2
      | exact (WB_step t.val ht (by omega) hf (off16_0 t) (off16_1 t) _ _ (chunkL c Wt (sl t.val 0) t.val 0 (off15_0 t) _ _) (chunkL c Wt (sl t.val 1) t.val 1 (off15_1 t) _ _)).2
      | exact (WB_step t.val ht (by omega) hf (off19_0 t) (off19_1 t) _ _ (chunkL c Wt (sl t.val 0) t.val 0 (off18_0 t) _ _) (chunkL c Wt (sl t.val 1) t.val 1 (off18_1 t) _ _)).2
    isplitl [Hc2 Hr2 Hc3 Hr3 Hf0 Hf0_dst Hf0_src Hr0 Hf1 Hf1_dst Hf1_src Hr1]
    · isplitl [Hc2 Hr2]
      · isplitl [Hc2]
        · iexists _; iexact Hc2
        iexact Hr2
      isplitl [Hc3 Hr3]
      · isplitl [Hc3]
        · iexists _; iexact Hc3
        iexact Hr3
      rw [sl_next, sl_next]
      isplitl [Hf0 Hf0_dst Hf0_src Hr0]
      · isplitl [Hf0]; · iexact Hf0
        isplitl [Hf0_dst]; · iexists _; iexact Hf0_dst
        iapply (src_split c Wt (sl t.val 0) t.val 0).2; isplitl [Hf0_src]; · iexact Hf0_src
        iexact Hr0
      isplitl [Hf1]; · iexact Hf1
      isplitl [Hf1_dst]; · iexists _; iexact Hf1_dst
      iapply (src_split c Wt (sl t.val 1) t.val 1).2; isplitl [Hf1_src]; · iexact Hf1_src
      iexact Hr1
    iexists _; iexact HW

end Cert.Kernel2Ideal.Proj

end
-- ==== Proof.RunLast.lean ====
/- The projection's last point. -/
module

public import proofs.«01_k».proof.Proof.RunMid

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
theorem run_last (c : Dev nD) (t : Fin grid0.N) (Wt : At (F := F) c weightM) (ht : t.val = 127) : Run c Wt t := by
  intro arg2 harg2 arg3 harg3 arg5 harg5 arg6 harg6 arg7 harg7 x0 x1 x2 x4 Ws K
  have hg : gate t = 0 := by unfold gate; rw [ht]; rfl
  have h1 : ¬ k0_cond1 (grid0.coords t) = 1#1 := fun h => by have := (c1_iff t).1 h; omega
  have h2 : ¬ k0_cond2 (grid0.coords t) = 1#1 := fun h => by have := (c2_iff t).1 h; omega
  have h3 : ¬ k0_cond3 (grid0.coords t) = 1#1 := fun h => by have := (c3_iff t).1 h; omega
  have h6 : k0_cond6 (grid0.coords t) = 1#1 := (c6_iff t).2 hg
  haveI := Fact.mk h1
  haveI := Fact.mk h2
  haveI := Fact.mk h3
  haveI := Fact.mk h6
  rw [cc0_proj_eq_skeleton]; unfold cc0_proj_skel
  simp (config := {beta := false, eta := false, zeta := false, proj := false, iota := false, ground := false, dsimp := false}) only [k0_part11_eq_skeleton, k0_part12_eq_skeleton, k0_part13_eq_skeleton, k0_part14_eq_skeleton, k0_part15_eq_skeleton]
  rw [ring_mid c Wt t.val (by omega) (by omega), ring_start c Wt (t.val + 1) (by omega), sl_next, sl_next]
  unfold owns busy
  iintro ⟨⟨%f0, %hf0, H0⟩, ⟨%f1, %hf1, H1⟩, ⟨%f2, %hf2, H2⟩, ⟨%d3, %f3, -, H3⟩, ⟨%f4, %hf4, H4⟩, ⟨%f, %hf, HS0⟩, ⟨⟨⟨%g0, Hf0⟩, Hr0⟩, ⟨⟨%g1, Hf1⟩, Hr1⟩, Hn0, Hn1⟩, HW, Hk⟩
  obtain rfl := harg2.eq_unread hf0; obtain rfl := harg3.eq_unread hf1; obtain rfl := harg5.eq_unread hf2
  sl_exec (disch := first | sl_exact h1 | sl_exact h2 | sl_exact h3 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; swap; · iexact H3
    ipureintro
    refine (View.read_writes_full arg6.view f3 _ _ _).trans ?_
    exact big0 t hg (whole_read harg2 x0 _) (tile_read (off14_eq t) _ (WB_step t.val (by omega) (by omega) hf (off13_0 t) (off13_1 t) _ _ (chunkL c Wt (sl t.val 0) t.val 0 (off12_0 t) _ _) (chunkL c Wt (sl t.val 1) t.val 1 (off12_1 t) _ _)).1)
  isplitl [H4]
  · iexists _; isplitr; swap; · iexact H4
    ipureintro
    unfold left4; rw [if_neg (mt (c3_iff t).2 h3)]; exact hf4
  isplitl [HS0]
  · iexists _; isplitr; swap; · iexact HS0
    ipureintro
    exact (WB_step t.val (by omega) (by omega) hf (off13_0 t) (off13_1 t) _ _ (chunkL c Wt (sl t.val 0) t.val 0 (off12_0 t) _ _) (chunkL c Wt (sl t.val 1) t.val 1 (off12_1 t) _ _)).2
  isplitl [Hn0 Hn1 Hf0 Hf0_dst Hf0_src Hr0 Hf1 Hf1_dst Hf1_src Hr1]
  · isplitl [Hn0]; · iexact Hn0
    isplitl [Hn1]; · iexact Hn1
    unfold free
    isplitl [Hf0 Hf0_dst Hf0_src Hr0]
    · isplitl [Hf0]; · iexact Hf0
      isplitl [Hf0_dst]; · iexists _; iexact Hf0_dst
      iapply (src_split c Wt (sl t.val 0) t.val 0).2; isplitl [Hf0_src]; · iexact Hf0_src
      iexact Hr0
    isplitl [Hf1]; · iexact Hf1
    isplitl [Hf1_dst]; · iexists _; iexact Hf1_dst
    iapply (src_split c Wt (sl t.val 1) t.val 1).2; isplitl [Hf1_src]; · iexact Hf1_src
    iexact Hr1
  iexists _; iexact HW

end Cert.Kernel2Ideal.Proj

end
-- ==== Proof.RunFirst.lean ====
/- The projection's first point. -/
module

public import proofs.«01_k».proof.Proof.RunLast

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The left half of the weights, from the quarters of the slots 0 and 1. -/
theorem leftHalf (c : Dev nD) (W : At (F := F) c weightM) :
    (weightM.view.loc (c : Thread nD τ) ↦[weightM.view.set]{fullShare.left} W : sProp 𝕄) ⊣⊢ iprop(wholeP c W 0 ∗ wholeP c W 1) := by
  rw [show weightM.view.set = Finset.univ from View.set_whole _]
  exact quartersL c W
theorem ring_first (c : Dev nD) (W : At (F := F) c weightM) (k : ℕ) (hk : k = 0) :
    ringAt c W k = iprop(free c W 0 ∗ free c W 1 ∗ free c W (sl (k + 1) 0) ∗ free c W (sl (k + 1) 1)) := by
  subst hk; exact ring_start c W 0 (.inl rfl)
theorem ring_second (c : Dev nD) (W : At (F := F) c weightM) (k : ℕ) (hk : k = 0) :
    ringAt c W (k + 1) = iprop(busy c W (sl (k + 1) 0) (k + 1) 0 ∗ busy c W (sl (k + 1) 1) (k + 1) 1 ∗ free c W 0 ∗ free c W 1) := by
  subst hk; exact ring_mid c W 1 (by decide) (by decide)

set_option maxHeartbeats 1000000 in
theorem run_first (c : Dev nD) (t : Fin grid0.N) (Wt : At (F := F) c weightM) (ht : t.val = 0) : Run c Wt t := by
  intro arg2 harg2 arg3 harg3 arg5 harg5 arg6 harg6 arg7 harg7 x0 x1 x2 x4 Ws K
  have hg : gate t = 0 := by unfold gate; rw [ht]; rfl
  have h1 : k0_cond1 (grid0.coords t) = 1#1 := (c1_iff t).2 ht
  have h2 : k0_cond2 (grid0.coords t) = 1#1 := (c2_iff t).2 (by omega)
  have h3 : k0_cond3 (grid0.coords t) = 1#1 := (c3_iff t).2 (by omega)
  have h4 : k0_cond4 (grid0.coords t) = 1#1 := (c4_iff t).2 hg
  have h6 : k0_cond6 (grid0.coords t) = 1#1 := (c6_iff t).2 hg
  haveI := Fact.mk h1
  haveI := Fact.mk h2
  haveI := Fact.mk h3
  haveI := Fact.mk h4
  haveI := Fact.mk h6
  rw [cc0_proj_eq_skeleton]; unfold cc0_proj_skel
  simp (config := {beta := false, eta := false, zeta := false, proj := false, iota := false, ground := false, dsimp := false}) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  rw [ring_first c Wt t.val ht, ring_second c Wt t.val ht]
  unfold owns busy free
  iintro ⟨⟨%f0, %hf0, H0⟩, ⟨%f1, %hf1, H1⟩, ⟨%f2, %hf2, H2⟩, ⟨%d3, %f3, -, H3⟩, ⟨%f4, %hf4, H4⟩, ⟨%f, -, HS0⟩, ⟨⟨Hc0, ⟨%g0, Hs0⟩, Hw0⟩, ⟨Hc1, ⟨%g1, Hs1⟩, Hw1⟩, ⟨Hc2, ⟨%g2, Hs2⟩, Hw2⟩, ⟨Hc3, ⟨%g3, Hs3⟩, Hw3⟩⟩, HW, Hk⟩
  ihave Hsp2 := (src_split c Wt (sl (t.val + 1) 0) (t.val + 1) 0).1 $$ Hw2
  icases Hsp2 with ⟨Hh2, Hr2⟩
  ihave Hsp3 := (src_split c Wt (sl (t.val + 1) 1) (t.val + 1) 1).1 $$ Hw3
  icases Hsp3 with ⟨Hh3, Hr3⟩
  ihave Hhl := (leftHalf c Wt).2 $$ [Hw0 Hw1]
  · isplitl [Hw0]; · iexact Hw0
    iexact Hw1
  obtain rfl := harg2.eq_unread hf0; obtain rfl := harg3.eq_unread hf1; obtain rfl := harg5.eq_unread hf2
  sl_exec (disch := first | sl_exact h1 | sl_exact h2 | sl_exact h3 | sl_exact h4 | sl_exact h6)
  sl_step
  iapply Hk
  have pro : Pro c Wt (run_first.sl.HS0_16 c Wt) 4096 := by
    repeat' refine pro_cons ?_ rfl (chunk c Wt _ rfl _ rfl _ (fun _ => rfl) _ _)
    exact pro_nil
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; swap; · iexact H3
    ipureintro
    refine (View.read_writes_full arg6.view f3 _ _ _).trans ?_
    refine big0 t hg (whole_read harg2 x0 _) ?_
    rw [ht]
    exact tile_read ((off14_eq t).trans (by rw [ht])) _ (WB_first pro f ((off13_0 t).trans (by rw [ht])) ((off13_1 t).trans (by rw [ht])) _ _ (chunk c Wt 0 ((off12_0 t).trans (by rw [ht]; rfl)) _ off1_eq _ (fun _ => rfl) _ _) (chunk c Wt 1 ((off12_1 t).trans (by rw [ht]; rfl)) _ off2_eq _ (fun _ => rfl) _ _)).1
  isplitl [H4]
  · iexists _; isplitr; swap; · iexact H4
    ipureintro
    unfold left4; rw [if_pos ((c3_iff t).1 h3)]
    refine (View.read_writes_full arg7.view f4 _ _ _).trans ?_
    refine small0 t hg (whole_read harg3 x1 _) ?_
    rw [ht]
    exact tile_read ((off9_eq t).trans (by rw [ht])) _ (pro_tile pro f)
  isplitl [HS0]
  · iexists _; isplitr; swap; · iexact HS0
    ipureintro
    rw [ht]
    exact (WB_first pro f ((off13_0 t).trans (by rw [ht])) ((off13_1 t).trans (by rw [ht])) _ _ (chunk c Wt 0 ((off12_0 t).trans (by rw [ht]; rfl)) _ off1_eq _ (fun _ => rfl) _ _) (chunk c Wt 1 ((off12_1 t).trans (by rw [ht]; rfl)) _ off2_eq _ (fun _ => rfl) _ _)).2
  isplitl [Hc2 Hr2 Hc3 Hr3 Hc0 Hs0 Hc1 Hs1 Hhl]
  · isplitl [Hc2 Hr2]
    · isplitl [Hc2]
      · iexists _; iexact Hc2
      iexact Hr2
    isplitl [Hc3 Hr3]
    · isplitl [Hc3]
      · iexists _; iexact Hc3
      iexact Hr3
    ihave Hq := (leftHalf c Wt).1 $$ Hhl
    icases Hq with ⟨Hw0, Hw1⟩
    isplitl [Hc0 Hs0 Hw0]
    · isplitl [Hc0]; · iexact Hc0
      isplitl [Hs0]; · iexists _; iexact Hs0
      iexact Hw0
    isplitl [Hc1]; · iexact Hc1
    isplitl [Hs1]; · iexists _; iexact Hs1
    iexact Hw1
  iexists _; iexact HW

end Cert.Kernel2Ideal.Proj

end
-- ==== Proof.Region.lean ====
/- The projection's region: its proof data, the body's triple at every point, the launch, and what the arrays hold at the end. -/
module

public import proofs.«01_k».proof.Proof.RunFirst
public import Idealize.ShloMosaic.Lib.Pipeline.TableIdle

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- An equality as an entailment. -/
theorem ofEq {P Q : sProp 𝕄} (e : P = Q) : P ⊢ Q := by rw [e]

/-- The triple at every point. -/
theorem run_all (c : Dev nD) (t : Fin grid0.N) (W : At (F := F) c weightM) : Run c W t := by
  have hN : t.val < 128 := lt_of_lt_of_eq t.isLt N_0
  by_cases h0 : t.val = 0
  · exact run_first c t W h0
  · by_cases h1 : t.val = 127
    · exact run_last c t W h1
    · exact run_mid c t W h0 (by omega)

/-! ## The launch's pieces -/

/-- The kernel's own cells. -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
/-- The weights, moved by the body itself. -/
def H0 : Finset (Ref sig .tc) := {main_arg2}
theorem H0_sub : H0 ⊆ Pipeline.restRefs sig spec0 := by decide

theorem cells_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1 ∗ cellP (F := F) c 2 ∗ cellP (F := F) c 3) := by
  rw [Pipeline.ownSems0_eq_of_list c osem0 [0, 1, 2, 3] (by decide) (by decide)]; rfl
theorem weights_eq (c : Dev nD) :
    (bigSep H0 (fun b => ((c : Thread nD τ).loc b) ↦{fullShare} V m c b) : sProp 𝕄) = iprop(((c : Thread nD τ).loc main_arg2) ↦{fullShare} V m c main_arg2) := by
  rw [BI.bigSep_eq_bigSepL_of_eq [main_arg2] (by decide) (by decide)]; rfl

theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ iprop(cellP (F := F) c 0 ∗ cellP (F := F) c 1 ∗ cellP (F := F) c 2 ∗ cellP (F := F) c 3)
        ∗ iprop(((c : Thread nD τ).loc main_arg2) ↦{fullShare} V m c main_arg2)) := by
  rw [Pipeline.ΦD_eq, scopedRest0_eq, cells_eq, weights_eq]

theorem bigSep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem slotP_eq (c : Dev nD) (s : Fin 4) (f) : slotP (F := F) c s f = (((c : Thread nD τ).loc cc0_scratch1) ↦[slotSet s]{fullShare} f : sProp 𝕄) := by
  unfold slotP; rw [slotSet_eq]; rfl

/-- The staging scratch whole is its four slots, -/
theorem slots_in (c : Dev nD) : iprop(∃ f : Buf (Elt F) ((c : Thread nD τ).loc cc0_scratch1), ((c : Thread nD τ).loc cc0_scratch1) ↦{fullShare} f)
    ⊢ (iprop((∃ f, slotP (F := F) c 0 f) ∗ (∃ f, slotP (F := F) c 1 f) ∗ (∃ f, slotP (F := F) c 2 f) ∗ ∃ f, slotP (F := F) c 3 f) : sProp 𝕄) := by
  iintro ⟨%f, H⟩
  ihave H4 := (ofEq ((Ring.pointsTo_blocks (Ix := Unit) (Name := ℕ) (U := Pipeline.UD sig nD τ) (Lvl := ℕ) (q := fullShare) slotSet slots_disjoint slots_cover f).trans (bigSep4 _))) $$ H
  icases H4 with ⟨H0, H1, H2, H3⟩
  isplitl [H0]; · iexists f; iapply (ofEq (slotP_eq c 0 _).symm); iexact H0
  isplitl [H1]; · iexists f; iapply (ofEq (slotP_eq c 1 _).symm); iexact H1
  isplitl [H2]; · iexists f; iapply (ofEq (slotP_eq c 2 _).symm); iexact H2
  iexists f; iapply (ofEq (slotP_eq c 3 _).symm); iexact H3
/-- and back. -/
theorem slots_out (c : Dev nD) : (iprop((∃ f, slotP (F := F) c 0 f) ∗ (∃ f, slotP (F := F) c 1 f) ∗ (∃ f, slotP (F := F) c 2 f) ∗ ∃ f, slotP (F := F) c 3 f) : sProp 𝕄)
    ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩⟩
  iapply (Ring.pointsTo_blocks_join_exists slotSet slots_disjoint slots_cover f0)
  irw [bigSep4]
  isplitl [H0]; · iexists f0; iapply (ofEq (slotP_eq c 0 f0)); iexact H0
  isplitl [H1]; · iexists f1; iapply (ofEq (slotP_eq c 1 f1)); iexact H1
  isplitl [H2]; · iexists f2; iapply (ofEq (slotP_eq c 2 f2)); iexact H2
  iexists f3; iapply (ofEq (slotP_eq c 3 f3)); iexact H3

/-! ## The proof data -/

/-- Before point `k`: the register, the weight stream, and the tiles' scratch with what is known of it. -/
def Inv (c : Dev nD) (k : ℕ) : sProp 𝕄 :=
  iprop((∃ r, prngReg c r) ∗ (∃ f, ⌜WB c (V m c main_arg2) k f⌝ ∗ tilesP c f) ∗ ringAt c (V m c main_arg2) k)

/-- The first point of the tile point `t` multiplies by. -/
def head (t : Fin cfg0.N) : Fin cfg0.N := ⟨8 * (t.val / 8), lt_of_le_of_lt (by omega) t.isLt⟩

/-- The large output's block at point `t`, and the small output's. -/
def outBig (c : Dev nD) (t : Fin cfg0.N) : Vec F S1024x1024 .f32 := big t (iblk m c 0 t) (tile c (V m c main_arg2) (t.val / 8)) (iblk m c 2 t)
def outSmall (c : Dev nD) (t : Fin cfg0.N) : Vec F S64x1024 .f32 := small t (iblk m c 1 t) (tile c (V m c main_arg2) (t.val / 8)) (iblk m c 2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBig m c t
    | ⟨4, _⟩ => outSmall m c (head t)
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBig m c t := by dsimp only [dats]
theorem after_4 (c : Dev nD) (t : Fin cfg0.N) : (dats m 0 c).after 4 t = outSmall m c (head t) := by dsimp only [dats]
theorem inv_castSucc (c : Dev nD) (t : Fin cfg0.N) : (dats m 0 c).Φ t.castSucc = Inv m c t.val := by dsimp only [dats]; simp only [Fin.val_castSucc]
theorem inv_succ (c : Dev nD) (t : Fin cfg0.N) : (dats m 0 c).Φ t.succ = Inv m c (t.val + 1) := by dsimp only [dats]; simp only [Fin.val_succ]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ### The small output's window: written at a tile's first point, kept to its last -/

theorem idle_4 (t : Fin cfg0.N) : cfg0.idle 4 (cfg0.grid.coords t) = !decide (t.val % 8 = 0) := idle4 t
theorem fresh_4 (n : ℕ) (hn : n ≤ cfg0.N) : cfg0.fresh 4 n = decide (n % 8 = 0) := by
  refine cfg0.fresh_tab 4 (fun n => decide (n % 8 = 0)) rfl (fun t => ?_) n hn
  have hf := flush0_4 t
  rw [idle_4 t]
  by_cases h7 : t.val % 8 = 7
  · rw [hf.2 h7]; simp; omega
  · rw [Bool.eq_false_iff.2 (fun h => h7 (hf.1 h))]
    by_cases h0 : t.val % 8 = 0 <;> simp [h0] <;> omega

theorem head_pred (t : Fin cfg0.N) (h : t.val % 8 ≠ 0) : head ⟨t.val - 1, by omega⟩ = head t := by
  unfold head; refine Fin.ext ?_; show 8 * ((t.val - 1) / 8) = 8 * (t.val / 8); omega
theorem head_self (t : Fin cfg0.N) (h : t.val % 8 = 0) : head t = t := by
  unfold head; refine Fin.ext ?_; show 8 * (t.val / 8) = t.val; omega

theorem before_4 (c : Dev nD) (t : Fin cfg0.N) (h : t.val % 8 ≠ 0) (d) : (dats m 0 c).before 4 t d = (dats m 0 c).after 4 t := by
  rw [(dats m 0 c).before_out_traj 4 rfl (fun _ _ => rfl) (fun t ht hi _ => ?_) t.val t rfl d, fresh_4 _ (Nat.le_of_lt t.isLt), if_neg (by simp [h]), after_4, after_4, head_pred t h]
  rw [after_4, after_4, head_pred]
  rw [idle_4] at hi
  simpa using hi

/-- What point `t` leaves in that window is what the proof data says of it. -/
theorem left4_eq (c : Dev nD) (t : Fin cfg0.N) (d) :
    left4 c (V m c main_arg2) t (iblk m c 1 t) (iblk m c 2 t) ((dats m 0 c).before 4 t d) = (dats m 0 c).after 4 t := by
  unfold left4
  by_cases h : t.val % 8 = 0
  · rw [if_pos h, after_4, head_self t h]; rfl
  · rw [if_neg h, before_4 m c t h]

theorem leaves_4 (c : Dev nD) (t : Fin cfg0.N) (d0 : (cfg0.win 4).block.Idx → Elt F (cfg0.win 4).elt) :
    (owns (c : Thread nD τ) (st0_4 t) fullShare ((dats m 0 c).after 4 t) : sProp 𝕄) ⊢ (dats m 0 c).leavesExact 4 t := by
  by_cases h : t.val % 8 = 0
  · unfold Dat.leavesExact
    rw [show cfg0.idle 4 (cfg0.grid.coords t) = false by rw [idle_4]; simp [h]]
  · by_cases hf : (cfg0.win 4).flush t = true
    · unfold Dat.leavesExact
      rw [show cfg0.idle 4 (cfg0.grid.coords t) = true by rw [idle_4]; simp [h], hf]
    · rw [(dats m 0 c).leavesExact_idle 4 t (by rw [idle_4]; simp [h]) (Bool.eq_false_iff.2 hf)]
      iintro H; iexists d0; rw [before_4 m c t h]; iexact H

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (outBig m c t) := by
  unfold Dat.leavesExact; rw [show cfg0.idle 3 (cfg0.grid.coords t) = false from live3 t, after_3]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [inv_castSucc m c t, inv_succ m c t, leaves_0, leaves_1, leaves_2, leaves_3]
  unfold Dat.owesAt Pipeline.owesWithin
  rw [show (dats m 0 c).owed t.castSucc = 0 from rfl, show (dats m 0 c).owed t.succ = 0 from rfl]
  unfold Inv
  iintro ⟨⟨Hg, HT, HR⟩, ⟨%Ws, -, HW⟩, ⟨%d0, H0⟩, ⟨%d1, H1⟩, ⟨%d2, H2⟩, ⟨%d3, H3⟩, ⟨%d4, H4⟩⟩
  iapply (run_all c t (V m c main_arg2) _ _ _ _ _ _ _ _ _ _ (iblk m c 0 t) (iblk m c 1 t) (iblk m c 2 t) ((dats m 0 c).before 4 t d4) Ws _)
  isplitl [H0]; · iexact H0
  isplitl [H1]; · iexact H1
  isplitl [H2]; · iexact H2
  isplitl [H3]; · iexists _; iexact H3
  isplitl [H4]; · iexact H4
  isplitl [HT]; · iexact HT
  isplitl [HR]; · iexact HR
  isplitl [HW]; · iexact HW
  iintro ⟨H0, H1, H2, H3, H4, HT, HR, ⟨%W', HW'⟩⟩
  isplitl [Hg HT HR]
  · isplitl [Hg]; · iexact Hg
    isplitl [HT]; · iexact HT
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (leaves_4 m c t d4)
  rw [← left4_eq m c t d4]
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [launch_eq, show (dats m 0 c).Φ 0 = Inv m c 0 from rfl]
  unfold Inv ringAt; rw [if_pos (Or.inl rfl)]; unfold free
  iintro ⟨⟨⟨%f, HT⟩, HS⟩, Hg, ⟨C0, C1, C2, C3⟩, HW⟩
  isplitl [Hg]; · iexact Hg
  isplitl [HT]
  · iexists f; isplitr; · ipureintro; exact fun h => absurd rfl h
    iapply (ofEq (show _ = tilesP c f by unfold tilesP; rw [View.set_whole])); iexact HT
  ihave HS' := (slots_in (F := F) c) $$ HS
  icases HS' with ⟨S0, S1, S2, S3⟩
  ihave HW' := (halves c (V m c main_arg2)).1 $$ HW
  icases HW' with ⟨HL, HRt⟩
  ihave HL' := (quartersL c (V m c main_arg2)).1 $$ HL
  icases HL' with ⟨W0, W1⟩
  ihave HR' := (quartersR c (V m c main_arg2)).1 $$ HRt
  icases HR' with ⟨W2, W3⟩
  isplitl [C0 S0 W0]
  · isplitl [C0]; · iexact C0
    isplitl [S0]; · iexact S0
    iexact W0
  isplitl [C1 S1 W1]
  · isplitl [C1]; · iexact C1
    isplitl [S1]; · iexact S1
    iexact W1
  isplitl [C2 S2 W2]
  · isplitl [C2]; · iexact C2
    isplitl [S2]; · iexact S2
    iexact W2
  isplitl [C3]; · iexact C3
  isplitl [S3]; · iexact S3
  iexact W3

theorem hout (c : Dev nD) : (dats m 0 c).Φ (Fin.last cfg0.N) ⊢ Pipeline.ΦD osem0 spec0 H0 (V m) c := by
  rw [launch_eq, show (dats m 0 c).Φ (Fin.last cfg0.N) = Inv m c grid0.N from rfl]
  unfold Inv ringAt; rw [if_pos (Or.inr N_0)]; unfold free
  iintro ⟨Hg, ⟨%f, -, HT⟩, ⟨C0, S0, W0⟩, ⟨C1, S1, W1⟩, ⟨C2, S2, W2⟩, ⟨C3, S3, W3⟩⟩
  isplitl [HT S0 S1 S2 S3]
  · isplitl [HT]
    · iexists f; iapply (ofEq (show tilesP c f = _ by unfold tilesP; rw [View.set_whole])); iexact HT
    iapply (slots_out (F := F) c)
    isplitl [S0]; · iexact S0
    isplitl [S1]; · iexact S1
    isplitl [S2]; · iexact S2
    iexact S3
  isplitl [Hg]; · iexact Hg
  isplitl [C0 C1 C2 C3]
  · isplitl [C0]; · iexact C0
    isplitl [C1]; · iexact C1
    isplitl [C2]; · iexact C2
    iexact C3
  iapply (halves c (V m c main_arg2)).2
  isplitl [W0 W1]
  · iapply (quartersL c (V m c main_arg2)).2
    isplitl [W0]; · iexact W0
    iexact W1
  iapply (quartersR c (V m c main_arg2)).2
  isplitl [W2]; · iexact W2
  iexact W3

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run: every array at what the points left in it, every other buffer as launched, the counters at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain' m Variants.none) (hA := A_eq m) (hin := hin m) (hout := hout m)

/-- The arguments keep what they held. -/
theorem kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m ρ)

end Cert.Kernel2Ideal.Proj

end
-- ==== Proof.Act.lean ====
module

public import Idealize.ShloMosaic.Lib.Pipeline.ValueKit

@[expose] public section

noncomputable section

namespace Cert.Act

open Idealize.ShloMosaic

/-! # What a projection makes of a product -/

/-- The kernel's silu. -/
def ksilu (d : EReal) : EReal :=
  Ideal.ofBits .f32 0x3F000000#32 * d + (Ideal.ofBits .f32 0x3F000000#32 * d) * Ideal.tanh (Ideal.ofBits .f32 0x3F000000#32 * d)

/-- The first of three rows' share of their softmax. -/
def share (f : Fin 3 → EReal) : EReal :=
  Ideal.div (Ideal.exp (f 0 - Finset.fold max (Ideal.ofBits .f32 0xFF800000#32) f Finset.univ))
    (∑ x, Ideal.exp (f x - Finset.fold max (Ideal.ofBits .f32 0xFF800000#32) f Finset.univ))

/-- The forget gate over the lower bound `b`. -/
def kforget (b d : EReal) : EReal := b + (1 - b) * Ideal.div 1 (1 + Ideal.exp (0 - d))

/-- What gate `n` makes of a product `d`. -/
def act (n : ℕ) (f : Fin 3 → EReal) (d : EReal) : EReal := if n = 0 then ksilu d else if n = 1 then kforget (share f) d else d

theorem act_congr {n n' : ℕ} {f f' : Fin 3 → EReal} {d d' : EReal} (hn : n = n') (hf : n = 1 → ∀ k, f k = f' k) (hd : d = d') : act n f d = act n' f' d' := by
  subst hn hd
  unfold act
  split_ifs with h0 h1
  · rfl
  · rw [funext (hf h1)]
  · rfl

/-- The gate of a column. -/
def sec (q : ℕ) : ℕ := if q < 4096 then 0 else if q < 8192 then 1 else if q < 12288 then 2 else 0

/-! # The two silus agree on the reals -/

/-- The reference's silu. -/
def silu (d : EReal) : EReal := d * Ideal.div 1 (1 + Ideal.exp (-d))

/-- The reference's forget gate. -/
def forget (b d : EReal) : EReal := b + (1 - b) * Ideal.div 1 (1 + Ideal.exp (-d))

/-- What the reference makes of a product `d` in a column of gate `n`. -/
def plain (n : ℕ) (f : Fin 3 → EReal) (d : EReal) : EReal := if n = 0 then silu d else if n = 1 then forget (share f) d else d

theorem half : Ideal.ofBits .f32 0x3F000000#32 = (((1 / 2 : ℝ) : ℝ) : EReal) := by
  simp [Ideal.ofBits, Ideal.ieee]
  rw [← EReal.coe_mul]
  norm_num

theorem silu_real (r : ℝ) : ksilu r = silu r := by
  have hs : silu r = ((r * (1 + Real.exp (-r))⁻¹ : ℝ) : EReal) := by
    show (r : EReal) * Ideal.logistic r = _
    rw [Ideal.logistic_coe, EReal.coe_mul]
  rw [hs, ksilu, half, ← EReal.coe_mul, Ideal.tanh_coe, ← EReal.coe_mul, ← EReal.coe_add]
  refine congrArg _ ?_
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p := Real.exp_pos (1 / 2 * r)
  have p' := Real.exp_pos (-(1 / 2 * r))
  rw [Real.tanh_eq_sinh_div_cosh, Real.sinh_eq, Real.cosh_eq, h]
  generalize Real.exp (1 / 2 * r) = a at *
  generalize Real.exp (-(1 / 2 * r)) = b at *
  have e : (1 + b * b) = b * (a + b) := by rw [mul_add, mul_comm b a, h1]
  rw [e]
  have hb : b ≠ 0 := p'.ne'
  have hab : a + b ≠ 0 := (add_pos p p').ne'
  field_simp
  linear_combination (2 * r) * h1

theorem act_plain (n : ℕ) (f : Fin 3 → EReal) (r : ℝ) : act n f r = plain n f r := by
  unfold act plain
  split_ifs
  · exact silu_real r
  · unfold kforget forget
    rw [zero_sub]
  · rfl

/-- Four joined sections, each made of its own columns' products, are one formula of the column. -/
theorem joined (P : Fin 16384 → EReal) (f : Fin 4096 → Fin 3 → EReal) (q : Fin 16384) :
    (if _ : q.val < 4096 then silu (P ⟨q.val, q.isLt⟩)
      else if h : q.val - 4096 < 4096 then forget (share (f ⟨q.val - 4096, h⟩)) (P ⟨4096 + (q.val - 4096), by omega⟩)
      else if _ : q.val - 4096 - 4096 < 4096 then P ⟨8192 + (q.val - 4096 - 4096), by omega⟩
      else silu (P ⟨12288 + (q.val - 4096 - 4096 - 4096), by omega⟩))
    = plain (sec q.val) (f ⟨q.val % 4096, Nat.mod_lt _ (by decide)⟩) (P q) := by
  have hq := q.isLt
  have at_q : ∀ (n : ℕ) (h : n < 16384), n = q.val → P ⟨n, h⟩ = P q := fun n h e => congrArg P (Fin.ext e)
  split_ifs with h0 h1 h2
  · rw [show sec q.val = 0 from if_pos h0]
    rfl
  · rw [show sec q.val = 1 from (if_neg h0).trans (if_pos (by omega)), at_q _ _ (by omega)]
    refine Eq.trans ?_ ((if_neg one_ne_zero).trans (if_pos rfl)).symm
    exact congrArg (fun j => forget (share (f j)) (P q)) (Fin.ext (by show q.val - 4096 = q.val % 4096; omega))
  · rw [show sec q.val = 2 from (if_neg h0).trans ((if_neg (by omega)).trans (if_pos (by omega))), at_q _ _ (by omega)]
    exact ((if_neg (by decide)).trans (if_neg (by decide))).symm
  · rw [show sec q.val = 0 from (if_neg h0).trans ((if_neg (by omega)).trans (if_neg (by omega))), at_q _ _ (by omega)]
    rfl

end Cert.Act
end
-- ==== Proof.Gates.lean ====
module

public import proofs.«01_k».proof.Proof.Region
public import proofs.«01_k».proof.Proof.Act
public import Idealize.ShloMosaic.Lib.Pipeline.ValueKit

@[expose] public section

noncomputable section

namespace Cert.Kernel2Ideal.Proj

open Cert.Act Cert.Kernel2Ideal Cert.Kernel2Ideal.Gen Idealize.ShloMosaic Idealize.ShloMosaic.TcCoe

/-! # What a block of either output holds, element by element -/

section
variable (t : Fin grid0.N) (x : Vec Ideal S1024x4096 .bf16) (y : Vec Ideal S64x4096 .bf16) (T : Vec Ideal S1x4096x1024 .bf16) (l : Vec Ideal S3x1024 .f32)

theorem big_apply (p q : Fin 1024) :
    big (F := Ideal) t x T l (ix2 p q) = act (gate t) (fun k => l (ix2 k q)) (∑ k : Fin 4096, x (ix2 p k) * T (ix3 0 k q)) := by
  unfold big act
  split_ifs
  · pointwise [k0_pay4, k0_pay27]
    rfl
  · pointwise [k0_pay5, k0_pay30]
    rfl
  · pointwise [k0_pay6, k0_pay33]

theorem small_apply (p : Fin 64) (q : Fin 1024) :
    small (F := Ideal) t y T l (ix2 p q) = act (gate t) (fun k => l (ix2 k q)) (∑ k : Fin 4096, y (ix2 p k) * T (ix3 0 k q)) := by
  unfold small act
  split_ifs
  · pointwise [k0_pay1]
    rfl
  · pointwise [k0_pay2]
    rfl
  · pointwise [k0_pay3]
end

variable (m : (ℓ : Loc nD τ sig) → Buf (Elt Ideal) ℓ) (c : Dev nD)

/-! # The blocks, read off the arrays -/

/-- Column `q` of the point's tile, and row `p` of its row block. -/
def col (t : Fin cfg0.N) (q : Fin 1024) : Fin 16384 := ⟨1024 * (t.val / 8) + q.val, by have h := t.isLt; have e : cfg0.N = 128 := N_0; omega⟩
def row (t : Fin cfg0.N) (p : Fin 1024) : Fin 8192 := ⟨1024 * (t.val % 8) + p.val, by omega⟩
/-- The lower bounds' column the point's block starts from. -/
def lcol (t : Fin cfg0.N) (q : Fin 1024) : Fin 4096 := ⟨1024 * min (t.val / 8 - 4) 3 + q.val, by omega⟩

theorem idx : ∀ t : Fin cfg0.N, win0_0.index t = ![t.val % 8, 0] ∧ win0_1.index t = ![0, 0] ∧ win0_2.index t = ![0, min (t.val / 8 - 4) 3]
    ∧ win0_3.index t = ![t.val % 8, t.val / 8] ∧ win0_4.index t = ![0, t.val / 8] := by decide +kernel

theorem blk_x (t : Fin cfg0.N) (p : Fin 1024) (k : Fin 4096) : (iblk m c 0 t (ix2 p k) : EReal) = V m c main_arg0 (ix2 (row t p) k) := by
  blk_ext [iblk, idx t, row]
theorem blk_y (t : Fin cfg0.N) (p : Fin 64) (k : Fin 4096) : (iblk m c 1 t (ix2 p k) : EReal) = V m c main_arg1 (ix2 p k) := by
  blk_ext [iblk, idx t]
theorem blk_l (t : Fin cfg0.N) (k : Fin 3) (q : Fin 1024) : (iblk m c 2 t (ix2 k q) : EReal) = V m c main_arg3 (ix2 k (lcol t q)) := by
  blk_ext [iblk, idx t, lcol]

theorem tile_col (W : Buf (Elt Ideal) ((c : Thread nD τ).loc main_arg2)) (t : Fin cfg0.N) (k : Fin 4096) (q : Fin 1024) :
    (tile (F := Ideal) c W (t.val / 8) (ix3 0 k q) : EReal) = (W : S4096x16384.Idx → EReal) (ix2 k (col t q)) := by
  have hN : cfg0.N = 128 := N_0
  have := t.isLt
  show (W : S4096x16384.Idx → EReal) _ = _
  congr 2
  · exact Fin.ext (Nat.mod_eq_of_lt k.isLt)
  · exact Fin.ext (Nat.mod_eq_of_lt (by show 1024 * (t.val / 8) + q.val < 16384; omega))

/-! # The two outputs as one formula -/

/-- The product of row `r` of `X` with column `q` of `W`, through the column's gate. -/
def proj {R : ℕ} (X : (⟨2, ![R, 4096]⟩ : Shape).Idx → EReal) (W : S4096x16384.Idx → EReal) (L : S3x4096.Idx → EReal) (r : Fin R) (q : Fin 16384) : EReal :=
  act (sec q.val) (fun k => L (ix2 k ⟨q.val % 4096, Nat.mod_lt _ (by decide)⟩)) (∑ k : Fin 4096, X (ix2 r k) * W (ix2 k q))

theorem sec_col (t : Fin cfg0.N) (q : Fin 1024) : gate t = sec (col t q).val := by
  unfold gate sec col
  have hN : cfg0.N = 128 := N_0
  have := t.isLt
  split_ifs <;> first | rfl | (exfalso; simp only at *; omega)

theorem lcol_eq (t : Fin cfg0.N) (q : Fin 1024) (h : gate t = 1) : lcol t q = ⟨(col t q).val % 4096, Nat.mod_lt _ (by decide)⟩ := by
  have h4 : 4 ≤ t.val / 8 ∧ t.val / 8 < 8 := by unfold gate at h; split_ifs at h <;> first | omega | simp at h
  refine Fin.ext ?_
  show 1024 * min (t.val / 8 - 4) 3 + q.val = (1024 * (t.val / 8) + q.val) % 4096
  omega

def G3 (i : S8192x16384.Idx) : EReal := proj (V m c main_arg0) (V m c main_arg2) (V m c main_arg3) (i 0) (i 1)
def G4 (i : S64x16384.Idx) : EReal := proj (V m c main_arg1) (V m c main_arg2) (V m c main_arg3) (i 0) (i 1)

theorem final3 : (dats m 0 c).arrAt 3 cfg0.N = G3 m c := by
  refine (dats m 0 c).arrAt_eq_of_covers 3 _ (by decide +kernel) fun t hf y => ?_
  blk_simp
  rw [after_3]
  have e : (win0_3.blk t).view.emb y = ix2 (row t (y 0)) (col t (y 1)) := by blk_ext [idx t, row, col]
  refine Eq.trans ?_ (congrArg (G3 m c) e).symm
  obtain ⟨p, q, rfl⟩ : ∃ (p q : Fin 1024), y = ix2 p q := ⟨_, _, eq_ix2 y⟩
  refine (big_apply t _ _ _ p q).trans (act_congr (sec_col t q) (fun h k => ?_) (Finset.sum_congr rfl fun k _ => ?_))
  · exact (blk_l m c t k q).trans (congrArg (fun z => V m c main_arg3 (ix2 k z)) (lcol_eq t q h))
  · exact congrArg₂ (· * ·) (blk_x m c t p k) (tile_col c _ t k q)

theorem final4 : (dats m 0 c).arrAt 4 cfg0.N = G4 m c := by
  refine (dats m 0 c).arrAt_eq_of_covers 4 _ (by decide +kernel) fun t hf y => ?_
  blk_simp
  rw [after_4]
  have e : (win0_4.blk t).view.emb y = ix2 (y 0) (col (head t) (y 1)) := by
    have hh : (head t).val / 8 = t.val / 8 := by show 8 * (t.val / 8) / 8 = _; omega
    blk_ext [idx t, col, hh]
  refine Eq.trans ?_ (congrArg (G4 m c) e).symm
  obtain ⟨p, q, rfl⟩ : ∃ (p : Fin 64) (q : Fin 1024), y = ix2 p q := ⟨_, _, eq_ix2 y⟩
  refine (small_apply (head t) _ _ _ p q).trans (act_congr (sec_col (head t) q) (fun h k => ?_) (Finset.sum_congr rfl fun k _ => ?_))
  · exact (blk_l m c (head t) k q).trans (congrArg (fun z => V m c main_arg3 (ix2 k z)) (lcol_eq (head t) q h))
  · exact congrArg₂ (· * ·) (blk_y m c (head t) p k) (tile_col c _ (head t) k q)

end Cert.Kernel2Ideal.Proj
end
-- ==== Proof.Plain2.lean ====
module

public import proofs.«01_k».proof.Proof.Gen.Reference2Ideal.Read
public import proofs.«01_k».proof.Proof.Act
public import Idealize.ShloMosaic.Lib.Pipeline.ValueKit

@[expose] public section

noncomputable section

namespace Cert.Reference2Ideal.Read

open Idealize.ShloMosaic Cert.Act Cert.Reference2Ideal

/-! # The two projections, element by element -/

variable (x0 : S8192x4096.Idx → EReal) (x1 : S64x4096.Idx → EReal) (x2 : S4096x16384.Idx → EReal) (x3 : S3x4096.Idx → EReal)

theorem one_init : Ideal.ofBits .f32 0x3F800000#32 = 1 := by
  simp [Ideal.ofBits, Ideal.ieee]
  rw [← EReal.coe_mul]
  norm_num
theorem ninf_init : Ideal.ofBits .f32 0xFF800000#32 = ⊥ := by simp [Ideal.ofBits, Ideal.ieee]

/-- The lower bound of a column: the first row's share of the softmax over the three rows. -/
theorem bound_apply (q : Fin 4096) : val_main_v12 (F := Ideal) x3 (ix1 q) = share (fun k => x3 (ix2 k q)) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  unfold share
  simp only [ninf_init, bot_le, sup_of_le_right]

/-- The large output's element, and the small one's. -/
theorem big_apply (r : Fin 8192) (q : Fin 16384) : val_main_v35 (F := Ideal) x0 x2 x3 (ix2 r q)
    = plain (sec q.val) (fun k => x3 (ix2 k ⟨q.val % 4096, Nat.mod_lt _ (by decide)⟩)) (∑ k : Fin 4096, x0 (ix2 r k) * x2 (ix2 k q)) := by
  have ed : ∀ q, val_main_v14 (F := Ideal) x0 x2 (ix2 r q) = ∑ k : Fin 4096, x0 (ix2 r k) * x2 (ix2 k q) := fun q => by
    pointwise [val_main_v14, val_main_v13]
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_cst_2, val_main_cst_3, val_main_cst_4, val_main_call0_v5, val_main_call0_v4, val_main_call0_v3,
    val_main_call0_v2, val_main_call0_v1, val_main_call0_v0, val_main_call0_cst, val_main_call0_cst_0, val_main_call1_v5, val_main_call1_v4,
    val_main_call1_v3, val_main_call1_v2, val_main_call1_v1, val_main_call1_v0, val_main_call1_cst, val_main_call1_cst_0]
  simp only [bound_apply, ed]
  exact joined (fun q => ∑ k : Fin 4096, x0 (ix2 r k) * x2 (ix2 k q)) (fun j k => x3 (ix2 k j)) q

theorem small_apply (r : Fin 64) (q : Fin 16384) : val_main_v58 (F := Ideal) x1 x2 x3 (ix2 r q)
    = plain (sec q.val) (fun k => x3 (ix2 k ⟨q.val % 4096, Nat.mod_lt _ (by decide)⟩)) (∑ k : Fin 4096, x1 (ix2 r k) * x2 (ix2 k q)) := by
  have ed : ∀ q, val_main_v37 (F := Ideal) x1 x2 (ix2 r q) = ∑ k : Fin 4096, x1 (ix2 r k) * x2 (ix2 k q) := fun q => by
    pointwise [val_main_v37, val_main_v36]
  pointwise [val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40,
    val_main_v39, val_main_v38, val_main_cst_5, val_main_cst_6, val_main_cst_7, val_main_call2_v5, val_main_call2_v4, val_main_call2_v3,
    val_main_call2_v2, val_main_call2_v1, val_main_call2_v0, val_main_call2_cst, val_main_call2_cst_0, val_main_call3_v5, val_main_call3_v4,
    val_main_call3_v3, val_main_call3_v2, val_main_call3_v1, val_main_call3_v0, val_main_call3_cst, val_main_call3_cst_0]
  simp only [bound_apply, ed]
  exact joined (fun q => ∑ k : Fin 4096, x1 (ix2 r k) * x2 (ix2 k q)) (fun j k => x3 (ix2 k j)) q

end Cert.Reference2Ideal.Read
end
-- ==== Proof.Agree2.lean ====
module

public import proofs.«01_k».proof.Defs
public import proofs.«01_k».proof.Proof.Agree
public import proofs.«01_k».proof.Proof.Gates
public import proofs.«01_k».proof.Proof.Plain2
public import proofs.«01_k».proof.Proof.Gen.Pre_finite_inputs

@[expose] public section

noncomputable section

namespace Cert.Kernel2Ideal.Proj

open Cert.Act Cert.Kernel2Ideal Cert.Kernel2Ideal.Gen Idealize.ShloMosaic Idealize.ShloMosaic.TcCoe
open Cert.KernelIdeal.Sample (real_of_olt sum_coe)

/-! # The projection agrees with the reference's -/

/-- Under the precondition both blocks of rows and the weights are real. -/
theorem reals (m : (ℓ : Loc nD τ sig) → Buf (Elt Ideal) ℓ) (h : Cert.Pre_Kernel2Ideal_finite_inputs m) (c : Dev nD) :
    (∀ i, ∃ r : ℝ, (m ((c : Thread nD τ).loc main_arg0) i : EReal) = (r : EReal)) ∧ (∀ i, ∃ r : ℝ, (m ((c : Thread nD τ).loc main_arg1) i : EReal) = (r : EReal))
    ∧ (∀ i, ∃ r : ℝ, (m ((c : Thread nD τ).loc main_arg2) i : EReal) = (r : EReal)) := by
  have e := congrFun (h c) ix0
  unfold Cert.Pre_finite_inputs.fn at e
  obtain ⟨e, e2⟩ := IntOp.andi_eq_one.1 e
  obtain ⟨e0, e1⟩ := IntOp.andi_eq_one.1 e
  haveI : Subsingleton (⟨0, ![]⟩ : Shape).Idx := ⟨fun a b => funext fun i => i.elim0⟩
  exact ⟨fun i => real_of_olt _ (Host.reduce_andi_all _ _ _ _ _ e0 i), fun i => real_of_olt _ (Host.reduce_andi_all _ _ _ _ _ e1 i),
    fun i => real_of_olt _ (Host.reduce_andi_all _ _ _ _ _ e2 i)⟩

/-- Over real rows and weights the kernel's formula of a column is the reference's. -/
theorem proj_plain {R : ℕ} (X : (⟨2, ![R, 4096]⟩ : Shape).Idx → EReal) (W : S4096x16384.Idx → EReal) (L : S3x4096.Idx → EReal)
    (fX : ∀ i, ∃ r : ℝ, X i = r) (fW : ∀ i, ∃ r : ℝ, W i = r) (r : Fin R) (q : Fin 16384) :
    proj X W L r q = plain (sec q.val) (fun k => L (ix2 k ⟨q.val % 4096, Nat.mod_lt _ (by decide)⟩)) (∑ k : Fin 4096, X (ix2 r k) * W (ix2 k q)) := by
  choose x hx using fX
  choose w hw using fW
  unfold proj
  have e : (∑ k : Fin 4096, X (ix2 r k) * W (ix2 k q)) = ((∑ k : Fin 4096, x (ix2 r k) * w (ix2 k q) : ℝ) : EReal) :=
    (Finset.sum_congr rfl fun k _ => by rw [hx, hw, EReal.coe_mul]).trans (sum_coe _ _)
  rw [e]
  exact act_plain _ _ _

variable (m : (ℓ : Loc nD τ sig) → Buf (Elt Ideal) ℓ) (c : Dev nD)

/-- The large output of the kernel is the reference's over arguments that are equal to the kernel's, -/
theorem agree3 (hp : Cert.Pre_Kernel2Ideal_finite_inputs m) (x0 : S8192x4096.Idx → EReal) (x2 : S4096x16384.Idx → EReal) (x3 : S3x4096.Idx → EReal)
    (h0 : x0 = m ((c : Thread nD τ).loc main_arg0)) (h2 : x2 = m ((c : Thread nD τ).loc main_arg2)) (h3 : x3 = m ((c : Thread nD τ).loc main_arg3)) :
    Cert.Reference2Ideal.Read.val_main_v35 (F := Ideal) x0 x2 x3 = (dats m 0 c).arrAt 3 cfg0.N := by
  obtain ⟨f0, -, f2⟩ := reals m hp c
  subst h0 h2 h3
  rw [final3]
  funext i
  obtain ⟨r, q, rfl⟩ : ∃ (r : Fin 8192) (q : Fin 16384), i = ix2 r q := ⟨i 0, i 1, eq_ix2 i⟩
  exact (Cert.Reference2Ideal.Read.big_apply _ _ _ r q).trans (proj_plain _ _ _ f0 f2 r q).symm

/-- and so is the small one. -/
theorem agree4 (hp : Cert.Pre_Kernel2Ideal_finite_inputs m) (x1 : S64x4096.Idx → EReal) (x2 : S4096x16384.Idx → EReal) (x3 : S3x4096.Idx → EReal)
    (h1 : x1 = m ((c : Thread nD τ).loc main_arg1)) (h2 : x2 = m ((c : Thread nD τ).loc main_arg2)) (h3 : x3 = m ((c : Thread nD τ).loc main_arg3)) :
    Cert.Reference2Ideal.Read.val_main_v58 (F := Ideal) x1 x2 x3 = (dats m 0 c).arrAt 4 cfg0.N := by
  obtain ⟨-, f1, f2⟩ := reals m hp c
  subst h1 h2 h3
  rw [final4]
  funext i
  obtain ⟨r, q, rfl⟩ : ∃ (r : Fin 64) (q : Fin 16384), i = ix2 r q := ⟨i 0, i 1, eq_ix2 i⟩
  exact (Cert.Reference2Ideal.Read.small_apply _ _ _ r q).trans (proj_plain _ _ _ f1 f2 r q).symm

end Cert.Kernel2Ideal.Proj
end
-- ==== Proof.Ring3.lean ====
/- The scaled projection's weight stream: the four slots of the staging scratch, the cells their transfers complete on, the blocks of
   the weight matrix they bring in, and what is held of them before each grid point. -/
module

public import proofs.«01_k».proof.Proof.Gen.Kernel3Ideal.Frame
public import Idealize.ShloMosaic.Lib.Ring
public import Idealize.ShloMosaic.Lib.Tactic
public import Idealize.ShloMosaic.Lib.WordCmp

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## Names -/

/-- The scratch holding two tiles of the weights, rounded. -/
abbrev tilesM : Memref sig .tc .vmem S2x4096x1024 .bf16 := Memref.whole cc0_scratch0
/-- The scratch the transfers land in. -/
abbrev stageM : Memref sig .tc .vmem S4x256x1024 .f32 := Memref.whole cc0_scratch1
/-- The weights, left in HBM. -/
abbrev weightM : Memref sig .tc .hbm S4096x9216 .f32 := Memref.whole main_arg2

/-- The slot part `u` of step `k` lands in. -/
def sl (k : ℕ) (u : Fin 2) : Fin 4 := ⟨2 * (k % 2) + u.val, by omega⟩
/-- The row and the column block `(k, u)` starts at: 256 rows of the tile after the one step `k` multiplies by. -/
def brow (k : ℕ) (u : Fin 2) : ℕ := 512 * (k % 8) + 256 * u.val
def bcol (k : ℕ) : ℕ := 1024 * min (k / 8 + 1) 8

theorem inb_slot (s : Fin 4) : ∀ a, (![s.val, 0, 0] : Fin 3 → ℕ) a + S1x256x1024.size a ≤ S4x256x1024.size a := by
  have := s.isLt; intro a; fin_cases a <;> simp <;> omega
theorem inb_src (k : ℕ) (u : Fin 2) : ∀ a, (![brow k u, bcol k] : Fin 2 → ℕ) a + S256x1024.size a ≤ S4096x9216.size a := by
  have := u.isLt; intro a; fin_cases a <;> simp [brow, bcol] <;> omega
theorem inb_cell (s : Fin 4) : ∀ a, (![s.val] : Fin 1 → ℕ) a + S1.size a ≤ S4.size a := by
  have := s.isLt; intro a; fin_cases a <;> simp <;> omega

def slotM (s : Fin 4) : Memref sig .tc .vmem S256x1024 .f32 :=
  (stageM.slice (Rect.unit (s := S4x256x1024) ![s.val, 0, 0] S1x256x1024.size (inb_slot s)) (fun _ => rfl)).squeeze S256x1024 squeezes_S1x256x1024_S256x1024
def srcM (k : ℕ) (u : Fin 2) : Memref sig .tc .hbm S256x1024 .f32 :=
  weightM.slice (Rect.unit (s := S4096x9216) ![brow k u, bcol k] S256x1024.size (inb_src k u)) (fun _ => rfl)
def cellM (s : Fin 4) : DmaSems sig S_ := (cc0_scratch2.slice (Rect.unit (s := S4) ![s.val] S1.size (inb_cell s))).squeeze S_ squeezes_S1_S_
abbrev cellL (s : Fin 4) : SemLoc sig := SemLoc.dma (cellM s).sem

/-- A whole buffer's contents on a core, as the memref's view types them. -/
abbrev At (c : Dev nD) {sp : Space} {S : Shape} {e : EltTy} (M : Memref sig .tc sp S e) : Type := Buf (Elt F) (M.view.loc (c : Thread nD τ))

/-! ## What is held -/

section Held
variable (c : Dev nD) (W : At (F := F) c weightM)

/-- Each slot borrows from its own quarter of the weights. -/
abbrev sh (s : Fin 4) : PosShare TreeShare :=
  if s.val = 0 then fullShare.left.left else if s.val = 1 then fullShare.left.right
  else if s.val = 2 then fullShare.right.left else fullShare.right.right

abbrev slotP (s : Fin 4) (f : At (F := F) c (slotM s)) : sProp 𝕄 := (slotM s).view.loc (c : Thread nD τ) ↦[(slotM s).view.set]{fullShare} f
abbrev cellP (s : Fin 4) : sProp 𝕄 := semVal ((c : Thread nD τ), cellL s) 0
abbrev srcP (s : Fin 4) (k : ℕ) (u : Fin 2) : sProp 𝕄 := (srcM k u).view.loc (c : Thread nD τ) ↦[(srcM k u).view.set]{sh s} W
def restP (s : Fin 4) (k : ℕ) (u : Fin 2) : sProp 𝕄 := ((c : Thread nD τ).loc main_arg2) ↦[Finset.univ \ (srcM k u).view.set]{sh s} W
abbrev wholeP (s : Fin 4) : sProp 𝕄 := ((c : Thread nD τ).loc main_arg2) ↦[Finset.univ]{sh s} W
/-- The slot's contents once block `(k, u)` has landed in it. -/
abbrev landed (s : Fin 4) (k : ℕ) (u : Fin 2) (f : At (F := F) c (slotM s)) : At (F := F) c (slotM s) :=
  (slotM s).view.writes (Elt F) f [⟨Rect.whole S256x1024, ReadAs.same.apply ((srcM k u).view.read (Elt F) W)⟩]
abbrev flightP (s : Fin 4) (k : ℕ) (u : Fin 2) (f : At (F := F) c (slotM s)) : sProp 𝕄 :=
  Transfers.Flight countersEmb (c : Thread nD τ) (cellL s) default ((slotM s).view.amount (cellL s))
    iprop(slotP c s (landed c W s k u f) ∗ srcP c W s k u)

/-- Slot `s` free: its cell at zero, its elements at something, its quarter of the weights whole. -/
def free (s : Fin 4) : sProp 𝕄 := iprop(cellP (F := F) c s ∗ (∃ f, slotP c s f) ∗ wholeP c W s)
/-- Block `(k, u)` in flight into slot `s`. -/
def busy (s : Fin 4) (k : ℕ) (u : Fin 2) : sProp 𝕄 := iprop((∃ f, flightP c W s k u f) ∗ restP c W s k u)

/-- Before point `k`: all slots free at the start and at the end; in between the point's two blocks in flight, the other two slots free. -/
def ringAt (k : ℕ) : sProp 𝕄 :=
  if k = 0 ∨ k = 72 then iprop(free c W 0 ∗ free c W 1 ∗ free c W 2 ∗ free c W 3)
  else iprop(busy c W (sl k 0) k 0 ∗ busy c W (sl k 1) k 1 ∗ free c W (sl (k + 1) 0) ∗ free c W (sl (k + 1) 1))

theorem src_split (s : Fin 4) (k : ℕ) (u : Fin 2) : wholeP c W s ⊣⊢ iprop(srcP c W s k u ∗ restP c W s k u) := by
  unfold restP; exact pointsTo_split_subset (Finset.subset_univ _)

abbrev halfL : sProp 𝕄 := ((c : Thread nD τ).loc main_arg2) ↦[Finset.univ]{fullShare.left} W
abbrev halfR : sProp 𝕄 := ((c : Thread nD τ).loc main_arg2) ↦[Finset.univ]{fullShare.right} W
theorem halves : (((c : Thread nD τ).loc main_arg2) ↦{fullShare} W : sProp 𝕄) ⊣⊢ iprop(halfL c W ∗ halfR c W) :=
  pointsTo_share (PosShare.mem_left_op_right fullShare)
theorem quartersL : (halfL c W : sProp 𝕄) ⊣⊢ iprop(wholeP c W 0 ∗ wholeP c W 1) :=
  pointsTo_share (PosShare.mem_left_op_right fullShare.left)
theorem quartersR : (halfR c W : sProp 𝕄) ⊣⊢ iprop(wholeP c W 2 ∗ wholeP c W 3) :=
  pointsTo_share (PosShare.mem_left_op_right fullShare.right)

/-- The four free slots, those of the even steps first or those of the odd steps. -/
theorem ring_start (k : ℕ) (hk : k = 0 ∨ k = 72) : ringAt c W k = iprop(free c W (sl k 0) ∗ free c W (sl k 1) ∗ free c W (sl (k + 1) 0) ∗ free c W (sl (k + 1) 1)) := by
  unfold ringAt; rw [if_pos hk]; rcases hk with rfl | rfl <;> rfl
theorem ring_mid (k : ℕ) (h0 : k ≠ 0) (h1 : k ≠ 72) :
    ringAt c W k = iprop(busy c W (sl k 0) k 0 ∗ busy c W (sl k 1) k 1 ∗ free c W (sl (k + 1) 0) ∗ free c W (sl (k + 1) 1)) := by
  unfold ringAt; rw [if_neg (by omega)]
end Held

/-! ## The launch's pieces and the four free slots -/

abbrev slotSet (s : Fin 4) : Finset S4x256x1024.Idx := (Rect.unit (s := S4x256x1024) ![s.val, 0, 0] S1x256x1024.size (inb_slot s)).set
theorem slotSet_eq (s : Fin 4) : (slotM s).view.set = slotSet s := by
  simp only [slotM, Memref.view_squeeze, View.set_reshape]; exact View.set_slice_whole _ _
theorem slots_disjoint (s s' : Fin 4) (h : s ≠ s') : Disjoint (slotSet s) (slotSet s') :=
  Ring.lead_disjoint (s := S4x256x1024) (0 : Fin 3) 1 (fun s : Fin 4 => (![s.val, 0, 0] : Fin 3 → ℕ)) S1x256x1024.size inb_slot (fun s => by simp) rfl s s' h
theorem slots_cover : Finset.univ.biUnion slotSet = Finset.univ :=
  Ring.lead_cover (s := S4x256x1024) (0 : Fin 3) 1 (fun s : Fin 4 => (![s.val, 0, 0] : Fin 3 → ℕ)) S1x256x1024.size inb_slot (fun s => by simp)
    (fun s a ha => by fin_cases a <;> first | exact absurd rfl ha | rfl) rfl (fun a ha => by fin_cases a <;> first | exact absurd rfl ha | rfl) rfl

end Cert.Kernel3Ideal.Proj

end
-- ==== Proof.Offs3.lean ====
/- The scaled projection's conditions and offsets in closed form over its 72 grid points, and the names of the slices it takes. -/
module

public import proofs.«01_k».proof.Proof.Ring3

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open Idealize.SL.Sem

/-! ## Conditions -/

/-- Which gate the tile of point `t` takes. -/
def gate (t : Fin grid0.N) : ℕ := if t.val / 8 < 4 then 0 else if t.val / 8 = 4 then 1 else 2

theorem c1_iff : ∀ t : Fin grid0.N, k0_cond1 (grid0.coords t) = 1#1 ↔ t.val = 0 := by decide +kernel
theorem c2_iff : ∀ t : Fin grid0.N, k0_cond2 (grid0.coords t) = 1#1 ↔ t.val < 71 := by decide +kernel
theorem c3_iff : ∀ t : Fin grid0.N, k0_cond3 (grid0.coords t) = 1#1 ↔ t.val % 8 = 0 := by decide +kernel
theorem c4_iff : ∀ t : Fin grid0.N, k0_cond4 (grid0.coords t) = 1#1 ↔ gate t = 0 := by decide +kernel
theorem c5_iff : ∀ t : Fin grid0.N, k0_cond5 (grid0.coords t) = 1#1 ↔ gate t = 1 := by decide +kernel
theorem c6_iff : ∀ t : Fin grid0.N, k0_cond6 (grid0.coords t) = 1#1 ↔ gate t = 0 := by decide +kernel
theorem c7_iff : ∀ t : Fin grid0.N, k0_cond7 (grid0.coords t) = 1#1 ↔ gate t = 1 := by decide +kernel
theorem live5 : ∀ t : Fin grid0.N, idle0 5 (grid0.coords t) = false := by decide +kernel
theorem idle6 : ∀ t : Fin grid0.N, idle0 6 (grid0.coords t) = !decide (t.val % 8 = 0) := by decide +kernel

/-! ## Offsets -/

set_option synthInstance.maxSize 4096 in
theorem off3_0 : ∀ t : Fin grid0.N, k0_off3 (grid0.coords t) 0#32 = ![(sl t.val 0).val] := by decide +kernel
set_option synthInstance.maxSize 4096 in
theorem off4_0 : ∀ t : Fin grid0.N, k0_off4 (grid0.coords t) 0#32 = ![(sl t.val 0).val, 0, 0] := by decide +kernel
set_option synthInstance.maxSize 4096 in
theorem off5_0 : ∀ t : Fin grid0.N, k0_off5 (grid0.coords t) 0#32 = ![brow t.val 0, bcol t.val] := by decide +kernel
set_option synthInstance.maxSize 4096 in
theorem off6_0 : ∀ t : Fin grid0.N, k0_off6 (grid0.coords t) 0#32 = ![(sl (t.val + 1) 0).val] := by decide +kernel
set_option synthInstance.maxSize 4096 in
theorem off7_0 : ∀ t : Fin grid0.N, k0_off7 (grid0.coords t) 0#32 = ![(sl (t.val + 1) 0).val, 0, 0] := by decide +kernel
set_option synthInstance.maxSize 4096 in
theorem off8_0 : ∀ t : Fin grid0.N, t.val < 71 → k0_off8 (grid0.coords t) 0#32 = ![brow (t.val + 1) 0, bcol (t.val + 1)] := by decide +kernel
set_option synthInstance.maxSize 4096 in
theorem off12_0 : ∀ t : Fin grid0.N, k0_off12 (grid0.coords t) 0#32 = ![(sl t.val 0).val, 0, 0] := by decide +kernel
set_option synthInstance.maxSize 4096 in
theorem off16_0 : ∀ t : Fin grid0.N, k0_off16 (grid0.coords t) 0#32 = ![(sl t.val 0).val, 0, 0] := by decide +kernel
set_option synthInstance.maxSize 4096 in
theorem off20_0 : ∀ t : Fin grid0.N, k0_off20 (grid0.coords t) 0#32 = ![(sl t.val 0).val, 0, 0] := by decide +kernel
set_option synthInstance.maxSize 4096 in
theorem off14_0 : ∀ t : Fin grid0.N, k0_off14 (grid0.coords t) 0#32 = ![1 - t.val / 8 % 2, brow t.val 0, 0] := by decide +kernel
set_option synthInstance.maxSize 4096 in
theorem off18_0 : ∀ t : Fin grid0.N, k0_off18 (grid0.coords t) 0#32 = ![1 - t.val / 8 % 2, brow t.val 0, 0] := by decide +kernel
set_option synthInstance.maxSize 4096 in
theorem off22_0 : ∀ t : Fin grid0.N, k0_off22 (grid0.coords t) 0#32 = ![1 - t.val / 8 % 2, brow t.val 0, 0] := by decide +kernel
set_option synthInstance.maxSize 4096 in
theorem off3_1 : ∀ t : Fin grid0.N, k0_off3 (grid0.coords t) 1#32 = ![(sl t.val 1).val] := by decide +kernel
set_option synthInstance.maxSize 4096 in
theorem off4_1 : ∀ t : Fin grid0.N, k0_off4 (grid0.coords t) 1#32 = ![(sl t.val 1).val, 0, 0] := by decide +kernel
set_option synthInstance.maxSize 4096 in
theorem off5_1 : ∀ t : Fin grid0.N, k0_off5 (grid0.coords t) 1#32 = ![brow t.val 1, bcol t.val] := by decide +kernel
set_option synthInstance.maxSize 4096 in
theorem off6_1 : ∀ t : Fin grid0.N, k0_off6 (grid0.coords t) 1#32 = ![(sl (t.val + 1) 1).val] := by decide +kernel
set_option synthInstance.maxSize 4096 in
theorem off7_1 : ∀ t : Fin grid0.N, k0_off7 (grid0.coords t) 1#32 = ![(sl (t.val + 1) 1).val, 0, 0] := by decide +kernel
set_option synthInstance.maxSize 4096 in
theorem off8_1 : ∀ t : Fin grid0.N, t.val < 71 → k0_off8 (grid0.coords t) 1#32 = ![brow (t.val + 1) 1, bcol (t.val + 1)] := by decide +kernel
set_option synthInstance.maxSize 4096 in
theorem off12_1 : ∀ t : Fin grid0.N, k0_off12 (grid0.coords t) 1#32 = ![(sl t.val 1).val, 0, 0] := by decide +kernel
set_option synthInstance.maxSize 4096 in
theorem off16_1 : ∀ t : Fin grid0.N, k0_off16 (grid0.coords t) 1#32 = ![(sl t.val 1).val, 0, 0] := by decide +kernel
set_option synthInstance.maxSize 4096 in
theorem off20_1 : ∀ t : Fin grid0.N, k0_off20 (grid0.coords t) 1#32 = ![(sl t.val 1).val, 0, 0] := by decide +kernel
set_option synthInstance.maxSize 4096 in
theorem off14_1 : ∀ t : Fin grid0.N, k0_off14 (grid0.coords t) 1#32 = ![1 - t.val / 8 % 2, brow t.val 1, 0] := by decide +kernel
set_option synthInstance.maxSize 4096 in
theorem off18_1 : ∀ t : Fin grid0.N, k0_off18 (grid0.coords t) 1#32 = ![1 - t.val / 8 % 2, brow t.val 1, 0] := by decide +kernel
set_option synthInstance.maxSize 4096 in
theorem off22_1 : ∀ t : Fin grid0.N, k0_off22 (grid0.coords t) 1#32 = ![1 - t.val / 8 % 2, brow t.val 1, 0] := by decide +kernel
set_option synthInstance.maxSize 4096 in
theorem off9_eq : ∀ t : Fin grid0.N, k0_off9 (grid0.coords t) = ![t.val / 8 % 2, 0, 0] := by decide +kernel
set_option synthInstance.maxSize 4096 in
theorem off10_eq : ∀ t : Fin grid0.N, k0_off10 (grid0.coords t) = ![t.val / 8 % 2, 0, 0] := by decide +kernel
set_option synthInstance.maxSize 4096 in
theorem off11_eq : ∀ t : Fin grid0.N, k0_off11 (grid0.coords t) = ![t.val / 8 % 2, 0, 0] := by decide +kernel
set_option synthInstance.maxSize 4096 in
theorem off15_eq : ∀ t : Fin grid0.N, k0_off15 (grid0.coords t) = ![t.val / 8 % 2, 0, 0] := by decide +kernel
set_option synthInstance.maxSize 4096 in
theorem off19_eq : ∀ t : Fin grid0.N, k0_off19 (grid0.coords t) = ![t.val / 8 % 2, 0, 0] := by decide +kernel
set_option synthInstance.maxSize 4096 in
theorem off23_eq : ∀ t : Fin grid0.N, k0_off23 (grid0.coords t) = ![t.val / 8 % 2, 0, 0] := by decide +kernel
set_option synthInstance.maxSize 4096 in
theorem off13_0 : ∀ t : Fin grid0.N, k0_off13 (grid0.coords t) 0#32 = ![brow t.val 0, 0] := by decide +kernel
set_option synthInstance.maxSize 4096 in
theorem off13_1 : ∀ t : Fin grid0.N, k0_off13 (grid0.coords t) 1#32 = ![brow t.val 1, 0] := by decide +kernel
set_option synthInstance.maxSize 4096 in
theorem off17_0 : ∀ t : Fin grid0.N, k0_off17 (grid0.coords t) 0#32 = ![brow t.val 0, 0] := by decide +kernel
set_option synthInstance.maxSize 4096 in
theorem off17_1 : ∀ t : Fin grid0.N, k0_off17 (grid0.coords t) 1#32 = ![brow t.val 1, 0] := by decide +kernel
set_option synthInstance.maxSize 4096 in
theorem off21_0 : ∀ t : Fin grid0.N, k0_off21 (grid0.coords t) 0#32 = ![brow t.val 0, 0] := by decide +kernel
set_option synthInstance.maxSize 4096 in
theorem off21_1 : ∀ t : Fin grid0.N, k0_off21 (grid0.coords t) 1#32 = ![brow t.val 1, 0] := by decide +kernel
theorem off1_eq : k0_off1 = ![brow 0 0, bcol 0] := by decide +kernel
theorem off2_eq : k0_off2 = ![brow 0 1, bcol 0] := by decide +kernel

/-! ## The slices' names -/

@[sl_canon] theorem canon3_0 (t : Fin grid0.N) (h : ¬ k0_cond1 (grid0.coords t) = 1#1) :
    (cc0_scratch2.slice (Rect.unit (s := S4) (k0_off3 (grid0.coords t) 0#32) S1.size (k0_off3_inb (grid0.coords t) 0))).squeeze S_ squeezes_S1_S_ = cellM (sl t.val 0) :=
  congrArg (fun A : DmaSems sig S1 => A.squeeze S_ squeezes_S1_S_) (SemArray.slice_unit_congr _ (off3_0 t) _ _)
@[sl_canon] theorem canon4_0 (t : Fin grid0.N) (h : ¬ k0_cond1 (grid0.coords t) = 1#1) :
    (stageM.slice (Rect.unit (s := S4x256x1024) (k0_off4 (grid0.coords t) 0#32) S1x256x1024.size (k0_off4_inb (grid0.coords t) 0)) (fun _ => rfl)).squeeze S256x1024 squeezes_S1x256x1024_S256x1024 = slotM (sl t.val 0) :=
  congrArg (fun M : Memref sig .tc .vmem S1x256x1024 .f32 => M.squeeze S256x1024 squeezes_S1x256x1024_S256x1024) (Memref.slice_unit_congr _ (off4_0 t) _ _ (fun _ => rfl) (fun _ => rfl))
@[sl_canon] theorem canon5_0 (t : Fin grid0.N) :
    weightM.slice (Rect.unit (s := S4096x9216) (k0_off5 (grid0.coords t) 0#32) S256x1024.size (k0_off5_inb (grid0.coords t) 0)) (fun _ => rfl) = srcM t.val 0 :=
  Memref.slice_unit_congr _ (off5_0 t) _ _ (fun _ => rfl) (fun _ => rfl)
@[sl_canon] theorem canon6_0 (t : Fin grid0.N) (h : k0_cond2 (grid0.coords t) = 1#1) :
    (cc0_scratch2.slice (Rect.unit (s := S4) (k0_off6 (grid0.coords t) 0#32) S1.size (k0_off6_inb (grid0.coords t) h 0))).squeeze S_ squeezes_S1_S_ = cellM (sl (t.val + 1) 0) :=
  congrArg (fun A : DmaSems sig S1 => A.squeeze S_ squeezes_S1_S_) (SemArray.slice_unit_congr _ (off6_0 t) _ _)
@[sl_canon] theorem canon7_0 (t : Fin grid0.N) (h : k0_cond2 (grid0.coords t) = 1#1) :
    (stageM.slice (Rect.unit (s := S4x256x1024) (k0_off7 (grid0.coords t) 0#32) S1x256x1024.size (k0_off7_inb (grid0.coords t) h 0)) (fun _ => rfl)).squeeze S256x1024 squeezes_S1x256x1024_S256x1024 = slotM (sl (t.val + 1) 0) :=
  congrArg (fun M : Memref sig .tc .vmem S1x256x1024 .f32 => M.squeeze S256x1024 squeezes_S1x256x1024_S256x1024) (Memref.slice_unit_congr _ (off7_0 t) _ _ (fun _ => rfl) (fun _ => rfl))
@[sl_canon] theorem canon8_0 (t : Fin grid0.N) (h : k0_cond2 (grid0.coords t) = 1#1) :
    weightM.slice (Rect.unit (s := S4096x9216) (k0_off8 (grid0.coords t) 0#32) S256x1024.size (k0_off8_inb (grid0.coords t) h 0)) (fun _ => rfl) = srcM (t.val + 1) 0 :=
  Memref.slice_unit_congr _ (off8_0 t ((c2_iff t).1 h)) _ _ (fun _ => rfl) (fun _ => rfl)
@[sl_canon] theorem canonL_0 (t : Fin grid0.N) (h : k0_cond1 (grid0.coords t) = 1#1) :
    (cc0_scratch2.slice (Rect.unit (s := S4) (![0]) S1.size inb_S4_S1_0)).squeeze S_ squeezes_S1_S_ = cellM (0) :=
  congrArg (fun A : DmaSems sig S1 => A.squeeze S_ squeezes_S1_S_) (SemArray.slice_unit_congr _ rfl _ _)
@[sl_canon] theorem canonA3_0 (t : Fin grid0.N) (h : k0_cond1 (grid0.coords t) = 1#1) :
    (cc0_scratch2.slice (Rect.unit (s := S4) (k0_off3 (grid0.coords t) 0#32) S1.size (k0_off3_inb (grid0.coords t) 0))).squeeze S_ squeezes_S1_S_ = cellM 0 :=
  congrArg (fun A : DmaSems sig S1 => A.squeeze S_ squeezes_S1_S_) (SemArray.slice_unit_congr _ ((off3_0 t).trans (by rw [(c1_iff t).1 h]; rfl)) _ _)
@[sl_canon] theorem canonL3_0 (t : Fin grid0.N) (h : k0_cond1 (grid0.coords t) = 1#1) :
    (stageM.slice (Rect.unit (s := S4x256x1024) (![0, 0, 0]) S1x256x1024.size inb_S4x256x1024_S1x256x1024_0_0_0) (fun _ => rfl)).squeeze S256x1024 squeezes_S1x256x1024_S256x1024 = slotM (0) :=
  congrArg (fun M : Memref sig .tc .vmem S1x256x1024 .f32 => M.squeeze S256x1024 squeezes_S1x256x1024_S256x1024) (Memref.slice_unit_congr _ rfl _ _ (fun _ => rfl) (fun _ => rfl))
@[sl_canon] theorem canonA4_0 (t : Fin grid0.N) (h : k0_cond1 (grid0.coords t) = 1#1) :
    (stageM.slice (Rect.unit (s := S4x256x1024) (k0_off4 (grid0.coords t) 0#32) S1x256x1024.size (k0_off4_inb (grid0.coords t) 0)) (fun _ => rfl)).squeeze S256x1024 squeezes_S1x256x1024_S256x1024 = slotM 0 :=
  congrArg (fun M : Memref sig .tc .vmem S1x256x1024 .f32 => M.squeeze S256x1024 squeezes_S1x256x1024_S256x1024) (Memref.slice_unit_congr _ ((off4_0 t).trans (by rw [(c1_iff t).1 h]; rfl)) _ _ (fun _ => rfl) (fun _ => rfl))
theorem canonS_0 (t : Fin grid0.N) (h : k0_cond1 (grid0.coords t) = 1#1) :
    weightM.slice (Rect.unit (s := S4096x9216) (k0_off1) S256x1024.size (k0_off1_inb (grid0.coords t) h)) (fun _ => rfl) = srcM t.val 0 :=
  Memref.slice_unit_congr _ (off1_eq.trans (by rw [(c1_iff t).1 h])) _ _ (fun _ => rfl) (fun _ => rfl)
@[sl_canon] theorem canon3_1 (t : Fin grid0.N) (h : ¬ k0_cond1 (grid0.coords t) = 1#1) :
    (cc0_scratch2.slice (Rect.unit (s := S4) (k0_off3 (grid0.coords t) 1#32) S1.size (k0_off3_inb (grid0.coords t) 1))).squeeze S_ squeezes_S1_S_ = cellM (sl t.val 1) :=
  congrArg (fun A : DmaSems sig S1 => A.squeeze S_ squeezes_S1_S_) (SemArray.slice_unit_congr _ (off3_1 t) _ _)
@[sl_canon] theorem canon4_1 (t : Fin grid0.N) (h : ¬ k0_cond1 (grid0.coords t) = 1#1) :
    (stageM.slice (Rect.unit (s := S4x256x1024) (k0_off4 (grid0.coords t) 1#32) S1x256x1024.size (k0_off4_inb (grid0.coords t) 1)) (fun _ => rfl)).squeeze S256x1024 squeezes_S1x256x1024_S256x1024 = slotM (sl t.val 1) :=
  congrArg (fun M : Memref sig .tc .vmem S1x256x1024 .f32 => M.squeeze S256x1024 squeezes_S1x256x1024_S256x1024) (Memref.slice_unit_congr _ (off4_1 t) _ _ (fun _ => rfl) (fun _ => rfl))
@[sl_canon] theorem canon5_1 (t : Fin grid0.N) :
    weightM.slice (Rect.unit (s := S4096x9216) (k0_off5 (grid0.coords t) 1#32) S256x1024.size (k0_off5_inb (grid0.coords t) 1)) (fun _ => rfl) = srcM t.val 1 :=
  Memref.slice_unit_congr _ (off5_1 t) _ _ (fun _ => rfl) (fun _ => rfl)
@[sl_canon] theorem canon6_1 (t : Fin grid0.N) (h : k0_cond2 (grid0.coords t) = 1#1) :
    (cc0_scratch2.slice (Rect.unit (s := S4) (k0_off6 (grid0.coords t) 1#32) S1.size (k0_off6_inb (grid0.coords t) h 1))).squeeze S_ squeezes_S1_S_ = cellM (sl (t.val + 1) 1) :=
  congrArg (fun A : DmaSems sig S1 => A.squeeze S_ squeezes_S1_S_) (SemArray.slice_unit_congr _ (off6_1 t) _ _)
@[sl_canon] theorem canon7_1 (t : Fin grid0.N) (h : k0_cond2 (grid0.coords t) = 1#1) :
    (stageM.slice (Rect.unit (s := S4x256x1024) (k0_off7 (grid0.coords t) 1#32) S1x256x1024.size (k0_off7_inb (grid0.coords t) h 1)) (fun _ => rfl)).squeeze S256x1024 squeezes_S1x256x1024_S256x1024 = slotM (sl (t.val + 1) 1) :=
  congrArg (fun M : Memref sig .tc .vmem S1x256x1024 .f32 => M.squeeze S256x1024 squeezes_S1x256x1024_S256x1024) (Memref.slice_unit_congr _ (off7_1 t) _ _ (fun _ => rfl) (fun _ => rfl))
@[sl_canon] theorem canon8_1 (t : Fin grid0.N) (h : k0_cond2 (grid0.coords t) = 1#1) :
    weightM.slice (Rect.unit (s := S4096x9216) (k0_off8 (grid0.coords t) 1#32) S256x1024.size (k0_off8_inb (grid0.coords t) h 1)) (fun _ => rfl) = srcM (t.val + 1) 1 :=
  Memref.slice_unit_congr _ (off8_1 t ((c2_iff t).1 h)) _ _ (fun _ => rfl) (fun _ => rfl)
@[sl_canon] theorem canonL_1 (t : Fin grid0.N) (h : k0_cond1 (grid0.coords t) = 1#1) :
    (cc0_scratch2.slice (Rect.unit (s := S4) (![1]) S1.size inb_S4_S1_1)).squeeze S_ squeezes_S1_S_ = cellM (1) :=
  congrArg (fun A : DmaSems sig S1 => A.squeeze S_ squeezes_S1_S_) (SemArray.slice_unit_congr _ rfl _ _)
@[sl_canon] theorem canonA3_1 (t : Fin grid0.N) (h : k0_cond1 (grid0.coords t) = 1#1) :
    (cc0_scratch2.slice (Rect.unit (s := S4) (k0_off3 (grid0.coords t) 1#32) S1.size (k0_off3_inb (grid0.coords t) 1))).squeeze S_ squeezes_S1_S_ = cellM 1 :=
  congrArg (fun A : DmaSems sig S1 => A.squeeze S_ squeezes_S1_S_) (SemArray.slice_unit_congr _ ((off3_1 t).trans (by rw [(c1_iff t).1 h]; rfl)) _ _)
@[sl_canon] theorem canonL3_1 (t : Fin grid0.N) (h : k0_cond1 (grid0.coords t) = 1#1) :
    (stageM.slice (Rect.unit (s := S4x256x1024) (![1, 0, 0]) S1x256x1024.size inb_S4x256x1024_S1x256x1024_1_0_0) (fun _ => rfl)).squeeze S256x1024 squeezes_S1x256x1024_S256x1024 = slotM (1) :=
  congrArg (fun M : Memref sig .tc .vmem S1x256x1024 .f32 => M.squeeze S256x1024 squeezes_S1x256x1024_S256x1024) (Memref.slice_unit_congr _ rfl _ _ (fun _ => rfl) (fun _ => rfl))
@[sl_canon] theorem canonA4_1 (t : Fin grid0.N) (h : k0_cond1 (grid0.coords t) = 1#1) :
    (stageM.slice (Rect.unit (s := S4x256x1024) (k0_off4 (grid0.coords t) 1#32) S1x256x1024.size (k0_off4_inb (grid0.coords t) 1)) (fun _ => rfl)).squeeze S256x1024 squeezes_S1x256x1024_S256x1024 = slotM 1 :=
  congrArg (fun M : Memref sig .tc .vmem S1x256x1024 .f32 => M.squeeze S256x1024 squeezes_S1x256x1024_S256x1024) (Memref.slice_unit_congr _ ((off4_1 t).trans (by rw [(c1_iff t).1 h]; rfl)) _ _ (fun _ => rfl) (fun _ => rfl))
theorem canonS_1 (t : Fin grid0.N) (h : k0_cond1 (grid0.coords t) = 1#1) :
    weightM.slice (Rect.unit (s := S4096x9216) (k0_off2) S256x1024.size (k0_off2_inb (grid0.coords t) h)) (fun _ => rfl) = srcM t.val 1 :=
  Memref.slice_unit_congr _ (off2_eq.trans (by rw [(c1_iff t).1 h])) _ _ (fun _ => rfl) (fun _ => rfl)

/-! ## Boxes of loads and stores -/

instance (priority := high) closed12_0 (t : Fin grid0.N) : ClosedOff (k0_off12 (grid0.coords t) 0#32) := ⟨![(sl t.val 0).val, 0, 0], off12_0 t⟩
instance (priority := high+1) closedA12_0 (t : Fin grid0.N) [h : Fact (k0_cond1 (grid0.coords t) = 1#1)] : ClosedOff (k0_off12 (grid0.coords t) 0#32) := ⟨![0, 0, 0], (off12_0 t).trans (by rw [(c1_iff t).1 h.out]; rfl)⟩
instance (priority := high) closed16_0 (t : Fin grid0.N) : ClosedOff (k0_off16 (grid0.coords t) 0#32) := ⟨![(sl t.val 0).val, 0, 0], off16_0 t⟩
instance (priority := high) closed20_0 (t : Fin grid0.N) : ClosedOff (k0_off20 (grid0.coords t) 0#32) := ⟨![(sl t.val 0).val, 0, 0], off20_0 t⟩
instance (priority := high) closed14_0 (t : Fin grid0.N) : ClosedOff (k0_off14 (grid0.coords t) 0#32) := ⟨![1 - t.val / 8 % 2, brow t.val 0, 0], off14_0 t⟩
instance (priority := high) closed18_0 (t : Fin grid0.N) : ClosedOff (k0_off18 (grid0.coords t) 0#32) := ⟨![1 - t.val / 8 % 2, brow t.val 0, 0], off18_0 t⟩
instance (priority := high) closed22_0 (t : Fin grid0.N) : ClosedOff (k0_off22 (grid0.coords t) 0#32) := ⟨![1 - t.val / 8 % 2, brow t.val 0, 0], off22_0 t⟩
instance (priority := high) closed12_1 (t : Fin grid0.N) : ClosedOff (k0_off12 (grid0.coords t) 1#32) := ⟨![(sl t.val 1).val, 0, 0], off12_1 t⟩
instance (priority := high+1) closedA12_1 (t : Fin grid0.N) [h : Fact (k0_cond1 (grid0.coords t) = 1#1)] : ClosedOff (k0_off12 (grid0.coords t) 1#32) := ⟨![1, 0, 0], (off12_1 t).trans (by rw [(c1_iff t).1 h.out]; rfl)⟩
instance (priority := high) closed16_1 (t : Fin grid0.N) : ClosedOff (k0_off16 (grid0.coords t) 1#32) := ⟨![(sl t.val 1).val, 0, 0], off16_1 t⟩
instance (priority := high) closed20_1 (t : Fin grid0.N) : ClosedOff (k0_off20 (grid0.coords t) 1#32) := ⟨![(sl t.val 1).val, 0, 0], off20_1 t⟩
instance (priority := high) closed14_1 (t : Fin grid0.N) : ClosedOff (k0_off14 (grid0.coords t) 1#32) := ⟨![1 - t.val / 8 % 2, brow t.val 1, 0], off14_1 t⟩
instance (priority := high) closed18_1 (t : Fin grid0.N) : ClosedOff (k0_off18 (grid0.coords t) 1#32) := ⟨![1 - t.val / 8 % 2, brow t.val 1, 0], off18_1 t⟩
instance (priority := high) closed22_1 (t : Fin grid0.N) : ClosedOff (k0_off22 (grid0.coords t) 1#32) := ⟨![1 - t.val / 8 % 2, brow t.val 1, 0], off22_1 t⟩
instance (priority := high) closed13_0 (t : Fin grid0.N) : ClosedOff (k0_off13 (grid0.coords t) 0#32) := ⟨![brow t.val 0, 0], off13_0 t⟩
instance (priority := high) closed13_1 (t : Fin grid0.N) : ClosedOff (k0_off13 (grid0.coords t) 1#32) := ⟨![brow t.val 1, 0], off13_1 t⟩
instance (priority := high) closed17_0 (t : Fin grid0.N) : ClosedOff (k0_off17 (grid0.coords t) 0#32) := ⟨![brow t.val 0, 0], off17_0 t⟩
instance (priority := high) closed17_1 (t : Fin grid0.N) : ClosedOff (k0_off17 (grid0.coords t) 1#32) := ⟨![brow t.val 1, 0], off17_1 t⟩
instance (priority := high) closed21_0 (t : Fin grid0.N) : ClosedOff (k0_off21 (grid0.coords t) 0#32) := ⟨![brow t.val 0, 0], off21_0 t⟩
instance (priority := high) closed21_1 (t : Fin grid0.N) : ClosedOff (k0_off21 (grid0.coords t) 1#32) := ⟨![brow t.val 1, 0], off21_1 t⟩
instance (priority := high) closed9 (t : Fin grid0.N) : ClosedOff (k0_off9 (grid0.coords t)) := ⟨![t.val / 8 % 2, 0, 0], off9_eq t⟩
instance (priority := high) closed10 (t : Fin grid0.N) : ClosedOff (k0_off10 (grid0.coords t)) := ⟨![t.val / 8 % 2, 0, 0], off10_eq t⟩
instance (priority := high) closed11 (t : Fin grid0.N) : ClosedOff (k0_off11 (grid0.coords t)) := ⟨![t.val / 8 % 2, 0, 0], off11_eq t⟩
instance (priority := high) closed15 (t : Fin grid0.N) : ClosedOff (k0_off15 (grid0.coords t)) := ⟨![t.val / 8 % 2, 0, 0], off15_eq t⟩
instance (priority := high) closed19 (t : Fin grid0.N) : ClosedOff (k0_off19 (grid0.coords t)) := ⟨![t.val / 8 % 2, 0, 0], off19_eq t⟩
instance (priority := high) closed23 (t : Fin grid0.N) : ClosedOff (k0_off23 (grid0.coords t)) := ⟨![t.val / 8 % 2, 0, 0], off23_eq t⟩

end Cert.Kernel3Ideal.Proj

end
-- ==== Proof.Tiles3.lean ====
/- What the scaled projection's two tiles hold: the weights times the gain, rounded, as far as they have been brought in. -/
module

public import proofs.«01_k».proof.Proof.Offs3
public import proofs.«01_k».proof.Proof.Gen.Kernel3Ideal.Skeleton
public import Idealize.ShloMosaic.Lib.ValueLayout
public import Idealize.ShloMosaic.Lib.WritesUnit

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.ShloMosaic.ValueIdx
open Idealize.SL.Sem

variable {F : FTy → Type} [FloatOps F] [Named F]

/-! ## The weights by coordinates, and a tile of them -/

section
variable (c : Dev nD) (W : At (F := F) c weightM) (G : Vec F S4096x128 .f32)

/-- The weight at row `r`, column `q`, times the gain of the row, rounded. -/
def wAt (r q : ℕ) : F .bf16 :=
  FloatOps.truncf .bf16 bitsLt_bf16_f32 (FloatOps.mulf ((W : S4096x9216.Idx → F .f32) (ix2 (⟨r % 4096, Nat.mod_lt _ (by decide)⟩ : Fin 4096) (⟨q % 9216, Nat.mod_lt _ (by decide)⟩ : Fin 9216)))
    (G (ix2 (⟨r % 4096, Nat.mod_lt _ (by decide)⟩ : Fin 4096) (⟨q % 128, Nat.mod_lt _ (by decide)⟩ : Fin 128))))

/-- Tile `j`, as the kernel loads it. -/
def tile (j : ℕ) : Vec F S1x4096x1024 .bf16 := fun x => wAt c W G (x 1).val (1024 * j + (x 2).val)

/-! ## A block landed in a slot, loaded and rounded -/

theorem slot_read (s : Fin 4) {off : Fin 3 → ℕ} (h : off = ![s.val, 0, 0]) (inb : ∀ a, off a + S1x256x1024.size a ≤ S4x256x1024.size a)
    (g : At (F := F) c (slotM s)) (w : S256x1024.Idx → F .f32) (L) :
    shapeCast S256x1024 (View.readAt (Elt F) stageM.view (Rect.unit (s := S4x256x1024) off S1x256x1024.size inb).toLoadRect
      ((slotM s).view.writes (Elt F) g (⟨Rect.whole S256x1024, w⟩ :: L))) shapeCasts_S1x256x1024_S256x1024 = w := by
  subst h
  refine (Memref.read_squeeze_slice stageM (Rect.unit (s := S4x256x1024) ![s.val, 0, 0] S1x256x1024.size inb) (fun _ => rfl) squeezes_S1x256x1024_S256x1024 shapeCasts_S1x256x1024_S256x1024
    ((slotM s).view.writes (Elt F) g (⟨Rect.whole S256x1024, w⟩ :: L))).symm.trans ?_
  funext y
  exact View.read_writes_cons_hit (slotM s).view g (Rect.whole S256x1024) w L y y (funext fun a => Fin.ext (by show 0 + 1 * _ = _; omega))

/-- Rows `a` on of the gain's window, as loaded. -/
def Gain (a : ℕ) (g : Vec F S256x128 .f32) : Prop :=
  ∀ (r : Fin 256) (l : Fin 128), g (ix2 r l) = G (ix2 (⟨(a + r.val) % 4096, Nat.mod_lt _ (by decide)⟩ : Fin 4096) l)

theorem gain_read {M : Memref sig .tc .vmem S4096x128 .f32} (hM : M.IsWhole) {off : Fin 2 → ℕ} {a : ℕ} (h : off = ![a, 0]) (inb : ∀ i, off i + S256x128.size i ≤ S4096x128.size i) :
    Gain G a (View.readAt (Elt F) M.view (Rect.unit (s := S4096x128) off S256x128.size inb).toLoadRect (hM.unread G)) := by
  subst h
  intro r l
  have h0 := inb 0
  simp at h0
  refine (congrFun (hM.read_unread G) _).trans (congrArg G (funext fun i => Fin.ext ?_))
  fin_cases i
  · show a + 1 * r.val = (a + r.val) % 4096; rw [Nat.mod_eq_of_lt] <;> omega
  · show 0 + 1 * l.val = l.val; omega

theorem src_read {off : Fin 2 → ℕ} {a b : ℕ} (h : off = ![a, b]) (inb : ∀ i, off i + S256x1024.size i ≤ S4096x9216.size i) (hs) (r : Fin 256) (q : Fin 1024) :
    (((ReadAs.same (e := .f32) (s := S256x1024)).apply ((weightM.slice (Rect.unit (s := S4096x9216) off S256x1024.size inb) hs).view.read (Elt F) W) : S256x1024.Idx → F .f32) (ix2 r q))
      = (W : S4096x9216.Idx → F .f32) (ix2 (⟨(a + r.val) % 4096, Nat.mod_lt _ (by decide)⟩ : Fin 4096) (⟨(b + q.val) % 9216, Nat.mod_lt _ (by decide)⟩ : Fin 9216)) := by
  subst h
  have h0 := inb 0; have h1 := inb 1
  simp at h0 h1
  show W _ = W _
  refine congrArg W (funext fun i => Fin.ext ?_)
  fin_cases i
  · show a + 1 * r.val = (a + r.val) % 4096; rw [Nat.mod_eq_of_lt] <;> omega
  · show b + 1 * q.val = (b + q.val) % 9216; rw [Nat.mod_eq_of_lt] <;> omega

theorem cast_apply (v : Vec F S1x256x1024 .f32) (g : Vec F S256x128 .f32) (u : Fin 1) (r : Fin 256) (q : Fin 1024) :
    k0_pay10 v g (ix3 u r q) = FloatOps.truncf .bf16 bitsLt_bf16_f32 (FloatOps.mulf (shapeCast S256x1024 v shapeCasts_S1x256x1024_S256x1024 (ix2 r q))
      (g (ix2 r (⟨q.val % 128, Nat.mod_lt _ (by decide)⟩ : Fin 128)))) := by
  refine (shapeCast_ab_1ab_apply (truncf .bf16 (mulf (shapeCast S256x1024 v shapeCasts_S1x256x1024_S256x1024)
    (concatenate S256x1024 1 (List.replicate 8 ⟨S256x128, shapeCast S256x128 g shapeCasts_S256x128_S256x128⟩) concatenates_S256x128_S256x128_S256x128_S256x128_S256x128_S256x128_S256x128_S256x128_S256x1024_d1)) bitsLt_bf16_f32) shapeCasts_S256x1024_S1x256x1024 u r q).trans ?_
  show FloatOps.truncf .bf16 bitsLt_bf16_f32 (FloatOps.mulf _ _) = _
  refine congrArg (fun z => FloatOps.truncf .bf16 bitsLt_bf16_f32 (FloatOps.mulf (shapeCast S256x1024 v shapeCasts_S1x256x1024_S256x1024 (ix2 r q)) z)) ?_
  refine (concatenate_replicate_apply (t := S256x1024) (s₁ := S256x128) (1 : Fin 2) 8 (shapeCast S256x128 g shapeCasts_S256x128_S256x128) _ rfl (ix2 r q) (ix2 r (⟨q.val % 128, Nat.mod_lt _ (by decide)⟩ : Fin 128)) rfl ?_).trans ?_
  · intro b hb
    fin_cases b
    · rfl
    · exact absurd rfl hb
  · rw [shapeCast_self]

/-- The scaled, rounded block starting at row `a`, column `b`. -/
theorem chunk (s : Fin 4) {off : Fin 3 → ℕ} (h : off = ![s.val, 0, 0]) (inb : ∀ a, off a + S1x256x1024.size a ≤ S4x256x1024.size a)
    {off' : Fin 2 → ℕ} {a b : ℕ} (h' : off' = ![a, b]) (hb : b % 128 = 0) (inb' : ∀ i, off' i + S256x1024.size i ≤ S4096x9216.size i) (hs)
    (f : At (F := F) c (slotM s)) (L) {g : Vec F S256x128 .f32} (hg : Gain G a g) (x : S1x256x1024.Idx) :
    k0_pay10 (View.readAt (Elt F) stageM.view (Rect.unit (s := S4x256x1024) off S1x256x1024.size inb).toLoadRect
      ((slotM s).view.writes (Elt F) f (⟨Rect.whole S256x1024, ReadAs.same.apply ((weightM.slice (Rect.unit (s := S4096x9216) off' S256x1024.size inb') hs).view.read (Elt F) W)⟩ :: L))) g x
      = wAt c W G (a + (x 1).val) (b + (x 2).val) := by
  obtain ⟨u, r, q, rfl⟩ : ∃ (u : Fin 1) (r : Fin 256) (q : Fin 1024), x = ix3 u r q := ⟨_, _, _, eq_ix3 x⟩
  refine (cast_apply _ g u r q).trans ?_
  rw [slot_read c s h inb f _ L, src_read c W h' inb' hs r q, hg r _]
  unfold wAt
  have e : (⟨q.val % 128, Nat.mod_lt _ (by decide)⟩ : Fin 128) = ⟨(b + q.val) % 128, Nat.mod_lt _ (by decide)⟩ := Fin.ext (by show q.val % 128 = (b + q.val) % 128; omega)
  rw [e]

theorem bcol_lane (k : ℕ) : bcol k % 128 = 0 := by unfold bcol; omega

/-- The scaled, rounded block `(k, u)`, landed in slot `s`. -/
theorem chunkL (s : Fin 4) (k : ℕ) (u : Fin 2) {off : Fin 3 → ℕ} (h : off = ![s.val, 0, 0]) (inb : ∀ a, off a + S1x256x1024.size a ≤ S4x256x1024.size a)
    (f : At (F := F) c (slotM s)) {g : Vec F S256x128 .f32} (hg : Gain G (brow k u) g) (x : S1x256x1024.Idx) :
    k0_pay10 (View.readAt (Elt F) stageM.view (Rect.unit (s := S4x256x1024) off S1x256x1024.size inb).toLoadRect (landed c W s k u f)) g x
      = wAt c W G (brow k u + (x 1).val) (bcol k + (x 2).val) :=
  chunk c W G s h inb rfl (bcol_lane k) (inb_src k u) (fun _ => rfl) f [] hg x

/-! ## What the tiles hold before each point -/

/-- The column the half `a` starts at before point `k`. -/
def tcol (k a : ℕ) : ℕ := 1024 * min (if a = k / 8 % 2 then k / 8 else k / 8 + 1) 8

/-- Before point `k` the half the point multiplies by holds its tile, the other half the next tile's first `512 (k mod 8)` rows. -/
def WB (k : ℕ) (f : At (F := F) c tilesM) : Prop :=
  k ≠ 0 → ∀ x : S2x4096x1024.Idx, ((x 0).val = k / 8 % 2 ∨ (x 1).val < 512 * (k % 8)) → f x = wAt c W G (x 1).val (tcol k (x 0).val + (x 2).val)

variable {c W G}

/-- The half a point multiplies by, loaded. -/
theorem tile_read {f : At (F := F) c tilesM} {j h : ℕ} {off : Fin 3 → ℕ} (ho : off = ![h, 0, 0])
    (inb : ∀ a, off a + S1x4096x1024.size a ≤ S2x4096x1024.size a)
    (hf : ∀ x : S2x4096x1024.Idx, (x 0).val = h → f x = wAt c W G (x 1).val (1024 * j + (x 2).val)) :
    View.readAt (Elt F) tilesM.view (Rect.unit (s := S2x4096x1024) off S1x4096x1024.size inb).toLoadRect f = tile c W G j := by
  subst ho
  funext x
  have h0 : (x 0).val = 0 := by have := (x 0).isLt; simp at this; omega
  refine (hf _ ?_).trans ?_
  · show h + 1 * (x 0).val = h; omega
  · show wAt c W G (0 + 1 * (x 1).val) (1024 * j + (0 + 1 * (x 2).val)) = wAt c W G (x 1).val (1024 * j + (x 2).val)
    simp

/-- Reading what a list of writes left: under the writes their common target, elsewhere the old contents. -/
theorem tiles_hit (f : At (F := F) c tilesM) (G : S2x4096x1024.Idx → F .bf16) (L : List (View.Piece (Elt F) S2x4096x1024 .bf16))
    (hL : ∀ p ∈ L, ∀ x : p.1.shape.Idx, p.2 x = G (p.1.emb x)) (y : S2x4096x1024.Idx) (hy : ∃ p ∈ L, y ∈ p.1.set) :
    tilesM.view.writes (Elt F) f L y = G y :=
  View.read_writes_apply_of_pieces tilesM.view f G L hL y hy
theorem tiles_miss (f : At (F := F) c tilesM) (L : List (View.Piece (Elt F) S2x4096x1024 .bf16)) (y : S2x4096x1024.Idx) (hy : ∀ p ∈ L, y ∉ p.1.set) :
    tilesM.view.writes (Elt F) f L y = f y :=
  View.read_writes_apply_of_forall_not_mem tilesM.view f y L hy

/-- A block of 256 rows of half `h` from row `a`. -/
theorem mem_rows {off : Fin 3 → ℕ} {h a : ℕ} (ho : off = ![h, a, 0]) (inb : ∀ i, off i + S1x256x1024.size i ≤ S2x4096x1024.size i) (y : S2x4096x1024.Idx) :
    y ∈ (Rect.unit (s := S2x4096x1024) off S1x256x1024.size inb).set ↔ (y 0).val = h ∧ a ≤ (y 1).val ∧ (y 1).val < a + 256 := by
  subst ho
  rw [Rect.mem_set_unit]
  have hy2 : (y 2).val < 1024 := (y 2).isLt
  constructor
  · intro H
    have h0 := H 0; have h1 := H 1
    simp at h0 h1
    omega
  · rintro ⟨h0, h1, h2⟩ i
    fin_cases i
    · show h ≤ (y 0).val ∧ (y 0).val < h + 1; omega
    · show a ≤ (y 1).val ∧ (y 1).val < a + 256; omega
    · show 0 ≤ (y 2).val ∧ (y 2).val < 0 + 1024; omega

/-- A rounded block stored at its rows agrees with the target `G` that the weights give. -/
theorem piece_ok {off : Fin 3 → ℕ} {h a b : ℕ} (ho : off = ![h, a, 0]) (inb : ∀ i, off i + S1x256x1024.size i ≤ S2x4096x1024.size i)
    (w : S1x256x1024.Idx → F .bf16) (hw : ∀ x : S1x256x1024.Idx, w x = wAt c W G (a + (x 1).val) (b + (x 2).val))
    (col : ℕ → ℕ) (hcol : col h = b) (x : (Rect.unit (s := S2x4096x1024) off S1x256x1024.size inb).shape.Idx) :
    w x = (fun y : S2x4096x1024.Idx => wAt c W G (y 1).val (col (y 0).val + (y 2).val)) ((Rect.unit (s := S2x4096x1024) off S1x256x1024.size inb).emb x) := by
  subst ho
  have h0 : (x 0).val = 0 := by have := (x 0).isLt; simp at this; omega
  rw [hw x]
  show _ = wAt c W G (a + 1 * (x 1).val) (col (h + 1 * (x 0).val) + (0 + 1 * (x 2).val))
  rw [h0, Nat.mul_zero, Nat.add_zero, hcol]
  simp

/-- One point's two blocks stored: what holds before the next point. -/
theorem WB_step (k : ℕ) (hk : k ≠ 0) (hk' : k < 72) {f : At (F := F) c tilesM} (hf : WB c W G k f)
    {o0 o1 : Fin 3 → ℕ} (h0 : o0 = ![1 - k / 8 % 2, brow k 0, 0]) (h1 : o1 = ![1 - k / 8 % 2, brow k 1, 0]) (i0 i1)
    {w0 w1 : S1x256x1024.Idx → F .bf16}
    (e0 : ∀ x : S1x256x1024.Idx, w0 x = wAt c W G (brow k 0 + (x 1).val) (bcol k + (x 2).val))
    (e1 : ∀ x : S1x256x1024.Idx, w1 x = wAt c W G (brow k 1 + (x 1).val) (bcol k + (x 2).val)) :
    (∀ x : S2x4096x1024.Idx, (x 0).val = k / 8 % 2 →
      tilesM.view.writes (Elt F) f [⟨Rect.unit (s := S2x4096x1024) o1 S1x256x1024.size i1, w1⟩, ⟨Rect.unit (s := S2x4096x1024) o0 S1x256x1024.size i0, w0⟩] x = wAt c W G (x 1).val (1024 * (k / 8) + (x 2).val))
    ∧ WB c W G (k + 1) (tilesM.view.writes (Elt F) f [⟨Rect.unit (s := S2x4096x1024) o1 S1x256x1024.size i1, w1⟩, ⟨Rect.unit (s := S2x4096x1024) o0 S1x256x1024.size i0, w0⟩]) := by
  have hc : tcol k (1 - k / 8 % 2) = bcol k := by
    unfold tcol bcol; rw [if_neg (by omega)]
  have hit := tiles_hit f (fun y : S2x4096x1024.Idx => wAt c W G (y 1).val (tcol k (y 0).val + (y 2).val))
    [⟨Rect.unit (s := S2x4096x1024) o1 S1x256x1024.size i1, w1⟩, ⟨Rect.unit (s := S2x4096x1024) o0 S1x256x1024.size i0, w0⟩]
    (List.forall_mem_cons.2 ⟨piece_ok h1 i1 w1 e1 (tcol k) hc, List.forall_mem_cons.2 ⟨piece_ok h0 i0 w0 e0 (tcol k) hc, fun p hp => absurd hp List.not_mem_nil⟩⟩)
  have miss := tiles_miss f [⟨Rect.unit (s := S2x4096x1024) o1 S1x256x1024.size i1, w1⟩, ⟨Rect.unit (s := S2x4096x1024) o0 S1x256x1024.size i0, w0⟩]
  have all : ∀ x : S2x4096x1024.Idx, ((x 0).val = k / 8 % 2 ∨ (x 1).val < 512 * (k % 8) + 512) →
      tilesM.view.writes (Elt F) f [⟨Rect.unit (s := S2x4096x1024) o1 S1x256x1024.size i1, w1⟩, ⟨Rect.unit (s := S2x4096x1024) o0 S1x256x1024.size i0, w0⟩] x
        = wAt c W G (x 1).val (tcol k (x 0).val + (x 2).val) := by
    intro x hx
    have hx0 : (x 0).val < 2 := (x 0).isLt
    by_cases hr : (x 0).val = 1 - k / 8 % 2 ∧ 512 * (k % 8) ≤ (x 1).val ∧ (x 1).val < 512 * (k % 8) + 512
    · refine hit x ?_
      by_cases hh : (x 1).val < 512 * (k % 8) + 256
      · exact ⟨_, List.mem_cons_of_mem _ List.mem_cons_self, (mem_rows h0 i0 x).2 (by unfold brow; simp; omega)⟩
      · exact ⟨_, List.mem_cons_self, (mem_rows h1 i1 x).2 (by unfold brow; simp; omega)⟩
    · refine (miss x (List.forall_mem_cons.2 ⟨?_, List.forall_mem_cons.2 ⟨?_, fun p hp => absurd hp List.not_mem_nil⟩⟩)).trans (hf hk x ?_)
      · rw [mem_rows h1 i1 x]; unfold brow; simp; omega
      · rw [mem_rows h0 i0 x]; unfold brow; simp; omega
      · omega
  constructor
  · intro x hx
    refine (all x (.inl hx)).trans ?_
    unfold tcol; rw [if_pos hx, min_eq_left (by omega)]
  · intro _ x hx
    have hx0 : (x 0).val < 2 := (x 0).isLt
    have hx1 : (x 1).val < 4096 := (x 1).isLt
    by_cases h7 : k % 8 = 7
    · have hx' : (x 0).val = 1 - k / 8 % 2 := by omega
      refine (all x (by omega)).trans ?_
      have : tcol k (x 0).val = tcol (k + 1) (x 0).val := by
        unfold tcol; rw [if_neg (by omega), if_pos (by omega)]; congr 2; omega
      rw [this]
    · refine (all x (by omega)).trans ?_
      have : tcol k (x 0).val = tcol (k + 1) (x 0).val := by
        unfold tcol; rw [show (k + 1) / 8 = k / 8 by omega]
      rw [this]

/-! ## The first point's sixteen blocks -/

/-- A list of stores puts the first `n` rows of tile 0 into half 0. -/
def Pro (c : Dev nD) (W : At (F := F) c weightM) (G : Vec F S4096x128 .f32) (L : List (View.Piece (Elt F) S2x4096x1024 .bf16)) (n : ℕ) : Prop :=
  (∀ p ∈ L, ∀ x : p.1.shape.Idx, p.2 x = (fun y : S2x4096x1024.Idx => wAt c W G (y 1).val (tcol 0 (y 0).val + (y 2).val)) (p.1.emb x))
    ∧ ∀ y : S2x4096x1024.Idx, (y 0).val = 0 → (y 1).val < n → ∃ p ∈ L, y ∈ p.1.set

theorem pro_nil : Pro c W G [] 0 := ⟨fun p hp => absurd hp List.not_mem_nil, fun y _ h => absurd h (Nat.not_lt_zero _)⟩

theorem pro_cons {L : List (View.Piece (Elt F) S2x4096x1024 .bf16)} {n : ℕ} {off : Fin 3 → ℕ} {inb} {w : S1x256x1024.Idx → F .bf16} (hL : Pro c W G L n) (ho : off = ![0, n, 0])
    (hw : ∀ x : S1x256x1024.Idx, w x = wAt c W G (n + (x 1).val) (0 + (x 2).val)) :
    Pro c W G (⟨Rect.unit (s := S2x4096x1024) off S1x256x1024.size inb, w⟩ :: L) (n + 256) := by
  refine ⟨List.forall_mem_cons.2 ⟨piece_ok ho inb w hw (tcol 0) rfl, hL.1⟩, fun y h0 h1 => ?_⟩
  by_cases h : (y 1).val < n
  · obtain ⟨p, hp, hy⟩ := hL.2 y h0 h
    exact ⟨p, List.mem_cons_of_mem _ hp, hy⟩
  · exact ⟨_, List.mem_cons_self, (mem_rows ho inb y).2 ⟨h0, by omega, h1⟩⟩

theorem pro_tile {L : List (View.Piece (Elt F) S2x4096x1024 .bf16)} (hL : Pro c W G L 4096) (f : At (F := F) c tilesM) (x : S2x4096x1024.Idx) (hx : (x 0).val = 0) :
    tilesM.view.writes (Elt F) f L x = wAt c W G (x 1).val (1024 * 0 + (x 2).val) := by
  refine (tiles_hit f (fun y : S2x4096x1024.Idx => wAt c W G (y 1).val (tcol 0 (y 0).val + (y 2).val)) L hL.1 x (hL.2 x hx (x 1).isLt)).trans ?_
  show wAt c W G (x 1).val (tcol 0 (x 0).val + (x 2).val) = _
  rw [hx]; rfl

/-- The first point's stores: tile 0, then two blocks of tile 1. -/
theorem WB_first {L : List (View.Piece (Elt F) S2x4096x1024 .bf16)} (hL : Pro c W G L 4096) (f : At (F := F) c tilesM)
    {o0 o1 : Fin 3 → ℕ} (h0 : o0 = ![1, brow 0 0, 0]) (h1 : o1 = ![1, brow 0 1, 0]) (i0 i1)
    {w0 w1 : S1x256x1024.Idx → F .bf16}
    (e0 : ∀ x : S1x256x1024.Idx, w0 x = wAt c W G (brow 0 0 + (x 1).val) (bcol 0 + (x 2).val))
    (e1 : ∀ x : S1x256x1024.Idx, w1 x = wAt c W G (brow 0 1 + (x 1).val) (bcol 0 + (x 2).val)) :
    (∀ x : S2x4096x1024.Idx, (x 0).val = 0 →
      tilesM.view.writes (Elt F) f (⟨Rect.unit (s := S2x4096x1024) o1 S1x256x1024.size i1, w1⟩ :: ⟨Rect.unit (s := S2x4096x1024) o0 S1x256x1024.size i0, w0⟩ :: L) x = wAt c W G (x 1).val (1024 * 0 + (x 2).val))
    ∧ WB c W G 1 (tilesM.view.writes (Elt F) f (⟨Rect.unit (s := S2x4096x1024) o1 S1x256x1024.size i1, w1⟩ :: ⟨Rect.unit (s := S2x4096x1024) o0 S1x256x1024.size i0, w0⟩ :: L)) := by
  have hit := tiles_hit f (fun y : S2x4096x1024.Idx => wAt c W G (y 1).val (tcol 0 (y 0).val + (y 2).val))
    (⟨Rect.unit (s := S2x4096x1024) o1 S1x256x1024.size i1, w1⟩ :: ⟨Rect.unit (s := S2x4096x1024) o0 S1x256x1024.size i0, w0⟩ :: L)
    (List.forall_mem_cons.2 ⟨piece_ok h1 i1 w1 e1 (tcol 0) rfl, List.forall_mem_cons.2 ⟨piece_ok h0 i0 w0 e0 (tcol 0) rfl, hL.1⟩⟩)
  have all : ∀ x : S2x4096x1024.Idx, ((x 0).val = 0 ∨ (x 1).val < 512) → _ := fun x hx => hit x (by
    have hx0 : (x 0).val < 2 := (x 0).isLt
    by_cases h : (x 0).val = 0
    · obtain ⟨p, hp, hy⟩ := hL.2 x h (x 1).isLt
      exact ⟨p, List.mem_cons_of_mem _ (List.mem_cons_of_mem _ hp), hy⟩
    · by_cases hh : (x 1).val < 256
      · exact ⟨_, List.mem_cons_of_mem _ List.mem_cons_self, (mem_rows h0 i0 x).2 (by unfold brow; simp; omega)⟩
      · exact ⟨_, List.mem_cons_self, (mem_rows h1 i1 x).2 (by unfold brow; simp; omega)⟩)
  constructor
  · intro x hx
    refine (all x (.inl hx)).trans ?_
    show wAt c W G (x 1).val (tcol 0 (x 0).val + (x 2).val) = _
    rw [hx]; rfl
  · intro _ x hx
    exact all x hx

end

end Cert.Kernel3Ideal.Proj

end
-- ==== Proof.Step3.lean ====
/- One grid point of the scaled projection as a triple: what it is given, what it leaves. -/
module

public import proofs.«01_k».proof.Proof.Tiles3
public import Idealize.ShloMosaic.Lib.VecWindow

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## What a point writes -/

/-- The point's block of the large output, from its rows `x`, its tile `T` and its rows' sums of squares. -/
def big (t : Fin grid0.N) (x : Vec F S1024x4096 .bf16) (T : Vec F S1x4096x1024 .bf16) (q : Vec F S1x1024x1 .f32) : FVec F S1024x1024 .f32 :=
  if gate t = 0 then k0_pay5 x T q else if gate t = 1 then k0_pay7 x T q else k0_pay9 x T q
/-- The block of the small output a tile's first point writes. -/
def small (t : Fin grid0.N) (x : Vec F S64x4096 .bf16) (T : Vec F S1x4096x1024 .bf16) (q : Vec F S1x64x1 .f32) : FVec F S64x1024 .f32 :=
  if gate t = 0 then k0_pay1 x T q else if gate t = 1 then k0_pay2 x T q else k0_pay3 x T q

section
variable (t : Fin grid0.N) {x x' : Vec F S1024x4096 .bf16} {y y' : Vec F S64x4096 .bf16} {T T' : Vec F S1x4096x1024 .bf16} {q q' : Vec F S1x1024x1 .f32} {p p' : Vec F S1x64x1 .f32}
theorem big0 (hg : gate t = 0) (hx : x' = x) (hT : T' = T) (hq : q' = q) : k0_pay5 x' T' q' = big t x T q := by
  subst hx hT hq; unfold big; rw [if_pos hg]
theorem big1 (hg : gate t = 1) (hx : x' = x) (hT : T' = T) (hq : q' = q) : k0_pay7 x' T' q' = big t x T q := by
  subst hx hT hq; unfold big; rw [if_neg (by omega), if_pos hg]
theorem big2 (hg : gate t ≠ 0) (hg' : gate t ≠ 1) (hx : x' = x) (hT : T' = T) (hq : q' = q) : k0_pay9 x' T' q' = big t x T q := by
  subst hx hT hq; unfold big; rw [if_neg hg, if_neg hg']
theorem small0 (hg : gate t = 0) (hx : y' = y) (hT : T' = T) (hp : p' = p) : k0_pay1 y' T' p' = small t y T p := by
  subst hx hT hp; unfold small; rw [if_pos hg]
theorem small1 (hg : gate t = 1) (hx : y' = y) (hT : T' = T) (hp : p' = p) : k0_pay2 y' T' p' = small t y T p := by
  subst hx hT hp; unfold small; rw [if_neg (by omega), if_pos hg]
theorem small2 (hg : gate t ≠ 0) (hg' : gate t ≠ 1) (hx : y' = y) (hT : T' = T) (hp : p' = p) : k0_pay3 y' T' p' = small t y T p := by
  subst hx hT hp; unfold small; rw [if_neg hg, if_neg hg']
end

/-- A load of a whole staging memref. -/
theorem whole_read {s : Shape} {e : EltTy} {κ : Kind} {sp : Space} {M : Memref sig κ sp s e} (h : M.IsWhole) (x : s.Idx → Elt F e) {off : Fin s.rank → ℕ} (inb : ∀ a, off a + s.size a ≤ s.size a) :
    View.readAt (Elt F) M.view (Rect.unit off s.size inb).toLoadRect (h.unread x) = x :=
  (View.readAt_full M.view _ inb).trans (h.read_unread x)

section
variable (c : Dev nD) (W : At (F := F) c weightM) (G : Vec F S4096x128 .f32)

abbrev tilesP (f : At (F := F) c tilesM) : sProp 𝕄 := tilesM.view.loc (c : Thread nD τ) ↦[tilesM.view.set]{fullShare} f

/-- What point `t` leaves in the small output's window. -/
def left6 (t : Fin grid0.N) (y : Vec F S64x4096 .bf16) (q : Vec F S1x64x1 .f32) (d : Vec F S64x1024 .f32) : Vec F S64x1024 .f32 :=
  if t.val % 8 = 0 then small t y (tile c W G (t.val / 8)) q else d

/-- The triple of point `t`. -/
def Run (t : Fin grid0.N) : Prop :=
  ∀ (arg2 : Memref sig .tc .vmem S1024x4096 .bf16) (harg2 : arg2.IsWhole) (arg3 : Memref sig .tc .vmem S64x4096 .bf16) (harg3 : arg3.IsWhole)
    (arg5 : Memref sig .tc .vmem S4096x128 .f32) (harg5 : arg5.IsWhole) (arg6 : Memref sig .tc .vmem S1x1024x1 .f32) (harg6 : arg6.IsWhole)
    (arg7 : Memref sig .tc .vmem S1x64x1 .f32) (harg7 : arg7.IsWhole) (arg8 : Memref sig .tc .vmem S1024x1024 .f32) (harg8 : arg8.IsWhole)
    (arg9 : Memref sig .tc .vmem S64x1024 .f32) (harg9 : arg9.IsWhole)
    (x0 : Vec F S1024x4096 .bf16) (x1 : Vec F S64x4096 .bf16) (x3 : Vec F S1x1024x1 .f32) (x4 : Vec F S1x64x1 .f32) (x6 : Vec F S64x1024 .f32)
    (Ws : Waits sig Unit) (K : PUnit → sProp 𝕄),
    iprop(owns (c : Thread nD τ) arg2 fullShare x0 ∗ owns (c : Thread nD τ) arg3 fullShare x1 ∗ owns (c : Thread nD τ) arg5 fullShare G ∗ owns (c : Thread nD τ) arg6 fullShare x3 ∗ owns (c : Thread nD τ) arg7 fullShare x4 ∗ (∃ d, owns (c : Thread nD τ) arg8 fullShare d) ∗ owns (c : Thread nD τ) arg9 fullShare x6
        ∗ (∃ f, ⌜WB c W G t.val f⌝ ∗ tilesP c f) ∗ ringAt c W t.val ∗ owes (c : Thread nD τ) 0 Ws
        ∗ (iprop(owns (c : Thread nD τ) arg2 fullShare x0 ∗ owns (c : Thread nD τ) arg3 fullShare x1 ∗ owns (c : Thread nD τ) arg5 fullShare G ∗ owns (c : Thread nD τ) arg6 fullShare x3 ∗ owns (c : Thread nD τ) arg7 fullShare x4
            ∗ owns (c : Thread nD τ) arg8 fullShare (big t x0 (tile c W G (t.val / 8)) x3) ∗ owns (c : Thread nD τ) arg9 fullShare (left6 c W G t x1 x4 x6)
            ∗ (∃ f, ⌜WB c W G (t.val + 1) f⌝ ∗ tilesP c f) ∗ ringAt c W (t.val + 1) ∗ ∃ Ws, owes (c : Thread nD τ) 0 Ws) -∗ K ⟨⟩))
      ⊢ wp frame (wpE (defs₀ (F := F)) Variants.none c none) Set.univ (cc0_proj (grid0.coords t) arg2 harg2 arg3 harg3 weightM (Memref.isWhole_whole _) arg5 harg5 arg6 harg6 arg7 harg7 arg8 harg8 arg9 harg9 tilesM (Memref.isWhole_whole _) stageM (Memref.isWhole_whole _) cc0_scratch2) K

/-- The conditions of the three gates. -/
theorem gates (t : Fin grid0.N) :
    (k0_cond4 (grid0.coords t) = 1#1 ∧ ¬ k0_cond5 (grid0.coords t) = 1#1 ∧ k0_cond6 (grid0.coords t) = 1#1 ∧ ¬ k0_cond7 (grid0.coords t) = 1#1)
    ∨ (¬ k0_cond4 (grid0.coords t) = 1#1 ∧ k0_cond5 (grid0.coords t) = 1#1 ∧ ¬ k0_cond6 (grid0.coords t) = 1#1 ∧ k0_cond7 (grid0.coords t) = 1#1)
    ∨ (¬ k0_cond4 (grid0.coords t) = 1#1 ∧ ¬ k0_cond5 (grid0.coords t) = 1#1 ∧ ¬ k0_cond6 (grid0.coords t) = 1#1 ∧ ¬ k0_cond7 (grid0.coords t) = 1#1) := by
  rw [c4_iff, c5_iff, c6_iff, c7_iff]; omega

theorem sl_next (k : ℕ) (u : Fin 2) : sl (k + 1 + 1) u = sl k u := by
  unfold sl; exact Fin.ext (by show 2 * ((k + 1 + 1) % 2) + u.val = 2 * (k % 2) + u.val; omega)

/-- The tile a point multiplies by, loaded before its stores. -/
theorem now_read {k : ℕ} (hk : k ≠ 0) (hk' : k < 72) {f : At (F := F) c tilesM} (hf : WB c W G k f) {off : Fin 3 → ℕ} (ho : off = ![k / 8 % 2, 0, 0])
    (inb : ∀ a, off a + S1x4096x1024.size a ≤ S2x4096x1024.size a) :
    View.readAt (Elt F) tilesM.view (Rect.unit (s := S2x4096x1024) off S1x4096x1024.size inb).toLoadRect f = tile c W G (k / 8) :=
  tile_read ho inb fun x hx => (hf hk x (.inl hx)).trans (by unfold tcol; rw [if_pos hx, min_eq_left (by omega)])

end

end Cert.Kernel3Ideal.Proj

end
-- ==== Proof.RunMid3.lean ====
/- The projection's points between the first and the last. -/
module

public import proofs.«01_k».proof.Proof.Step3

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 4000000 in
theorem run_mid (c : Dev nD) (t : Fin grid0.N) (Wt : At (F := F) c weightM) (G : Vec F S4096x128 .f32) (ht : t.val ≠ 0) (ht' : t.val < 71) : Run c Wt G t := by
  intro arg2 harg2 arg3 harg3 arg5 harg5 arg6 harg6 arg7 harg7 arg8 harg8 arg9 harg9 x0 x1 x3 x4 x6 Ws K
  have h1 : ¬ k0_cond1 (grid0.coords t) = 1#1 := fun h => ht ((c1_iff t).1 h)
  have h2 : k0_cond2 (grid0.coords t) = 1#1 := (c2_iff t).2 ht'
  haveI := Fact.mk h1
  haveI := Fact.mk h2
  rw [cc0_proj_eq_skeleton]; unfold cc0_proj_skel
  simp (config := {beta := false, eta := false, zeta := false, proj := false, iota := false, ground := false, dsimp := false}) only [k0_part13_eq_skeleton, k0_part14_eq_skeleton, k0_part15_eq_skeleton, k0_part16_eq_skeleton, k0_part17_eq_skeleton]
  rw [ring_mid c Wt t.val ht (by omega), ring_mid c Wt (t.val + 1) (by omega) (by omega)]
  unfold owns busy free
  rcases Decidable.em (k0_cond3 (grid0.coords t) = 1#1) with h3 | h3 <;>
    rcases gates t with ⟨h4, h5, h6, h7⟩ | ⟨h4, h5, h6, h7⟩ | ⟨h4, h5, h6, h7⟩ <;>
    haveI := Fact.mk h3 <;> haveI := Fact.mk h4 <;> haveI := Fact.mk h5 <;> haveI := Fact.mk h6 <;> haveI := Fact.mk h7
  all_goals
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f, %hf, HS0⟩, ⟨⟨⟨%g0, Hf0⟩, Hr0⟩, ⟨⟨%g1, Hf1⟩, Hr1⟩, ⟨Hc2, ⟨%g2, Hs2⟩, Hw2⟩, ⟨Hc3, ⟨%g3, Hs3⟩, Hw3⟩⟩, HW, Hk⟩
    ihave Hsp2 := (src_split c Wt (sl (t.val + 1) 0) (t.val + 1) 0).1 $$ Hw2
    icases Hsp2 with ⟨Hh2, Hr2⟩
    ihave Hsp3 := (src_split c Wt (sl (t.val + 1) 1) (t.val + 1) 1).1 $$ Hw3
    icases Hsp3 with ⟨Hh3, Hr3⟩
    obtain rfl := harg2.eq_unread hf0; obtain rfl := harg3.eq_unread hf1; obtain rfl := harg5.eq_unread hf2; obtain rfl := harg6.eq_unread hf3; obtain rfl := harg7.eq_unread hf4
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (View.read_writes_full arg8.view f5 _ _ _).trans ?_
      first
      | exact big0 t ((c4_iff t).1 h4) (whole_read harg2 x0 _) (tile_read (off15_eq t) _ (WB_step t.val ht (by omega) hf (off14_0 t) (off14_1 t) _ _ (chunkL c Wt G (sl t.val 0) t.val 0 (off12_0 t) _ _ (gain_read G harg5 (off13_0 t) _)) (chunkL c Wt G (sl t.val 1) t.val 1 (off12_1 t) _ _ (gain_read G harg5 (off13_1 t) _))).1) (whole_read harg6 x3 _)
      | exact big1 t ((c5_iff t).1 h5) (whole_read harg2 x0 _) (tile_read (off19_eq t) _ (WB_step t.val ht (by omega) hf (off18_0 t) (off18_1 t) _ _ (chunkL c Wt G (sl t.val 0) t.val 0 (off16_0 t) _ _ (gain_read G harg5 (off17_0 t) _)) (chunkL c Wt G (sl t.val 1) t.val 1 (off16_1 t) _ _ (gain_read G harg5 (off17_1 t) _))).1) (whole_read harg6 x3 _)
      | exact big2 t (mt (c4_iff t).2 h4) (mt (c5_iff t).2 h5) (whole_read harg2 x0 _) (tile_read (off23_eq t) _ (WB_step t.val ht (by omega) hf (off22_0 t) (off22_1 t) _ _ (chunkL c Wt G (sl t.val 0) t.val 0 (off20_0 t) _ _ (gain_read G harg5 (off21_0 t) _)) (chunkL c Wt G (sl t.val 1) t.val 1 (off20_1 t) _ _ (gain_read G harg5 (off21_1 t) _))).1) (whole_read harg6 x3 _)
    isplitl [H6]
    · iexists _; isplitr; swap; · iexact H6
      ipureintro
      unfold left6
      first
      | (rw [if_neg (mt (c3_iff t).2 h3)]; exact hf6)
      | rw [if_pos ((c3_iff t).1 h3)]
        refine (View.read_writes_full arg9.view f6 _ _ _).trans ?_
        first
        | exact small0 t ((c4_iff t).1 h4) (whole_read harg3 x1 _) (now_read c Wt G ht (by omega) hf (off9_eq t) _) (whole_read harg7 x4 _)
        | exact small1 t ((c5_iff t).1 h5) (whole_read harg3 x1 _) (now_read c Wt G ht (by omega) hf (off10_eq t) _) (whole_read harg7 x4 _)
        | exact small2 t (mt (c4_iff t).2 h4) (mt (c5_iff t).2 h5) (whole_read harg3 x1 _) (now_read c Wt G ht (by omega) hf (off11_eq t) _) (whole_read harg7 x4 _)
    isplitl [HS0]
    · iexists _; isplitr; swap; · iexact HS0
      ipureintro
      first
      | exact (WB_step t.val ht (by omega) hf (off14_0 t) (off14_1 t) _ _ (chunkL c Wt G (sl t.val 0) t.val 0 (off12_0 t) _ _ (gain_read G harg5 (off13_0 t) _)) (chunkL c Wt G (sl t.val 1) t.val 1 (off12_1 t) _ _ (gain_read G harg5 (off13_1 t) _))).2
      | exact (WB_step t.val ht (by omega) hf (off18_0 t) (off18_1 t) _ _ (chunkL c Wt G (sl t.val 0) t.val 0 (off16_0 t) _ _ (gain_read G harg5 (off17_0 t) _)) (chunkL c Wt G (sl t.val 1) t.val 1 (off16_1 t) _ _ (gain_read G harg5 (off17_1 t) _))).2
      | exact (WB_step t.val ht (by omega) hf (off22_0 t) (off22_1 t) _ _ (chunkL c Wt G (sl t.val 0) t.val 0 (off20_0 t) _ _ (gain_read G harg5 (off21_0 t) _)) (chunkL c Wt G (sl t.val 1) t.val 1 (off20_1 t) _ _ (gain_read G harg5 (off21_1 t) _))).2
    isplitl [Hc2 Hr2 Hc3 Hr3 Hf0 Hf0_dst Hf0_src Hr0 Hf1 Hf1_dst Hf1_src Hr1]
    · isplitl [Hc2 Hr2]
      · isplitl [Hc2]
        · iexists _; iexact Hc2
        iexact Hr2
      isplitl [Hc3 Hr3]
      · isplitl [Hc3]
        · iexists _; iexact Hc3
        iexact Hr3
      rw [sl_next, sl_next]
      isplitl [Hf0 Hf0_dst Hf0_src Hr0]
      · isplitl [Hf0]; · iexact Hf0
        isplitl [Hf0_dst]; · iexists _; iexact Hf0_dst
        iapply (src_split c Wt (sl t.val 0) t.val 0).2; isplitl [Hf0_src]; · iexact Hf0_src
        iexact Hr0
      isplitl [Hf1]; · iexact Hf1
      isplitl [Hf1_dst]; · iexists _; iexact Hf1_dst
      iapply (src_split c Wt (sl t.val 1) t.val 1).2; isplitl [Hf1_src]; · iexact Hf1_src
      iexact Hr1
    iexists _; iexact HW

end Cert.Kernel3Ideal.Proj

end
-- ==== Proof.RunLast3.lean ====
/- The projection's last point. -/
module

public import proofs.«01_k».proof.Proof.RunMid3

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 1000000 in
theorem run_last (c : Dev nD) (t : Fin grid0.N) (Wt : At (F := F) c weightM) (G : Vec F S4096x128 .f32) (ht : t.val = 71) : Run c Wt G t := by
  intro arg2 harg2 arg3 harg3 arg5 harg5 arg6 harg6 arg7 harg7 arg8 harg8 arg9 harg9 x0 x1 x3 x4 x6 Ws K
  have hg : gate t = 2 := by unfold gate; rw [ht]; rfl
  have h1 : ¬ k0_cond1 (grid0.coords t) = 1#1 := fun h => by have := (c1_iff t).1 h; omega
  have h2 : ¬ k0_cond2 (grid0.coords t) = 1#1 := fun h => by have := (c2_iff t).1 h; omega
  have h3 : ¬ k0_cond3 (grid0.coords t) = 1#1 := fun h => by have := (c3_iff t).1 h; omega
  have h6 : ¬ k0_cond6 (grid0.coords t) = 1#1 := fun h => by have := (c6_iff t).1 h; omega
  have h7 : ¬ k0_cond7 (grid0.coords t) = 1#1 := fun h => by have := (c7_iff t).1 h; omega
  haveI := Fact.mk h1
  haveI := Fact.mk h2
  haveI := Fact.mk h3
  haveI := Fact.mk h6
  haveI := Fact.mk h7
  rw [cc0_proj_eq_skeleton]; unfold cc0_proj_skel
  simp (config := {beta := false, eta := false, zeta := false, proj := false, iota := false, ground := false, dsimp := false}) only [k0_part13_eq_skeleton, k0_part14_eq_skeleton, k0_part15_eq_skeleton, k0_part16_eq_skeleton, k0_part17_eq_skeleton]
  rw [ring_mid c Wt t.val (by omega) (by omega), ring_start c Wt (t.val + 1) (by omega), sl_next, sl_next]
  unfold owns busy
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f, %hf, HS0⟩, ⟨⟨⟨%g0, Hf0⟩, Hr0⟩, ⟨⟨%g1, Hf1⟩, Hr1⟩, Hn0, Hn1⟩, HW, Hk⟩
  obtain rfl := harg2.eq_unread hf0; obtain rfl := harg3.eq_unread hf1; obtain rfl := harg5.eq_unread hf2; obtain rfl := harg6.eq_unread hf3; obtain rfl := harg7.eq_unread hf4
  sl_exec (disch := first | sl_exact h1 | sl_exact h2 | sl_exact h3 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (View.read_writes_full arg8.view f5 _ _ _).trans ?_
    exact big2 t (by omega) (by omega) (whole_read harg2 x0 _) (tile_read (off23_eq t) _ (WB_step t.val (by omega) (by omega) hf (off22_0 t) (off22_1 t) _ _ (chunkL c Wt G (sl t.val 0) t.val 0 (off20_0 t) _ _ (gain_read G harg5 (off21_0 t) _)) (chunkL c Wt G (sl t.val 1) t.val 1 (off20_1 t) _ _ (gain_read G harg5 (off21_1 t) _))).1) (whole_read harg6 x3 _)
  isplitl [H6]
  · iexists _; isplitr; swap; · iexact H6
    ipureintro
    unfold left6; rw [if_neg (mt (c3_iff t).2 h3)]; exact hf6
  isplitl [HS0]
  · iexists _; isplitr; swap; · iexact HS0
    ipureintro
    exact (WB_step t.val (by omega) (by omega) hf (off22_0 t) (off22_1 t) _ _ (chunkL c Wt G (sl t.val 0) t.val 0 (off20_0 t) _ _ (gain_read G harg5 (off21_0 t) _)) (chunkL c Wt G (sl t.val 1) t.val 1 (off20_1 t) _ _ (gain_read G harg5 (off21_1 t) _))).2
  isplitl [Hn0 Hn1 Hf0 Hf0_dst Hf0_src Hr0 Hf1 Hf1_dst Hf1_src Hr1]
  · isplitl [Hn0]; · iexact Hn0
    isplitl [Hn1]; · iexact Hn1
    unfold free
    isplitl [Hf0 Hf0_dst Hf0_src Hr0]
    · isplitl [Hf0]; · iexact Hf0
      isplitl [Hf0_dst]; · iexists _; iexact Hf0_dst
      iapply (src_split c Wt (sl t.val 0) t.val 0).2; isplitl [Hf0_src]; · iexact Hf0_src
      iexact Hr0
    isplitl [Hf1]; · iexact Hf1
    isplitl [Hf1_dst]; · iexists _; iexact Hf1_dst
    iapply (src_split c Wt (sl t.val 1) t.val 1).2; isplitl [Hf1_src]; · iexact Hf1_src
    iexact Hr1
  iexists _; iexact HW

end Cert.Kernel3Ideal.Proj

end
-- ==== Proof.RunFirst3.lean ====
/- The projection's first point. -/
module

public import proofs.«01_k».proof.Proof.RunLast3

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The left half of the weights, from the quarters of the slots 0 and 1. -/
theorem leftHalf (c : Dev nD) (W : At (F := F) c weightM) :
    (weightM.view.loc (c : Thread nD τ) ↦[weightM.view.set]{fullShare.left} W : sProp 𝕄) ⊣⊢ iprop(wholeP c W 0 ∗ wholeP c W 1) := by
  rw [show weightM.view.set = Finset.univ from View.set_whole _]
  exact quartersL c W
theorem ring_first (c : Dev nD) (W : At (F := F) c weightM) (k : ℕ) (hk : k = 0) :
    ringAt c W k = iprop(free c W 0 ∗ free c W 1 ∗ free c W (sl (k + 1) 0) ∗ free c W (sl (k + 1) 1)) := by
  subst hk; exact ring_start c W 0 (.inl rfl)
theorem ring_second (c : Dev nD) (W : At (F := F) c weightM) (k : ℕ) (hk : k = 0) :
    ringAt c W (k + 1) = iprop(busy c W (sl (k + 1) 0) (k + 1) 0 ∗ busy c W (sl (k + 1) 1) (k + 1) 1 ∗ free c W 0 ∗ free c W 1) := by
  subst hk; exact ring_mid c W 1 (by decide) (by decide)

set_option maxHeartbeats 4000000 in
theorem run_first (c : Dev nD) (t : Fin grid0.N) (Wt : At (F := F) c weightM) (G : Vec F S4096x128 .f32) (ht : t.val = 0) : Run c Wt G t := by
  intro arg2 harg2 arg3 harg3 arg5 harg5 arg6 harg6 arg7 harg7 arg8 harg8 arg9 harg9 x0 x1 x3 x4 x6 Ws K
  have hg : gate t = 0 := by unfold gate; rw [ht]; rfl
  have h1 : k0_cond1 (grid0.coords t) = 1#1 := (c1_iff t).2 ht
  have h2 : k0_cond2 (grid0.coords t) = 1#1 := (c2_iff t).2 (by omega)
  have h3 : k0_cond3 (grid0.coords t) = 1#1 := (c3_iff t).2 (by omega)
  have h4 : k0_cond4 (grid0.coords t) = 1#1 := (c4_iff t).2 hg
  have h6 : k0_cond6 (grid0.coords t) = 1#1 := (c6_iff t).2 hg
  haveI := Fact.mk h1
  haveI := Fact.mk h2
  haveI := Fact.mk h3
  haveI := Fact.mk h4
  haveI := Fact.mk h6
  rw [cc0_proj_eq_skeleton]; unfold cc0_proj_skel
  simp (config := {beta := false, eta := false, zeta := false, proj := false, iota := false, ground := false, dsimp := false}) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  rw [ring_first c Wt t.val ht, ring_second c Wt t.val ht]
  unfold owns busy free
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f, -, HS0⟩, ⟨⟨Hc0, ⟨%g0, Hs0⟩, Hw0⟩, ⟨Hc1, ⟨%g1, Hs1⟩, Hw1⟩, ⟨Hc2, ⟨%g2, Hs2⟩, Hw2⟩, ⟨Hc3, ⟨%g3, Hs3⟩, Hw3⟩⟩, HW, Hk⟩
  ihave Hsp2 := (src_split c Wt (sl (t.val + 1) 0) (t.val + 1) 0).1 $$ Hw2
  icases Hsp2 with ⟨Hh2, Hr2⟩
  ihave Hsp3 := (src_split c Wt (sl (t.val + 1) 1) (t.val + 1) 1).1 $$ Hw3
  icases Hsp3 with ⟨Hh3, Hr3⟩
  ihave Hhl := (leftHalf c Wt).2 $$ [Hw0 Hw1]
  · isplitl [Hw0]; · iexact Hw0
    iexact Hw1
  obtain rfl := harg2.eq_unread hf0; obtain rfl := harg3.eq_unread hf1; obtain rfl := harg5.eq_unread hf2; obtain rfl := harg6.eq_unread hf3; obtain rfl := harg7.eq_unread hf4
  sl_exec (disch := first | sl_exact h1 | sl_exact h2 | sl_exact h3 | sl_exact h4 | sl_exact h6)
  sl_step
  iapply Hk
  have pro : Pro c Wt G (run_first.sl.HS0_16 c Wt G arg5 harg5) 4096 := by
    repeat' refine pro_cons ?_ rfl (chunk c Wt G _ rfl _ rfl rfl _ (fun _ => rfl) _ _ (gain_read G harg5 rfl _))
    exact pro_nil
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (View.read_writes_full arg8.view f5 _ _ _).trans ?_
    refine big0 t hg (whole_read harg2 x0 _) ?_ (whole_read harg6 x3 _)
    rw [ht]
    exact tile_read ((off15_eq t).trans (by rw [ht])) _ (WB_first pro f ((off14_0 t).trans (by rw [ht])) ((off14_1 t).trans (by rw [ht])) _ _ (chunk c Wt G 0 ((off12_0 t).trans (by rw [ht]; rfl)) _ off1_eq (bcol_lane 0) _ (fun _ => rfl) _ _ (gain_read G harg5 ((off13_0 t).trans (by rw [ht])) _)) (chunk c Wt G 1 ((off12_1 t).trans (by rw [ht]; rfl)) _ off2_eq (bcol_lane 0) _ (fun _ => rfl) _ _ (gain_read G harg5 ((off13_1 t).trans (by rw [ht])) _))).1
  isplitl [H6]
  · iexists _; isplitr; swap; · iexact H6
    ipureintro
    unfold left6; rw [if_pos ((c3_iff t).1 h3)]
    refine (View.read_writes_full arg9.view f6 _ _ _).trans ?_
    refine small0 t hg (whole_read harg3 x1 _) ?_ (whole_read harg7 x4 _)
    rw [ht]
    exact tile_read ((off9_eq t).trans (by rw [ht])) _ (pro_tile pro f)
  isplitl [HS0]
  · iexists _; isplitr; swap; · iexact HS0
    ipureintro
    rw [ht]
    exact (WB_first pro f ((off14_0 t).trans (by rw [ht])) ((off14_1 t).trans (by rw [ht])) _ _ (chunk c Wt G 0 ((off12_0 t).trans (by rw [ht]; rfl)) _ off1_eq (bcol_lane 0) _ (fun _ => rfl) _ _ (gain_read G harg5 ((off13_0 t).trans (by rw [ht])) _)) (chunk c Wt G 1 ((off12_1 t).trans (by rw [ht]; rfl)) _ off2_eq (bcol_lane 0) _ (fun _ => rfl) _ _ (gain_read G harg5 ((off13_1 t).trans (by rw [ht])) _))).2
  isplitl [Hc2 Hr2 Hc3 Hr3 Hc0 Hs0 Hc1 Hs1 Hhl]
  · isplitl [Hc2 Hr2]
    · isplitl [Hc2]
      · iexists _; iexact Hc2
      iexact Hr2
    isplitl [Hc3 Hr3]
    · isplitl [Hc3]
      · iexists _; iexact Hc3
      iexact Hr3
    ihave Hq := (leftHalf c Wt).1 $$ Hhl
    icases Hq with ⟨Hw0, Hw1⟩
    isplitl [Hc0 Hs0 Hw0]
    · isplitl [Hc0]; · iexact Hc0
      isplitl [Hs0]; · iexists _; iexact Hs0
      iexact Hw0
    isplitl [Hc1]; · iexact Hc1
    isplitl [Hs1]; · iexists _; iexact Hs1
    iexact Hw1
  iexists _; iexact HW

end Cert.Kernel3Ideal.Proj

end
-- ==== Proof.Region3.lean ====
/- The scaled projection's region: its proof data, the body's triple at every point, the launch, and what the arrays hold at the end. -/
module

public import proofs.«01_k».proof.Proof.RunFirst3
public import Idealize.ShloMosaic.Lib.Pipeline.TableIdle

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- An equality as an entailment. -/
theorem ofEq {P Q : sProp 𝕄} (e : P = Q) : P ⊢ Q := by rw [e]

/-- The triple at every point. -/
theorem run_all (c : Dev nD) (t : Fin grid0.N) (W : At (F := F) c weightM) (G : Vec F S4096x128 .f32) : Run c W G t := by
  have hN : t.val < 72 := lt_of_lt_of_eq t.isLt N_0
  by_cases h0 : t.val = 0
  · exact run_first c t W G h0
  · by_cases h1 : t.val = 71
    · exact run_last c t W G h1
    · exact run_mid c t W G h0 (by omega)

/-! ## The launch's pieces -/

/-- The kernel's own cells. -/
abbrev osem0 : Fin 4 → SemLoc sig := fun j => (![SemLoc.dma 11, SemLoc.dma 12, SemLoc.dma 13, SemLoc.dma 14] : Fin 4 → SemLoc sig) j
theorem ownSemFacts0 : Pipeline.OwnSemFacts spec0 osem0 := by decide
/-- The weights, moved by the body itself. -/
def H0 : Finset (Ref sig .tc) := {main_arg2}
theorem H0_sub : H0 ⊆ Pipeline.restRefs sig spec0 := by decide

theorem cells_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1 ∗ cellP (F := F) c 2 ∗ cellP (F := F) c 3) := by
  rw [Pipeline.ownSems0_eq_of_list c osem0 [0, 1, 2, 3] (by decide) (by decide)]; rfl
theorem weights_eq (c : Dev nD) :
    (bigSep H0 (fun b => ((c : Thread nD τ).loc b) ↦{fullShare} V m c b) : sProp 𝕄) = iprop(((c : Thread nD τ).loc main_arg2) ↦{fullShare} V m c main_arg2) := by
  rw [BI.bigSep_eq_bigSepL_of_eq [main_arg2] (by decide) (by decide)]; rfl

theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ iprop(cellP (F := F) c 0 ∗ cellP (F := F) c 1 ∗ cellP (F := F) c 2 ∗ cellP (F := F) c 3)
        ∗ iprop(((c : Thread nD τ).loc main_arg2) ↦{fullShare} V m c main_arg2)) := by
  rw [Pipeline.ΦD_eq, scopedRest0_eq, cells_eq, weights_eq]

theorem bigSep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem slotP_eq (c : Dev nD) (s : Fin 4) (f) : slotP (F := F) c s f = (((c : Thread nD τ).loc cc0_scratch1) ↦[slotSet s]{fullShare} f : sProp 𝕄) := by
  unfold slotP; rw [slotSet_eq]; rfl

/-- The staging scratch whole is its four slots, -/
theorem slots_in (c : Dev nD) : iprop(∃ f : Buf (Elt F) ((c : Thread nD τ).loc cc0_scratch1), ((c : Thread nD τ).loc cc0_scratch1) ↦{fullShare} f)
    ⊢ (iprop((∃ f, slotP (F := F) c 0 f) ∗ (∃ f, slotP (F := F) c 1 f) ∗ (∃ f, slotP (F := F) c 2 f) ∗ ∃ f, slotP (F := F) c 3 f) : sProp 𝕄) := by
  iintro ⟨%f, H⟩
  ihave H4 := (ofEq ((Ring.pointsTo_blocks (Ix := Unit) (Name := ℕ) (U := Pipeline.UD sig nD τ) (Lvl := ℕ) (q := fullShare) slotSet slots_disjoint slots_cover f).trans (bigSep4 _))) $$ H
  icases H4 with ⟨H0, H1, H2, H3⟩
  isplitl [H0]; · iexists f; iapply (ofEq (slotP_eq c 0 _).symm); iexact H0
  isplitl [H1]; · iexists f; iapply (ofEq (slotP_eq c 1 _).symm); iexact H1
  isplitl [H2]; · iexists f; iapply (ofEq (slotP_eq c 2 _).symm); iexact H2
  iexists f; iapply (ofEq (slotP_eq c 3 _).symm); iexact H3
/-- and back. -/
theorem slots_out (c : Dev nD) : (iprop((∃ f, slotP (F := F) c 0 f) ∗ (∃ f, slotP (F := F) c 1 f) ∗ (∃ f, slotP (F := F) c 2 f) ∗ ∃ f, slotP (F := F) c 3 f) : sProp 𝕄)
    ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩⟩
  iapply (Ring.pointsTo_blocks_join_exists slotSet slots_disjoint slots_cover f0)
  irw [bigSep4]
  isplitl [H0]; · iexists f0; iapply (ofEq (slotP_eq c 0 f0)); iexact H0
  isplitl [H1]; · iexists f1; iapply (ofEq (slotP_eq c 1 f1)); iexact H1
  isplitl [H2]; · iexists f2; iapply (ofEq (slotP_eq c 2 f2)); iexact H2
  iexists f3; iapply (ofEq (slotP_eq c 3 f3)); iexact H3

/-! ## The proof data -/

/-- The row scale, one copy a lane, as the window brings it in once. -/
def gain (c : Dev nD) : Vec F S4096x128 .f32 := iblk m c 2 ⟨0, lt_of_lt_of_eq (by decide) N_0.symm⟩
theorem gain_eq (c : Dev nD) (t : Fin cfg0.N) : iblk m c 2 t = gain m c := rfl

/-- Before point `k`: the register, the weight stream, and the tiles' scratch with what is known of it. -/
def Inv (c : Dev nD) (k : ℕ) : sProp 𝕄 :=
  iprop((∃ r, prngReg c r) ∗ (∃ f, ⌜WB c (V m c main_arg2) (gain m c) k f⌝ ∗ tilesP c f) ∗ ringAt c (V m c main_arg2) k)

/-- The first point of the tile point `t` multiplies by. -/
def head (t : Fin cfg0.N) : Fin cfg0.N := ⟨8 * (t.val / 8), lt_of_le_of_lt (by omega) t.isLt⟩

/-- The large output's block at point `t`, and the small output's. -/
def outBig (c : Dev nD) (t : Fin cfg0.N) : Vec F S1024x1024 .f32 := big t (iblk m c 0 t) (tile c (V m c main_arg2) (gain m c) (t.val / 8)) (iblk m c 3 t)
def outSmall (c : Dev nD) (t : Fin cfg0.N) : Vec F S64x1024 .f32 := small t (iblk m c 1 t) (tile c (V m c main_arg2) (gain m c) (t.val / 8)) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBig m c t
    | ⟨6, _⟩ => outSmall m c (head t)
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBig m c t := by dsimp only [dats]
theorem after_6 (c : Dev nD) (t : Fin cfg0.N) : (dats m 0 c).after 6 t = outSmall m c (head t) := by dsimp only [dats]
theorem inv_castSucc (c : Dev nD) (t : Fin cfg0.N) : (dats m 0 c).Φ t.castSucc = Inv m c t.val := by dsimp only [dats]; simp only [Fin.val_castSucc]
theorem inv_succ (c : Dev nD) (t : Fin cfg0.N) : (dats m 0 c).Φ t.succ = Inv m c (t.val + 1) := by dsimp only [dats]; simp only [Fin.val_succ]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ### The small output's window: written at a tile's first point, kept to its last -/

theorem idle_6 (t : Fin cfg0.N) : cfg0.idle 6 (cfg0.grid.coords t) = !decide (t.val % 8 = 0) := idle6 t
theorem fresh_6 (n : ℕ) (hn : n ≤ cfg0.N) : cfg0.fresh 6 n = decide (n % 8 = 0) := by
  refine cfg0.fresh_tab 6 (fun n => decide (n % 8 = 0)) rfl (fun t => ?_) n hn
  have hf := flush0_6 t
  rw [idle_6 t]
  by_cases h7 : t.val % 8 = 7
  · rw [hf.2 h7]; simp; omega
  · rw [Bool.eq_false_iff.2 (fun h => h7 (hf.1 h))]
    by_cases h0 : t.val % 8 = 0 <;> simp [h0] <;> omega

theorem head_pred (t : Fin cfg0.N) (h : t.val % 8 ≠ 0) : head ⟨t.val - 1, by omega⟩ = head t := by
  unfold head; refine Fin.ext ?_; show 8 * ((t.val - 1) / 8) = 8 * (t.val / 8); omega
theorem head_self (t : Fin cfg0.N) (h : t.val % 8 = 0) : head t = t := by
  unfold head; refine Fin.ext ?_; show 8 * (t.val / 8) = t.val; omega

theorem before_6 (c : Dev nD) (t : Fin cfg0.N) (h : t.val % 8 ≠ 0) (d) : (dats m 0 c).before 6 t d = (dats m 0 c).after 6 t := by
  rw [(dats m 0 c).before_out_traj 6 rfl (fun _ _ => rfl) (fun t ht hi _ => ?_) t.val t rfl d, fresh_6 _ (Nat.le_of_lt t.isLt), if_neg (by simp [h]), after_6, after_6, head_pred t h]
  rw [after_6, after_6, head_pred]
  rw [idle_6] at hi
  simpa using hi

/-- What point `t` leaves in that window is what the proof data says of it. -/
theorem left6_eq (c : Dev nD) (t : Fin cfg0.N) (d) :
    left6 c (V m c main_arg2) (gain m c) t (iblk m c 1 t) (iblk m c 4 t) ((dats m 0 c).before 6 t d) = (dats m 0 c).after 6 t := by
  unfold left6
  by_cases h : t.val % 8 = 0
  · rw [if_pos h, after_6, head_self t h]; rfl
  · rw [if_neg h, before_6 m c t h]

theorem leaves_6 (c : Dev nD) (t : Fin cfg0.N) (d0 : (cfg0.win 6).block.Idx → Elt F (cfg0.win 6).elt) :
    (owns (c : Thread nD τ) (st0_6 t) fullShare ((dats m 0 c).after 6 t) : sProp 𝕄) ⊢ (dats m 0 c).leavesExact 6 t := by
  by_cases h : t.val % 8 = 0
  · unfold Dat.leavesExact
    rw [show cfg0.idle 6 (cfg0.grid.coords t) = false by rw [idle_6]; simp [h]]
  · by_cases hf : (cfg0.win 6).flush t = true
    · unfold Dat.leavesExact
      rw [show cfg0.idle 6 (cfg0.grid.coords t) = true by rw [idle_6]; simp [h], hf]
    · rw [(dats m 0 c).leavesExact_idle 6 t (by rw [idle_6]; simp [h]) (Bool.eq_false_iff.2 hf)]
      iintro H; iexists d0; rw [before_6 m c t h]; iexact H

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t)

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st0_5 t) fullShare (outBig m c t) := by
  unfold Dat.leavesExact; rw [show cfg0.idle 5 (cfg0.grid.coords t) = false from live5 t, after_5]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [inv_castSucc m c t, inv_succ m c t, leaves_0, leaves_1, leaves_2, leaves_3, leaves_4, leaves_5, gain_eq]
  unfold Dat.owesAt Pipeline.owesWithin
  rw [show (dats m 0 c).owed t.castSucc = 0 from rfl, show (dats m 0 c).owed t.succ = 0 from rfl]
  unfold Inv
  iintro ⟨⟨Hg, HT, HR⟩, ⟨%Ws, -, HW⟩, ⟨%d0, H0⟩, ⟨%d1, H1⟩, ⟨%d2, H2⟩, ⟨%d3, H3⟩, ⟨%d4, H4⟩, ⟨%d5, H5⟩, ⟨%d6, H6⟩⟩
  iapply (run_all c t (V m c main_arg2) (gain m c) _ _ _ _ _ _ _ _ _ _ _ _ _ _ (iblk m c 0 t) (iblk m c 1 t) (iblk m c 3 t) (iblk m c 4 t) ((dats m 0 c).before 6 t d6) Ws _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HT]; · iexact HT
  isplitl [HR]; · iexact HR
  isplitl [HW]; · iexact HW
  iintro ⟨H0, H1, H2, H3, H4, H5, H6, HT, HR, ⟨%W', HW'⟩⟩
  isplitl [Hg HT HR]
  · isplitl [Hg]; · iexact Hg
    isplitl [HT]; · iexact HT
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply (leaves_6 m c t d6)
  rw [← left6_eq m c t d6]
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [launch_eq, show (dats m 0 c).Φ 0 = Inv m c 0 from rfl]
  unfold Inv ringAt; rw [if_pos (Or.inl rfl)]; unfold free
  iintro ⟨⟨⟨%f, HT⟩, HS⟩, Hg, ⟨C0, C1, C2, C3⟩, HW⟩
  isplitl [Hg]; · iexact Hg
  isplitl [HT]
  · iexists f; isplitr; · ipureintro; exact fun h => absurd rfl h
    iapply (ofEq (show _ = tilesP c f by unfold tilesP; rw [View.set_whole])); iexact HT
  ihave HS' := (slots_in (F := F) c) $$ HS
  icases HS' with ⟨S0, S1, S2, S3⟩
  ihave HW' := (halves c (V m c main_arg2)).1 $$ HW
  icases HW' with ⟨HL, HRt⟩
  ihave HL' := (quartersL c (V m c main_arg2)).1 $$ HL
  icases HL' with ⟨W0, W1⟩
  ihave HR' := (quartersR c (V m c main_arg2)).1 $$ HRt
  icases HR' with ⟨W2, W3⟩
  isplitl [C0 S0 W0]
  · isplitl [C0]; · iexact C0
    isplitl [S0]; · iexact S0
    iexact W0
  isplitl [C1 S1 W1]
  · isplitl [C1]; · iexact C1
    isplitl [S1]; · iexact S1
    iexact W1
  isplitl [C2 S2 W2]
  · isplitl [C2]; · iexact C2
    isplitl [S2]; · iexact S2
    iexact W2
  isplitl [C3]; · iexact C3
  isplitl [S3]; · iexact S3
  iexact W3

theorem hout (c : Dev nD) : (dats m 0 c).Φ (Fin.last cfg0.N) ⊢ Pipeline.ΦD osem0 spec0 H0 (V m) c := by
  rw [launch_eq, show (dats m 0 c).Φ (Fin.last cfg0.N) = Inv m c grid0.N from rfl]
  unfold Inv ringAt; rw [if_pos (Or.inr N_0)]; unfold free
  iintro ⟨Hg, ⟨%f, -, HT⟩, ⟨C0, S0, W0⟩, ⟨C1, S1, W1⟩, ⟨C2, S2, W2⟩, ⟨C3, S3, W3⟩⟩
  isplitl [HT S0 S1 S2 S3]
  · isplitl [HT]
    · iexists f; iapply (ofEq (show tilesP c f = _ by unfold tilesP; rw [View.set_whole])); iexact HT
    iapply (slots_out (F := F) c)
    isplitl [S0]; · iexact S0
    isplitl [S1]; · iexact S1
    isplitl [S2]; · iexact S2
    iexact S3
  isplitl [Hg]; · iexact Hg
  isplitl [C0 C1 C2 C3]
  · isplitl [C0]; · iexact C0
    isplitl [C1]; · iexact C1
    isplitl [C2]; · iexact C2
    iexact C3
  iapply (halves c (V m c main_arg2)).2
  isplitl [W0 W1]
  · iapply (quartersL c (V m c main_arg2)).2
    isplitl [W0]; · iexact W0
    iexact W1
  iapply (quartersR c (V m c main_arg2)).2
  isplitl [W2]; · iexact W2
  iexact W3

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array at what the points left in it, every other buffer as launched, the counters at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain' m Variants.none) (hA := A_eq m) (hin := hin m) (hout := hout m)

/-- The arguments keep what they held. -/
theorem kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => kept m h.1 c, h.2⟩) (run_main m ρ)

end Cert.Kernel3Ideal.Proj

end
-- ==== Proof.Act3.lean ====
module

public import proofs.«01_k».proof.Proof.Act
public import proofs.«01_k».proof.Proof.Agree

@[expose] public section

noncomputable section

namespace Cert.Act

open Idealize.ShloMosaic
open Cert.KernelIdeal.Sample (sum_coe)

/-! # What a scaled projection makes of a product -/

/-- The row factor of a row whose squares sum to `s`, as the kernel computes it and as the reference does. -/
def root (s : EReal) : EReal := Ideal.rsqrt (s * Ideal.ofBits .f32 0x39800000#32 + Ideal.ofBits .f32 0x358637BD#32)
def rms (s : EReal) : EReal := Ideal.rsqrt (Ideal.div s (Ideal.ofBits .f32 0x45800000#32) + Ideal.ofBits .f32 0x358637BD#32)

/-- The gate of a column. -/
def sec3 (q : ℕ) : ℕ := if q < 4096 then 0 else if q < 5120 then 1 else 2

/-- What gate `n` makes of a scaled product. -/
def act3 (n : ℕ) (d : EReal) : EReal := if n = 0 then d * (((Real.log 256)⁻¹ : ℝ) : EReal) else if n = 1 then d else ksilu d

/-- What the reference makes of it. -/
def plain3 (n : ℕ) (d : EReal) : EReal :=
  if n = 0 then Ideal.div (d * Ideal.ofBits .f32 0x3E000000#32) (Ideal.log (Ideal.ofBits .f32 0x40000000#32)) else if n = 1 then d else silu d

theorem eighth : Ideal.ofBits .f32 0x3E000000#32 = (((1 / 8 : ℝ) : ℝ) : EReal) := by
  simp [Ideal.ofBits, Ideal.ieee]
  rw [← EReal.coe_mul]
  norm_num
theorem two : Ideal.ofBits .f32 0x40000000#32 = ((2 : ℝ) : EReal) := by
  simp [Ideal.ofBits, Ideal.ieee]
  rw [← EReal.coe_mul]
  norm_num
theorem width : Ideal.ofBits .f32 0x45800000#32 = ((4096 : ℝ) : EReal) := by
  simp [Ideal.ofBits, Ideal.ieee]
  rw [← EReal.coe_mul]
  norm_num
theorem per_width : Ideal.ofBits .f32 0x39800000#32 = (((1 / 4096 : ℝ) : ℝ) : EReal) := by
  simp [Ideal.ofBits, Ideal.ieee]
  rw [← EReal.coe_mul]
  norm_num
theorem eps_pos : ∃ e : ℝ, 0 < e ∧ Ideal.ofBits .f32 0x358637BD#32 = (e : EReal) := by
  simp [Ideal.ofBits, Ideal.ieee]
  rw [← EReal.coe_mul]
  exact ⟨_, by positivity, rfl⟩

theorem div_real (x : EReal) {y : ℝ} (hy : y ≠ 0) : Ideal.div x y = x * ((y⁻¹ : ℝ) : EReal) := by
  unfold Ideal.div
  rw [if_neg (by exact_mod_cast hy), EReal.coe_inv]

theorem rms_root (s : EReal) : rms s = root s := by
  unfold rms root
  rw [width, div_real s (by norm_num), per_width, one_div]

/-- The factor of a row whose squares sum to zero or more is a real. -/
theorem root_real {s : EReal} (hs : 0 ≤ s) : ∃ r : ℝ, root s = (r : EReal) := by
  obtain ⟨e, he, h⟩ := eps_pos
  unfold root
  rw [h, per_width]
  induction s with
  | bot => simp at hs
  | top =>
    rw [EReal.top_mul_coe_of_pos (by norm_num), EReal.top_add_coe]
    exact ⟨0, rfl⟩
  | coe x =>
    have hx : 0 ≤ x := by exact_mod_cast hs
    rw [← EReal.coe_mul, ← EReal.coe_add, Ideal.rsqrt_coe]
    have p : 0 < x * (1 / 4096) + e := by positivity
    rw [if_neg (not_lt.2 p.le), if_neg p.ne']
    exact ⟨_, rfl⟩

theorem act_plain3 (n : ℕ) (r : ℝ) : act3 n r = plain3 n r := by
  unfold act3 plain3
  split_ifs
  · have hl : Real.log 2 ≠ 0 := (Real.log_pos (by norm_num)).ne'
    have h : Ideal.log (Ideal.ofBits .f32 0x40000000#32) = ((Real.log 2 : ℝ) : EReal) := by
      rw [two]
      exact if_neg (by norm_num)
    have h8 : Real.log 256 = 8 * Real.log 2 := by
      rw [show (256 : ℝ) = 2 ^ (8 : ℕ) by norm_num, Real.log_pow]; norm_num
    rw [h, div_real _ hl, eighth, ← EReal.coe_mul, ← EReal.coe_mul, ← EReal.coe_mul, h8]
    refine congrArg _ ?_
    field_simp
  · rfl
  · exact silu_real r

/-- Over real rows, scales and weights, scaling the rows before the product is scaling its result. -/
theorem scaled {n : ℕ} {x g w : Fin n → EReal} {s : EReal} (hx : ∀ k, ∃ r : ℝ, x k = r) (hg : ∀ k, ∃ r : ℝ, g k = r) (hw : ∀ k, ∃ r : ℝ, w k = r) (hs : 0 ≤ s) :
    ∃ d : ℝ, (∑ k, x k * (w k * g k)) * root s = (d : EReal) ∧ (∑ k, x k * rms s * g k * w k) = (d : EReal) := by
  choose a ha using hx
  choose b hb using hg
  choose c hc using hw
  obtain ⟨r, hr⟩ := root_real hs
  have e1 : (∑ k, x k * (w k * g k)) = ((∑ k, a k * (c k * b k) : ℝ) : EReal) :=
    (Finset.sum_congr rfl fun k _ => by rw [ha, hb, hc, EReal.coe_mul, EReal.coe_mul]).trans (sum_coe _ _)
  have e2 : (∑ k, x k * rms s * g k * w k) = ((∑ k, a k * r * b k * c k : ℝ) : EReal) :=
    (Finset.sum_congr rfl fun k _ => by rw [rms_root, hr, ha, hb, hc, EReal.coe_mul, EReal.coe_mul, EReal.coe_mul]).trans (sum_coe _ _)
  refine ⟨_, by rw [e1, hr, ← EReal.coe_mul], e2.trans (congrArg _ ?_)⟩
  rw [Finset.sum_mul]
  exact Finset.sum_congr rfl fun k _ => by ring

/-- Four joined sections, each made of its own columns' products, are one formula of the column. -/
theorem joined3 (P : Fin 9216 → EReal) (q : Fin 9216) :
    (if _ : q.val < 4096 then Ideal.div (P ⟨q.val, q.isLt⟩ * Ideal.ofBits .f32 0x3E000000#32) (Ideal.log (Ideal.ofBits .f32 0x40000000#32))
      else if _ : q.val - 4096 < 512 then P ⟨4096 + (q.val - 4096), by omega⟩
      else if _ : q.val - 4096 - 512 < 512 then P ⟨4608 + (q.val - 4096 - 512), by omega⟩
      else silu (P ⟨5120 + (q.val - 4096 - 512 - 512), by omega⟩))
    = plain3 (sec3 q.val) (P q) := by
  have hq := q.isLt
  have at_q : ∀ (n : ℕ) (h : n < 9216), n = q.val → P ⟨n, h⟩ = P q := fun n h e => congrArg P (Fin.ext e)
  split_ifs with h0 h1 h2
  · rw [show sec3 q.val = 0 from if_pos h0]
    rfl
  · rw [show sec3 q.val = 1 from (if_neg h0).trans (if_pos (by omega)), at_q _ _ (by omega)]
    rfl
  · rw [show sec3 q.val = 1 from (if_neg h0).trans (if_pos (by omega)), at_q _ _ (by omega)]
    rfl
  · rw [show sec3 q.val = 2 from (if_neg h0).trans (if_neg (by omega)), at_q _ _ (by omega)]
    rfl

end Cert.Act
end
-- ==== Proof.Gates3.lean ====
module

public import proofs.«01_k».proof.Proof.Region3
public import proofs.«01_k».proof.Proof.Act3
public import Idealize.ShloMosaic.Lib.StableHlo.ReadAt
public import Idealize.ShloMosaic.Lib.Pipeline.ValueKit

@[expose] public section

noncomputable section

namespace Cert.Kernel3Ideal.Proj

open Cert.Act Cert.Kernel3Ideal Cert.Kernel3Ideal.Gen Idealize.ShloMosaic Idealize.ShloMosaic.TcCoe

/-! # What a block of either output holds, element by element -/

section
variable (t : Fin grid0.N) (x : Vec Ideal S1024x4096 .bf16) (y : Vec Ideal S64x4096 .bf16) (T : Vec Ideal S1x4096x1024 .bf16)
  (s : Vec Ideal S1x1024x1 .f32) (z : Vec Ideal S1x64x1 .f32)

theorem big_apply (p q : Fin 1024) :
    big (F := Ideal) t x T s (ix2 p q) = act3 (gate t) ((∑ k : Fin 4096, x (ix2 p k) * T (ix3 0 k q)) * root (s (ix3 0 p 0))) := by
  have e : (∑ j : Fin 1, s (ix3 j p 0)) = s (ix3 0 p 0) := Fintype.sum_unique _
  unfold big act3
  split_ifs
  · pointwise [k0_pay5]
    rw [e]; rfl
  · pointwise [k0_pay7]
    rw [e]; rfl
  · pointwise [k0_pay9]
    rw [e]; rfl

theorem small_apply (p : Fin 64) (q : Fin 1024) :
    small (F := Ideal) t y T z (ix2 p q) = act3 (gate t) ((∑ k : Fin 4096, y (ix2 p k) * T (ix3 0 k q)) * root (z (ix3 0 p 0))) := by
  have e : (∑ j : Fin 1, z (ix3 j p 0)) = z (ix3 0 p 0) := Fintype.sum_unique _
  unfold small act3
  split_ifs
  · pointwise [k0_pay1]
    rw [e]; rfl
  · pointwise [k0_pay2]
    rw [e]; rfl
  · pointwise [k0_pay3]
    rw [e]; rfl
end

variable (m : (ℓ : Loc nD τ sig) → Buf (Elt Ideal) ℓ) (c : Dev nD)

/-! # The blocks, read off the arrays -/

/-- Column `q` of the point's tile, and row `p` of its row block. -/
def col (t : Fin cfg0.N) (q : Fin 1024) : Fin 9216 := ⟨1024 * (t.val / 8) + q.val, by have h := t.isLt; have e : cfg0.N = 72 := N_0; omega⟩
def row (t : Fin cfg0.N) (p : Fin 1024) : Fin 8192 := ⟨1024 * (t.val % 8) + p.val, by omega⟩

theorem idx : ∀ t : Fin cfg0.N, win0_0.index t = ![t.val % 8, 0] ∧ win0_1.index t = ![0, 0] ∧ win0_2.index t = ![0, 0] ∧ win0_3.index t = ![0, t.val % 8, 0]
    ∧ win0_4.index t = ![0, 0, 0] ∧ win0_5.index t = ![t.val % 8, t.val / 8] ∧ win0_6.index t = ![0, t.val / 8] := by decide +kernel

theorem blk_x (t : Fin cfg0.N) (p : Fin 1024) (k : Fin 4096) : (iblk m c 0 t (ix2 p k) : EReal) = V m c main_arg0 (ix2 (row t p) k) := by
  blk_ext [iblk, idx t, row]
theorem blk_y (t : Fin cfg0.N) (p : Fin 64) (k : Fin 4096) : (iblk m c 1 t (ix2 p k) : EReal) = V m c main_arg1 (ix2 p k) := by
  blk_ext [iblk, idx t]
theorem blk_g (t : Fin cfg0.N) (k : Fin 4096) (l : Fin 128) : (iblk m c 2 t (ix2 k l) : EReal) = V m c main_v1 (ix2 k l) := by
  blk_ext [iblk, idx t]
theorem blk_s (t : Fin cfg0.N) (p : Fin 1024) : (iblk m c 3 t (ix3 0 p 0) : EReal) = V m c main_arg4 (ix3 0 (row t p) 0) := by
  blk_ext [iblk, idx t, row]
theorem blk_z (t : Fin cfg0.N) (p : Fin 64) : (iblk m c 4 t (ix3 0 p 0) : EReal) = V m c main_arg5 (ix3 0 p 0) := by
  blk_ext [iblk, idx t]

/-- Every lane of the scale the host hands over is the scale. -/
theorem V_g (k : Fin 4096) (l : Fin 128) : (V m c main_v1 (ix2 k l) : EReal) = m ((c : Thread nD τ).loc main_arg3) (ix1 k) := by
  after_reads_at

theorem gain_apply (k : Fin 4096) (l : Fin 128) : (gain (F := Ideal) m c (ix2 k l) : EReal) = m ((c : Thread nD τ).loc main_arg3) (ix1 k) :=
  (blk_g m c _ k l).trans (V_g m c k l)

/-- The scale and the weights as launched. -/
abbrev scale : S4096.Idx → EReal := m ((c : Thread nD τ).loc main_arg3)
abbrev weights : S4096x9216.Idx → EReal := V m c main_arg2

theorem tile_col (t : Fin cfg0.N) (k : Fin 4096) (q : Fin 1024) :
    (tile (F := Ideal) c (V m c main_arg2) (gain m c) (t.val / 8) (ix3 0 k q) : EReal) = weights m c (ix2 k (col t q)) * scale m c (ix1 k) := by
  have hN : cfg0.N = 72 := N_0
  have := t.isLt
  have ek : (⟨k.val % 4096, Nat.mod_lt _ (by decide)⟩ : Fin 4096) = k := Fin.ext (Nat.mod_eq_of_lt k.isLt)
  have eq : (⟨(1024 * (t.val / 8) + q.val) % 9216, Nat.mod_lt _ (by decide)⟩ : Fin 9216) = col t q :=
    Fin.ext (Nat.mod_eq_of_lt (by omega))
  refine Eq.trans (b := weights m c (ix2 ⟨k.val % 4096, Nat.mod_lt _ (by decide)⟩ ⟨(1024 * (t.val / 8) + q.val) % 9216, Nat.mod_lt _ (by decide)⟩)
    * (gain (F := Ideal) m c (ix2 ⟨k.val % 4096, Nat.mod_lt _ (by decide)⟩ ⟨(1024 * (t.val / 8) + q.val) % 128, Nat.mod_lt _ (by decide)⟩) : EReal)) rfl ?_
  rw [ek, eq]
  exact congrArg (weights m c (ix2 k (col t q)) * ·) (gain_apply m c k _)

/-! # The two outputs as one formula -/

/-- The product of row `r` of `X` with the scaled column `q` of `W`, scaled by the row's factor, through the column's gate. -/
def proj {R : ℕ} (X : (⟨2, ![R, 4096]⟩ : Shape).Idx → EReal) (W : S4096x9216.Idx → EReal) (g : S4096.Idx → EReal) (s : (⟨3, ![1, R, 1]⟩ : Shape).Idx → EReal) (r : Fin R) (q : Fin 9216) : EReal :=
  act3 (sec3 q.val) ((∑ k : Fin 4096, X (ix2 r k) * (W (ix2 k q) * g (ix1 k))) * root (s (ix3 0 r 0)))

theorem sec_col (t : Fin cfg0.N) (q : Fin 1024) : gate t = sec3 (col t q).val := by
  unfold gate sec3 col
  have hN : cfg0.N = 72 := N_0
  have := t.isLt
  split_ifs <;> first | rfl | (exfalso; simp only at *; omega)

def G5 (i : S8192x9216.Idx) : EReal := proj (V m c main_arg0) (V m c main_arg2) (scale m c) (V m c main_arg4) (i 0) (i 1)
def G6 (i : S64x9216.Idx) : EReal := proj (V m c main_arg1) (V m c main_arg2) (scale m c) (V m c main_arg5) (i 0) (i 1)

theorem final5 : (dats m 0 c).arrAt 5 cfg0.N = G5 m c := by
  refine (dats m 0 c).arrAt_eq_of_covers 5 _ (by decide +kernel) fun t hf y => ?_
  blk_simp
  rw [after_5]
  have e : (win0_5.blk t).view.emb y = ix2 (row t (y 0)) (col t (y 1)) := by blk_ext [idx t, row, col]
  refine Eq.trans ?_ (congrArg (G5 m c) e).symm
  obtain ⟨p, q, rfl⟩ : ∃ (p q : Fin 1024), y = ix2 p q := ⟨_, _, eq_ix2 y⟩
  refine (big_apply t _ _ _ p q).trans (congrArg₂ act3 (sec_col t q) (congrArg₂ (· * ·) (Finset.sum_congr rfl fun k _ => ?_) (congrArg root (blk_s m c t p))))
  exact congrArg₂ (· * ·) (blk_x m c t p k) (tile_col m c t k q)

theorem final6 : (dats m 0 c).arrAt 6 cfg0.N = G6 m c := by
  refine (dats m 0 c).arrAt_eq_of_covers 6 _ (by decide +kernel) fun t hf y => ?_
  blk_simp
  rw [after_6]
  have e : (win0_6.blk t).view.emb y = ix2 (y 0) (col (head t) (y 1)) := by
    have hh : (head t).val / 8 = t.val / 8 := by show 8 * (t.val / 8) / 8 = _; omega
    blk_ext [idx t, col, hh]
  refine Eq.trans ?_ (congrArg (G6 m c) e).symm
  obtain ⟨p, q, rfl⟩ : ∃ (p : Fin 64) (q : Fin 1024), y = ix2 p q := ⟨_, _, eq_ix2 y⟩
  refine (small_apply (head t) _ _ _ p q).trans (congrArg₂ act3 (sec_col (head t) q) (congrArg₂ (· * ·) (Finset.sum_congr rfl fun k _ => ?_) (congrArg root (blk_z m c (head t) p))))
  exact congrArg₂ (· * ·) (blk_y m c (head t) p k) (tile_col m c (head t) k q)

end Cert.Kernel3Ideal.Proj
end
-- ==== Proof.Plain3.lean ====
module

public import proofs.«01_k».proof.Proof.Gen.Reference3Ideal.Read
public import proofs.«01_k».proof.Proof.Act3
public import Idealize.ShloMosaic.Lib.Pipeline.ValueKit

@[expose] public section

noncomputable section

namespace Cert.Reference3Ideal.Read

open Idealize.ShloMosaic Cert.Act Cert.Reference3Ideal

/-! # The two scaled projections, element by element -/

variable (x0 : S8192x4096.Idx → EReal) (x1 : S64x4096.Idx → EReal) (x2 : S4096x9216.Idx → EReal) (x3 : S4096.Idx → EReal) (x4 : S1x8192x1.Idx → EReal) (x5 : S1x64x1.Idx → EReal)

/-- The large output's element, and the small one's. -/
theorem big_apply (r : Fin 8192) (q : Fin 9216) : val_main_v24 (F := Ideal) x0 x2 x3 x4 (ix2 r q)
    = plain3 (sec3 q.val) (∑ k : Fin 4096, x0 (ix2 r k) * rms (x4 (ix3 0 r 0)) * x3 (ix1 k) * x2 (ix2 k q)) := by
  have ed : ∀ q, val_main_v12 (F := Ideal) x0 x2 x3 x4 (ix2 r q) = ∑ k : Fin 4096, x0 (ix2 r k) * rms (x4 (ix3 0 r 0)) * x3 (ix1 k) * x2 (ix2 k q) := fun q => by
    pointwise [val_main_v12, val_main_v11, val_main_v10, val_main_v9, val_main_v8, val_main_v7, val_main_v6, val_main_v5, val_main_v4, val_main_v3,
      val_main_v2, val_main_v1, val_main_v0, val_main_cst, val_main_cst_0]
    rfl
  pointwise [val_main_v24, val_main_v23, val_main_v22, val_main_v21, val_main_v20, val_main_v19, val_main_v18, val_main_v17, val_main_v16, val_main_v15,
    val_main_v14, val_main_v13, val_main_cst_1, val_main_cst_2, val_main_call0_v5, val_main_call0_v4, val_main_call0_v3,
    val_main_call0_v2, val_main_call0_v1, val_main_call0_v0, val_main_call0_cst, val_main_call0_cst_0]
  simp only [ed]
  exact joined3 (fun q => ∑ k : Fin 4096, x0 (ix2 r k) * rms (x4 (ix3 0 r 0)) * x3 (ix1 k) * x2 (ix2 k q)) q

theorem small_apply (r : Fin 64) (q : Fin 9216) : val_main_v49 (F := Ideal) x1 x2 x3 x5 (ix2 r q)
    = plain3 (sec3 q.val) (∑ k : Fin 4096, x1 (ix2 r k) * rms (x5 (ix3 0 r 0)) * x3 (ix1 k) * x2 (ix2 k q)) := by
  have ed : ∀ q, val_main_v37 (F := Ideal) x1 x2 x3 x5 (ix2 r q) = ∑ k : Fin 4096, x1 (ix2 r k) * rms (x5 (ix3 0 r 0)) * x3 (ix1 k) * x2 (ix2 k q) := fun q => by
    pointwise [val_main_v37, val_main_v36, val_main_v35, val_main_v34, val_main_v33, val_main_v32, val_main_v31, val_main_v30, val_main_v29, val_main_v28,
      val_main_v27, val_main_v26, val_main_v25, val_main_cst_3, val_main_cst_4]
    rfl
  pointwise [val_main_v49, val_main_v48, val_main_v47, val_main_v46, val_main_v45, val_main_v44, val_main_v43, val_main_v42, val_main_v41, val_main_v40,
    val_main_v39, val_main_v38, val_main_cst_5, val_main_cst_6, val_main_call1_v5, val_main_call1_v4, val_main_call1_v3,
    val_main_call1_v2, val_main_call1_v1, val_main_call1_v0, val_main_call1_cst, val_main_call1_cst_0]
  simp only [ed]
  exact joined3 (fun q => ∑ k : Fin 4096, x1 (ix2 r k) * rms (x5 (ix3 0 r 0)) * x3 (ix1 k) * x2 (ix2 k q)) q

end Cert.Reference3Ideal.Read
end
-- ==== Proof.Agree3.lean ====
module

public import proofs.«01_k».proof.Defs
public import proofs.«01_k».proof.Proof.Gates3
public import proofs.«01_k».proof.Proof.Plain3
public import proofs.«01_k».proof.Proof.Gen.Pre_finite_rows

@[expose] public section

noncomputable section

namespace Cert.Kernel3Ideal.Proj

open Cert.Act Cert.Kernel3Ideal Cert.Kernel3Ideal.Gen Idealize.ShloMosaic Idealize.ShloMosaic.TcCoe
open Cert.KernelIdeal.Sample (real_of_olt)

/-! # The scaled projection agrees with the reference's -/

/-- An element the comparison with zero passes is zero or more. -/
theorem nonneg_of_oge (x : Ideal .f32) (h : FloatOps.cmpf .oge x (FloatOps.ofBits (F := Ideal) .f32 0x00000000#32) = 1#1) : (0 : EReal) ≤ x := by
  have hz : Ideal.ofBits .f32 0x00000000#32 = 0 := by simp [Ideal.ofBits, Ideal.ieee]
  have h' : Ideal.cmp .oge (x : EReal) (Ideal.ofBits .f32 0x00000000#32) = 1#1 := h
  rw [hz] at h'
  by_contra hn
  simp [Ideal.cmp, hn] at h'

/-- Under the precondition rows, weights and scale are real and no row's sum of squares is negative. -/
theorem reals (m : (ℓ : Loc nD τ sig) → Buf (Elt Ideal) ℓ) (h : Cert.Pre_Kernel3Ideal_finite_rows m) (c : Dev nD) :
    (∀ i, ∃ r : ℝ, (m ((c : Thread nD τ).loc main_arg0) i : EReal) = (r : EReal)) ∧ (∀ i, ∃ r : ℝ, (m ((c : Thread nD τ).loc main_arg1) i : EReal) = (r : EReal))
    ∧ (∀ i, ∃ r : ℝ, (m ((c : Thread nD τ).loc main_arg2) i : EReal) = (r : EReal)) ∧ (∀ i, ∃ r : ℝ, (m ((c : Thread nD τ).loc main_arg3) i : EReal) = (r : EReal))
    ∧ (∀ i, (0 : EReal) ≤ m ((c : Thread nD τ).loc main_arg4) i) ∧ (∀ i, (0 : EReal) ≤ m ((c : Thread nD τ).loc main_arg5) i) := by
  have e := congrFun (h c) ix0
  unfold Cert.Pre_finite_rows.fn Cert.Pre_finite_rows.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (⟨0, ![]⟩ : Shape).Idx := ⟨fun a b => funext fun i => i.elim0⟩
  exact ⟨fun i => real_of_olt _ (Host.reduce_andi_all _ _ _ _ _ e0 i), fun i => real_of_olt _ (Host.reduce_andi_all _ _ _ _ _ e1 i),
    fun i => real_of_olt _ (Host.reduce_andi_all _ _ _ _ _ e2 i), fun i => real_of_olt _ (Host.reduce_andi_all _ _ _ _ _ e3 i),
    fun i => nonneg_of_oge _ (Host.reduce_andi_all _ _ _ _ _ e4 i), fun i => nonneg_of_oge _ (Host.reduce_andi_all _ _ _ _ _ e5 i)⟩

/-- Over real rows, weights and scale the kernel's formula of a column is the reference's. -/
theorem proj_plain {R : ℕ} (X : (⟨2, ![R, 4096]⟩ : Shape).Idx → EReal) (W : S4096x9216.Idx → EReal) (g : S4096.Idx → EReal) (s : (⟨3, ![1, R, 1]⟩ : Shape).Idx → EReal)
    (fX : ∀ i, ∃ r : ℝ, X i = r) (fW : ∀ i, ∃ r : ℝ, W i = r) (fg : ∀ i, ∃ r : ℝ, g i = r) (fs : ∀ i, 0 ≤ s i) (r : Fin R) (q : Fin 9216) :
    proj X W g s r q = plain3 (sec3 q.val) (∑ k : Fin 4096, X (ix2 r k) * rms (s (ix3 0 r 0)) * g (ix1 k) * W (ix2 k q)) := by
  obtain ⟨d, e, e'⟩ := scaled (x := fun k : Fin 4096 => X (ix2 r k)) (g := fun k => g (ix1 k)) (w := fun k => W (ix2 k q)) (s := s (ix3 0 r 0))
    (fun _ => fX _) (fun _ => fg _) (fun _ => fW _) (fs _)
  unfold proj
  rw [e, e']
  exact act_plain3 _ _

variable (m : (ℓ : Loc nD τ sig) → Buf (Elt Ideal) ℓ) (c : Dev nD)

/-- The large output of the kernel is the reference's over arguments that are equal to the kernel's, -/
theorem agree5 (hp : Cert.Pre_Kernel3Ideal_finite_rows m) (x0 : S8192x4096.Idx → EReal) (x2 : S4096x9216.Idx → EReal) (x3 : S4096.Idx → EReal) (x4 : S1x8192x1.Idx → EReal)
    (h0 : x0 = m ((c : Thread nD τ).loc main_arg0)) (h2 : x2 = m ((c : Thread nD τ).loc main_arg2)) (h3 : x3 = m ((c : Thread nD τ).loc main_arg3)) (h4 : x4 = m ((c : Thread nD τ).loc main_arg4)) :
    Cert.Reference3Ideal.Read.val_main_v24 (F := Ideal) x0 x2 x3 x4 = (dats m 0 c).arrAt 5 cfg0.N := by
  obtain ⟨f0, -, f2, f3, f4, -⟩ := reals m hp c
  rw [final5]
  funext i
  obtain ⟨r, q, rfl⟩ : ∃ (r : Fin 8192) (q : Fin 9216), i = ix2 r q := ⟨i 0, i 1, eq_ix2 i⟩
  have e0 : x0 = V m c main_arg0 := h0.trans (V_main_arg0 m c).symm
  have e2 : x2 = V m c main_arg2 := h2.trans (V_main_arg2 m c).symm
  have e4 : x4 = V m c main_arg4 := h4.trans (V_main_arg4 m c).symm
  rw [← h0] at f0; rw [← h2] at f2; rw [← h3] at f3; rw [← h4] at f4
  refine (Cert.Reference3Ideal.Read.big_apply x0 x2 x3 x4 r q).trans ((proj_plain x0 x2 x3 x4 f0 f2 f3 f4 r q).symm.trans ?_)
  subst e0 e2 h3 e4
  rfl

/-- and so is the small one. -/
theorem agree6 (hp : Cert.Pre_Kernel3Ideal_finite_rows m) (x1 : S64x4096.Idx → EReal) (x2 : S4096x9216.Idx → EReal) (x3 : S4096.Idx → EReal) (x5 : S1x64x1.Idx → EReal)
    (h1 : x1 = m ((c : Thread nD τ).loc main_arg1)) (h2 : x2 = m ((c : Thread nD τ).loc main_arg2)) (h3 : x3 = m ((c : Thread nD τ).loc main_arg3)) (h5 : x5 = m ((c : Thread nD τ).loc main_arg5)) :
    Cert.Reference3Ideal.Read.val_main_v49 (F := Ideal) x1 x2 x3 x5 = (dats m 0 c).arrAt 6 cfg0.N := by
  obtain ⟨-, f1, f2, f3, -, f5⟩ := reals m hp c
  rw [final6]
  funext i
  obtain ⟨r, q, rfl⟩ : ∃ (r : Fin 64) (q : Fin 9216), i = ix2 r q := ⟨i 0, i 1, eq_ix2 i⟩
  have e1 : x1 = V m c main_arg1 := h1.trans (V_main_arg1 m c).symm
  have e2 : x2 = V m c main_arg2 := h2.trans (V_main_arg2 m c).symm
  have e5 : x5 = V m c main_arg5 := h5.trans (V_main_arg5 m c).symm
  rw [← h1] at f1; rw [← h2] at f2; rw [← h3] at f3; rw [← h5] at f5
  refine (Cert.Reference3Ideal.Read.small_apply x1 x2 x3 x5 r q).trans ((proj_plain x1 x2 x3 x5 f1 f2 f3 f5 r q).symm.trans ?_)
  subst e1 e2 h3 e5
  rfl

end Cert.Kernel3Ideal.Proj
end
-- ==== Proof.Ring4.lean ====
/- The output projection's weight stream: the two slots of the staging scratch, the cells their transfers complete on, the blocks of
   the weight matrix they bring in, and what is held of them before each grid point. -/
module

public import proofs.«01_k».proof.Proof.Gen.Kernel4Ideal.Frame
public import Idealize.ShloMosaic.Lib.Ring
public import Idealize.ShloMosaic.Lib.Tactic
public import Idealize.ShloMosaic.Lib.WordCmp

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Names -/

/-- The scratch holding two tiles of the weights, rounded. -/
abbrev tilesM : Memref sig .tc .vmem S2x4096x1024 .bf16 := Memref.whole cc0_scratch0
/-- The scratch the transfers land in. -/
abbrev stageM : Memref sig .tc .vmem S2x256x1024 .f32 := Memref.whole cc0_scratch1
/-- The weights, left in HBM. -/
abbrev weightM : Memref sig .tc .hbm S4096x4096 .f32 := Memref.whole main_arg2

/-- The slot step `k`'s block lands in. -/
def sl (k : ℕ) : Fin 2 := ⟨k % 2, by omega⟩
/-- The row and the column block `k` starts at: 256 rows of the tile after the one step `k` multiplies by. -/
def brow (k : ℕ) : ℕ := 256 * (k % 16)
def bcol (k : ℕ) : ℕ := 1024 * min (k / 16 + 1) 3

theorem inb_slot (s : Fin 2) : ∀ a, (![s.val, 0, 0] : Fin 3 → ℕ) a + S1x256x1024.size a ≤ S2x256x1024.size a := by
  have := s.isLt; intro a; fin_cases a <;> simp <;> omega
theorem inb_src (k : ℕ) : ∀ a, (![brow k, bcol k] : Fin 2 → ℕ) a + S256x1024.size a ≤ S4096x4096.size a := by
  intro a; fin_cases a <;> simp [brow, bcol] <;> omega
theorem inb_cell (s : Fin 2) : ∀ a, (![s.val] : Fin 1 → ℕ) a + S1.size a ≤ S2.size a := by
  have := s.isLt; intro a; fin_cases a <;> simp <;> omega

def slotM (s : Fin 2) : Memref sig .tc .vmem S256x1024 .f32 :=
  (stageM.slice (Rect.unit (s := S2x256x1024) ![s.val, 0, 0] S1x256x1024.size (inb_slot s)) (fun _ => rfl)).squeeze S256x1024 squeezes_S1x256x1024_S256x1024
def srcM (k : ℕ) : Memref sig .tc .hbm S256x1024 .f32 :=
  weightM.slice (Rect.unit (s := S4096x4096) ![brow k, bcol k] S256x1024.size (inb_src k)) (fun _ => rfl)
def cellM (s : Fin 2) : DmaSems sig S_ := (cc0_scratch2.slice (Rect.unit (s := S2) ![s.val] S1.size (inb_cell s))).squeeze S_ squeezes_S1_S_
abbrev cellL (s : Fin 2) : SemLoc sig := SemLoc.dma (cellM s).sem

/-- A whole buffer's contents on a core, as the memref's view types them. -/
abbrev At (c : Dev nD) {sp : Space} {S : Shape} {e : EltTy} (M : Memref sig .tc sp S e) : Type := Buf (Elt F) (M.view.loc (c : Thread nD τ))

/-! ## What is held -/

section Held
variable (c : Dev nD) (W : At (F := F) c weightM)

/-- Each slot borrows from its own half of the weights. -/
abbrev sh (s : Fin 2) : PosShare TreeShare := if s.val = 0 then fullShare.left else fullShare.right

abbrev slotP (s : Fin 2) (f : At (F := F) c (slotM s)) : sProp 𝕄 := (slotM s).view.loc (c : Thread nD τ) ↦[(slotM s).view.set]{fullShare} f
abbrev cellP (s : Fin 2) : sProp 𝕄 := semVal ((c : Thread nD τ), cellL s) 0
abbrev srcP (s : Fin 2) (k : ℕ) : sProp 𝕄 := (srcM k).view.loc (c : Thread nD τ) ↦[(srcM k).view.set]{sh s} W
def restP (s : Fin 2) (k : ℕ) : sProp 𝕄 := ((c : Thread nD τ).loc main_arg2) ↦[Finset.univ \ (srcM k).view.set]{sh s} W
abbrev wholeP (s : Fin 2) : sProp 𝕄 := ((c : Thread nD τ).loc main_arg2) ↦[Finset.univ]{sh s} W
/-- The slot's contents once block `k` has landed in it. -/
abbrev landed (s : Fin 2) (k : ℕ) (f : At (F := F) c (slotM s)) : At (F := F) c (slotM s) :=
  (slotM s).view.writes (Elt F) f [⟨Rect.whole S256x1024, ReadAs.same.apply ((srcM k).view.read (Elt F) W)⟩]
abbrev flightP (s : Fin 2) (k : ℕ) (f : At (F := F) c (slotM s)) : sProp 𝕄 :=
  Transfers.Flight countersEmb (c : Thread nD τ) (cellL s) default ((slotM s).view.amount (cellL s))
    iprop(slotP c s (landed c W s k f) ∗ srcP c W s k)

/-- Slot `s` free: its cell at zero, its elements at something, its half of the weights whole. -/
def free (s : Fin 2) : sProp 𝕄 := iprop(cellP (F := F) c s ∗ (∃ f, slotP c s f) ∗ wholeP c W s)
/-- Block `k` in flight into slot `s`. -/
def busy (s : Fin 2) (k : ℕ) : sProp 𝕄 := iprop((∃ f, flightP c W s k f) ∗ restP c W s k)

/-- Before point `k`: both slots free at the start and at the end; in between the point's block in flight, the other slot free. -/
def ringAt (k : ℕ) : sProp 𝕄 :=
  if k = 0 ∨ k = 64 then iprop(free c W 0 ∗ free c W 1)
  else iprop(busy c W (sl k) k ∗ free c W (sl (k + 1)))

theorem src_split (s : Fin 2) (k : ℕ) : wholeP c W s ⊣⊢ iprop(srcP c W s k ∗ restP c W s k) := by
  unfold restP; exact pointsTo_split_subset (Finset.subset_univ _)

theorem halves : (((c : Thread nD τ).loc main_arg2) ↦{fullShare} W : sProp 𝕄) ⊣⊢ iprop(wholeP c W 0 ∗ wholeP c W 1) :=
  pointsTo_share (PosShare.mem_left_op_right fullShare)

/-- The two free slots, that of the even steps first or that of the odd steps. -/
theorem ring_start (k : ℕ) (hk : k = 0 ∨ k = 64) : ringAt c W k = iprop(free c W (sl k) ∗ free c W (sl (k + 1))) := by
  unfold ringAt; rw [if_pos hk]; rcases hk with rfl | rfl <;> rfl
theorem ring_mid (k : ℕ) (h0 : k ≠ 0) (h1 : k ≠ 64) : ringAt c W k = iprop(busy c W (sl k) k ∗ free c W (sl (k + 1))) := by
  unfold ringAt; rw [if_neg (by omega)]
end Held

/-! ## The launch's pieces and the two free slots -/

abbrev slotSet (s : Fin 2) : Finset S2x256x1024.Idx := (Rect.unit (s := S2x256x1024) ![s.val, 0, 0] S1x256x1024.size (inb_slot s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x256x1024) (0 : Fin 3) 1 (fun s : Fin 2 => (![s.val, 0, 0] : Fin 3 → ℕ)) S1x256x1024.size inb_slot (fun s => by simp) rfl s s' h
theorem slots_cover : Finset.univ.biUnion slotSet = Finset.univ :=
  Ring.lead_cover (s := S2x256x1024) (0 : Fin 3) 1 (fun s : Fin 2 => (![s.val, 0, 0] : Fin 3 → ℕ)) S1x256x1024.size inb_slot (fun s => by simp)
    (fun s a ha => by fin_cases a <;> first | exact absurd rfl ha | rfl) rfl (fun a ha => by fin_cases a <;> first | exact absurd rfl ha | rfl) rfl

end Cert.Kernel4Ideal.Proj

end
-- ==== Proof.Offs4.lean ====
/- The output projection's conditions and offsets in closed form over its 64 grid points, and the names of the slices it takes. -/
module

public import proofs.«01_k».proof.Proof.Ring4

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open Idealize.SL.Sem

/-! ## Conditions -/

theorem c1_iff : ∀ t : Fin grid0.N, k0_cond1 (grid0.coords t) = 1#1 ↔ t.val = 0 := by decide +kernel
theorem c2_iff : ∀ t : Fin grid0.N, k0_cond2 (grid0.coords t) = 1#1 ↔ t.val < 63 := by decide +kernel
theorem c3_iff : ∀ t : Fin grid0.N, k0_cond3 (grid0.coords t) = 1#1 ↔ t.val % 16 = 0 := by decide +kernel
theorem live4 : ∀ t : Fin grid0.N, idle0 4 (grid0.coords t) = false := by decide +kernel
theorem idle5 : ∀ t : Fin grid0.N, idle0 5 (grid0.coords t) = !decide (t.val % 16 = 0) := by decide +kernel

/-! ## Offsets -/

set_option synthInstance.maxSize 4096 in
theorem off2_eq : ∀ t : Fin grid0.N, k0_off2 (grid0.coords t) = ![(sl t.val).val] := by decide +kernel
set_option synthInstance.maxSize 4096 in
theorem off3_eq : ∀ t : Fin grid0.N, k0_off3 (grid0.coords t) = ![(sl t.val).val, 0, 0] := by decide +kernel
set_option synthInstance.maxSize 4096 in
theorem off4_eq : ∀ t : Fin grid0.N, k0_off4 (grid0.coords t) = ![brow t.val, bcol t.val] := by decide +kernel
set_option synthInstance.maxSize 4096 in
theorem off5_eq : ∀ t : Fin grid0.N, k0_off5 (grid0.coords t) = ![(sl (t.val + 1)).val] := by decide +kernel
set_option synthInstance.maxSize 4096 in
theorem off6_eq : ∀ t : Fin grid0.N, k0_off6 (grid0.coords t) = ![(sl (t.val + 1)).val, 0, 0] := by decide +kernel
set_option synthInstance.maxSize 4096 in
theorem off7_eq : ∀ t : Fin grid0.N, t.val < 63 → k0_off7 (grid0.coords t) = ![brow (t.val + 1), bcol (t.val + 1)] := by decide +kernel
set_option synthInstance.maxSize 4096 in
theorem off8_eq : ∀ t : Fin grid0.N, k0_off8 (grid0.coords t) = ![t.val / 16 % 2, 0, 0] := by decide +kernel
set_option synthInstance.maxSize 4096 in
theorem off9_eq : ∀ t : Fin grid0.N, k0_off9 (grid0.coords t) = ![(sl t.val).val, 0, 0] := by decide +kernel
set_option synthInstance.maxSize 4096 in
theorem off10_eq : ∀ t : Fin grid0.N, k0_off10 (grid0.coords t) = ![1 - t.val / 16 % 2, brow t.val, 0] := by decide +kernel
set_option synthInstance.maxSize 4096 in
theorem off11_eq : ∀ t : Fin grid0.N, k0_off11 (grid0.coords t) = ![t.val / 16 % 2, 0, 0] := by decide +kernel
theorem off1_eq : k0_off1 = ![brow 0, bcol 0] := by decide +kernel

/-! ## The slices' names -/

/-- A cell and a slot of the ring by its offset. -/
theorem cell_of {off : Fin 1 → ℕ} (s : Fin 2) (h : off = ![s.val]) (inb) :
    (cc0_scratch2.slice (Rect.unit (s := S2) off S1.size inb)).squeeze S_ squeezes_S1_S_ = cellM s :=
  congrArg (fun A : DmaSems sig S1 => A.squeeze S_ squeezes_S1_S_) (SemArray.slice_unit_congr _ h _ _)
theorem slot_of {off : Fin 3 → ℕ} (s : Fin 2) (h : off = ![s.val, 0, 0]) (inb) :
    (stageM.slice (Rect.unit (s := S2x256x1024) off S1x256x1024.size inb) (fun _ => rfl)).squeeze S256x1024 squeezes_S1x256x1024_S256x1024 = slotM s :=
  congrArg (fun M : Memref sig .tc .vmem S1x256x1024 .f32 => M.squeeze S256x1024 squeezes_S1x256x1024_S256x1024) (Memref.slice_unit_congr _ h _ _ (fun _ => rfl) (fun _ => rfl))

@[sl_canon] theorem canon2 (t : Fin grid0.N) (h : ¬ k0_cond1 (grid0.coords t) = 1#1) :
    (cc0_scratch2.slice (Rect.unit (s := S2) (k0_off2 (grid0.coords t)) S1.size (k0_off2_inb (grid0.coords t)))).squeeze S_ squeezes_S1_S_ = cellM (sl t.val) :=
  cell_of _ (off2_eq t) _
@[sl_canon] theorem canon3 (t : Fin grid0.N) (h : ¬ k0_cond1 (grid0.coords t) = 1#1) :
    (stageM.slice (Rect.unit (s := S2x256x1024) (k0_off3 (grid0.coords t)) S1x256x1024.size (k0_off3_inb (grid0.coords t))) (fun _ => rfl)).squeeze S256x1024 squeezes_S1x256x1024_S256x1024 = slotM (sl t.val) :=
  slot_of _ (off3_eq t) _
@[sl_canon] theorem canon4 (t : Fin grid0.N) :
    weightM.slice (Rect.unit (s := S4096x4096) (k0_off4 (grid0.coords t)) S256x1024.size (k0_off4_inb (grid0.coords t))) (fun _ => rfl) = srcM t.val :=
  Memref.slice_unit_congr _ (off4_eq t) _ _ (fun _ => rfl) (fun _ => rfl)
@[sl_canon] theorem canon5 (t : Fin grid0.N) (h' : ¬ k0_cond1 (grid0.coords t) = 1#1) (h : k0_cond2 (grid0.coords t) = 1#1) :
    (cc0_scratch2.slice (Rect.unit (s := S2) (k0_off5 (grid0.coords t)) S1.size (k0_off5_inb (grid0.coords t) h))).squeeze S_ squeezes_S1_S_ = cellM (sl (t.val + 1)) :=
  cell_of _ (off5_eq t) _
@[sl_canon] theorem canon6 (t : Fin grid0.N) (h' : ¬ k0_cond1 (grid0.coords t) = 1#1) (h : k0_cond2 (grid0.coords t) = 1#1) :
    (stageM.slice (Rect.unit (s := S2x256x1024) (k0_off6 (grid0.coords t)) S1x256x1024.size (k0_off6_inb (grid0.coords t) h)) (fun _ => rfl)).squeeze S256x1024 squeezes_S1x256x1024_S256x1024 = slotM (sl (t.val + 1)) :=
  slot_of _ (off6_eq t) _
@[sl_canon] theorem canon7 (t : Fin grid0.N) (h : k0_cond2 (grid0.coords t) = 1#1) :
    weightM.slice (Rect.unit (s := S4096x4096) (k0_off7 (grid0.coords t)) S256x1024.size (k0_off7_inb (grid0.coords t) h)) (fun _ => rfl) = srcM (t.val + 1) :=
  Memref.slice_unit_congr _ (off7_eq t ((c2_iff t).1 h)) _ _ (fun _ => rfl) (fun _ => rfl)

/-! At the first point the slots are named by their numbers. -/

@[sl_canon] theorem canonL_0 (t : Fin grid0.N) (h : k0_cond1 (grid0.coords t) = 1#1) :
    (cc0_scratch2.slice (Rect.unit (s := S2) (![0]) S1.size inb_S2_S1_0)).squeeze S_ squeezes_S1_S_ = cellM 0 :=
  cell_of (0 : Fin 2) rfl _
@[sl_canon] theorem canonL_1 (t : Fin grid0.N) (h : k0_cond1 (grid0.coords t) = 1#1) :
    (cc0_scratch2.slice (Rect.unit (s := S2) (![1]) S1.size inb_S2_S1_1)).squeeze S_ squeezes_S1_S_ = cellM 1 :=
  cell_of (1 : Fin 2) rfl _
@[sl_canon] theorem canonL3_0 (t : Fin grid0.N) (h : k0_cond1 (grid0.coords t) = 1#1) :
    (stageM.slice (Rect.unit (s := S2x256x1024) (![0, 0, 0]) S1x256x1024.size inb_S2x256x1024_S1x256x1024_0_0_0) (fun _ => rfl)).squeeze S256x1024 squeezes_S1x256x1024_S256x1024 = slotM 0 :=
  slot_of (0 : Fin 2) rfl _
@[sl_canon] theorem canonL3_1 (t : Fin grid0.N) (h : k0_cond1 (grid0.coords t) = 1#1) :
    (stageM.slice (Rect.unit (s := S2x256x1024) (![1, 0, 0]) S1x256x1024.size inb_S2x256x1024_S1x256x1024_1_0_0) (fun _ => rfl)).squeeze S256x1024 squeezes_S1x256x1024_S256x1024 = slotM 1 :=
  slot_of (1 : Fin 2) rfl _
@[sl_canon] theorem canonA2 (t : Fin grid0.N) (h : k0_cond1 (grid0.coords t) = 1#1) :
    (cc0_scratch2.slice (Rect.unit (s := S2) (k0_off2 (grid0.coords t)) S1.size (k0_off2_inb (grid0.coords t)))).squeeze S_ squeezes_S1_S_ = cellM 0 :=
  cell_of (0 : Fin 2) ((off2_eq t).trans (by rw [(c1_iff t).1 h]; rfl)) _
@[sl_canon] theorem canonA3 (t : Fin grid0.N) (h : k0_cond1 (grid0.coords t) = 1#1) :
    (stageM.slice (Rect.unit (s := S2x256x1024) (k0_off3 (grid0.coords t)) S1x256x1024.size (k0_off3_inb (grid0.coords t))) (fun _ => rfl)).squeeze S256x1024 squeezes_S1x256x1024_S256x1024 = slotM 0 :=
  slot_of (0 : Fin 2) ((off3_eq t).trans (by rw [(c1_iff t).1 h]; rfl)) _
@[sl_canon] theorem canonA5 (t : Fin grid0.N) (h' : k0_cond1 (grid0.coords t) = 1#1) (h : k0_cond2 (grid0.coords t) = 1#1) :
    (cc0_scratch2.slice (Rect.unit (s := S2) (k0_off5 (grid0.coords t)) S1.size (k0_off5_inb (grid0.coords t) h))).squeeze S_ squeezes_S1_S_ = cellM 1 :=
  cell_of (1 : Fin 2) ((off5_eq t).trans (by rw [(c1_iff t).1 h']; rfl)) _
@[sl_canon] theorem canonA6 (t : Fin grid0.N) (h' : k0_cond1 (grid0.coords t) = 1#1) (h : k0_cond2 (grid0.coords t) = 1#1) :
    (stageM.slice (Rect.unit (s := S2x256x1024) (k0_off6 (grid0.coords t)) S1x256x1024.size (k0_off6_inb (grid0.coords t) h)) (fun _ => rfl)).squeeze S256x1024 squeezes_S1x256x1024_S256x1024 = slotM 1 :=
  slot_of (1 : Fin 2) ((off6_eq t).trans (by rw [(c1_iff t).1 h']; rfl)) _

/-! ## Boxes of loads and stores -/

instance (priority := high) closed9 (t : Fin grid0.N) : ClosedOff (k0_off9 (grid0.coords t)) := ⟨![(sl t.val).val, 0, 0], off9_eq t⟩
instance (priority := high+1) closedA9 (t : Fin grid0.N) [h : Fact (k0_cond1 (grid0.coords t) = 1#1)] : ClosedOff (k0_off9 (grid0.coords t)) := ⟨![0, 0, 0], (off9_eq t).trans (by rw [(c1_iff t).1 h.out]; rfl)⟩
instance (priority := high) closed10 (t : Fin grid0.N) : ClosedOff (k0_off10 (grid0.coords t)) := ⟨![1 - t.val / 16 % 2, brow t.val, 0], off10_eq t⟩
instance (priority := high) closed8 (t : Fin grid0.N) : ClosedOff (k0_off8 (grid0.coords t)) := ⟨![t.val / 16 % 2, 0, 0], off8_eq t⟩
instance (priority := high) closed11 (t : Fin grid0.N) : ClosedOff (k0_off11 (grid0.coords t)) := ⟨![t.val / 16 % 2, 0, 0], off11_eq t⟩

end Cert.Kernel4Ideal.Proj

end
-- ==== Proof.Tiles4.lean ====
/- What the output projection's two tiles hold: the weights, rounded, as far as they have been brought in. -/
module

public import proofs.«01_k».proof.Proof.Offs4
public import proofs.«01_k».proof.Proof.Gen.Kernel4Ideal.Skeleton
public import Idealize.ShloMosaic.Lib.ValueLayout
public import Idealize.ShloMosaic.Lib.WritesUnit

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.ShloMosaic.ValueIdx
open Idealize.SL.Sem

variable {F : FTy → Type} [FloatOps F]

/-! ## The weights by coordinates, and a tile of them -/

section
variable (c : Dev nD) (W : At (F := F) c weightM)

/-- The weight at row `r`, column `q`, rounded. -/
def wAt (r q : ℕ) : F .bf16 :=
  FloatOps.truncf .bf16 bitsLt_bf16_f32 ((W : S4096x4096.Idx → F .f32) (ix2 (⟨r % 4096, Nat.mod_lt _ (by decide)⟩ : Fin 4096) (⟨q % 4096, Nat.mod_lt _ (by decide)⟩ : Fin 4096)))

/-- Tile `j`, as the kernel loads it. -/
def tile (j : ℕ) : Vec F S1x4096x1024 .bf16 := fun x => wAt c W (x 1).val (1024 * j + (x 2).val)

/-! ## A block landed in a slot, loaded and rounded -/

theorem slot_read (s : Fin 2) {off : Fin 3 → ℕ} (h : off = ![s.val, 0, 0]) (inb : ∀ a, off a + S1x256x1024.size a ≤ S2x256x1024.size a)
    (g : At (F := F) c (slotM s)) (w : S256x1024.Idx → F .f32) (L) :
    shapeCast S256x1024 (View.readAt (Elt F) stageM.view (Rect.unit (s := S2x256x1024) off S1x256x1024.size inb).toLoadRect
      ((slotM s).view.writes (Elt F) g (⟨Rect.whole S256x1024, w⟩ :: L))) shapeCasts_S1x256x1024_S256x1024 = w := by
  subst h
  refine (Memref.read_squeeze_slice stageM (Rect.unit (s := S2x256x1024) ![s.val, 0, 0] S1x256x1024.size inb) (fun _ => rfl) squeezes_S1x256x1024_S256x1024 shapeCasts_S1x256x1024_S256x1024
    ((slotM s).view.writes (Elt F) g (⟨Rect.whole S256x1024, w⟩ :: L))).symm.trans ?_
  funext y
  exact View.read_writes_cons_hit (slotM s).view g (Rect.whole S256x1024) w L y y (funext fun a => Fin.ext (by show 0 + 1 * _ = _; omega))

theorem src_read {off : Fin 2 → ℕ} {a b : ℕ} (h : off = ![a, b]) (inb : ∀ i, off i + S256x1024.size i ≤ S4096x4096.size i)
    (hs) (r : Fin 256) (q : Fin 1024) :
    FloatOps.truncf .bf16 bitsLt_bf16_f32 (((ReadAs.same (e := .f32) (s := S256x1024)).apply ((weightM.slice (Rect.unit (s := S4096x4096) off S256x1024.size inb) hs).view.read (Elt F) W) : S256x1024.Idx → F .f32) (ix2 r q))
      = wAt c W (a + r.val) (b + q.val) := by
  subst h
  unfold wAt
  have h0 := inb 0; have h1 := inb 1
  simp at h0 h1
  refine congrArg (FloatOps.truncf .bf16 bitsLt_bf16_f32) ?_
  show W _ = W _
  refine congrArg W (funext fun i => Fin.ext ?_)
  fin_cases i
  · show a + 1 * r.val = (a + r.val) % 4096; rw [Nat.mod_eq_of_lt] <;> omega
  · show b + 1 * q.val = (b + q.val) % 4096; rw [Nat.mod_eq_of_lt] <;> omega

theorem cast_apply (v : Vec F S1x256x1024 .f32) (u : Fin 1) (r : Fin 256) (q : Fin 1024) :
    k0_pay1 v (ix3 u r q) = FloatOps.truncf .bf16 bitsLt_bf16_f32 (shapeCast S256x1024 v shapeCasts_S1x256x1024_S256x1024 (ix2 r q)) :=
  shapeCast_ab_1ab_apply (truncf .bf16 (shapeCast S256x1024 v shapeCasts_S1x256x1024_S256x1024) bitsLt_bf16_f32) shapeCasts_S256x1024_S1x256x1024 u r q

/-- The rounded block starting at row `a`, column `b`. -/
theorem chunk (s : Fin 2) {off : Fin 3 → ℕ} (h : off = ![s.val, 0, 0]) (inb : ∀ a, off a + S1x256x1024.size a ≤ S2x256x1024.size a)
    {off' : Fin 2 → ℕ} {a b : ℕ} (h' : off' = ![a, b]) (inb' : ∀ i, off' i + S256x1024.size i ≤ S4096x4096.size i) (hs)
    (g : At (F := F) c (slotM s)) (L) (x : S1x256x1024.Idx) :
    k0_pay1 (View.readAt (Elt F) stageM.view (Rect.unit (s := S2x256x1024) off S1x256x1024.size inb).toLoadRect
      ((slotM s).view.writes (Elt F) g (⟨Rect.whole S256x1024, ReadAs.same.apply ((weightM.slice (Rect.unit (s := S4096x4096) off' S256x1024.size inb') hs).view.read (Elt F) W)⟩ :: L))) x
      = wAt c W (a + (x 1).val) (b + (x 2).val) := by
  obtain ⟨u, r, q, rfl⟩ : ∃ (u : Fin 1) (r : Fin 256) (q : Fin 1024), x = ix3 u r q := ⟨_, _, _, eq_ix3 x⟩
  refine (cast_apply _ u r q).trans ?_
  rw [slot_read c s h inb g _ L]
  exact src_read c W h' inb' hs r q

/-- The rounded block `k`, landed in slot `s`. -/
theorem chunkL (s : Fin 2) (k : ℕ) {off : Fin 3 → ℕ} (h : off = ![s.val, 0, 0]) (inb : ∀ a, off a + S1x256x1024.size a ≤ S2x256x1024.size a)
    (g : At (F := F) c (slotM s)) (x : S1x256x1024.Idx) :
    k0_pay1 (View.readAt (Elt F) stageM.view (Rect.unit (s := S2x256x1024) off S1x256x1024.size inb).toLoadRect (landed c W s k g)) x
      = wAt c W (brow k + (x 1).val) (bcol k + (x 2).val) :=
  chunk c W s h inb rfl (inb_src k) (fun _ => rfl) g [] x

/-! ## What the tiles hold before each point -/

/-- The column the half `a` starts at before point `k`. -/
def tcol (k a : ℕ) : ℕ := 1024 * min (if a = k / 16 % 2 then k / 16 else k / 16 + 1) 3

/-- Before point `k` the half the point multiplies by holds its tile, the other half the next tile's first `256 (k mod 16)` rows. -/
def WB (k : ℕ) (f : At (F := F) c tilesM) : Prop :=
  k ≠ 0 → ∀ x : S2x4096x1024.Idx, ((x 0).val = k / 16 % 2 ∨ (x 1).val < 256 * (k % 16)) → f x = wAt c W (x 1).val (tcol k (x 0).val + (x 2).val)

variable {c W}

/-- The half a point multiplies by, loaded. -/
theorem tile_read {f : At (F := F) c tilesM} {j h : ℕ} {off : Fin 3 → ℕ} (ho : off = ![h, 0, 0])
    (inb : ∀ a, off a + S1x4096x1024.size a ≤ S2x4096x1024.size a)
    (hf : ∀ x : S2x4096x1024.Idx, (x 0).val = h → f x = wAt c W (x 1).val (1024 * j + (x 2).val)) :
    View.readAt (Elt F) tilesM.view (Rect.unit (s := S2x4096x1024) off S1x4096x1024.size inb).toLoadRect f = tile c W j := by
  subst ho
  funext x
  have h0 : (x 0).val = 0 := by have := (x 0).isLt; simp at this; omega
  refine (hf _ ?_).trans ?_
  · show h + 1 * (x 0).val = h; omega
  · show wAt c W (0 + 1 * (x 1).val) (1024 * j + (0 + 1 * (x 2).val)) = wAt c W (x 1).val (1024 * j + (x 2).val)
    simp

/-- Reading what a list of writes left: under the writes their common target, elsewhere the old contents. -/
theorem tiles_hit (f : At (F := F) c tilesM) (G : S2x4096x1024.Idx → F .bf16) (L : List (View.Piece (Elt F) S2x4096x1024 .bf16))
    (hL : ∀ p ∈ L, ∀ x : p.1.shape.Idx, p.2 x = G (p.1.emb x)) (y : S2x4096x1024.Idx) (hy : ∃ p ∈ L, y ∈ p.1.set) :
    tilesM.view.writes (Elt F) f L y = G y :=
  View.read_writes_apply_of_pieces tilesM.view f G L hL y hy
theorem tiles_miss (f : At (F := F) c tilesM) (L : List (View.Piece (Elt F) S2x4096x1024 .bf16)) (y : S2x4096x1024.Idx) (hy : ∀ p ∈ L, y ∉ p.1.set) :
    tilesM.view.writes (Elt F) f L y = f y :=
  View.read_writes_apply_of_forall_not_mem tilesM.view f y L hy

/-- A block of 256 rows of half `h` from row `a`. -/
theorem mem_rows {off : Fin 3 → ℕ} {h a : ℕ} (ho : off = ![h, a, 0]) (inb : ∀ i, off i + S1x256x1024.size i ≤ S2x4096x1024.size i) (y : S2x4096x1024.Idx) :
    y ∈ (Rect.unit (s := S2x4096x1024) off S1x256x1024.size inb).set ↔ (y 0).val = h ∧ a ≤ (y 1).val ∧ (y 1).val < a + 256 := by
  subst ho
  rw [Rect.mem_set_unit]
  have hy2 : (y 2).val < 1024 := (y 2).isLt
  constructor
  · intro H
    have h0 := H 0; have h1 := H 1
    simp at h0 h1
    omega
  · rintro ⟨h0, h1, h2⟩ i
    fin_cases i
    · show h ≤ (y 0).val ∧ (y 0).val < h + 1; omega
    · show a ≤ (y 1).val ∧ (y 1).val < a + 256; omega
    · show 0 ≤ (y 2).val ∧ (y 2).val < 0 + 1024; omega

/-- A rounded block stored at its rows agrees with the target `G` that the weights give. -/
theorem piece_ok {off : Fin 3 → ℕ} {h a b : ℕ} (ho : off = ![h, a, 0]) (inb : ∀ i, off i + S1x256x1024.size i ≤ S2x4096x1024.size i)
    (w : S1x256x1024.Idx → F .bf16) (hw : ∀ x : S1x256x1024.Idx, w x = wAt c W (a + (x 1).val) (b + (x 2).val))
    (col : ℕ → ℕ) (hcol : col h = b) (x : (Rect.unit (s := S2x4096x1024) off S1x256x1024.size inb).shape.Idx) :
    w x = (fun y : S2x4096x1024.Idx => wAt c W (y 1).val (col (y 0).val + (y 2).val)) ((Rect.unit (s := S2x4096x1024) off S1x256x1024.size inb).emb x) := by
  subst ho
  have h0 : (x 0).val = 0 := by have := (x 0).isLt; simp at this; omega
  rw [hw x]
  show _ = wAt c W (a + 1 * (x 1).val) (col (h + 1 * (x 0).val) + (0 + 1 * (x 2).val))
  rw [h0, Nat.mul_zero, Nat.add_zero, hcol]
  simp

/-- One point's block stored: what holds before the next point. -/
theorem WB_step (k : ℕ) (hk : k ≠ 0) (hk' : k < 64) {f : At (F := F) c tilesM} (hf : WB c W k f)
    {o : Fin 3 → ℕ} (ho : o = ![1 - k / 16 % 2, brow k, 0]) (inb) {w : S1x256x1024.Idx → F .bf16}
    (e : ∀ x : S1x256x1024.Idx, w x = wAt c W (brow k + (x 1).val) (bcol k + (x 2).val)) :
    (∀ x : S2x4096x1024.Idx, (x 0).val = k / 16 % 2 →
      tilesM.view.writes (Elt F) f [⟨Rect.unit (s := S2x4096x1024) o S1x256x1024.size inb, w⟩] x = wAt c W (x 1).val (1024 * (k / 16) + (x 2).val))
    ∧ WB c W (k + 1) (tilesM.view.writes (Elt F) f [⟨Rect.unit (s := S2x4096x1024) o S1x256x1024.size inb, w⟩]) := by
  have hc : tcol k (1 - k / 16 % 2) = bcol k := by
    unfold tcol bcol; rw [if_neg (by omega)]
  have hit := tiles_hit f (fun y : S2x4096x1024.Idx => wAt c W (y 1).val (tcol k (y 0).val + (y 2).val))
    [⟨Rect.unit (s := S2x4096x1024) o S1x256x1024.size inb, w⟩]
    (List.forall_mem_cons.2 ⟨piece_ok ho inb w e (tcol k) hc, fun p hp => absurd hp List.not_mem_nil⟩)
  have miss := tiles_miss f [⟨Rect.unit (s := S2x4096x1024) o S1x256x1024.size inb, w⟩]
  have all : ∀ x : S2x4096x1024.Idx, ((x 0).val = k / 16 % 2 ∨ (x 1).val < 256 * (k % 16) + 256) →
      tilesM.view.writes (Elt F) f [⟨Rect.unit (s := S2x4096x1024) o S1x256x1024.size inb, w⟩] x = wAt c W (x 1).val (tcol k (x 0).val + (x 2).val) := by
    intro x hx
    have hx0 : (x 0).val < 2 := (x 0).isLt
    by_cases hr : (x 0).val = 1 - k / 16 % 2 ∧ 256 * (k % 16) ≤ (x 1).val ∧ (x 1).val < 256 * (k % 16) + 256
    · exact hit x ⟨_, List.mem_cons_self, (mem_rows ho inb x).2 hr⟩
    · refine (miss x (List.forall_mem_cons.2 ⟨mt (mem_rows ho inb x).1 hr, fun p hp => absurd hp List.not_mem_nil⟩)).trans (hf hk x ?_)
      omega
  constructor
  · intro x hx
    refine (all x (.inl hx)).trans ?_
    unfold tcol; rw [if_pos hx, min_eq_left (by omega)]
  · intro _ x hx
    have hx0 : (x 0).val < 2 := (x 0).isLt
    have hx1 : (x 1).val < 4096 := (x 1).isLt
    refine (all x (by omega)).trans ?_
    have : tcol k (x 0).val = tcol (k + 1) (x 0).val := by
      by_cases h7 : k % 16 = 15
      · unfold tcol; rw [if_neg (by omega), if_pos (by omega)]; congr 2; omega
      · unfold tcol; rw [show (k + 1) / 16 = k / 16 by omega]
    rw [this]

/-! ## The first point's sixteen blocks -/

/-- A list of stores puts the first `n` rows of tile 0 into half 0. -/
def Pro (c : Dev nD) (W : At (F := F) c weightM) (L : List (View.Piece (Elt F) S2x4096x1024 .bf16)) (n : ℕ) : Prop :=
  (∀ p ∈ L, ∀ x : p.1.shape.Idx, p.2 x = (fun y : S2x4096x1024.Idx => wAt c W (y 1).val (tcol 0 (y 0).val + (y 2).val)) (p.1.emb x))
    ∧ ∀ y : S2x4096x1024.Idx, (y 0).val = 0 → (y 1).val < n → ∃ p ∈ L, y ∈ p.1.set

theorem pro_nil : Pro c W [] 0 := ⟨fun p hp => absurd hp List.not_mem_nil, fun y _ h => absurd h (Nat.not_lt_zero _)⟩

theorem pro_cons {L : List (View.Piece (Elt F) S2x4096x1024 .bf16)} {n : ℕ} {off : Fin 3 → ℕ} {inb} {w : S1x256x1024.Idx → F .bf16} (hL : Pro c W L n) (ho : off = ![0, n, 0])
    (hw : ∀ x : S1x256x1024.Idx, w x = wAt c W (n + (x 1).val) (0 + (x 2).val)) :
    Pro c W (⟨Rect.unit (s := S2x4096x1024) off S1x256x1024.size inb, w⟩ :: L) (n + 256) := by
  refine ⟨List.forall_mem_cons.2 ⟨piece_ok ho inb w hw (tcol 0) rfl, hL.1⟩, fun y h0 h1 => ?_⟩
  by_cases h : (y 1).val < n
  · obtain ⟨p, hp, hy⟩ := hL.2 y h0 h
    exact ⟨p, List.mem_cons_of_mem _ hp, hy⟩
  · exact ⟨_, List.mem_cons_self, (mem_rows ho inb y).2 ⟨h0, by omega, h1⟩⟩

theorem pro_tile {L : List (View.Piece (Elt F) S2x4096x1024 .bf16)} (hL : Pro c W L 4096) (f : At (F := F) c tilesM) (x : S2x4096x1024.Idx) (hx : (x 0).val = 0) :
    tilesM.view.writes (Elt F) f L x = wAt c W (x 1).val (1024 * 0 + (x 2).val) := by
  refine (tiles_hit f (fun y : S2x4096x1024.Idx => wAt c W (y 1).val (tcol 0 (y 0).val + (y 2).val)) L hL.1 x (hL.2 x hx (x 1).isLt)).trans ?_
  show wAt c W (x 1).val (tcol 0 (x 0).val + (x 2).val) = _
  rw [hx]; rfl

/-- The first point's stores: tile 0, then the first block of tile 1. -/
theorem WB_first {L : List (View.Piece (Elt F) S2x4096x1024 .bf16)} (hL : Pro c W L 4096) (f : At (F := F) c tilesM)
    {o : Fin 3 → ℕ} (ho : o = ![1, brow 0, 0]) (inb) {w : S1x256x1024.Idx → F .bf16}
    (e : ∀ x : S1x256x1024.Idx, w x = wAt c W (brow 0 + (x 1).val) (bcol 0 + (x 2).val)) :
    (∀ x : S2x4096x1024.Idx, (x 0).val = 0 →
      tilesM.view.writes (Elt F) f (⟨Rect.unit (s := S2x4096x1024) o S1x256x1024.size inb, w⟩ :: L) x = wAt c W (x 1).val (1024 * 0 + (x 2).val))
    ∧ WB c W 1 (tilesM.view.writes (Elt F) f (⟨Rect.unit (s := S2x4096x1024) o S1x256x1024.size inb, w⟩ :: L)) := by
  have hit := tiles_hit f (fun y : S2x4096x1024.Idx => wAt c W (y 1).val (tcol 0 (y 0).val + (y 2).val))
    (⟨Rect.unit (s := S2x4096x1024) o S1x256x1024.size inb, w⟩ :: L)
    (List.forall_mem_cons.2 ⟨piece_ok ho inb w e (tcol 0) rfl, hL.1⟩)
  have all : ∀ x : S2x4096x1024.Idx, ((x 0).val = 0 ∨ (x 1).val < 256) → _ := fun x hx => hit x (by
    have hx0 : (x 0).val < 2 := (x 0).isLt
    by_cases h : (x 0).val = 0
    · obtain ⟨p, hp, hy⟩ := hL.2 x h (x 1).isLt
      exact ⟨p, List.mem_cons_of_mem _ hp, hy⟩
    · exact ⟨_, List.mem_cons_self, (mem_rows ho inb x).2 (by unfold brow; simp; omega)⟩)
  constructor
  · intro x hx
    refine (all x (.inl hx)).trans ?_
    show wAt c W (x 1).val (tcol 0 (x 0).val + (x 2).val) = _
    rw [hx]; rfl
  · intro _ x hx
    exact all x hx

end

end Cert.Kernel4Ideal.Proj

end
-- ==== Proof.Step4.lean ====
/- One grid point of the output projection as a triple: what it is given, what it leaves. -/
module

public import proofs.«01_k».proof.Proof.Tiles4
public import Idealize.ShloMosaic.Lib.VecWindow

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What a point writes -/

/-- The point's block of the large output, from its rows `x`, its tile `T` and its block `r` of the residual. -/
def big (x : Vec F S512x4096 .bf16) (T : Vec F S1x4096x1024 .bf16) (r : Vec F S512x1024 .f32) : FVec F S512x1024 .f32 := k0_pay2 x T r
/-- The block of the small output a tile's first point writes. -/
def small (y : Vec F S64x4096 .bf16) (T : Vec F S1x4096x1024 .bf16) (r : Vec F S64x1024 .f32) : FVec F S64x1024 .f32 := k0_pay21 y T r

section
variable {x x' : Vec F S512x4096 .bf16} {y y' : Vec F S64x4096 .bf16} {T T' : Vec F S1x4096x1024 .bf16} {r r' : Vec F S512x1024 .f32} {q q' : Vec F S64x1024 .f32}
theorem big_congr (hx : x' = x) (hT : T' = T) (hr : r' = r) : k0_pay2 x' T' r' = big x T r := by subst hx hT hr; rfl
theorem small_congr (hx : y' = y) (hT : T' = T) (hr : q' = q) : k0_pay21 y' T' q' = small y T q := by subst hx hT hr; rfl
end

/-- A load of a whole staging memref. -/
theorem whole_read {s : Shape} {e : EltTy} {κ : Kind} {sp : Space} {M : Memref sig κ sp s e} (h : M.IsWhole) (x : s.Idx → Elt F e) {off : Fin s.rank → ℕ} (inb : ∀ a, off a + s.size a ≤ s.size a) :
    View.readAt (Elt F) M.view (Rect.unit off s.size inb).toLoadRect (h.unread x) = x :=
  (View.readAt_full M.view _ inb).trans (h.read_unread x)

section
variable (c : Dev nD) (W : At (F := F) c weightM)

abbrev tilesP (f : At (F := F) c tilesM) : sProp 𝕄 := tilesM.view.loc (c : Thread nD τ) ↦[tilesM.view.set]{fullShare} f

/-- What point `t` leaves in the small output's window. -/
def left5 (t : Fin grid0.N) (y : Vec F S64x4096 .bf16) (r d : Vec F S64x1024 .f32) : Vec F S64x1024 .f32 :=
  if t.val % 16 = 0 then small y (tile c W (t.val / 16)) r else d

/-- The triple of point `t`. -/
def Run (t : Fin grid0.N) : Prop :=
  ∀ (arg2 : Memref sig .tc .vmem S512x4096 .bf16) (harg2 : arg2.IsWhole) (arg3 : Memref sig .tc .vmem S64x4096 .bf16) (harg3 : arg3.IsWhole)
    (arg5 : Memref sig .tc .vmem S512x1024 .f32) (harg5 : arg5.IsWhole) (arg6 : Memref sig .tc .vmem S64x1024 .f32) (harg6 : arg6.IsWhole)
    (arg7 : Memref sig .tc .vmem S512x1024 .f32) (harg7 : arg7.IsWhole) (arg8 : Memref sig .tc .vmem S64x1024 .f32) (harg8 : arg8.IsWhole)
    (x0 : Vec F S512x4096 .bf16) (x1 : Vec F S64x4096 .bf16) (x2 : Vec F S512x1024 .f32) (x3 : Vec F S64x1024 .f32) (x5 : Vec F S64x1024 .f32)
    (Ws : Waits sig Unit) (K : PUnit → sProp 𝕄),
    iprop(owns (c : Thread nD τ) arg2 fullShare x0 ∗ owns (c : Thread nD τ) arg3 fullShare x1 ∗ owns (c : Thread nD τ) arg5 fullShare x2 ∗ owns (c : Thread nD τ) arg6 fullShare x3
        ∗ (∃ d, owns (c : Thread nD τ) arg7 fullShare d) ∗ owns (c : Thread nD τ) arg8 fullShare x5
        ∗ (∃ f, ⌜WB c W t.val f⌝ ∗ tilesP c f) ∗ ringAt c W t.val ∗ owes (c : Thread nD τ) 0 Ws
        ∗ (iprop(owns (c : Thread nD τ) arg2 fullShare x0 ∗ owns (c : Thread nD τ) arg3 fullShare x1 ∗ owns (c : Thread nD τ) arg5 fullShare x2 ∗ owns (c : Thread nD τ) arg6 fullShare x3
            ∗ owns (c : Thread nD τ) arg7 fullShare (big x0 (tile c W (t.val / 16)) x2) ∗ owns (c : Thread nD τ) arg8 fullShare (left5 c W t x1 x3 x5)
            ∗ (∃ f, ⌜WB c W (t.val + 1) f⌝ ∗ tilesP c f) ∗ ringAt c W (t.val + 1) ∗ ∃ Ws, owes (c : Thread nD τ) 0 Ws) -∗ K ⟨⟩))
      ⊢ wp frame (wpE (defs₀ (F := F)) Variants.none c none) Set.univ (cc0_proj_res (grid0.coords t) arg2 harg2 arg3 harg3 weightM (Memref.isWhole_whole _) arg5 harg5 arg6 harg6 arg7 harg7 arg8 harg8 tilesM (Memref.isWhole_whole _) stageM (Memref.isWhole_whole _) cc0_scratch2) K

theorem sl_next (k : ℕ) : sl (k + 1 + 1) = sl k := by
  unfold sl; exact Fin.ext (by show (k + 1 + 1) % 2 = k % 2; omega)

/-- The tile a point multiplies by, loaded before its stores. -/
theorem now_read {k : ℕ} (hk : k ≠ 0) (hk' : k < 64) {f : At (F := F) c tilesM} (hf : WB c W k f) {off : Fin 3 → ℕ} (ho : off = ![k / 16 % 2, 0, 0])
    (inb : ∀ a, off a + S1x4096x1024.size a ≤ S2x4096x1024.size a) :
    View.readAt (Elt F) tilesM.view (Rect.unit (s := S2x4096x1024) off S1x4096x1024.size inb).toLoadRect f = tile c W (k / 16) :=
  tile_read ho inb fun x hx => (hf hk x (.inl hx)).trans (by unfold tcol; rw [if_pos hx, min_eq_left (by omega)])

end

end Cert.Kernel4Ideal.Proj

end
-- ==== Proof.RunMid4.lean ====
/- The output projection's points between the first and the last. -/
module

public import proofs.«01_k».proof.Proof.Step4

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
theorem run_mid (c : Dev nD) (t : Fin grid0.N) (Wt : At (F := F) c weightM) (ht : t.val ≠ 0) (ht' : t.val < 63) : Run c Wt t := by
  intro arg2 harg2 arg3 harg3 arg5 harg5 arg6 harg6 arg7 harg7 arg8 harg8 x0 x1 x2 x3 x5 Ws K
  have h1 : ¬ k0_cond1 (grid0.coords t) = 1#1 := fun h => ht ((c1_iff t).1 h)
  have h2 : k0_cond2 (grid0.coords t) = 1#1 := (c2_iff t).2 ht'
  haveI := Fact.mk h1
  haveI := Fact.mk h2
  rw [cc0_proj_res_eq_skeleton]; unfold cc0_proj_res_skel
  simp (config := {beta := false, eta := false, zeta := false, proj := false, iota := false, ground := false, dsimp := false}) only [k0_part11_eq_skeleton]
  rw [ring_mid c Wt t.val ht (by omega), ring_mid c Wt (t.val + 1) (by omega) (by omega)]
  unfold owns busy free
  rcases Decidable.em (k0_cond3 (grid0.coords t) = 1#1) with h3 | h3 <;> haveI := Fact.mk h3
  all_goals
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f, %hf, HS0⟩, ⟨⟨⟨%g0, Hf0⟩, Hr0⟩, ⟨Hc1, ⟨%g1, Hs1⟩, Hw1⟩⟩, HW, Hk⟩
    ihave Hsp1 := (src_split c Wt (sl (t.val + 1)) (t.val + 1)).1 $$ Hw1
    icases Hsp1 with ⟨Hh1, Hr1⟩
    obtain rfl := harg2.eq_unread hf0; obtain rfl := harg3.eq_unread hf1; obtain rfl := harg5.eq_unread hf2; obtain rfl := harg6.eq_unread hf3
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      refine (View.read_writes_full arg7.view f4 _ _ _).trans ?_
      exact big_congr (whole_read harg2 x0 _) (tile_read (off11_eq t) _ (WB_step t.val ht (by omega) hf (off10_eq t) _ (chunkL c Wt (sl t.val) t.val (off9_eq t) _ _)).1) (whole_read harg5 x2 _)
    isplitl [H5]
    · iexists _; isplitr; swap; · iexact H5
      ipureintro
      unfold left5
      first
      | (rw [if_neg (mt (c3_iff t).2 h3)]; exact hf5)
      | rw [if_pos ((c3_iff t).1 h3)]
        refine (View.read_writes_full arg8.view f5 _ _ _).trans ?_
        exact small_congr (whole_read harg3 x1 _) (now_read c Wt ht (by omega) hf (off8_eq t) _) (whole_read harg6 x3 _)
    isplitl [HS0]
    · iexists _; isplitr; swap; · iexact HS0
      ipureintro
      exact (WB_step t.val ht (by omega) hf (off10_eq t) _ (chunkL c Wt (sl t.val) t.val (off9_eq t) _ _)).2
    isplitl [Hc1 Hr1 Hf0 Hf0_dst Hf0_src Hr0]
    · isplitl [Hc1 Hr1]
      · isplitl [Hc1]
        · iexists _; iexact Hc1
        iexact Hr1
      rw [sl_next]
      isplitl [Hf0]; · iexact Hf0
      isplitl [Hf0_dst]; · iexists _; iexact Hf0_dst
      iapply (src_split c Wt (sl t.val) t.val).2; isplitl [Hf0_src]; · iexact Hf0_src
      iexact Hr0
    iexists _; iexact HW

end Cert.Kernel4Ideal.Proj

end
-- ==== Proof.RunLast4.lean ====
/- The output projection's last point. -/
module

public import proofs.«01_k».proof.Proof.RunMid4

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
theorem run_last (c : Dev nD) (t : Fin grid0.N) (Wt : At (F := F) c weightM) (ht : t.val = 63) : Run c Wt t := by
  intro arg2 harg2 arg3 harg3 arg5 harg5 arg6 harg6 arg7 harg7 arg8 harg8 x0 x1 x2 x3 x5 Ws K
  have h1 : ¬ k0_cond1 (grid0.coords t) = 1#1 := fun h => by have := (c1_iff t).1 h; omega
  have h2 : ¬ k0_cond2 (grid0.coords t) = 1#1 := fun h => by have := (c2_iff t).1 h; omega
  have h3 : ¬ k0_cond3 (grid0.coords t) = 1#1 := fun h => by have := (c3_iff t).1 h; omega
  haveI := Fact.mk h1
  haveI := Fact.mk h2
  haveI := Fact.mk h3
  rw [cc0_proj_res_eq_skeleton]; unfold cc0_proj_res_skel
  simp (config := {beta := false, eta := false, zeta := false, proj := false, iota := false, ground := false, dsimp := false}) only [k0_part11_eq_skeleton]
  rw [ring_mid c Wt t.val (by omega) (by omega), ring_start c Wt (t.val + 1) (by omega), sl_next]
  unfold owns busy
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f, %hf, HS0⟩, ⟨⟨⟨%g0, Hf0⟩, Hr0⟩, Hn⟩, HW, Hk⟩
  obtain rfl := harg2.eq_unread hf0; obtain rfl := harg3.eq_unread hf1; obtain rfl := harg5.eq_unread hf2; obtain rfl := harg6.eq_unread hf3
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_full arg7.view f4 _ _ _).trans ?_
    exact big_congr (whole_read harg2 x0 _) (tile_read (off11_eq t) _ (WB_step t.val (by omega) (by omega) hf (off10_eq t) _ (chunkL c Wt (sl t.val) t.val (off9_eq t) _ _)).1) (whole_read harg5 x2 _)
  isplitl [H5]
  · iexists _; isplitr; swap; · iexact H5
    ipureintro
    unfold left5; rw [if_neg (mt (c3_iff t).2 h3)]; exact hf5
  isplitl [HS0]
  · iexists _; isplitr; swap; · iexact HS0
    ipureintro
    exact (WB_step t.val (by omega) (by omega) hf (off10_eq t) _ (chunkL c Wt (sl t.val) t.val (off9_eq t) _ _)).2
  isplitl [Hn Hf0 Hf0_dst Hf0_src Hr0]
  · isplitl [Hn]; · iexact Hn
    unfold free
    isplitl [Hf0]; · iexact Hf0
    isplitl [Hf0_dst]; · iexists _; iexact Hf0_dst
    iapply (src_split c Wt (sl t.val) t.val).2; isplitl [Hf0_src]; · iexact Hf0_src
    iexact Hr0
  iexists _; iexact HW

end Cert.Kernel4Ideal.Proj

end
-- ==== Proof.RunFirst4.lean ====
/- The output projection's first point. -/
module

public import proofs.«01_k».proof.Proof.RunLast4

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- An equality as an entailment. -/
theorem ofEq {P Q : sProp 𝕄} (e : P = Q) : P ⊢ Q := by rw [e]

/-- Slot 0's half of the weights, through the whole matrix. -/
theorem leftHalf (c : Dev nD) (W : At (F := F) c weightM) :
    (weightM.view.loc (c : Thread nD τ) ↦[weightM.view.set]{fullShare.left} W : sProp 𝕄) = wholeP c W 0 := by
  rw [show weightM.view.set = Finset.univ from View.set_whole _]; rfl
theorem ring_first (c : Dev nD) (W : At (F := F) c weightM) (k : ℕ) (hk : k = 0) :
    ringAt c W k = iprop(free c W 0 ∗ free c W 1) := by
  subst hk; exact ring_start c W 0 (.inl rfl)
theorem ring_second (c : Dev nD) (W : At (F := F) c weightM) (k : ℕ) (hk : k = 0) :
    ringAt c W (k + 1) = iprop(busy c W 1 (k + 1) ∗ free c W 0) := by
  subst hk; exact ring_mid c W 1 (by decide) (by decide)

set_option maxHeartbeats 1000000 in
theorem run_first (c : Dev nD) (t : Fin grid0.N) (Wt : At (F := F) c weightM) (ht : t.val = 0) : Run c Wt t := by
  intro arg2 harg2 arg3 harg3 arg5 harg5 arg6 harg6 arg7 harg7 arg8 harg8 x0 x1 x2 x3 x5 Ws K
  have h1 : k0_cond1 (grid0.coords t) = 1#1 := (c1_iff t).2 ht
  have h2 : k0_cond2 (grid0.coords t) = 1#1 := (c2_iff t).2 (by omega)
  have h3 : k0_cond3 (grid0.coords t) = 1#1 := (c3_iff t).2 (by omega)
  haveI := Fact.mk h1
  haveI := Fact.mk h2
  haveI := Fact.mk h3
  rw [cc0_proj_res_eq_skeleton]; unfold cc0_proj_res_skel
  simp (config := {beta := false, eta := false, zeta := false, proj := false, iota := false, ground := false, dsimp := false}) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  rw [ring_first c Wt t.val ht, ring_second c Wt t.val ht]
  unfold owns busy free
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f, -, HS0⟩, ⟨⟨Hc0, ⟨%g0, Hs0⟩, Hw0⟩, ⟨Hc1, ⟨%g1, Hs1⟩, Hw1⟩⟩, HW, Hk⟩
  ihave Hsp1 := (src_split c Wt 1 (t.val + 1)).1 $$ Hw1
  icases Hsp1 with ⟨Hh1, Hr1⟩
  ihave Hhl := (ofEq (leftHalf c Wt).symm) $$ Hw0
  obtain rfl := harg2.eq_unread hf0; obtain rfl := harg3.eq_unread hf1; obtain rfl := harg5.eq_unread hf2; obtain rfl := harg6.eq_unread hf3
  sl_exec (disch := first | sl_exact h1 | sl_exact h2 | sl_exact h3)
  sl_step
  iapply Hk
  have pro : Pro c Wt (run_first.sl.HS0_16 c Wt) 4096 := by
    repeat' refine pro_cons ?_ rfl (chunk c Wt _ rfl _ rfl _ (fun _ => rfl) _ _)
    exact pro_nil
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_full arg7.view f4 _ _ _).trans ?_
    refine big_congr (whole_read harg2 x0 _) ?_ (whole_read harg5 x2 _)
    rw [ht]
    exact tile_read ((off11_eq t).trans (by rw [ht])) _ (WB_first pro f ((off10_eq t).trans (by rw [ht])) _ (chunk c Wt 0 ((off9_eq t).trans (by rw [ht]; rfl)) _ off1_eq _ (fun _ => rfl) _ _)).1
  isplitl [H5]
  · iexists _; isplitr; swap; · iexact H5
    ipureintro
    unfold left5; rw [if_pos ((c3_iff t).1 h3)]
    refine (View.read_writes_full arg8.view f5 _ _ _).trans ?_
    refine small_congr (whole_read harg3 x1 _) ?_ (whole_read harg6 x3 _)
    rw [ht]
    exact tile_read ((off8_eq t).trans (by rw [ht])) _ (pro_tile pro f)
  isplitl [HS0]
  · iexists _; isplitr; swap; · iexact HS0
    ipureintro
    rw [ht]
    exact (WB_first pro f ((off10_eq t).trans (by rw [ht])) _ (chunk c Wt 0 ((off9_eq t).trans (by rw [ht]; rfl)) _ off1_eq _ (fun _ => rfl) _ _)).2
  isplitl [Hc1 Hr1 Hc0 Hs0 Hhl]
  · isplitl [Hc1 Hr1]
    · isplitl [Hc1]
      · iexists _; iexact Hc1
      iexact Hr1
    isplitl [Hc0]; · iexact Hc0
    isplitl [Hs0]; · iexists _; iexact Hs0
    iapply (ofEq (leftHalf c Wt)); iexact Hhl
  iexists _; iexact HW

end Cert.Kernel4Ideal.Proj

end
-- ==== Proof.Region4.lean ====
/- The output projection's region: its proof data, the body's triple at every point, the launch, and what the arrays hold at the end. -/
module

public import proofs.«01_k».proof.Proof.RunFirst4
public import Idealize.ShloMosaic.Lib.Pipeline.TableIdle

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The triple at every point. -/
theorem run_all (c : Dev nD) (t : Fin grid0.N) (W : At (F := F) c weightM) : Run c W t := by
  have hN : t.val < 64 := lt_of_lt_of_eq t.isLt N_0
  by_cases h0 : t.val = 0
  · exact run_first c t W h0
  · by_cases h1 : t.val = 63
    · exact run_last c t W h1
    · exact run_mid c t W h0 (by omega)

/-! ## The launch's pieces -/

/-- The kernel's own cells. -/
abbrev osem0 : Fin 2 → SemLoc sig := fun j => (![SemLoc.dma 11, SemLoc.dma 12] : Fin 2 → SemLoc sig) j
theorem ownSemFacts0 : Pipeline.OwnSemFacts spec0 osem0 := by decide
/-- The weights, moved by the body itself. -/
def H0 : Finset (Ref sig .tc) := {main_arg2}
theorem H0_sub : H0 ⊆ Pipeline.restRefs sig spec0 := by decide

theorem cells_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1) := by
  rw [Pipeline.ownSems0_eq_of_list c osem0 [0, 1] (by decide) (by decide)]; rfl
theorem weights_eq (c : Dev nD) :
    (bigSep H0 (fun b => ((c : Thread nD τ).loc b) ↦{fullShare} V m c b) : sProp 𝕄) = iprop(((c : Thread nD τ).loc main_arg2) ↦{fullShare} V m c main_arg2) := by
  rw [BI.bigSep_eq_bigSepL_of_eq [main_arg2] (by decide) (by decide)]; rfl

theorem launch_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ iprop(cellP (F := F) c 0 ∗ cellP (F := F) c 1)
        ∗ iprop(((c : Thread nD τ).loc main_arg2) ↦{fullShare} V m c main_arg2)) := by
  rw [Pipeline.ΦD_eq, scopedRest0_eq, cells_eq, weights_eq]

theorem bigSep2 {M : Type} [URA M] (Φ : Fin 2 → sProp M) : bigSep Finset.univ Φ = iprop(Φ 0 ∗ Φ 1) :=
  bigSep_univ_eq_bigSepL [(0 : Fin 2), 1] (by decide) (by decide) Φ

theorem slotP_eq (c : Dev nD) (s : Fin 2) (f) : slotP (F := F) c s f = (((c : Thread nD τ).loc cc0_scratch1) ↦[slotSet s]{fullShare} f : sProp 𝕄) := by
  unfold slotP; rw [slotSet_eq]; rfl

/-- The staging scratch whole is its two slots, -/
theorem slots_in (c : Dev nD) : iprop(∃ f : Buf (Elt F) ((c : Thread nD τ).loc cc0_scratch1), ((c : Thread nD τ).loc cc0_scratch1) ↦{fullShare} f)
    ⊢ (iprop((∃ f, slotP (F := F) c 0 f) ∗ (∃ f, slotP (F := F) c 1 f)) : sProp 𝕄) := by
  iintro ⟨%f, H⟩
  ihave H2 := (ofEq ((Ring.pointsTo_blocks (Ix := Unit) (Name := ℕ) (U := Pipeline.UD sig nD τ) (Lvl := ℕ) (q := fullShare) slotSet slots_disjoint slots_cover f).trans (bigSep2 _))) $$ H
  icases H2 with ⟨H0, H1⟩
  isplitl [H0]; · iexists f; iapply (ofEq (slotP_eq c 0 _).symm); iexact H0
  iexists f; iapply (ofEq (slotP_eq c 1 _).symm); iexact H1
/-- and back. -/
theorem slots_out (c : Dev nD) : (iprop((∃ f, slotP (F := F) c 0 f) ∗ (∃ f, slotP (F := F) c 1 f)) : sProp 𝕄)
    ⊢ iprop(∃ f : Buf (Elt F) ((c : Thread nD τ).loc cc0_scratch1), ((c : Thread nD τ).loc cc0_scratch1) ↦{fullShare} f) := by
  iintro ⟨⟨%f0, H0⟩, ⟨%f1, H1⟩⟩
  iapply (Ring.pointsTo_blocks_join_exists slotSet slots_disjoint slots_cover f0)
  irw [bigSep2]
  isplitl [H0]; · iexists f0; iapply (ofEq (slotP_eq c 0 f0)); iexact H0
  iexists f1; iapply (ofEq (slotP_eq c 1 f1)); iexact H1

/-! ## The proof data -/

/-- Before point `k`: the register, the weight stream, and the tiles' scratch with what is known of it. -/
def Inv (c : Dev nD) (k : ℕ) : sProp 𝕄 :=
  iprop((∃ r, prngReg c r) ∗ (∃ f, ⌜WB c (V m c main_arg2) k f⌝ ∗ tilesP c f) ∗ ringAt c (V m c main_arg2) k)

/-- The first point of the tile point `t` multiplies by. -/
def head (t : Fin cfg0.N) : Fin cfg0.N := ⟨16 * (t.val / 16), lt_of_le_of_lt (by omega) t.isLt⟩

/-- The large output's block at point `t`, and the small output's. -/
def outBig (c : Dev nD) (t : Fin cfg0.N) : Vec F S512x1024 .f32 := big (iblk m c 0 t) (tile c (V m c main_arg2) (t.val / 16)) (iblk m c 2 t)
def outSmall (c : Dev nD) (t : Fin cfg0.N) : Vec F S64x1024 .f32 := small (iblk m c 1 t) (tile c (V m c main_arg2) (t.val / 16)) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBig m c t
    | ⟨5, _⟩ => outSmall m c (head t)
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBig m c t := by dsimp only [dats]
theorem after_5 (c : Dev nD) (t : Fin cfg0.N) : (dats m 0 c).after 5 t = outSmall m c (head t) := by dsimp only [dats]
theorem inv_castSucc (c : Dev nD) (t : Fin cfg0.N) : (dats m 0 c).Φ t.castSucc = Inv m c t.val := by dsimp only [dats]; simp only [Fin.val_castSucc]
theorem inv_succ (c : Dev nD) (t : Fin cfg0.N) : (dats m 0 c).Φ t.succ = Inv m c (t.val + 1) := by dsimp only [dats]; simp only [Fin.val_succ]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ### The small output's window: written at a tile's first point, kept to its last -/

theorem idle_5 (t : Fin cfg0.N) : cfg0.idle 5 (cfg0.grid.coords t) = !decide (t.val % 16 = 0) := idle5 t
theorem fresh_5 (n : ℕ) (hn : n ≤ cfg0.N) : cfg0.fresh 5 n = decide (n % 16 = 0) := by
  refine cfg0.fresh_tab 5 (fun n => decide (n % 16 = 0)) rfl (fun t => ?_) n hn
  have hf := flush0_5 t
  rw [idle_5 t]
  by_cases h7 : t.val % 16 = 15
  · rw [hf.2 h7]; simp; omega
  · rw [Bool.eq_false_iff.2 (fun h => h7 (hf.1 h))]
    by_cases h0 : t.val % 16 = 0 <;> simp [h0] <;> omega

theorem head_pred (t : Fin cfg0.N) (h : t.val % 16 ≠ 0) : head ⟨t.val - 1, by omega⟩ = head t := by
  unfold head; refine Fin.ext ?_; show 16 * ((t.val - 1) / 16) = 16 * (t.val / 16); omega
theorem head_self (t : Fin cfg0.N) (h : t.val % 16 = 0) : head t = t := by
  unfold head; refine Fin.ext ?_; show 16 * (t.val / 16) = t.val; omega

theorem before_5 (c : Dev nD) (t : Fin cfg0.N) (h : t.val % 16 ≠ 0) (d) : (dats m 0 c).before 5 t d = (dats m 0 c).after 5 t := by
  rw [(dats m 0 c).before_out_traj 5 rfl (fun _ _ => rfl) (fun t ht hi _ => ?_) t.val t rfl d, fresh_5 _ (Nat.le_of_lt t.isLt), if_neg (by simp [h]), after_5, after_5, head_pred t h]
  rw [after_5, after_5, head_pred]
  rw [idle_5] at hi
  simpa using hi

/-- What point `t` leaves in that window is what the proof data says of it. -/
theorem left5_eq (c : Dev nD) (t : Fin cfg0.N) (d) :
    left5 c (V m c main_arg2) t (iblk m c 1 t) (iblk m c 3 t) ((dats m 0 c).before 5 t d) = (dats m 0 c).after 5 t := by
  unfold left5
  by_cases h : t.val % 16 = 0
  · rw [if_pos h, after_5, head_self t h]; rfl
  · rw [if_neg h, before_5 m c t h]

theorem leaves_5 (c : Dev nD) (t : Fin cfg0.N) (d0 : (cfg0.win 5).block.Idx → Elt F (cfg0.win 5).elt) :
    (owns (c : Thread nD τ) (st0_5 t) fullShare ((dats m 0 c).after 5 t) : sProp 𝕄) ⊢ (dats m 0 c).leavesExact 5 t := by
  by_cases h : t.val % 16 = 0
  · unfold Dat.leavesExact
    rw [show cfg0.idle 5 (cfg0.grid.coords t) = false by rw [idle_5]; simp [h]]
  · by_cases hf : (cfg0.win 5).flush t = true
    · unfold Dat.leavesExact
      rw [show cfg0.idle 5 (cfg0.grid.coords t) = true by rw [idle_5]; simp [h], hf]
    · rw [(dats m 0 c).leavesExact_idle 5 t (by rw [idle_5]; simp [h]) (Bool.eq_false_iff.2 hf)]
      iintro H; iexists d0; rw [before_5 m c t h]; iexact H

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

/-- What an input's window is left with. -/
theorem leaves_in (c : Dev nD) (t : Fin cfg0.N) :
    (dats m 0 c).leavesExact 0 t = owns (c : Thread nD τ) (st0_0 t) fullShare (iblk m c 0 t) ∧ (dats m 0 c).leavesExact 1 t = owns (c : Thread nD τ) (st0_1 t) fullShare (iblk m c 1 t)
    ∧ (dats m 0 c).leavesExact 2 t = owns (c : Thread nD τ) (st0_2 t) fullShare (iblk m c 2 t) ∧ (dats m 0 c).leavesExact 3 t = owns (c : Thread nD τ) (st0_3 t) fullShare (iblk m c 3 t) := by
  refine ⟨?_, ?_, ?_, ?_⟩ <;> unfold Dat.leavesExact
  · rw [show cfg0.idle 0 (cfg0.grid.coords t) = false from rfl, after_0]
  · rw [show cfg0.idle 1 (cfg0.grid.coords t) = false from rfl, after_1]
  · rw [show cfg0.idle 2 (cfg0.grid.coords t) = false from rfl, after_2]
  · rw [show cfg0.idle 3 (cfg0.grid.coords t) = false from rfl, after_3]
theorem leaves_4 (c : Dev nD) (t : Fin cfg0.N) : (dats m 0 c).leavesExact 4 t = owns (c : Thread nD τ) (st0_4 t) fullShare (outBig m c t) := by
  unfold Dat.leavesExact; rw [show cfg0.idle 4 (cfg0.grid.coords t) = false from live4 t, after_4]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [inv_castSucc m c t, inv_succ m c t, (leaves_in m c t).1, (leaves_in m c t).2.1, (leaves_in m c t).2.2.1, (leaves_in m c t).2.2.2, leaves_4]
  unfold Dat.owesAt Pipeline.owesWithin
  rw [show (dats m 0 c).owed t.castSucc = 0 from rfl, show (dats m 0 c).owed t.succ = 0 from rfl]
  unfold Inv
  iintro ⟨⟨Hg, HT, HR⟩, ⟨%Ws, -, HW⟩, ⟨%d0, H0⟩, ⟨%d1, H1⟩, ⟨%d2, H2⟩, ⟨%d3, H3⟩, ⟨%d4, H4⟩, ⟨%d5, H5⟩⟩
  iapply (run_all c t (V m c main_arg2) _ _ _ _ _ _ _ _ _ _ _ _ (iblk m c 0 t) (iblk m c 1 t) (iblk m c 2 t) (iblk m c 3 t) ((dats m 0 c).before 5 t d5) Ws _)
  isplitl [H0]; · iexact H0
  isplitl [H1]; · iexact H1
  isplitl [H2]; · iexact H2
  isplitl [H3]; · iexact H3
  isplitl [H4]; · iexists _; iexact H4
  isplitl [H5]; · iexact H5
  isplitl [HT]; · iexact HT
  isplitl [HR]; · iexact HR
  isplitl [HW]; · iexact HW
  iintro ⟨H0, H1, H2, H3, H4, H5, HT, HR, ⟨%W', HW'⟩⟩
  isplitl [Hg HT HR]
  · isplitl [Hg]; · iexact Hg
    isplitl [HT]; · iexact HT
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves_5 m c t d5)
  rw [← left5_eq m c t d5]
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [launch_eq, show (dats m 0 c).Φ 0 = Inv m c 0 from rfl]
  unfold Inv ringAt; rw [if_pos (Or.inl rfl)]; unfold free
  iintro ⟨⟨⟨%f, HT⟩, HS⟩, Hg, ⟨C0, C1⟩, HW⟩
  isplitl [Hg]; · iexact Hg
  isplitl [HT]
  · iexists f; isplitr; · ipureintro; exact fun h => absurd rfl h
    iapply (ofEq (show _ = tilesP c f by unfold tilesP; rw [View.set_whole])); iexact HT
  ihave HS' := (slots_in (F := F) c) $$ HS
  icases HS' with ⟨S0, S1⟩
  ihave HW' := (halves c (V m c main_arg2)).1 $$ HW
  icases HW' with ⟨W0, W1⟩
  isplitl [C0 S0 W0]
  · isplitl [C0]; · iexact C0
    isplitl [S0]; · iexact S0
    iexact W0
  isplitl [C1]; · iexact C1
  isplitl [S1]; · iexact S1
  iexact W1

theorem hout (c : Dev nD) : (dats m 0 c).Φ (Fin.last cfg0.N) ⊢ Pipeline.ΦD osem0 spec0 H0 (V m) c := by
  rw [launch_eq, show (dats m 0 c).Φ (Fin.last cfg0.N) = Inv m c grid0.N from rfl]
  unfold Inv ringAt; rw [if_pos (Or.inr N_0)]; unfold free
  iintro ⟨Hg, ⟨%f, -, HT⟩, ⟨C0, S0, W0⟩, ⟨C1, S1, W1⟩⟩
  isplitl [HT S0 S1]
  · isplitl [HT]
    · iexists f; iapply (ofEq (show tilesP c f = _ by unfold tilesP; rw [View.set_whole])); iexact HT
    iapply (slots_out (F := F) c)
    isplitl [S0]; · iexact S0
    iexact S1
  isplitl [Hg]; · iexact Hg
  isplitl [C0 C1]
  · isplitl [C0]; · iexact C0
    iexact C1
  iapply (halves c (V m c main_arg2)).2
  isplitl [W0]; · iexact W0
  iexact W1

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run: every array at what the points left in it, every other buffer as launched, the counters at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain' m Variants.none) (hA := A_eq m) (hin := hin m) (hout := hout m)

/-- The arguments keep what they held. -/
theorem kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => kept m h.1 c, h.2⟩) (run_main m ρ)

end Cert.Kernel4Ideal.Proj

end
-- ==== Proof.Gates4.lean ====
module

public import proofs.«01_k».proof.Proof.Region4
public import Idealize.ShloMosaic.Lib.Pipeline.ValueKit

@[expose] public section

noncomputable section

namespace Cert.Kernel4Ideal.Proj

open Cert.Kernel4Ideal Cert.Kernel4Ideal.Gen Idealize.ShloMosaic Idealize.ShloMosaic.TcCoe

/-! # What a block of either output holds, element by element -/

theorem big_apply (x : Vec Ideal S512x4096 .bf16) (T : Vec Ideal S1x4096x1024 .bf16) (r : Vec Ideal S512x1024 .f32) (p : Fin 512) (q : Fin 1024) :
    big (F := Ideal) x T r (ix2 p q) = (∑ k : Fin 4096, x (ix2 p k) * T (ix3 0 k q)) + r (ix2 p q) := by
  unfold big
  pointwise [k0_pay2]

theorem small_apply (y : Vec Ideal S64x4096 .bf16) (T : Vec Ideal S1x4096x1024 .bf16) (r : Vec Ideal S64x1024 .f32) (p : Fin 64) (q : Fin 1024) :
    small (F := Ideal) y T r (ix2 p q) = (∑ k : Fin 4096, y (ix2 p k) * T (ix3 0 k q)) + r (ix2 p q) := by
  unfold small
  pointwise [k0_pay21]

variable (m : (ℓ : Loc nD τ sig) → Buf (Elt Ideal) ℓ) (c : Dev nD)

/-! # The blocks, read off the arrays -/

/-- Column `q` of the point's tile, and row `p` of its row block. -/
def col (t : Fin cfg0.N) (q : Fin 1024) : Fin 4096 := ⟨1024 * (t.val / 16) + q.val, by have h := t.isLt; have e : cfg0.N = 64 := N_0; omega⟩
def row (t : Fin cfg0.N) (p : Fin 512) : Fin 8192 := ⟨512 * (t.val % 16) + p.val, by omega⟩

theorem idx : ∀ t : Fin cfg0.N, win0_0.index t = ![t.val % 16, 0] ∧ win0_1.index t = ![0, 0] ∧ win0_2.index t = ![t.val % 16, t.val / 16]
    ∧ win0_3.index t = ![0, t.val / 16] ∧ win0_4.index t = ![t.val % 16, t.val / 16] ∧ win0_5.index t = ![0, t.val / 16] := by decide +kernel

theorem blk_x (t : Fin cfg0.N) (p : Fin 512) (k : Fin 4096) : (iblk m c 0 t (ix2 p k) : EReal) = V m c main_arg0 (ix2 (row t p) k) := by
  blk_ext [iblk, idx t, row]
theorem blk_y (t : Fin cfg0.N) (p : Fin 64) (k : Fin 4096) : (iblk m c 1 t (ix2 p k) : EReal) = V m c main_arg1 (ix2 p k) := by
  blk_ext [iblk, idx t]
theorem blk_r (t : Fin cfg0.N) (p : Fin 512) (q : Fin 1024) : (iblk m c 2 t (ix2 p q) : EReal) = V m c main_arg3 (ix2 (row t p) (col t q)) := by
  blk_ext [iblk, idx t, row, col]
theorem blk_s (t : Fin cfg0.N) (p : Fin 64) (q : Fin 1024) : (iblk m c 3 t (ix2 p q) : EReal) = V m c main_arg4 (ix2 p (col t q)) := by
  blk_ext [iblk, idx t, col]

theorem tile_col (W : Buf (Elt Ideal) ((c : Thread nD τ).loc main_arg2)) (t : Fin cfg0.N) (k : Fin 4096) (q : Fin 1024) :
    (tile (F := Ideal) c W (t.val / 16) (ix3 0 k q) : EReal) = (W : S4096x4096.Idx → EReal) (ix2 k (col t q)) := by
  have hN : cfg0.N = 64 := N_0
  have := t.isLt
  show (W : S4096x4096.Idx → EReal) _ = _
  congr 2
  · exact Fin.ext (Nat.mod_eq_of_lt k.isLt)
  · exact Fin.ext (Nat.mod_eq_of_lt (by show 1024 * (t.val / 16) + q.val < 4096; omega))

/-! # The two outputs as one formula -/

/-- The product of row `r` of `X` with column `q` of `W`, plus the residual's element. -/
def resid {R : ℕ} (X : (⟨2, ![R, 4096]⟩ : Shape).Idx → EReal) (W : S4096x4096.Idx → EReal) (Y : (⟨2, ![R, 4096]⟩ : Shape).Idx → EReal) (r : Fin R) (q : Fin 4096) : EReal :=
  (∑ k : Fin 4096, X (ix2 r k) * W (ix2 k q)) + Y (ix2 r q)

def G4 (i : S8192x4096.Idx) : EReal := resid (V m c main_arg0) (V m c main_arg2) (V m c main_arg3) (i 0) (i 1)
def G5 (i : S64x4096.Idx) : EReal := resid (V m c main_arg1) (V m c main_arg2) (V m c main_arg4) (i 0) (i 1)

theorem final4 : (dats m 0 c).arrAt 4 cfg0.N = G4 m c := by
  refine (dats m 0 c).arrAt_eq_of_covers 4 _ (by decide +kernel) fun t hf y => ?_
  blk_simp
  rw [after_4]
  have e : (win0_4.blk t).view.emb y = ix2 (row t (y 0)) (col t (y 1)) := by blk_ext [idx t, row, col]
  refine Eq.trans ?_ (congrArg (G4 m c) e).symm
  obtain ⟨p, q, rfl⟩ : ∃ (p : Fin 512) (q : Fin 1024), y = ix2 p q := ⟨_, _, eq_ix2 y⟩
  refine (big_apply _ _ _ p q).trans (congrArg₂ (· + ·) (Finset.sum_congr rfl fun k _ => ?_) (blk_r m c t p q))
  exact congrArg₂ (· * ·) (blk_x m c t p k) (tile_col c _ t k q)

theorem final5 : (dats m 0 c).arrAt 5 cfg0.N = G5 m c := by
  refine (dats m 0 c).arrAt_eq_of_covers 5 _ (by decide +kernel) fun t hf y => ?_
  blk_simp
  rw [after_5]
  have e : (win0_5.blk t).view.emb y = ix2 (y 0) (col (head t) (y 1)) := by
    have hh : (head t).val / 16 = t.val / 16 := by show 16 * (t.val / 16) / 16 = _; omega
    blk_ext [idx t, col, hh]
  refine Eq.trans ?_ (congrArg (G5 m c) e).symm
  obtain ⟨p, q, rfl⟩ : ∃ (p : Fin 64) (q : Fin 1024), y = ix2 p q := ⟨_, _, eq_ix2 y⟩
  refine (small_apply _ _ _ p q).trans (congrArg₂ (· + ·) (Finset.sum_congr rfl fun k _ => ?_) (blk_s m c (head t) p q))
  exact congrArg₂ (· * ·) (blk_y m c (head t) p k) (tile_col c _ (head t) k q)

end Cert.Kernel4Ideal.Proj
end
-- ==== Proof.Plain4.lean ====
module

public import proofs.«01_k».proof.Proof.Gen.Reference4Ideal.Read
public import Idealize.ShloMosaic.Lib.Pipeline.ValueKit

@[expose] public section

noncomputable section

namespace Cert.Reference4Ideal.Read

open Idealize.ShloMosaic Cert.Reference4Ideal

/-! # The residual sums, element by element -/

theorem big_apply (x0 : S8192x4096.Idx → EReal) (x2 : S4096x4096.Idx → EReal) (x3 : S8192x4096.Idx → EReal) (r : Fin 8192) (q : Fin 4096) :
    val_main_v2 (F := Ideal) x0 x2 x3 (ix2 r q) = x3 (ix2 r q) + ∑ k : Fin 4096, x0 (ix2 r k) * x2 (ix2 k q) := by
  pointwise [val_main_v2, val_main_v1, val_main_v0]

theorem small_apply (x1 : S64x4096.Idx → EReal) (x2 : S4096x4096.Idx → EReal) (x4 : S64x4096.Idx → EReal) (r : Fin 64) (q : Fin 4096) :
    val_main_v5 (F := Ideal) x1 x2 x4 (ix2 r q) = x4 (ix2 r q) + ∑ k : Fin 4096, x1 (ix2 r k) * x2 (ix2 k q) := by
  pointwise [val_main_v5, val_main_v4, val_main_v3]

end Cert.Reference4Ideal.Read
end
-- ==== Proof.Agree4.lean ====
module

public import proofs.«01_k».proof.Defs
public import proofs.«01_k».proof.Proof.Gates4
public import proofs.«01_k».proof.Proof.Plain4

@[expose] public section

noncomputable section

namespace Cert.Kernel4Ideal.Proj

open Cert.Kernel4Ideal Cert.Kernel4Ideal.Gen Idealize.ShloMosaic Idealize.ShloMosaic.TcCoe

/-! # The output projection agrees with the reference's -/

variable (m : (ℓ : Loc nD τ sig) → Buf (Elt Ideal) ℓ) (c : Dev nD)

/-- The large output of the kernel is the reference's over arguments that are equal to the kernel's, -/
theorem agree4 (x0 : S8192x4096.Idx → EReal) (x2 : S4096x4096.Idx → EReal) (x3 : S8192x4096.Idx → EReal)
    (h0 : x0 = m ((c : Thread nD τ).loc main_arg0)) (h2 : x2 = m ((c : Thread nD τ).loc main_arg2)) (h3 : x3 = m ((c : Thread nD τ).loc main_arg3)) :
    Cert.Reference4Ideal.Read.val_main_v2 (F := Ideal) x0 x2 x3 = (dats m 0 c).arrAt 4 cfg0.N := by
  subst h0 h2 h3
  rw [final4]
  funext i
  obtain ⟨r, q, rfl⟩ : ∃ (r : Fin 8192) (q : Fin 4096), i = ix2 r q := ⟨i 0, i 1, eq_ix2 i⟩
  exact (Cert.Reference4Ideal.Read.big_apply _ _ _ r q).trans (add_comm (G := EReal) _ _)

/-- and so is the small one. -/
theorem agree5 (x1 : S64x4096.Idx → EReal) (x2 : S4096x4096.Idx → EReal) (x4 : S64x4096.Idx → EReal)
    (h1 : x1 = m ((c : Thread nD τ).loc main_arg1)) (h2 : x2 = m ((c : Thread nD τ).loc main_arg2)) (h4 : x4 = m ((c : Thread nD τ).loc main_arg4)) :
    Cert.Reference4Ideal.Read.val_main_v5 (F := Ideal) x1 x2 x4 = (dats m 0 c).arrAt 5 cfg0.N := by
  subst h1 h2 h4
  rw [final5]
  funext i
  obtain ⟨r, q, rfl⟩ : ∃ (r : Fin 64) (q : Fin 4096), i = ix2 r q := ⟨i 0, i 1, eq_ix2 i⟩
  exact (Cert.Reference4Ideal.Read.small_apply _ _ _ r q).trans (add_comm (G := EReal) _ _)

end Cert.Kernel4Ideal.Proj
end
-- ==== Proof.Norm.lean ====
module

public import Idealize.ShloMosaic.Lib.Pointwise
public import Idealize.ShloMosaic.Lib.StableHlo.ReadAt
public import Idealize.ShloMosaic.Lib.Pipeline.ValueKit

@[expose] public section

noncomputable section

namespace Cert.Norm

open Idealize.ShloMosaic

/-- Entry `d` of a row over the root of its mean square, times a weight. -/
def rowNorm (x : Fin 4096 → EReal) (g : EReal) (d : Fin 4096) : EReal :=
  x d * Ideal.rsqrt (Ideal.div (∑ k, x k * x k) (Ideal.ofBits .f32 0x45800000#32) + Ideal.ofBits .f32 0x358637BD#32) * g

theorem rowNorm_congr {x x' : Fin 4096 → EReal} {g g' : EReal} (hx : ∀ k, x k = x' k) (hg : g = g') (d : Fin 4096) : rowNorm x g d = rowNorm x' g' d := by
  obtain rfl : x = x' := funext hx
  rw [hg]

end Cert.Norm
end
-- ==== Proof.Norm5.lean ====
module

public import proofs.«01_k».proof.Defs
public import proofs.«01_k».proof.Proof.Gen.Kernel5Ideal.Value
public import proofs.«01_k».proof.Proof.Gen.Reference5Ideal.Read
public import proofs.«01_k».proof.Proof.Norm
public import Idealize.ShloMosaic.Lib.ValueLayout
public import Idealize.ShloMosaic.Lib.WritesUnit
public import Idealize.ShloMosaic.Lib.VecWindow

@[expose] public section

noncomputable section

namespace Cert.Kernel5Ideal.Norm

open Cert.Norm Cert.Kernel5Ideal Cert.Kernel5Ideal.Gen Idealize.ShloMosaic Idealize.ShloMosaic.TcCoe

/-! # The norm of the prompt's rows, which come in through a ring of three slots -/

/-- The body norms its rows. -/
theorem pay_apply (x : Vec Ideal S1x512x4096 .f32) (g : Vec Ideal S1x4096 .f32) (r : Fin 512) (d : Fin 4096) :
    (k0_pay1 x g (ix2 r d) : EReal) = rowNorm (fun k => shapeCast S512x4096 x shapeCasts_S1x512x4096_S512x4096 (ix2 r k)) (g (ix2 0 d)) d := by
  unfold rowNorm k0_pay1
  generalize shapeCast S512x4096 x shapeCasts_S1x512x4096_S512x4096 = x'
  pointwise

/-- The reference norms its rows. -/
theorem ref_apply (x : S8192x4096.Idx → EReal) (g : S4096.Idx → EReal) (r : Fin 8192) (d : Fin 4096) :
    Cert.Reference5Ideal.Read.val_main_v12 (F := Ideal) x g (ix2 r d) = rowNorm (fun k => x (ix2 r k)) (g (ix1 d)) d := by
  unfold rowNorm
  pointwise [Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1]

/-! ## What a point's load of its slot reads -/

section
variable (c : Dev nD) (W : HbBuf0 (F := Ideal) c hbM0_0)

/-- The slot holds the block that landed in it. -/
theorem slot_read (s : Fin 3) {off : Fin 3 → ℕ} (h : off = ![s.val, 0, 0]) (inb : ∀ a, off a + S1x512x4096.size a ≤ S3x512x4096.size a)
    (g : HbBuf0 (F := Ideal) c (rslot0_0 s)) (w : S512x4096.Idx → Ideal .f32) (L) :
    shapeCast S512x4096 (View.readAt (Elt Ideal) scM0_0.view (Rect.unit (s := S3x512x4096) off S1x512x4096.size inb).toLoadRect
      ((rslot0_0 s).view.writes (Elt Ideal) g (⟨Rect.whole S512x4096, w⟩ :: L))) shapeCasts_S1x512x4096_S512x4096 = w := by
  subst h
  refine (Memref.read_squeeze_slice scM0_0 (Rect.unit (s := S3x512x4096) ![s.val, 0, 0] S1x512x4096.size inb) (fun _ => rfl) squeezes_S1x512x4096_S512x4096 shapeCasts_S1x512x4096_S512x4096
    ((rslot0_0 s).view.writes (Elt Ideal) g (⟨Rect.whole S512x4096, w⟩ :: L))).symm.trans ?_
  funext y
  exact View.read_writes_cons_hit (rslot0_0 s).view g (Rect.whole S512x4096) w L y y (funext fun a => Fin.ext (by show 0 + 1 * _ = _; omega))

/-- The block that point `t` waits for, by coordinates. -/
theorem src_read (b : Fin 16) (r : Fin 512) (k : Fin 4096) :
    ((ReadAs.same (e := .f32) (s := S512x4096)).apply ((srcB0_0 b).view.read (Elt Ideal) W) : S512x4096.Idx → EReal) (ix2 r k)
      = (W : S8192x4096.Idx → EReal) (ix2 ⟨512 * b.val + r.val, by omega⟩ k) := by
  show W _ = W _
  refine congrArg W (funext fun i => Fin.ext ?_)
  fin_cases i
  · show 512 * b.val + 1 * r.val = _; simp
  · show 0 + 1 * k.val = _; simp

variable (t : Fin cfg0.N) (arg2 : Memref sig .tc .vmem S1x4096 .f32) (harg2 : arg2.IsWhole) (x0 : Vec Ideal S1x4096 .f32)

/-- What a point stores, whichever transfers it starts besides. -/
theorem point_eq (inb7 inb2 inb3 z) :
    VO0_1.read (Elt Ideal) (VO0_1.writes (Elt Ideal) z
        [⟨Rect.unit (s := S512x4096) ![0, 0] S512x4096.size inb3,
            k0_pay1
              (View.readAt (Elt Ideal) scM0_0.view (Rect.unit (s := S3x512x4096) (k0_off7 (grid0.coords t)) S1x512x4096.size inb7).toLoadRect
                (landed0_0 c W (Ring.sl 3 t.val) (Ring.bk 16 t.val) (rslot0_0 (Ring.sl 3 t.val)).view.junk))
              (View.readAt (Elt Ideal) arg2.view (Rect.unit (s := S1x4096) ![0, 0] S1x4096.size inb2).toLoadRect (harg2.unread x0))⟩])
      = fun y => rowNorm (fun k => (W : S8192x4096.Idx → EReal) (ix2 ⟨512 * (Ring.bk 16 t.val).val + (y 0).val, by have := (y 0).isLt; have := (Ring.bk 16 t.val).isLt; simp at *; omega⟩ k)) (x0 (ix2 0 (y 1))) (y 1) := by
  funext y
  obtain ⟨r, d, rfl⟩ : ∃ (r : Fin 512) (d : Fin 4096), y = ix2 r d := ⟨_, _, eq_ix2 y⟩
  refine (View.read_writes_cons_hit VO0_1 z (Rect.unit (s := S512x4096) ![0, 0] S512x4096.size inb3) _ [] (ix2 r d) (ix2 r d) (funext fun a => Fin.ext ?_)).trans ?_
  · fin_cases a
    · show 0 + 1 * _ = _; omega
    · show 0 + 1 * _ = _; omega
  refine (pay_apply _ _ r d).trans (rowNorm_congr (fun k => ?_) ?_ d)
  · rw [slot_read c (Ring.sl 3 t.val) (coff0_0_13 t) inb7]
    exact src_read c W _ r k
  · exact congrFun ((View.readAt_full arg2.view _ inb2).trans (harg2.read_unread x0)) (ix2 0 d)

end

variable (m : (ℓ : Loc nD τ sig) → Buf (Elt Ideal) ℓ) (c : Dev nD)

theorem idx : ∀ t : Fin cfg0.N, win0_0.index t = ![0, 0] ∧ win0_1.index t = ![t.val, 0] := by decide +kernel

/-- Every point leaves its rows, normed. -/
theorem after_eq (t : Fin cfg0.N) : outsAt0 m c t.val t.isLt
    = fun y => rowNorm (fun k => (V m c main_arg0 : S8192x4096.Idx → EReal) (ix2 ⟨512 * (Ring.bk 16 t.val).val + (y 0).val, by have := (y 0).isLt; have := (Ring.bk 16 t.val).isLt; simp at *; omega⟩ k)) (iblk m c 0 t (ix2 0 (y 1))) (y 1) := by
  have ht : t.val < 16 := lt_of_lt_of_eq t.isLt N_0
  by_cases h0 : t.val % 16 = 0
  · rw [outsAt0_A m c t h0 (by omega)]
    exact point_eq c (V m c main_arg0) t _ _ _ _ _ _ _
  by_cases h1 : t.val < 14
  · rw [outsAt0_B m c t h0 h1]
    exact point_eq c (V m c main_arg0) t _ _ _ _ _ _ _
  · rw [outsAt0_C m c t h0 h1]
    exact point_eq c (V m c main_arg0) t _ _ _ _ _ _ _

theorem blk_g (t : Fin cfg0.N) (d : Fin 4096) : (iblk m c 0 t (ix2 0 d) : EReal) = V m c main_v0 (ix2 0 d) := by
  blk_ext [iblk, idx t]

theorem V_g (d : Fin 4096) : (V m c main_v0 (ix2 0 d) : EReal) = m ((c : Thread nD τ).loc main_arg1) (ix1 d) := by
  unfold V
  after_reads_at

/-- The array the kernel leaves. -/
def G (i : S8192x4096.Idx) : EReal := rowNorm (fun k => V m c main_arg0 (ix2 (i 0) k)) (V m c main_v0 (ix2 0 (i 1))) (i 1)

theorem final : (dats m 0 c).arrAt 1 cfg0.N = G m c := by
  refine (dats m 0 c).arrAt_eq_of_covers 1 _ (by decide +kernel) fun t hf y => ?_
  blk_simp
  rw [after0_1, after_eq]
  have ht : t.val < 16 := lt_of_lt_of_eq t.isLt N_0
  have e : (win0_1.blk t).view.emb y = ix2 ⟨512 * (Ring.bk 16 t.val).val + (y 0).val, by have := (y 0).isLt; have := (Ring.bk 16 t.val).isLt; simp at *; omega⟩ (y 1) := by
    have hb : (Ring.bk 16 t.val).val = t.val := Nat.mod_eq_of_lt ht
    blk_ext [idx t, hb]
  refine Eq.trans ?_ (congrArg (G m c) e).symm
  exact rowNorm_congr (fun k => rfl) (blk_g m c t (y 1)) (y 1)

/-- The kernel's rows are the reference's over arguments that are equal to the kernel's. -/
theorem agree (x : S8192x4096.Idx → EReal) (g : S4096.Idx → EReal) (hx : x = m ((c : Thread nD τ).loc main_arg0)) (hg : g = m ((c : Thread nD τ).loc main_arg1)) :
    Cert.Reference5Ideal.Read.val_main_v12 (F := Ideal) x g = (dats m 0 c).arrAt 1 cfg0.N := by
  subst hx hg
  rw [final]
  funext i
  obtain ⟨r, d, rfl⟩ : ∃ (r : Fin 8192) (d : Fin 4096), i = ix2 r d := ⟨i 0, i 1, eq_ix2 i⟩
  refine (ref_apply _ _ r d).trans (rowNorm_congr (fun k => ?_) (V_g m c d).symm d)
  exact congrFun (V_main_arg0 m c).symm (ix2 r k)

end Cert.Kernel5Ideal.Norm
end
-- ==== Proof.Norm6.lean ====
module

public import proofs.«01_k».proof.Defs
public import proofs.«01_k».proof.Proof.Gen.Kernel6Ideal.Value
public import proofs.«01_k».proof.Proof.Gen.Reference6Ideal.Read
public import proofs.«01_k».proof.Proof.Norm

@[expose] public section

noncomputable section

namespace Cert.Kernel6Ideal.Norm

open Cert.Norm Cert.Kernel6Ideal Cert.Kernel6Ideal.Gen Idealize.ShloMosaic Idealize.ShloMosaic.TcCoe

/-! # The norm of the small rows -/

/-- The body norms its rows. -/
theorem pay_apply (x : Vec Ideal S64x4096 .f32) (g : Vec Ideal S1x4096 .f32) (r : Fin 64) (d : Fin 4096) :
    (k0_pay1 x g (ix2 r d) : EReal) = rowNorm (fun k => x (ix2 r k)) (g (ix2 0 d)) d := by
  unfold rowNorm
  pointwise [k0_pay1]

/-- The reference norms its rows. -/
theorem ref_apply (x : S64x4096.Idx → EReal) (g : S4096.Idx → EReal) (r : Fin 64) (d : Fin 4096) :
    Cert.Reference6Ideal.Read.val_main_v12 (F := Ideal) x g (ix2 r d) = rowNorm (fun k => x (ix2 r k)) (g (ix1 d)) d := by
  unfold rowNorm
  pointwise [Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0, Cert.Reference6Ideal.Read.val_main_cst_1]

variable (m : (ℓ : Loc nD τ sig) → Buf (Elt Ideal) ℓ) (c : Dev nD)

/-- The one block of each window is its whole array. -/
theorem idx : ∀ t : Fin cfg0.N, win0_0.index t = ![0, 0] ∧ win0_1.index t = ![0, 0] ∧ win0_2.index t = ![0, 0] := by decide +kernel

theorem blk_x (t : Fin cfg0.N) (r : Fin 64) (d : Fin 4096) : (iblk m c 0 t (ix2 r d) : EReal) = V m c main_arg0 (ix2 r d) := by
  blk_ext [iblk, idx t]
theorem blk_g (t : Fin cfg0.N) (d : Fin 4096) : (iblk m c 1 t (ix2 0 d) : EReal) = V m c main_v0 (ix2 0 d) := by
  blk_ext [iblk, idx t]

/-- The array the kernel leaves. -/
def G (i : S64x4096.Idx) : EReal := rowNorm (fun k => V m c main_arg0 (ix2 (i 0) k)) (V m c main_v0 (ix2 0 (i 1))) (i 1)

theorem out_eq (x : Vec Ideal S64x4096 .f32) (g : Vec Ideal S1x4096 .f32) (r : Fin 64) (d : Fin 4096) :
    (out0_2 x g (ix2 r d) : EReal) = rowNorm (fun k => x (ix2 r k)) (g (ix2 0 d)) d := by
  have ex : View.ld x r0_0 = x := View.ld_unit_zero (by decide) _ x
  have eg : View.ld g r0_1 = g := View.ld_unit_zero (by decide) _ g
  unfold out0_2
  rw [ex, eg, View.canon_unit_zero (by decide)]
  exact pay_apply x g r d

theorem V_g (d : Fin 4096) : (V m c main_v0 (ix2 0 d) : EReal) = m ((c : Thread nD τ).loc main_arg1) (ix1 d) := by
  unfold V
  after_reads_at

theorem final : (dats m 0 c).arrAt 2 cfg0.N = G m c := by
  refine (dats m 0 c).arrAt_eq_of_covers 2 _ (by decide +kernel) fun t hf y => ?_
  blk_simp
  rw [after0_2]
  have e : (win0_2.blk t).view.emb y = ix2 (y 0) (y 1) := by blk_ext [idx t]
  refine Eq.trans ?_ (congrArg (G m c) e).symm
  obtain ⟨r, d, rfl⟩ : ∃ (r : Fin 64) (d : Fin 4096), y = ix2 r d := ⟨_, _, eq_ix2 y⟩
  exact (out_eq _ _ r d).trans (rowNorm_congr (fun k => blk_x m c t r k) (blk_g m c t d) d)

/-- The kernel's rows are the reference's over arguments that are equal to the kernel's. -/
theorem agree (x : S64x4096.Idx → EReal) (g : S4096.Idx → EReal) (hx : x = m ((c : Thread nD τ).loc main_arg0)) (hg : g = m ((c : Thread nD τ).loc main_arg1)) :
    Cert.Reference6Ideal.Read.val_main_v12 (F := Ideal) x g = (dats m 0 c).arrAt 2 cfg0.N := by
  subst hx hg
  rw [final]
  funext i
  obtain ⟨r, d, rfl⟩ : ∃ (r : Fin 64) (d : Fin 4096), i = ix2 r d := ⟨i 0, i 1, eq_ix2 i⟩
  refine (ref_apply _ _ r d).trans (rowNorm_congr (fun k => ?_) (V_g m c d).symm d)
  exact congrFun (V_main_arg0 m c).symm (ix2 r k)

end Cert.Kernel6Ideal.Norm
end
-- ==== Proof.Step7.lean ====
module

public import proofs.«01_k».proof.Proof.Gen.Kernel7Ideal.Value
public import Idealize.ShloMosaic.Lib.Pointwise
public import Idealize.ShloMosaic.Lib.IdealHost
public import Idealize.ShloMosaic.PureOps.Ideal.Laws
public import Idealize.ShloMosaic.Lib.Pipeline.ValueKit.Tiles

@[expose] public section

noncomputable section

namespace Cert.Kernel7Ideal.Step

open Cert.Kernel7Ideal Cert.Kernel7Ideal.Gen Idealize.ShloMosaic Idealize.ShloMosaic.TcCoe

/-! # The recurrence's step of one sample and one head, with the head as a number -/

section Body
variable {F : FTy → Type} [FloatOps F]

/-- The part of an array that bfloat16 holds. -/
def hi (x : FVec F S32x128 .f32) : FVec F S32x128 .f32 := extf .f32 (truncf .bf16 x bitsLt_bf16_f32) bitsLt_bf16_f32
/-- The rest of it. -/
def lo (x : FVec F S32x128 .f32) : FVec F S32x128 .f32 := subf x (hi x)

/-- One sample's rows, one per head. -/
def rows (x : Vec F S1x32x128 .f32) : FVec F S32x128 .f32 := shapeCast S32x128 x shapeCasts_S1x32x128_S32x128
/-- The decay of one sample, as the body computes it. -/
def decay (x : Vec F S1x32x128 .f32) : FVec F S32x128 .f32 := exp (log (rows x))
/-- The key of one sample. -/
def key (x : Vec F S1x32x128 .f32) : FVec F S32x128 .f32 := subf (broadcast S32x128 (Scalar.ofBits .f32 0x3F800000#32)) (rows x)

theorem slices_row {h : Nat} (hh : h < 32) : S32x128.Slices ![h, 0] S1x128 :=
  ⟨rfl, fun a => by
    match a with
    | ⟨0, _⟩ => exact hh
    | ⟨1, _⟩ => exact Nat.le_refl _⟩

/-- Head `h`'s row, repeated eight times. -/
def row (h : Nat) (hh : h < 32) (x : FVec F S32x128 .f32) : FVec F S8x128 .f32 :=
  broadcastTo S8x128 (shapeCast S1x128 (extractStridedSlice S1x128 ![h, 0] x (slices_row hh)) shapeCasts_S1x128_S1x128) broadcasts_S1x128_S8x128

/-- The number of each of the eight rows. -/
def num : IVec S8x128 32 := iota .tc S8x128 32 [0] iota_S8x128_d0_w32

/-- The left factor: key, decay and query of one head, each in two parts. -/
def left (h : Nat) (hh : h < 32) (xq xf : Vec F S1x32x128 .f32) : FVec F S8x128 .f32 :=
  select k0_pay3 (row h hh (hi (key xf))) (select k0_pay4 (row h hh (lo (key xf)))
    (select (cmpi .eq num (broadcast S8x128 3#32)) (row h hh (hi (decay xf)))
      (select (cmpi .eq num (broadcast S8x128 4#32)) (row h hh (lo (decay xf)))
        (select (cmpi .eq num (broadcast S8x128 5#32)) (row h hh (hi (rows xq))) (row h hh (lo (rows xq)))))))

/-- The right factor: the value of one head in two parts, then the marks of the decay's and the query's rows. -/
def right (h : Nat) (hh : h < 32) (xv : Vec F S1x32x128 .f32) : FVec F S8x384 .bf16 :=
  concatenate S8x384 1 [⟨S8x128, truncf .bf16 (select k0_pay5 (row h hh (hi (rows xv)))
    (select k0_pay6 (row h hh (lo (rows xv))) (broadcast S8x128 (Scalar.ofBits .f32 0x00000000#32)))) bitsLt_bf16_f32⟩, ⟨S8x256, k0_pay2⟩]
    concatenates_S8x128_S8x256_S8x384_d1

/-- Their product. -/
def prod (h : Nat) (hh : h < 32) (xq xf xv : Vec F S1x32x128 .f32) : FVec F S128x384 .f32 :=
  matmul dot_S8x128_S8x384_S128x384_0_0_1_1_n_n none (truncf .bf16 (left h hh xq xf) bitsLt_bf16_f32) (right h hh xv)
    (constant S128x384 .f32 0x00000000#32)

/-- The state of one head after the step. -/
def next (h : Nat) (hh : h < 32) (xq xf xv : Vec F S1x32x128 .f32) (xs : Vec F S1x1x1x128x128 .f32) : FVec F S1x1x1x128x128 .f32 :=
  shapeCast S1x1x1x128x128 (addf
    (mulf (extractStridedSlice S128x128 ![0, 128] (prod h hh xq xf xv) slices_S128x384_o0_128_S128x128)
      (shapeCast S128x128 xs shapeCasts_S1x1x1x128x128_S128x128))
    (extractStridedSlice S128x128 ![0, 0] (prod h hh xq xf xv) slices_S128x384_o0_0_S128x128)) shapeCasts_S128x128_S1x1x1x128x128

theorem inb_smp {b : Nat} (hb : b < 4) : ∀ a, (![b, 0, 0] : Fin 3 → Nat) a + S1x32x128.size a ≤ S4x32x128.size a := fun a => by
  match a with
  | ⟨0, _⟩ => exact hb
  | ⟨1, _⟩ => exact Nat.le_refl _
  | ⟨2, _⟩ => exact Nat.le_refl _

theorem inb_head {b h : Nat} (hb : b < 4) (hh : h < 32) :
    ∀ a, (![0, b, h, 0, 0] : Fin 5 → Nat) a + S1x1x1x128x128.size a ≤ S1x4x32x128x128.size a := fun a => by
  match a with
  | ⟨0, _⟩ => exact Nat.le_refl _
  | ⟨1, _⟩ => exact hb
  | ⟨2, _⟩ => exact hh
  | ⟨3, _⟩ => exact Nat.le_refl _
  | ⟨4, _⟩ => exact Nat.le_refl _

/-- Sample `b` of a block. -/
abbrev smpRect (b : Nat) (hb : b < 4) : Rect S4x32x128 := Rect.unit (s := S4x32x128) ![b, 0, 0] S1x32x128.size (inb_smp hb)
/-- The state of sample `b`'s head `h`. -/
abbrev headRect (b h : Nat) (hb : b < 4) (hh : h < 32) : Rect S1x4x32x128x128 :=
  Rect.unit (s := S1x4x32x128x128) ![0, b, h, 0, 0] S1x1x1x128x128.size (inb_head hb hh)

/-- What the body stores for sample `b`'s head `h`. -/
def stored (x0 x1 x2 : Vec F S4x32x128 .f32) (x5 : Vec F S1x4x32x128x128 .f32) (b h : Nat) (hb : b < 4) (hh : h < 32) :
    FVec F S1x1x1x128x128 .f32 :=
  next h hh (View.ld x0 (smpRect b hb)) (View.ld x1 (smpRect b hb)) (View.ld x2 (smpRect b hb)) (View.ld x5 (headRect b h hb hh))

/-- The stores of the first `n` heads, last first. -/
def pieces (x0 x1 x2 : Vec F S4x32x128 .f32) (x5 : Vec F S1x4x32x128x128 .f32) : (n : Nat) → n ≤ 128 →
    List (View.Piece (Elt F) S1x4x32x128x128 .f32)
  | 0, _ => []
  | n + 1, h => ⟨headRect (n / 32) (n % 32) (by omega) (Nat.mod_lt _ (by decide)),
      stored x0 x1 x2 x5 (n / 32) (n % 32) (by omega) (Nat.mod_lt _ (by decide))⟩ :: pieces x0 x1 x2 x5 n (by omega)

/-- The body stores the heads one by one. -/
theorem out0_7_eq (x0 x1 x2 x3 : Vec F S4x32x128 .f32) (x4 : Vec F S32x128 .f32) (x5 : Vec F S1x4x32x128x128 .f32) :
    out0_7 x0 x1 x2 x3 x4 x5 = View.canon (pieces x0 x1 x2 x5 128 (Nat.le_refl _)) := rfl

end Body

/-- The all-zeros word is the number zero, and -/
theorem zero_word : (Scalar.ofBits (F := Ideal) .f32 0x00000000#32 : EReal) = 0 := Ideal.ofBits_zero_f32
/-- the word of one is one. -/
theorem one_word : (Scalar.ofBits (F := Ideal) .f32 0x3F800000#32 : EReal) = 1 := Ideal.ofBits_one_f32

theorem row_apply (h : Nat) (hh : h < 32) (x : FVec Ideal S32x128 .f32) (r : Fin 8) (k : Fin 128) :
    row h hh x (ix2 r k) = x (ix2 ⟨h, hh⟩ k) := by
  pointwise [row]

theorem m3 (r : Fin 8) (k : Fin 128) : k0_pay3 (ix2 r k) = ![1#1, 1#1, 0#1, 0#1, 0#1, 0#1, 0#1, 0#1] r := by
  have e : ∀ r : Fin 8, k0_pay3 (ix2 r (0 : Fin 128)) = ![1#1, 1#1, 0#1, 0#1, 0#1, 0#1, 0#1, 0#1] r := by decide +kernel
  exact (show k0_pay3 (ix2 r k) = k0_pay3 (ix2 r (0 : Fin 128)) from rfl).trans (e r)
theorem m4 (r : Fin 8) (k : Fin 128) : k0_pay4 (ix2 r k) = ![0#1, 0#1, 1#1, 0#1, 0#1, 0#1, 0#1, 1#1] r := by
  have e : ∀ r : Fin 8, k0_pay4 (ix2 r (0 : Fin 128)) = ![0#1, 0#1, 1#1, 0#1, 0#1, 0#1, 0#1, 1#1] r := by decide +kernel
  exact (show k0_pay4 (ix2 r k) = k0_pay4 (ix2 r (0 : Fin 128)) from rfl).trans (e r)
theorem m5 (r : Fin 8) (k : Fin 128) : k0_pay5 (ix2 r k) = ![1#1, 0#1, 1#1, 0#1, 0#1, 0#1, 0#1, 0#1] r := by
  have e : ∀ r : Fin 8, k0_pay5 (ix2 r (0 : Fin 128)) = ![1#1, 0#1, 1#1, 0#1, 0#1, 0#1, 0#1, 0#1] r := by decide +kernel
  exact (show k0_pay5 (ix2 r k) = k0_pay5 (ix2 r (0 : Fin 128)) from rfl).trans (e r)
theorem m6 (r : Fin 8) (k : Fin 128) : k0_pay6 (ix2 r k) = ![0#1, 1#1, 0#1, 0#1, 0#1, 0#1, 0#1, 1#1] r := by
  have e : ∀ r : Fin 8, k0_pay6 (ix2 r (0 : Fin 128)) = ![0#1, 1#1, 0#1, 0#1, 0#1, 0#1, 0#1, 1#1] r := by decide +kernel
  exact (show k0_pay6 (ix2 r k) = k0_pay6 (ix2 r (0 : Fin 128)) from rfl).trans (e r)
/-- Row `n` is marked by the comparison of the row numbers with `n`. -/
theorem mn (n : Fin 8) (r : Fin 8) (k : Fin 128) :
    cmpi .eq num (broadcast S8x128 (BitVec.ofNat 32 n.val)) (ix2 r k) = if r = n then 1#1 else 0#1 := by
  have e : ∀ n r : Fin 8, cmpi .eq num (broadcast S8x128 (BitVec.ofNat 32 n.val)) (ix2 r (0 : Fin 128)) = if r = n then 1#1 else 0#1 := by decide +kernel
  exact (show cmpi .eq num (broadcast S8x128 (BitVec.ofNat 32 n.val)) (ix2 r k) = cmpi .eq num (broadcast S8x128 (BitVec.ofNat 32 n.val)) (ix2 r (0 : Fin 128)) from rfl).trans (e n r)

section
variable (h : Nat) (hh : h < 32) (xq xf xv : Vec Ideal S1x32x128 .f32)

theorem left_apply (r : Fin 8) (k : Fin 128) : (left h hh xq xf (ix2 r k) : EReal)
    = (![hi (key xf) (ix2 ⟨h, hh⟩ k), hi (key xf) (ix2 ⟨h, hh⟩ k), lo (key xf) (ix2 ⟨h, hh⟩ k), hi (decay xf) (ix2 ⟨h, hh⟩ k),
        lo (decay xf) (ix2 ⟨h, hh⟩ k), hi (rows xq) (ix2 ⟨h, hh⟩ k), lo (rows xq) (ix2 ⟨h, hh⟩ k), lo (key xf) (ix2 ⟨h, hh⟩ k)] : Fin 8 → EReal) r := by
  have e3 := mn 3 r k
  have e4 := mn 4 r k
  have e5 := mn 5 r k
  have s : left h hh xq xf (ix2 r k) = Scalar.select (k0_pay3 (ix2 r k)) (row h hh (hi (key xf)) (ix2 r k))
      (Scalar.select (k0_pay4 (ix2 r k)) (row h hh (lo (key xf)) (ix2 r k))
      (Scalar.select (cmpi .eq num (broadcast S8x128 (BitVec.ofNat 32 (3 : Fin 8).val)) (ix2 r k)) (row h hh (hi (decay xf)) (ix2 r k))
      (Scalar.select (cmpi .eq num (broadcast S8x128 (BitVec.ofNat 32 (4 : Fin 8).val)) (ix2 r k)) (row h hh (lo (decay xf)) (ix2 r k))
      (Scalar.select (cmpi .eq num (broadcast S8x128 (BitVec.ofNat 32 (5 : Fin 8).val)) (ix2 r k)) (row h hh (hi (rows xq)) (ix2 r k))
        (row h hh (lo (rows xq)) (ix2 r k)))))) := rfl
  rw [s, e3, e4, e5, m3, m4]
  simp only [row_apply]
  match r with
  | 0 => rfl
  | 1 => rfl
  | 2 => rfl
  | 3 => rfl
  | 4 => rfl
  | 5 => rfl
  | 6 => rfl
  | 7 => rfl

theorem right_value (r : Fin 8) (j : Fin 128) : (right h hh xv (ix2 r ⟨j.val, by omega⟩) : EReal)
    = (![hi (rows xv) (ix2 ⟨h, hh⟩ j), lo (rows xv) (ix2 ⟨h, hh⟩ j), hi (rows xv) (ix2 ⟨h, hh⟩ j), 0, 0, 0, 0,
        lo (rows xv) (ix2 ⟨h, hh⟩ j)] : Fin 8 → EReal) r := by
  have s : (right h hh xv (ix2 r ⟨j.val, by omega⟩) : EReal) = Scalar.select (k0_pay5 (ix2 r j)) (row h hh (hi (rows xv)) (ix2 r j))
      (Scalar.select (k0_pay6 (ix2 r j)) (row h hh (lo (rows xv)) (ix2 r j)) (Scalar.ofBits (F := Ideal) .f32 0x00000000#32)) := by
    have hj := j.isLt
    pointwise [right]
  rw [s, m5, m6]
  simp only [row_apply]
  rw [← zero_word]
  match r with
  | 0 => rfl
  | 1 => rfl
  | 2 => rfl
  | 3 => rfl
  | 4 => rfl
  | 5 => rfl
  | 6 => rfl
  | 7 => rfl

theorem right_mark (r : Fin 8) (j : Fin 128) : (right h hh xv (ix2 r ⟨128 + j.val, by omega⟩) : EReal)
    = (![0, 0, 0, 1, 1, 0, 0, 0] : Fin 8 → EReal) r := by
  have s : (right h hh xv (ix2 r ⟨128 + j.val, by omega⟩) : EReal) = Scalar.select (IntOp.ori
      (cmpi .eq num (broadcast S8x128 (BitVec.ofNat 32 (3 : Fin 8).val)) (ix2 r j))
      (cmpi .eq num (broadcast S8x128 (BitVec.ofNat 32 (4 : Fin 8).val)) (ix2 r j)))
      (Scalar.ofBits (F := Ideal) .f32 0x3F800000#32) (Scalar.ofBits (F := Ideal) .f32 0x00000000#32) := by
    have hj := j.isLt
    pointwise [right, k0_pay2, num]
  rw [s, mn, mn, ← zero_word, ← one_word]
  match r with
  | 0 => rfl
  | 1 => rfl
  | 2 => rfl
  | 3 => rfl
  | 4 => rfl
  | 5 => rfl
  | 6 => rfl
  | 7 => rfl

theorem prod_apply (k : Fin 128) (c : Fin 384) : (prod h hh xq xf xv (ix2 k c) : EReal)
    = ∑ r : Fin 8, (left h hh xq xf (ix2 r k) : EReal) * (right h hh xv (ix2 r c) : EReal) := by
  pointwise [prod]

end

/-! # The numbers -/

/-- A value that is a real number. -/
abbrev IsReal (x : EReal) : Prop := ∃ r : ℝ, x = (r : EReal)

/-- A real number less itself is zero. -/
theorem sub_self_real {x : EReal} (h : IsReal x) : x - x = 0 := by
  obtain ⟨r, rfl⟩ := h
  rw [← EReal.coe_sub, sub_self, EReal.coe_zero]

/-- One head's decay: the gate through the logarithm and the exponential. -/
def dec (f : EReal) : EReal := Ideal.exp (Ideal.log f)

/-- The decay of a real gate is real. -/
theorem dec_real {f : EReal} (h : IsReal f) : IsReal (dec f) := by
  obtain ⟨r, rfl⟩ := h
  unfold dec
  by_cases hr : r ≤ 0
  · refine ⟨0, ?_⟩
    show Ideal.exp (if r ≤ 0 then ⊥ else (Real.log r : EReal)) = _
    rw [if_pos hr]
    rfl
  · refine ⟨Real.exp (Real.log r), ?_⟩
    show Ideal.exp (if r ≤ 0 then ⊥ else (Real.log r : EReal)) = _
    rw [if_neg hr]
    rfl

/-- One less a real gate is real. -/
theorem one_sub_real {f : EReal} (h : IsReal f) : IsReal (1 - f) := by
  obtain ⟨r, rfl⟩ := h
  exact ⟨1 - r, by push_cast; rfl⟩

/-- One entry of the state after the step. -/
def step (f v s : EReal) : EReal := dec f * s + (1 - f) * v

theorem sum_value (kh kl dh dl qh ql vh vl : EReal) (hk : kl = 0) (hv : vl = 0) :
    (∑ r : Fin 8, (![kh, kh, kl, dh, dl, qh, ql, kl] : Fin 8 → EReal) r * (![vh, vl, vh, 0, 0, 0, 0, vl] : Fin 8 → EReal) r) = kh * vh := by
  subst hk hv
  simp [Fin.sum_univ_eight]

theorem sum_mark (kh kl dh dl qh ql : EReal) (hd : dl = 0) :
    (∑ r : Fin 8, (![kh, kh, kl, dh, dl, qh, ql, kl] : Fin 8 → EReal) r * (![0, 0, 0, 1, 1, 0, 0, 0] : Fin 8 → EReal) r) = dh := by
  subst hd
  simp [Fin.sum_univ_eight]

theorem hi_apply (x : FVec Ideal S32x128 .f32) (i : S32x128.Idx) : (hi x i : EReal) = x i := rfl
theorem lo_apply (x : FVec Ideal S32x128 .f32) (i : S32x128.Idx) : (lo x i : EReal) = x i - x i := rfl
theorem rows_apply (x : Vec Ideal S1x32x128 .f32) (h : Fin 32) (k : Fin 128) : (rows x (ix2 h k) : EReal) = x (ix3 0 h k) := by
  pointwise [rows]
theorem decay_apply (x : Vec Ideal S1x32x128 .f32) (h : Fin 32) (k : Fin 128) : (decay x (ix2 h k) : EReal) = dec (x (ix3 0 h k)) := by
  unfold dec
  pointwise [decay, rows]
theorem key_apply (x : Vec Ideal S1x32x128 .f32) (h : Fin 32) (k : Fin 128) : (key x (ix2 h k) : EReal) = 1 - (x (ix3 0 h k) : EReal) := by
  pointwise [key, rows]

section
variable (h : Nat) (hh : h < 32) (xq xf xv : Vec Ideal S1x32x128 .f32) (xs : Vec Ideal S1x1x1x128x128 .f32)

theorem prod_value (k j : Fin 128) (fk : IsReal (xf (ix3 0 ⟨h, hh⟩ k))) (fv : IsReal (xv (ix3 0 ⟨h, hh⟩ j))) :
    (prod h hh xq xf xv (ix2 k ⟨j.val, by omega⟩) : EReal) = (1 - (xf (ix3 0 ⟨h, hh⟩ k) : EReal)) * xv (ix3 0 ⟨h, hh⟩ j) := by
  rw [prod_apply]
  simp only [left_apply, right_value]
  rw [sum_value]
  · rw [hi_apply, hi_apply, key_apply, rows_apply]
  · rw [lo_apply, key_apply, sub_self_real (one_sub_real fk)]
  · rw [lo_apply, rows_apply, sub_self_real fv]

theorem prod_decay (k j : Fin 128) (fk : IsReal (xf (ix3 0 ⟨h, hh⟩ k))) :
    (prod h hh xq xf xv (ix2 k ⟨128 + j.val, by omega⟩) : EReal) = dec (xf (ix3 0 ⟨h, hh⟩ k)) := by
  rw [prod_apply]
  simp only [left_apply, right_mark]
  rw [sum_mark]
  · rw [hi_apply, decay_apply]
  · rw [lo_apply, decay_apply, sub_self_real (dec_real fk)]

/-- The state of one head after the step, entry by entry. -/
theorem next_apply (k j : Fin 128) (fk : IsReal (xf (ix3 0 ⟨h, hh⟩ k))) (fv : IsReal (xv (ix3 0 ⟨h, hh⟩ j))) :
    (next h hh xq xf xv xs (ix5 0 0 0 k j) : EReal)
      = step (xf (ix3 0 ⟨h, hh⟩ k)) (xv (ix3 0 ⟨h, hh⟩ j)) (xs (ix5 0 0 0 k j)) := by
  have s : (next h hh xq xf xv xs (ix5 0 0 0 k j) : EReal) = (prod h hh xq xf xv (ix2 k ⟨128 + j.val, by omega⟩) : EReal) * xs (ix5 0 0 0 k j)
      + (prod h hh xq xf xv (ix2 k ⟨j.val, by omega⟩) : EReal) := by
    generalize hp : prod h hh xq xf xv = p
    unfold next
    rw [hp]
    pointwise []
  rw [s, prod_decay h hh xq xf xv k j fk, prod_value h hh xq xf xv k j fk fv]
  rfl

end

end Cert.Kernel7Ideal.Step
-- ==== Proof.Agree7.lean ====
module

public import proofs.«01_k».proof.Defs
public import proofs.«01_k».proof.Proof.Step7
public import proofs.«01_k».proof.Proof.Gen.Pre_finite_step
public import proofs.«01_k».proof.Proof.Gen.Reference7Ideal.Read
public import proofs.«01_k».proof.Proof.Agree

@[expose] public section

noncomputable section

namespace Cert.Kernel7Ideal.Step

open Cert.Kernel7Ideal Cert.Kernel7Ideal.Gen Idealize.ShloMosaic Idealize.ShloMosaic.TcCoe

/-! # A block of four samples -/

/-- The state block after the step, entry by entry. -/
def B7 (x1 x2 : Vec Ideal S4x32x128 .f32) (x5 : Vec Ideal S1x4x32x128x128 .f32) (y : S1x4x32x128x128.Idx) : EReal :=
  step (x1 (ix3 (y 1) (y 2) (y 3))) (x2 (ix3 (y 1) (y 2) (y 4))) (x5 y)

theorem ld_smp (x : Vec Ideal S4x32x128 .f32) (b : Nat) (hb : b < 4) (h : Fin 32) (k : Fin 128) :
    View.ld x (smpRect b hb) (ix3 0 h k) = x (ix3 ⟨b, hb⟩ h k) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

theorem emb_head (b h : Nat) (hb : b < 4) (hh : h < 32) (k j : Fin 128) :
    (headRect b h hb hh).emb (ix5 0 0 0 k j) = (ix5 0 ⟨b, hb⟩ ⟨h, hh⟩ k j : S1x4x32x128x128.Idx) := by
  refine funext fun a => Fin.ext ((Rect.idx_unit_val _ _ _ _ a).trans ?_)
  match a with
  | ⟨0, _⟩ => rfl
  | ⟨1, _⟩ => rfl
  | ⟨2, _⟩ => rfl
  | ⟨3, _⟩ => exact Nat.zero_add _
  | ⟨4, _⟩ => exact Nat.zero_add _

theorem idx_head (x : S1x1x1x128x128.Idx) : ∃ k j : Fin 128, x = ix5 0 0 0 k j := by
  refine ⟨x 3, x 4, funext fun a => ?_⟩
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

section
variable (x0 x1 x2 x3 : Vec Ideal S4x32x128 .f32) (x4 : Vec Ideal S32x128 .f32) (x5 : Vec Ideal S1x4x32x128x128 .f32)
  (f1 : ∀ i, IsReal (x1 i)) (f2 : ∀ i, IsReal (x2 i))
include f1 f2

/-- What the body stores for one head is that head's part of the block. -/
theorem stored_apply (b h : Nat) (hb : b < 4) (hh : h < 32) (x : S1x1x1x128x128.Idx) :
    (stored x0 x1 x2 x5 b h hb hh x : EReal) = B7 x1 x2 x5 ((headRect b h hb hh).emb x) := by
  obtain ⟨k, j, rfl⟩ := idx_head x
  have e1 := ld_smp x1 b hb ⟨h, hh⟩ k
  have e2 := ld_smp x2 b hb ⟨h, hh⟩ j
  have e5 : View.ld x5 (headRect b h hb hh) (ix5 0 0 0 k j) = x5 (ix5 0 ⟨b, hb⟩ ⟨h, hh⟩ k j) := congrArg x5 (emb_head b h hb hh k j)
  unfold stored
  rw [next_apply h hh _ _ _ _ k j (by rw [e1]; exact f1 _) (by rw [e2]; exact f2 _), e1, e2, e5, emb_head]
  rfl

theorem pieces_apply (n : Nat) (hn : n ≤ 128) : ∀ p ∈ pieces x0 x1 x2 x5 n hn, ∀ x : p.1.shape.Idx, p.2 x = B7 x1 x2 x5 (p.1.emb x) := by
  induction n with
  | zero => exact fun p hp => absurd hp List.not_mem_nil
  | succ n ih =>
    intro p hp x
    rcases List.mem_cons.1 hp with rfl | hp
    · exact stored_apply x0 x1 x2 x5 f1 f2 _ _ _ _ x
    · exact ih (by omega) p hp x

theorem out0_7_apply : out0_7 x0 x1 x2 x3 x4 x5 = B7 x1 x2 x5 := by
  funext y
  rw [out0_7_eq]
  exact View.canon_apply_of_pieces (Val := Elt Ideal) (e := .f32) (B7 x1 x2 x5) _ (pieces_apply x0 x1 x2 x5 f1 f2 128 _) y
    (View.cover_of_tiled (pieces x0 x1 x2 x5 128 (Nat.le_refl _)) S1x1x1x128x128.size (by rfl) y)

end

/-! # The whole array -/

section
variable (m : (ℓ : Loc nD τ sig) → Buf (Elt Ideal) ℓ) (c : Dev nD)

/-- Sample `b` of grid point `t`. -/
def smp (t : Fin cfg0.N) (b : Fin 4) : Fin 32 := ⟨4 * t.val + b.val, by have := t.isLt; have : cfg0.N = 8 := rfl; omega⟩

theorem idx : ∀ t : Fin cfg0.N, win0_1.index t = ![t.val, 0, 0] ∧ win0_2.index t = ![t.val, 0, 0]
    ∧ win0_5.index t = ![0, t.val, 0, 0, 0] ∧ win0_7.index t = ![0, t.val, 0, 0, 0] := by decide +kernel

theorem blk_f (t : Fin cfg0.N) (b : Fin 4) (h : Fin 32) (k : Fin 128) : (iblk m c 1 t (ix3 b h k) : EReal) = V m c main_arg1 (ix3 (smp t b) h k) := by
  blk_ext [iblk, idx t, smp]
theorem blk_v (t : Fin cfg0.N) (b : Fin 4) (h : Fin 32) (k : Fin 128) : (iblk m c 2 t (ix3 b h k) : EReal) = V m c main_arg2 (ix3 (smp t b) h k) := by
  blk_ext [iblk, idx t, smp]
theorem blk_s (t : Fin cfg0.N) (b : Fin 4) (h : Fin 32) (k j : Fin 128) :
    (iblk m c 5 t (ix5 0 b h k j) : EReal) = V m c main_arg5 (ix5 0 (smp t b) h k j) := by
  blk_ext [iblk, idx t, smp]

/-- The state array after the step. -/
def G7 (i : S1x32x32x128x128.Idx) : EReal :=
  step (V m c main_arg1 (ix3 (i 1) (i 2) (i 3))) (V m c main_arg2 (ix3 (i 1) (i 2) (i 4))) (V m c main_arg5 i)

/-- Every entry of a window's block is an entry of its array. -/
theorem final7 (f1 : ∀ i, IsReal (V m c main_arg1 i)) (f2 : ∀ i, IsReal (V m c main_arg2 i)) : (dats m 0 c).arrAt 7 cfg0.N = G7 m c := by
  refine (dats m 0 c).arrAt_eq_of_covers 7 _ (by decide +kernel) fun t hf y => ?_
  blk_simp
  have g1 : ∀ i, IsReal (iblk m c 1 t i) := fun i => by
    obtain ⟨a, b, d, rfl⟩ : ∃ (a : Fin 4) (b : Fin 32) (d : Fin 128), i = ix3 a b d := ⟨i 0, i 1, i 2, eq_ix3 i⟩
    rw [blk_f]
    exact f1 _
  have g2 : ∀ i, IsReal (iblk m c 2 t i) := fun i => by
    obtain ⟨a, b, d, rfl⟩ : ∃ (a : Fin 4) (b : Fin 32) (d : Fin 128), i = ix3 a b d := ⟨i 0, i 1, i 2, eq_ix3 i⟩
    rw [blk_v]
    exact f2 _
  rw [after0_7, out0_7_apply _ _ _ _ _ _ g1 g2]
  obtain ⟨b, h, k, j, rfl⟩ : ∃ (b : Fin 4) (h : Fin 32) (k j : Fin 128), y = ix5 0 b h k j := by
    refine ⟨y 1, y 2, y 3, y 4, funext fun a => ?_⟩
    match a with
    | ⟨0, _⟩ => exact Subsingleton.elim (α := Fin 1) _ _
    | ⟨1, _⟩ => rfl
    | ⟨2, _⟩ => rfl
    | ⟨3, _⟩ => rfl
    | ⟨4, _⟩ => rfl
  have e : (win0_7.blk t).view.emb (ix5 0 b h k j) = ix5 0 (smp t b) h k j := by blk_ext [idx t, smp]
  refine Eq.trans ?_ (congrArg (G7 m c) e).symm
  show step (iblk m c 1 t (ix3 b h k)) (iblk m c 2 t (ix3 b h j)) (iblk m c 5 t (ix5 0 b h k j)) = _
  rw [blk_f, blk_v, blk_s]
  rfl

/-- The reference's state, entry by entry. -/
theorem ref_apply (x1 x2 : S32x32x128.Idx → EReal) (x5 : S1x32x32x128x128.Idx → EReal) (b h : Fin 32) (k j : Fin 128) :
    Cert.Reference7Ideal.Read.val_main_v31 (F := Ideal) x1 x2 x5 (ix5 0 b h k j)
      = step (x1 (ix3 b h k)) (x2 (ix3 b h j)) (x5 (ix5 0 b h k j)) := by
  unfold step dec
  pointwise [Cert.Reference7Ideal.Read.val_main_v31, Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst]

/-- Under the precondition the gates and the values are real. -/
theorem reals (hp : Cert.Pre_Kernel7Ideal_finite_step m) :
    (∀ i, IsReal (m ((c : Thread nD τ).loc main_arg1) i)) ∧ (∀ i, IsReal (m ((c : Thread nD τ).loc main_arg2) i)) := by
  have e := congrFun (hp c) ix0
  unfold Cert.Pre_finite_step.fn at e
  obtain ⟨e1, e2⟩ := IntOp.andi_eq_one.1 e
  haveI : Subsingleton (⟨0, ![]⟩ : Shape).Idx := ⟨fun a b => funext fun i => i.elim0⟩
  exact ⟨fun i => Cert.KernelIdeal.Sample.real_of_olt _ (Host.reduce_andi_all _ _ _ _ _ e1 i),
    fun i => Cert.KernelIdeal.Sample.real_of_olt _ (Host.reduce_andi_all _ _ _ _ _ e2 i)⟩

/-- The two programs' states agree. -/
theorem agree (hp : Cert.Pre_Kernel7Ideal_finite_step m) (x1 x2 : S32x32x128.Idx → EReal) (x5 : S1x32x32x128x128.Idx → EReal)
    (h1 : x1 = m ((c : Thread nD τ).loc main_arg1)) (h2 : x2 = m ((c : Thread nD τ).loc main_arg2)) (h5 : x5 = m ((c : Thread nD τ).loc main_arg5)) :
    Cert.Reference7Ideal.Read.val_main_v31 (F := Ideal) x1 x2 x5 = (dats m 0 c).arrAt 7 cfg0.N := by
  subst h1 h2 h5
  obtain ⟨f1, f2⟩ := reals m c hp
  rw [final7 m c (by rw [V_main_arg1]; exact f1) (by rw [V_main_arg2]; exact f2)]
  funext i
  obtain ⟨b, h, k, j, rfl⟩ : ∃ (b h : Fin 32) (k j : Fin 128), i = ix5 0 b h k j := by
    refine ⟨i 1, i 2, i 3, i 4, funext fun a => ?_⟩
    match a with
    | ⟨0, _⟩ => exact Subsingleton.elim (α := Fin 1) _ _
    | ⟨1, _⟩ => rfl
    | ⟨2, _⟩ => rfl
    | ⟨3, _⟩ => rfl
    | ⟨4, _⟩ => rfl
  refine (ref_apply _ _ _ b h k j).trans ?_
  unfold G7
  rw [V_main_arg1, V_main_arg2, V_main_arg5]
  rfl

end

end Cert.Kernel7Ideal.Step
end
-- ==== Proof.Heads7.lean ====
module

public import proofs.«01_k».proof.Proof.Step7
public import Idealize.ShloMosaic.Lib.Pipeline.Value

@[expose] public section

noncomputable section

namespace Cert.Kernel7Ideal.Step

open Cert.Kernel7Ideal Cert.Kernel7Ideal.Gen Idealize.ShloMosaic Idealize.ShloMosaic.TcCoe

/-! # The heads' output of one sample -/

section Body
variable {F : FTy → Type} [FloatOps F]

/-- The state of one head after the step, as a matrix. -/
def state (h : Nat) (hh : h < 32) (xq xf xv : Vec F S1x32x128 .f32) (xs : Vec F S1x1x1x128x128 .f32) : FVec F S128x128 .f32 :=
  addf (mulf (extractStridedSlice S128x128 ![0, 128] (prod h hh xq xf xv) slices_S128x384_o0_128_S128x128)
      (shapeCast S128x128 xs shapeCasts_S1x1x1x128x128_S128x128))
    (extractStridedSlice S128x128 ![0, 0] (prod h hh xq xf xv) slices_S128x384_o0_0_S128x128)

/-- The query of one head times its state, as one row. -/
def read (h : Nat) (hh : h < 32) (xq xf xv : Vec F S1x32x128 .f32) (xs : Vec F S1x1x1x128x128 .f32) : FVec F S1x128 .f32 :=
  shapeCast S1x128 (multiReduction .add [0] S128
    (mulf (extractStridedSlice S128x128 ![0, 256] (prod h hh xq xf xv) slices_S128x384_o0_256_S128x128) (state h hh xq xf xv xs))
    0x00000000#32 reduces_S128x128_S128 (.inl rfl) rfl) shapeCasts_S128_S1x128

theorem heads_fit (f : Fin 32 → FVec F S1x128 .f32) :
    Shape.Concatenates ((List.ofFn fun n : Fin 32 => (⟨S1x128, f n⟩ : (s : Shape) × (s.Idx → F .f32))).map (·.1)) S32x128 0 :=
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- The rows of all heads of one sample. -/
def heads (f : Fin 32 → FVec F S1x128 .f32) : FVec F S32x128 .f32 :=
  concatenate S32x128 0 (List.ofFn fun n : Fin 32 => ⟨S1x128, f n⟩) (heads_fit f)

/-- What the body stores for sample `b`: the heads' rows, normed, scaled and gated. -/
def out (x0 x1 x2 x3 : Vec F S4x32x128 .f32) (x4 : Vec F S32x128 .f32) (x5 : Vec F S1x4x32x128x128 .f32) (b : Nat) (hb : b < 4) :
    FVec F S1x32x128 .bf16 :=
  k0_pay1 (heads fun h => read h.val h.isLt (View.ld x0 (smpRect b hb)) (View.ld x1 (smpRect b hb)) (View.ld x2 (smpRect b hb))
    (View.ld x5 (headRect b h.val hb h.isLt))) (k0_pay1008 (View.ld x3 (smpRect b hb))) x4

/-- The body stores the samples one by one. -/
theorem out0_6_eq (x0 x1 x2 x3 : Vec F S4x32x128 .f32) (x4 : Vec F S32x128 .f32) (x5 : Vec F S1x4x32x128x128 .f32) :
    out0_6 x0 x1 x2 x3 x4 x5 = View.canon [
      ⟨smpRect 3 (by decide), out x0 x1 x2 x3 (View.ld x4 r0_33) x5 3 (by decide)⟩, ⟨smpRect 2 (by decide), out x0 x1 x2 x3 (View.ld x4 r0_33) x5 2 (by decide)⟩,
      ⟨smpRect 1 (by decide), out x0 x1 x2 x3 (View.ld x4 r0_33) x5 1 (by decide)⟩, ⟨smpRect 0 (by decide), out x0 x1 x2 x3 (View.ld x4 r0_33) x5 0 (by decide)⟩] := rfl

end Body

/-! # The numbers -/

/-- One head's row, normed, scaled and gated. -/
def normed (o : Fin 128 → EReal) (w g : EReal) (j : Fin 128) : EReal :=
  o j * Ideal.rsqrt (Ideal.div (∑ k, o k * o k) (Ideal.ofBits .f32 0x43000000#32) + Ideal.ofBits .f32 0x358637BD#32) * w * g

theorem normed_apply (v : FVec Ideal S32x128 .f32) (g : Vec Ideal S1x32x128 .f32) (w : Vec Ideal S32x128 .f32) (h : Fin 32) (j : Fin 128) :
    (k0_pay1 v (k0_pay1008 g) w (ix3 0 h j) : EReal) = normed (fun k => v (ix2 h k)) (w (ix2 h j)) (g (ix3 0 h j)) j := by
  unfold normed
  pointwise [k0_pay1, k0_pay1008]

theorem heads_apply (f : Fin 32 → FVec Ideal S1x128 .f32) (h : Fin 32) (j : Fin 128) : heads f (ix2 h j) = f h (ix2 0 j) := by
  refine concatenate_ofFn_unit_apply 0 f (heads_fit f) rfl rfl (ix2 h j) h rfl (ix2 0 j) fun b hb => ?_
  match b with
  | ⟨0, _⟩ => exact absurd rfl hb
  | ⟨1, _⟩ => rfl

theorem sum_query (kh kl dh dl qh ql : EReal) :
    (∑ r : Fin 8, (![kh, kh, kl, dh, dl, qh, ql, kl] : Fin 8 → EReal) r * (![0, 0, 0, 0, 0, 1, 1, 0] : Fin 8 → EReal) r) = qh + ql := by
  simp [Fin.sum_univ_eight]

section
variable (h : Nat) (hh : h < 32) (xq xf xv : Vec Ideal S1x32x128 .f32) (xs : Vec Ideal S1x1x1x128x128 .f32)

theorem right_query (r : Fin 8) (j : Fin 128) : (right h hh xv (ix2 r ⟨256 + j.val, by omega⟩) : EReal)
    = (![0, 0, 0, 0, 0, 1, 1, 0] : Fin 8 → EReal) r := by
  have s : (right h hh xv (ix2 r ⟨256 + j.val, by omega⟩) : EReal) = Scalar.select (IntOp.ori
      (cmpi .eq num (broadcast S8x128 (BitVec.ofNat 32 (5 : Fin 8).val)) (ix2 r j))
      (cmpi .eq num (broadcast S8x128 (BitVec.ofNat 32 (6 : Fin 8).val)) (ix2 r j)))
      (Scalar.ofBits (F := Ideal) .f32 0x3F800000#32) (Scalar.ofBits (F := Ideal) .f32 0x00000000#32) := by
    have hj := j.isLt
    pointwise [right, k0_pay2, num]
    rw [dif_neg (by omega), dif_neg (by omega)]
  rw [s, mn, mn, ← zero_word, ← one_word]
  match r with
  | 0 => rfl
  | 1 => rfl
  | 2 => rfl
  | 3 => rfl
  | 4 => rfl
  | 5 => rfl
  | 6 => rfl
  | 7 => rfl

theorem prod_query (k j : Fin 128) : (prod h hh xq xf xv (ix2 k ⟨256 + j.val, by omega⟩) : EReal)
    = xq (ix3 0 ⟨h, hh⟩ k) + ((xq (ix3 0 ⟨h, hh⟩ k) : EReal) - xq (ix3 0 ⟨h, hh⟩ k)) := by
  rw [prod_apply]
  simp only [left_apply, right_query]
  rw [sum_query, hi_apply, lo_apply, rows_apply]

theorem state_apply (k j : Fin 128) (fk : IsReal (xf (ix3 0 ⟨h, hh⟩ k))) (fv : IsReal (xv (ix3 0 ⟨h, hh⟩ j))) :
    (state h hh xq xf xv xs (ix2 k j) : EReal) = step (xf (ix3 0 ⟨h, hh⟩ k)) (xv (ix3 0 ⟨h, hh⟩ j)) (xs (ix5 0 0 0 k j)) := by
  rw [← next_apply h hh xq xf xv xs k j fk fv]
  generalize hp : state h hh xq xf xv xs = p
  rw [show next h hh xq xf xv xs = shapeCast S1x1x1x128x128 (state h hh xq xf xv xs) shapeCasts_S128x128_S1x1x1x128x128 from rfl, hp]
  pointwise []

/-- One head's row is the sum over the query's entries, each with its rest. -/
theorem read_apply (j : Fin 128) (ff : ∀ i, IsReal (xf i)) (fv : ∀ i, IsReal (xv i)) :
    (read h hh xq xf xv xs (ix2 0 j) : EReal) = ∑ k : Fin 128, (xq (ix3 0 ⟨h, hh⟩ k) + ((xq (ix3 0 ⟨h, hh⟩ k) : EReal) - xq (ix3 0 ⟨h, hh⟩ k)))
      * step (xf (ix3 0 ⟨h, hh⟩ k)) (xv (ix3 0 ⟨h, hh⟩ j)) (xs (ix5 0 0 0 k j)) := by
  have s : (read h hh xq xf xv xs (ix2 0 j) : EReal) = ∑ k : Fin 128, (prod h hh xq xf xv (ix2 k ⟨256 + j.val, by omega⟩) : EReal)
      * (state h hh xq xf xv xs (ix2 k j) : EReal) := by
    generalize hp : prod h hh xq xf xv = p
    generalize hs : state h hh xq xf xv xs = q
    unfold read
    rw [hp, hs]
    pointwise []
  rw [s]
  exact Finset.sum_congr rfl fun k _ => by
    rw [prod_query h hh xq xf xv k j, state_apply h hh xq xf xv xs k j (ff _) (fv _)]

end

end Cert.Kernel7Ideal.Step
end
-- ==== Proof.Like7.lean ====
module

public import proofs.«01_k».proof.Proof.Heads7

@[expose] public section

noncomputable section

namespace Cert.Kernel7Ideal.Step

open Idealize.ShloMosaic

/-! # Queries that are not finite

The body reads the state with a query and its rest, infinity less infinity where the query is infinite. That may turn the sign of an
infinite output, or make two that cancel one; the norm sends every row with an infinite entry to zeros. -/

/-- A value that is an infinity. -/
abbrev IsInf (x : EReal) : Prop := x = ⊤ ∨ x = ⊥

/-- Two values that are the same, or both infinite. -/
def Like (x y : EReal) : Prop := x = y ∨ (IsInf x ∧ IsInf y)

theorem inf_mul {x s : EReal} (h : IsInf x) (hs : s ≠ 0) : IsInf (x * s) := by
  rcases lt_or_gt_of_ne hs with n | p
  · rcases h with rfl | rfl
    · exact .inr (EReal.top_mul_of_neg n)
    · exact .inl (EReal.bot_mul_of_neg n)
  · rcases h with rfl | rfl
    · exact .inl (EReal.top_mul_of_pos p)
    · exact .inr (EReal.bot_mul_of_pos p)

theorem inf_add {x : EReal} (h : IsInf x) (y : EReal) : IsInf (x + y) := by
  rcases h with rfl | rfl
  · by_cases hy : y = ⊥
    · exact .inr (by rw [hy, EReal.add_bot])
    · exact .inl (EReal.top_add_of_ne_bot hy)
  · exact .inr (EReal.bot_add y)

/-- A query and its rest is like the query. -/
theorem like_rest (q : EReal) : Like (q + (q - q)) q := by
  by_cases h : IsInf q
  · exact .inr ⟨inf_add h _, h⟩
  · refine .inl ?_
    have e : q = ((q.toReal : ℝ) : EReal) := (EReal.coe_toReal (fun t => h (.inl t)) (fun b => h (.inr b))).symm
    rw [sub_self_real ⟨_, e⟩, add_zero]

theorem Like.mul {x y : EReal} (h : Like x y) (s : EReal) : Like (x * s) (y * s) := by
  rcases h with rfl | ⟨hx, hy⟩
  · exact .inl rfl
  · by_cases hs : s = 0
    · exact .inl (by rw [hs, mul_zero, mul_zero])
    · exact .inr ⟨inf_mul hx hs, inf_mul hy hs⟩

theorem Like.add {x y x' y' : EReal} (h : Like x y) (h' : Like x' y') : Like (x + x') (y + y') := by
  rcases h with rfl | ⟨hx, hy⟩
  · rcases h' with rfl | ⟨hx, hy⟩
    · exact .inl rfl
    · exact .inr ⟨by rw [add_comm]; exact inf_add hx _, by rw [add_comm]; exact inf_add hy _⟩
  · exact .inr ⟨inf_add hx _, inf_add hy _⟩

theorem like_sum {n : Nat} (a b : Fin n → EReal) (h : ∀ k, Like (a k) (b k)) : Like (∑ k, a k) (∑ k, b k) := by
  induction n with
  | zero => exact .inl (by rw [Fin.sum_univ_zero, Fin.sum_univ_zero])
  | succ n ih =>
    rw [Fin.sum_univ_succ, Fin.sum_univ_succ]
    exact (h 0).add (ih _ _ fun k => h k.succ)

theorem width_word : Ideal.ofBits .f32 0x43000000#32 = ((128 : ℝ) : EReal) := by
  simp [Ideal.ofBits, Ideal.ieee, -EReal.coe_mul]
  norm_num

theorem eps_word : Ideal.ofBits .f32 0x358637BD#32 ≠ ⊥ := by
  simp [Ideal.ofBits, Ideal.ieee, -EReal.coe_mul]

theorem square_nonneg (x : EReal) : 0 ≤ x * x := by
  rcases le_total 0 x with h | h
  · exact mul_nonneg h h
  · rw [← neg_mul_neg]
    exact mul_nonneg (EReal.neg_nonneg.2 h) (EReal.neg_nonneg.2 h)

/-- A row with an infinite entry is normed to zeros. -/
theorem normed_inf (o : Fin 128 → EReal) (k : Fin 128) (h : IsInf (o k)) (w g : EReal) (j : Fin 128) : normed o w g j = 0 := by
  have e : o k * o k = ⊤ := by
    rcases h with h | h
    · rw [h, EReal.top_mul_top]
    · rw [h, EReal.bot_mul_bot]
  have s : (∑ k, o k * o k) = ⊤ := top_le_iff.1 (e ▸ Finset.single_le_sum (f := fun k => o k * o k) (fun i _ => square_nonneg (o i)) (Finset.mem_univ k))
  unfold normed
  rw [s, width_word, Ideal.div_coe (by norm_num), EReal.top_mul_coe_of_pos (by norm_num), EReal.top_add_of_ne_bot eps_word, Ideal.rsqrt_top,
    mul_zero, zero_mul, zero_mul]

/-- Rows that are like each other are normed to the same. -/
theorem normed_like {o o' : Fin 128 → EReal} (h : ∀ k, Like (o k) (o' k)) (w g : EReal) (j : Fin 128) : normed o w g j = normed o' w g j := by
  by_cases hi : ∃ k, IsInf (o k) ∧ IsInf (o' k)
  · obtain ⟨k, h1, h2⟩ := hi
    rw [normed_inf o k h1, normed_inf o' k h2]
  · obtain rfl : o = o' := funext fun k => (h k).resolve_right fun c => hi ⟨k, c⟩
    rfl

end Cert.Kernel7Ideal.Step
end
-- ==== Proof.Output7.lean ====
module

public import proofs.«01_k».proof.Proof.Agree7
public import proofs.«01_k».proof.Proof.Like7

@[expose] public section

noncomputable section

namespace Cert.Kernel7Ideal.Step

open Cert.Kernel7Ideal Cert.Kernel7Ideal.Gen Idealize.ShloMosaic Idealize.ShloMosaic.TcCoe

/-! # The heads' output of a block of four samples -/

/-- One head's output over its query, gate, value and state. -/
def result (q f v : Fin 128 → EReal) (s : Fin 128 → Fin 128 → EReal) (w g : EReal) (j : Fin 128) : EReal :=
  normed (fun d => ∑ k, q k * step (f k) (v d) (s k d)) w g j

theorem result_congr {q q' f f' v v' : Fin 128 → EReal} {s s' : Fin 128 → Fin 128 → EReal} {w w' g g' : EReal} (hq : ∀ k, q k = q' k) (hf : ∀ k, f k = f' k)
    (hv : ∀ k, v k = v' k) (hs : ∀ k d, s k d = s' k d) (hw : w = w') (hg : g = g') (j : Fin 128) :
    result q f v s w g j = result q' f' v' s' w' g' j := by
  obtain rfl : q = q' := funext hq
  obtain rfl : f = f' := funext hf
  obtain rfl : v = v' := funext hv
  obtain rfl : s = s' := funext fun k => funext (hs k)
  rw [hw, hg]

/-- The query's entries with their rests make the same output. -/
theorem result_rest (q f v : Fin 128 → EReal) (s : Fin 128 → Fin 128 → EReal) (w g : EReal) (j : Fin 128) :
    result (fun k => q k + (q k - q k)) f v s w g j = result q f v s w g j :=
  normed_like (fun _ => like_sum _ _ fun k => (like_rest (q k)).mul _) w g j

/-- The output block, entry by entry. -/
def B6 (x0 x1 x2 x3 : Vec Ideal S4x32x128 .f32) (x4 : Vec Ideal S32x128 .f32) (x5 : Vec Ideal S1x4x32x128x128 .f32) (y : S4x32x128.Idx) : EReal :=
  result (fun k => x0 (ix3 (y 0) (y 1) k)) (fun k => x1 (ix3 (y 0) (y 1) k)) (fun k => x2 (ix3 (y 0) (y 1) k))
    (fun k d => x5 (ix5 0 (y 0) (y 1) k d)) (x4 (ix2 (y 1) (y 2))) (x3 (ix3 (y 0) (y 1) (y 2))) (y 2)

theorem emb_smp (b : Nat) (hb : b < 4) (h : Fin 32) (j : Fin 128) : (smpRect b hb).emb (ix3 0 h j) = (ix3 ⟨b, hb⟩ h j : S4x32x128.Idx) := by
  refine funext fun a => Fin.ext ((Rect.idx_unit_val _ _ _ _ a).trans ?_)
  match a with
  | ⟨0, _⟩ => rfl
  | ⟨1, _⟩ => exact Nat.zero_add _
  | ⟨2, _⟩ => exact Nat.zero_add _

theorem idx_smp (x : S1x32x128.Idx) : ∃ (h : Fin 32) (j : Fin 128), x = ix3 0 h j := by
  refine ⟨x 1, x 2, funext fun a => ?_⟩
  match a with
  | ⟨0, _⟩ => exact Subsingleton.elim (α := Fin 1) _ _
  | ⟨1, _⟩ => rfl
  | ⟨2, _⟩ => rfl

section
variable (x0 x1 x2 x3 : Vec Ideal S4x32x128 .f32) (x4 : Vec Ideal S32x128 .f32) (x5 : Vec Ideal S1x4x32x128x128 .f32)
  (f1 : ∀ i, IsReal (x1 i)) (f2 : ∀ i, IsReal (x2 i))
include f1 f2

/-- What the body stores for one sample is that sample's part of the block. -/
theorem out_apply (b : Nat) (hb : b < 4) (x : S1x32x128.Idx) :
    (out x0 x1 x2 x3 x4 x5 b hb x : EReal) = B6 x0 x1 x2 x3 x4 x5 ((smpRect b hb).emb x) := by
  obtain ⟨h, j, rfl⟩ := idx_smp x
  unfold out
  rw [normed_apply, emb_smp]
  simp only [heads_apply]
  refine (congrArg (fun o => normed o (x4 (ix2 h j)) (View.ld x3 (smpRect b hb) (ix3 0 h j)) j) (funext fun d =>
    read_apply h.val h.isLt _ _ _ _ d (fun i => f1 _) (fun i => f2 _))).trans ?_
  exact (result_rest _ _ _ _ _ _ j).trans <| result_congr (fun k => ld_smp x0 b hb h k) (fun k => ld_smp x1 b hb h k) (fun k => ld_smp x2 b hb h k)
    (fun k d => congrArg x5 (emb_head b h.val hb h.isLt k d)) rfl (ld_smp x3 b hb h j) j

theorem out0_6_apply : out0_6 x0 x1 x2 x3 x4 x5 = B6 x0 x1 x2 x3 x4 x5 := by
  have e4 : View.ld x4 r0_33 = x4 := View.ld_unit_zero (by decide) _ x4
  funext y
  rw [out0_6_eq, e4]
  refine View.canon_apply_of_pieces (Val := Elt Ideal) (e := .bf16) (B6 x0 x1 x2 x3 x4 x5) _ (fun p hp x => ?_) y (cover0_6 (F := Ideal) _ _ _ _ y)
  rcases List.mem_cons.1 hp with rfl | hp
  · exact out_apply x0 x1 x2 x3 x4 x5 f1 f2 3 _ x
  rcases List.mem_cons.1 hp with rfl | hp
  · exact out_apply x0 x1 x2 x3 x4 x5 f1 f2 2 _ x
  rcases List.mem_cons.1 hp with rfl | hp
  · exact out_apply x0 x1 x2 x3 x4 x5 f1 f2 1 _ x
  rcases List.mem_cons.1 hp with rfl | hp
  · exact out_apply x0 x1 x2 x3 x4 x5 f1 f2 0 _ x
  exact absurd hp List.not_mem_nil

end

/-! # The whole array -/

section
variable (m : (ℓ : Loc nD τ sig) → Buf (Elt Ideal) ℓ) (c : Dev nD)

theorem idx_out : ∀ t : Fin cfg0.N, win0_0.index t = ![t.val, 0, 0] ∧ win0_3.index t = ![t.val, 0, 0]
    ∧ win0_4.index t = ![0, 0] ∧ win0_6.index t = ![t.val, 0, 0] := by decide +kernel

theorem blk_q (t : Fin cfg0.N) (b : Fin 4) (h : Fin 32) (k : Fin 128) : (iblk m c 0 t (ix3 b h k) : EReal) = V m c main_arg0 (ix3 (smp t b) h k) := by
  blk_ext [iblk, idx_out t, smp]
theorem blk_g (t : Fin cfg0.N) (b : Fin 4) (h : Fin 32) (k : Fin 128) : (iblk m c 3 t (ix3 b h k) : EReal) = V m c main_arg3 (ix3 (smp t b) h k) := by
  blk_ext [iblk, idx_out t, smp]
theorem blk_w (t : Fin cfg0.N) (h : Fin 32) (k : Fin 128) : (iblk m c 4 t (ix2 h k) : EReal) = V m c main_v0 (ix2 h k) := by
  blk_ext [iblk, idx_out t]

/-- The norm's weights are read as one row per head. -/
theorem V_w (h : Fin 32) (k : Fin 128) : (V m c main_v0 (ix2 h k) : EReal) = m ((c : Thread nD τ).loc main_arg4) (ix1 ⟨h.val * 128 + k.val, by omega⟩) := by
  unfold V
  after_reads_at

/-- The output array. -/
def G6 (i : S32x32x128.Idx) : EReal :=
  result (fun k => V m c main_arg0 (ix3 (i 0) (i 1) k)) (fun k => V m c main_arg1 (ix3 (i 0) (i 1) k)) (fun k => V m c main_arg2 (ix3 (i 0) (i 1) k))
    (fun k d => V m c main_arg5 (ix5 0 (i 0) (i 1) k d)) (V m c main_v0 (ix2 (i 1) (i 2))) (V m c main_arg3 (ix3 (i 0) (i 1) (i 2))) (i 2)

theorem final6 (f1 : ∀ i, IsReal (V m c main_arg1 i)) (f2 : ∀ i, IsReal (V m c main_arg2 i)) :
    (dats m 0 c).arrAt 6 cfg0.N = G6 m c := by
  refine (dats m 0 c).arrAt_eq_of_covers 6 _ (by decide +kernel) fun t hf y => ?_
  blk_simp
  have g1 : ∀ i, IsReal (iblk m c 1 t i) := fun i => by
    obtain ⟨a, b, d, rfl⟩ : ∃ (a : Fin 4) (b : Fin 32) (d : Fin 128), i = ix3 a b d := ⟨i 0, i 1, i 2, eq_ix3 i⟩
    rw [blk_f]
    exact f1 _
  have g2 : ∀ i, IsReal (iblk m c 2 t i) := fun i => by
    obtain ⟨a, b, d, rfl⟩ : ∃ (a : Fin 4) (b : Fin 32) (d : Fin 128), i = ix3 a b d := ⟨i 0, i 1, i 2, eq_ix3 i⟩
    rw [blk_v]
    exact f2 _
  rw [after0_6, out0_6_apply _ _ _ _ _ _ g1 g2]
  obtain ⟨b, h, j, rfl⟩ : ∃ (b : Fin 4) (h : Fin 32) (j : Fin 128), y = ix3 b h j := ⟨y 0, y 1, y 2, eq_ix3 y⟩
  have e : (win0_6.blk t).view.emb (ix3 b h j) = ix3 (smp t b) h j := by blk_ext [idx_out t, smp]
  refine Eq.trans ?_ (congrArg (G6 m c) e).symm
  exact result_congr (fun k => blk_q m c t b h k) (fun k => blk_f m c t b h k) (fun k => blk_v m c t b h k) (fun k d => blk_s m c t b h k d)
    (blk_w m c t h j) (blk_g m c t b h j) j

/-- The reference's read of the state, entry by entry. -/
theorem ref_read (x0 x1 x2 : S32x32x128.Idx → EReal) (x5 : S1x32x32x128x128.Idx → EReal) (b h : Fin 32) (j : Fin 128) :
    Cert.Reference7Ideal.Read.val_main_v14 (F := Ideal) x0 x1 x2 x5 (ix3 b h j)
      = ∑ k : Fin 128, x0 (ix3 b h k) * step (x1 (ix3 b h k)) (x2 (ix3 b h j)) (x5 (ix5 0 b h k j)) := by
  unfold step dec
  pointwise [Cert.Reference7Ideal.Read.val_main_v14, Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst]

/-- The reference's output, entry by entry. -/
theorem ref_out (x0 x1 x2 x3 : S32x32x128.Idx → EReal) (x4 : S4096.Idx → EReal) (x5 : S1x32x32x128x128.Idx → EReal) (b h : Fin 32) (j : Fin 128) :
    Cert.Reference7Ideal.Read.val_main_v30 (F := Ideal) x0 x1 x2 x3 x4 x5 (ix3 b h j)
      = result (fun k => x0 (ix3 b h k)) (fun k => x1 (ix3 b h k)) (fun k => x2 (ix3 b h k)) (fun k d => x5 (ix5 0 b h k d))
        (x4 (ix1 ⟨h.val * 128 + j.val, by omega⟩)) (x3 (ix3 b h j)) j := by
  have s : Cert.Reference7Ideal.Read.val_main_v30 (F := Ideal) x0 x1 x2 x3 x4 x5 (ix3 b h j)
      = normed (fun d => Cert.Reference7Ideal.Read.val_main_v14 (F := Ideal) x0 x1 x2 x5 (ix3 b h d)) (x4 (ix1 ⟨h.val * 128 + j.val, by omega⟩)) (x3 (ix3 b h j)) j := by
    unfold normed
    pointwise [Cert.Reference7Ideal.Read.val_main_v30, Cert.Reference7Ideal.Read.val_main_v29, Cert.Reference7Ideal.Read.val_main_v28, Cert.Reference7Ideal.Read.val_main_v27, Cert.Reference7Ideal.Read.val_main_v26, Cert.Reference7Ideal.Read.val_main_v25, Cert.Reference7Ideal.Read.val_main_v24, Cert.Reference7Ideal.Read.val_main_v23, Cert.Reference7Ideal.Read.val_main_v22, Cert.Reference7Ideal.Read.val_main_v21, Cert.Reference7Ideal.Read.val_main_v20, Cert.Reference7Ideal.Read.val_main_v19, Cert.Reference7Ideal.Read.val_main_v18, Cert.Reference7Ideal.Read.val_main_v17, Cert.Reference7Ideal.Read.val_main_v16, Cert.Reference7Ideal.Read.val_main_v15, Cert.Reference7Ideal.Read.val_main_cst_0, Cert.Reference7Ideal.Read.val_main_cst_1, Cert.Reference7Ideal.Read.val_main_cst_2]
  rw [s]
  simp only [ref_read]
  rfl

/-- The two programs' outputs agree. -/
theorem agree_out (hp : Cert.Pre_Kernel7Ideal_finite_step m) (x0 x1 x2 x3 : S32x32x128.Idx → EReal) (x4 : S4096.Idx → EReal) (x5 : S1x32x32x128x128.Idx → EReal)
    (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) (h5 : x5 = m ((c : Thread nD τ).loc main_arg5)) :
    Cert.Reference7Ideal.Read.val_main_v30 (F := Ideal) x0 x1 x2 x3 x4 x5 = (dats m 0 c).arrAt 6 cfg0.N := by
  subst h0 h1 h2 h3 h4 h5
  obtain ⟨f1, f2⟩ := reals m c hp
  rw [final6 m c (by rw [V_main_arg1]; exact f1) (by rw [V_main_arg2]; exact f2)]
  funext i
  obtain ⟨b, h, j, rfl⟩ : ∃ (b h : Fin 32) (j : Fin 128), i = ix3 b h j := ⟨i 0, i 1, i 2, eq_ix3 i⟩
  refine (ref_out _ _ _ _ _ _ b h j).trans ?_
  unfold G6
  rw [V_main_arg0, V_main_arg1, V_main_arg2, V_main_arg3, V_main_arg5]
  exact result_congr (fun _ => rfl) (fun _ => rfl) (fun _ => rfl) (fun _ _ => rfl) (V_w m c h j).symm rfl j

end

end Cert.Kernel7Ideal.Step
end
-- ==== Proof.Same.lean ====
/- The projection's kernel as printed and its idealization are one program: nothing in it was rewritten. -/
module

public import proofs.«01_k».proof.Proof.Gen.Kernel2.Frame
public import proofs.«01_k».proof.Proof.Region

@[expose] public section

set_option maxRecDepth 16384

noncomputable section

namespace Cert.Kernel2Ideal.Proj

open Idealize.ShloMosaic Idealize.ShloMosaic.TcCoe Idealize.SL.Sem

variable {F : FTy → Type} [FloatOps F]

theorem main_same : (Cert.Kernel2.main (F := F)) = (Cert.Kernel2Ideal.main (F := F)) := rfl
theorem body_same : (Cert.Kernel2.cc0_proj (F := F)) = (Cert.Kernel2Ideal.cc0_proj (F := F)) := by
  unfold Cert.Kernel2.cc0_proj Cert.Kernel2Ideal.cc0_proj
  rfl
set_option maxRecDepth 65536 in
theorem table_same : (Cert.Kernel2.defs₀ (F := F)) = (Cert.Kernel2Ideal.defs₀ (F := F)) := by
  unfold Cert.Kernel2.defs₀ Cert.Kernel2Ideal.defs₀
  refine congrArg Defs.onTc ?_
  funext l x
  match l, x with
  | 0, (t, s) =>
    show Cert.Kernel2.cc0_proj _ _ _ _ _ _ _ _ _ _ _ _ _ _ _ _ _ _ = Cert.Kernel2Ideal.cc0_proj _ _ _ _ _ _ _ _ _ _ _ _ _ _ _ _ _ _
    rw [body_same]; rfl
  | ⟨_ + 1, h⟩, _ => exact absurd h (Nat.not_lt.2 (Nat.le_add_left _ _))
theorem defs_same : (Cert.Kernel2.defs (F := F)) = (Cert.Kernel2Ideal.defs (F := F)) := congrArg (Pipeline.defs _) table_same

/-- The frame of the kernel as printed. -/
theorem frame_printed (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0) := by
  rw [defs_same]
  exact frame m ρ

end Cert.Kernel2Ideal.Proj

end
-- ==== Proof.Same3.lean ====
/- The scaled projection's kernel as printed is its idealization read where the named constant is the printed literal itself, so
   what was proved of the one at every reading holds of the other. -/
module

public import proofs.«01_k».proof.Proof.Gen.Kernel3.Frame
public import proofs.«01_k».proof.Proof.Region3

@[expose] public section

set_option maxRecDepth 16384

noncomputable section

namespace Cert.Kernel3Ideal.Proj

open Idealize.ShloMosaic Idealize.ShloMosaic.TcCoe Idealize.SL.Sem

variable {F : FTy → Type} [FloatOps F]

/-- Every name at its literal. -/
abbrev literal : Named F := ⟨fun _ _ {φ} b => FloatOps.ofBits φ b⟩

attribute [local instance] literal

theorem main_same : (Cert.Kernel3.main (F := F)) = (Cert.Kernel3Ideal.main (F := F)) := rfl
theorem body_same : (Cert.Kernel3.cc0_proj (F := F)) = (Cert.Kernel3Ideal.cc0_proj (F := F)) := by
  unfold Cert.Kernel3.cc0_proj Cert.Kernel3Ideal.cc0_proj
  rfl
set_option maxRecDepth 65536 in
theorem table_same : (Cert.Kernel3.defs₀ (F := F)) = (Cert.Kernel3Ideal.defs₀ (F := F)) := by
  unfold Cert.Kernel3.defs₀ Cert.Kernel3Ideal.defs₀
  refine congrArg Defs.onTc ?_
  funext l x
  match l, x with
  | 0, (t, s) =>
    show Cert.Kernel3.cc0_proj _ _ _ _ _ _ _ _ _ _ _ _ _ _ _ _ _ _ _ _ _ _ = Cert.Kernel3Ideal.cc0_proj _ _ _ _ _ _ _ _ _ _ _ _ _ _ _ _ _ _ _ _ _ _
    rw [body_same]; rfl
  | ⟨_ + 1, h⟩, _ => exact absurd h (Nat.not_lt.2 (Nat.le_add_left _ _))
theorem defs_same : (Cert.Kernel3.defs (F := F)) = (Cert.Kernel3Ideal.defs (F := F)) := congrArg (Pipeline.defs _) table_same

/-- The frame of the kernel as printed. -/
theorem frame_printed (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0) := by
  rw [defs_same]
  exact frame m ρ

end Cert.Kernel3Ideal.Proj

end
-- ==== Proof.Same4.lean ====
/- The output projection's kernel as printed and its idealization are one program: nothing in it was rewritten. -/
module

public import proofs.«01_k».proof.Proof.Gen.Kernel4.Frame
public import proofs.«01_k».proof.Proof.Region4

@[expose] public section

set_option maxRecDepth 16384

noncomputable section

namespace Cert.Kernel4Ideal.Proj

open Idealize.ShloMosaic Idealize.ShloMosaic.TcCoe Idealize.SL.Sem

variable {F : FTy → Type} [FloatOps F]

theorem main_same : (Cert.Kernel4.main (F := F)) = (Cert.Kernel4Ideal.main (F := F)) := rfl
theorem body_same : (Cert.Kernel4.cc0_proj_res (F := F)) = (Cert.Kernel4Ideal.cc0_proj_res (F := F)) := by
  unfold Cert.Kernel4.cc0_proj_res Cert.Kernel4Ideal.cc0_proj_res
  rfl
set_option maxRecDepth 65536 in
theorem table_same : (Cert.Kernel4.defs₀ (F := F)) = (Cert.Kernel4Ideal.defs₀ (F := F)) := by
  unfold Cert.Kernel4.defs₀ Cert.Kernel4Ideal.defs₀
  refine congrArg Defs.onTc ?_
  funext l x
  match l, x with
  | 0, (t, s) =>
    show Cert.Kernel4.cc0_proj_res _ _ _ _ _ _ _ _ _ _ _ _ _ _ _ _ _ _ _ _ = Cert.Kernel4Ideal.cc0_proj_res _ _ _ _ _ _ _ _ _ _ _ _ _ _ _ _ _ _ _ _
    rw [body_same]; rfl
  | ⟨_ + 1, h⟩, _ => exact absurd h (Nat.not_lt.2 (Nat.le_add_left _ _))
theorem defs_same : (Cert.Kernel4.defs (F := F)) = (Cert.Kernel4Ideal.defs (F := F)) := congrArg (Pipeline.defs _) table_same

/-- The frame of the kernel as printed. -/
theorem frame_printed (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0) := by
  rw [defs_same]
  exact frame m ρ

end Cert.Kernel4Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_inputs
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_rows
public import proofs.«01_k».proof.Proof.Gen.Pre_finite_step
public import proofs.«01_k».proof.Proof.Gen.Kernel7
public import proofs.«01_k».proof.Proof.Gen.Kernel7.Skeleton
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Agree
public import proofs.«01_k».proof.Proof.Agree2
public import proofs.«01_k».proof.Proof.Agree3
public import proofs.«01_k».proof.Proof.Agree4
public import proofs.«01_k».proof.Proof.Norm5
public import proofs.«01_k».proof.Proof.Norm6
public import proofs.«01_k».proof.Proof.Agree7
public import proofs.«01_k».proof.Proof.Output7
public import proofs.«01_k».proof.Proof.Same
public import proofs.«01_k».proof.Proof.Same3
public import proofs.«01_k».proof.Proof.Same4
public import Idealize.ShloMosaic.Lib.Claim
public import Idealize.ShloMosaic.Adequacy
public import Idealize.ShloMosaic.Init

@[expose] public section

noncomputable section

namespace Cert.Proof

open Idealize.ShloMosaic Idealize.SL.Sem

/-- The reference terminates, leaves its arguments and holds no semaphore. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Each named constant is the exact value its word rounds. -/
theorem preserved : Cert.preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl⟩

/-- The decoding step's attention and its two shifted windows, kernel against reference. -/
theorem sample_agrees : Cert.algebraic_KernelIdeal_ReferenceIdeal_pre_finite_scores := by
  intro m g m' g' hp ha
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨h0, h1, h2, hk⟩ := h c
  obtain ⟨a0, a1, a2, a3, a4, a5, a6, a7⟩ := ha c
  refine ⟨?_, ?_, ?_, hk⟩
  · rw [h0, Cert.ReferenceIdeal.Read.val_main_v92_eq, a0, a1, a2, a3, a4, a5, a6, a7]
    exact (Cert.KernelIdeal.Sample.agree9 m c hp).symm
  · exact h1.trans (Cert.KernelIdeal.Sample.agree10_of m c _ _ a2 a4)
  · exact h2.trans (Cert.KernelIdeal.Sample.agree11_of m c _ _ a3 a5)

/-- The projection's reference terminates, leaves its arguments and holds no semaphore. -/
theorem reference2_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The two projections, kernel against reference. -/
theorem proj_agrees : Cert.algebraic_Kernel2Ideal_Reference2Ideal_pre_finite_inputs := by
  intro m g m' g' hp ha
  refine ⟨fun c => (Cert.Kernel2Ideal.Proj.dats m 0 c).arrAt 3 Cert.Kernel2Ideal.cfg0.N,
    fun c => (Cert.Kernel2Ideal.Proj.dats m 0 c).arrAt 4 Cert.Kernel2Ideal.cfg0.N, ?_, ?_⟩
  · exact (θ_run Cert.Kernel2Ideal.defs _ _).mono (fun r h c => ⟨(h.1 c).1 3, (h.1 c).1 4, Cert.Kernel2Ideal.Proj.kept m h.1 c⟩)
      (Cert.Kernel2Ideal.Proj.run_main m g)
  refine (θ_run Cert.Reference2Ideal.defs _ _).mono (fun r h c => ?_) (Cert.Reference2Ideal.Value.run (F := Ideal) m' g')
  obtain ⟨h0, h1, hk⟩ := h c
  obtain ⟨a0, a1, a2, a3⟩ := ha c
  exact ⟨h0.trans (Cert.Kernel2Ideal.Proj.agree3 m c hp _ _ _ a0 a2 a3), h1.trans (Cert.Kernel2Ideal.Proj.agree4 m c hp _ _ _ a1 a2 a3), hk⟩

/-- The scaled projection's reference terminates, leaves its arguments and holds no semaphore. -/
theorem reference3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two scaled projections, kernel against reference. -/
theorem scaled_agrees : Cert.algebraic_Kernel3Ideal_Reference3Ideal_pre_finite_rows := by
  intro m g m' g' hp ha
  refine ⟨fun c => (Cert.Kernel3Ideal.Proj.dats m 0 c).arrAt 5 Cert.Kernel3Ideal.cfg0.N,
    fun c => (Cert.Kernel3Ideal.Proj.dats m 0 c).arrAt 6 Cert.Kernel3Ideal.cfg0.N, ?_, ?_⟩
  · exact (θ_run Cert.Kernel3Ideal.defs _ _).mono (fun r h c => ⟨(h.1 c).1 5, (h.1 c).1 6, Cert.Kernel3Ideal.Proj.kept m h.1 c⟩)
      (Cert.Kernel3Ideal.Proj.run_main m g)
  refine (θ_run Cert.Reference3Ideal.defs _ _).mono (fun r h c => ?_) (Cert.Reference3Ideal.Value.run (F := Ideal) m' g')
  obtain ⟨h0, h1, hk⟩ := h c
  obtain ⟨a0, a1, a2, a3, a4, a5⟩ := ha c
  exact ⟨h0.trans ((Cert.Reference3Ideal.Read.val_main_v24_eq m' c).trans (Cert.Kernel3Ideal.Proj.agree5 m c hp _ _ _ _ a0 a2 a3 a4)),
    h1.trans ((Cert.Reference3Ideal.Read.val_main_v49_eq m' c).trans (Cert.Kernel3Ideal.Proj.agree6 m c hp _ _ _ _ a1 a2 a3 a5)), hk⟩

/-- The output projection's reference terminates, leaves its arguments and holds no semaphore. -/
theorem reference4_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The two output projections with their residuals, kernel against reference. -/
theorem residual_agrees : Cert.algebraic_Kernel4Ideal_Reference4Ideal := by
  intro m g m' g' hp ha
  refine ⟨fun c => (Cert.Kernel4Ideal.Proj.dats m 0 c).arrAt 4 Cert.Kernel4Ideal.cfg0.N,
    fun c => (Cert.Kernel4Ideal.Proj.dats m 0 c).arrAt 5 Cert.Kernel4Ideal.cfg0.N, ?_, ?_⟩
  · exact (θ_run Cert.Kernel4Ideal.defs _ _).mono (fun r h c => ⟨(h.1 c).1 4, (h.1 c).1 5, Cert.Kernel4Ideal.Proj.kept m h.1 c⟩)
      (Cert.Kernel4Ideal.Proj.run_main m g)
  refine (θ_run Cert.Reference4Ideal.defs _ _).mono (fun r h c => ?_) (Cert.Reference4Ideal.Value.run (F := Ideal) m' g')
  obtain ⟨h0, h1, hk⟩ := h c
  obtain ⟨a0, a1, a2, a3, a4⟩ := ha c
  exact ⟨h0.trans (Cert.Kernel4Ideal.Proj.agree4 m c _ _ _ a0 a2 a3), h1.trans (Cert.Kernel4Ideal.Proj.agree5 m c _ _ _ a1 a2 a4), hk⟩

/-- The reference of the norm of the prompt rows terminates, leaves its arguments and holds no semaphore. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The norm of the prompt rows, kernel against reference. -/
theorem main_norm_agrees : Cert.algebraic_Kernel5Ideal_Reference5Ideal := by
  intro m g m' g' hp ha
  refine ⟨fun c => (Cert.Kernel5Ideal.Gen.dats m 0 c).arrAt 1 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, hk⟩ := h c
  obtain ⟨a0, a1⟩ := ha c
  exact ⟨h0.trans (Cert.Kernel5Ideal.Norm.agree m c _ _ a0 a1), hk⟩

/-- The reference of the norm of the small rows terminates, leaves its arguments and holds no semaphore. -/
theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The norm of the small rows, kernel against reference. -/
theorem small_norm_agrees : Cert.algebraic_Kernel6Ideal_Reference6Ideal := by
  intro m g m' g' hp ha
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨h0, hk⟩ := h c
  obtain ⟨a0, a1⟩ := ha c
  exact ⟨h0.trans (Cert.Kernel6Ideal.Norm.agree m c _ _ a0 a1), hk⟩

/-- The reference of the recurrence's step terminates, leaves its arguments and holds no semaphore. -/
theorem reference7_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The recurrence's one step, kernel against reference: the heads' output and the state. -/
theorem step_agrees : Cert.algebraic_Kernel7Ideal_Reference7Ideal_pre_finite_step := by
  intro m g m' g' hp ha
  refine ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    (θ_run Cert.Kernel7Ideal.defs _ _).mono (fun r h c => h c) (Cert.Kernel7Ideal.Value.run_blocks m g), ?_⟩
  refine (θ_run Cert.Reference7Ideal.defs _ _).mono (fun r h c => ?_) (Cert.Reference7Ideal.Value.run (F := Ideal) m' g')
  obtain ⟨h0, h1, hk⟩ := h c
  obtain ⟨a0, a1, a2, a3, a4, a5⟩ := ha c
  exact ⟨h0.trans (Cert.Kernel7Ideal.Step.agree_out m c hp _ _ _ _ _ _ a0 a1 a2 a3 a4 a5), h1.trans (Cert.Kernel7Ideal.Step.agree m c hp _ _ _ a1 a2 a5), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores.Gen.facts, Cert.Pre_finite_inputs.Gen.facts, Cert.Pre_finite_rows.Gen.facts, Cert.Pre_finite_step.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2Ideal.Proj.frame_printed m ρ, fun m ρ _ => Cert.Kernel2Ideal.Proj.frame m ρ, fun m ρ _ => Cert.Kernel2Ideal.Proj.frame m ρ,
  reference2_frame, fun m ρ _ => reference2_frame m ρ trivial,
  fun m ρ _ => Cert.Kernel3Ideal.Proj.frame_printed m ρ, fun m ρ _ => Cert.Kernel3Ideal.Proj.frame m ρ, fun m ρ _ => Cert.Kernel3Ideal.Proj.frame m ρ,
  reference3_frame, fun m ρ _ => reference3_frame m ρ trivial,
  fun m ρ _ => Cert.Kernel4Ideal.Proj.frame_printed m ρ, fun m ρ _ => Cert.Kernel4Ideal.Proj.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, fun m ρ _ => Cert.Kernel7Ideal.Gen.frame m ρ,
  reference7_frame, fun m ρ _ => reference7_frame m ρ trivial,
  preserved, sample_agrees, trivial, proj_agrees,
  IdealRules.named_const.statement Cert.Kernel3Ideal.κ "qscale" .f32 0x3E38AA3B#32 _ rfl, scaled_agrees, trivial, residual_agrees, trivial, main_norm_agrees, trivial, small_norm_agrees, trivial, step_agrees⟩

end Cert.Proof

end
